-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v52) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal)
-- ==== Kernel.lean ====
abbrev S80x16384 : Shape := ⟨2, ![80, 16384]⟩
abbrev S80x512 : Shape := ⟨2, ![80, 512]⟩
abbrev S8192x6144 : Shape := ⟨2, ![8192, 6144]⟩
abbrev S128x6144 : Shape := ⟨2, ![128, 6144]⟩
abbrev S13x32x6144 : Shape := ⟨3, ![13, 32, 6144]⟩
abbrev S72x6144 : Shape := ⟨2, ![72, 6144]⟩
abbrev S4x8192x512 : Shape := ⟨3, ![4, 8192, 512]⟩
abbrev S4x128x512 : Shape := ⟨3, ![4, 128, 512]⟩
abbrev S4x16x32x512 : Shape := ⟨4, ![4, 16, 32, 512]⟩
abbrev S128x256 : Shape := ⟨2, ![128, 256]⟩
abbrev S4 : Shape := ⟨1, ![4]⟩
abbrev S1 : Shape := ⟨1, ![1]⟩
abbrev S_ : Shape := ⟨0, ![]⟩
abbrev S1x8192x512 : Shape := ⟨3, ![1, 8192, 512]⟩
abbrev S8192x512 : Shape := ⟨2, ![8192, 512]⟩
abbrev S1x128x512 : Shape := ⟨3, ![1, 128, 512]⟩
abbrev S128x512 : Shape := ⟨2, ![128, 512]⟩
abbrev S1x13x32x512 : Shape := ⟨4, ![1, 13, 32, 512]⟩
abbrev S13x32x512 : Shape := ⟨3, ![13, 32, 512]⟩
abbrev S3x32x512 : Shape := ⟨3, ![3, 32, 512]⟩
abbrev S1x3x32x512 : Shape := ⟨4, ![1, 3, 32, 512]⟩
abbrev S1x128x256 : Shape := ⟨3, ![1, 128, 256]⟩
abbrev S1x8192x256 : Shape := ⟨3, ![1, 8192, 256]⟩
abbrev S8192x256 : Shape := ⟨2, ![8192, 256]⟩
abbrev S256x256 : Shape := ⟨2, ![256, 256]⟩
abbrev S64x256 : Shape := ⟨2, ![64, 256]⟩
abbrev S1x256 : Shape := ⟨2, ![1, 256]⟩
abbrev S80x256 : Shape := ⟨2, ![80, 256]⟩
abbrev S1x8x32x256 : Shape := ⟨4, ![1, 8, 32, 256]⟩
abbrev S8x32x256 : Shape := ⟨3, ![8, 32, 256]⟩
abbrev S72x256 : Shape := ⟨2, ![72, 256]⟩

abbrev nBuf : Space → Nat
  | .hbm => 6
  | .vmem => 8
  | .smem => 0
  | _ => 0

abbrev bufTy : (tb : Table) → Fin (tcTables nBuf tb) → BufTy
  | .hbm, ⟨0, _⟩ => ⟨S80x16384, .bf16⟩
  | .hbm, ⟨1, _⟩ => ⟨S80x512, .bf16⟩
  | .hbm, ⟨2, _⟩ => ⟨S8192x6144, .i8⟩
  | .hbm, ⟨3, _⟩ => ⟨S128x6144, .bf16⟩
  | .hbm, ⟨4, _⟩ => ⟨S13x32x6144, .bf16⟩
  | .hbm, ⟨5, _⟩ => ⟨S72x6144, .bf16⟩
  | .local _ .vmem, ⟨0, _⟩ => ⟨S80x16384, .bf16⟩
  | .local _ .vmem, ⟨1, _⟩ => ⟨S80x512, .bf16⟩
  | .local _ .vmem, ⟨2, _⟩ => ⟨S72x6144, .bf16⟩
  | .local _ .vmem, ⟨3, _⟩ => ⟨S4x8192x512, .i8⟩
  | .local _ .vmem, ⟨4, _⟩ => ⟨S4x128x512, .bf16⟩
  | .local _ .vmem, ⟨5, _⟩ => ⟨S4x16x32x512, .bf16⟩
  | .local _ .vmem, ⟨6, _⟩ => ⟨S128x256, .f32⟩
  | .local _ .vmem, ⟨7, _⟩ => ⟨S128x256, .f32⟩
  | _, _ => ⟨S80x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_off1 (c0_i32 : BitVec 32) : Fin 1 → Nat :=
  let c4_i32 : BitVec 32 := 4#32
  let v0 : BitVec 32 := Scalar.remsi c0_i32 c4_i32
  ![v0.toNat]
def k0_off2 (c0_i32 : BitVec 32) : Fin 3 → Nat :=
  let c4_i32 : BitVec 32 := 4#32
  let v0 : BitVec 32 := Scalar.remsi c0_i32 c4_i32
  let c0_i32_1 : BitVec 32 := 0#32
  let c0_i32_2 : BitVec 32 := 0#32
  ![v0.toNat, 0, 0]
def k0_off3 (c0_i32 : BitVec 32) : Fin 3 → Nat :=
  let c4_i32 : BitVec 32 := 4#32
  let v0 : BitVec 32 := Scalar.remsi c0_i32 c4_i32
  let c0_i32_4 : BitVec 32 := 0#32
  let c0_i32_5 : BitVec 32 := 0#32
  ![v0.toNat, 0, 0]
def k0_off4 (c0_i32 : BitVec 32) : Fin 4 → Nat :=
  let c4_i32 : BitVec 32 := 4#32
  let v0 : BitVec 32 := Scalar.remsi c0_i32 c4_i32
  let c0_i32_7 : BitVec 32 := 0#32
  let c0_i32_8 : BitVec 32 := 0#32
  let c0_i32_9 : BitVec 32 := 0#32
  ![v0.toNat, 0, 0, 0]
def k0_mult2 : BitVec 32 :=
  let c512_i32 : BitVec 32 := 512#32
  c512_i32
def k0_mult3 : BitVec 32 :=
  let c1024_i32 : BitVec 32 := 1024#32
  c1024_i32
def k0_mult4 : BitVec 32 :=
  let c0_i32_52_r0 : BitVec 32 := 0#32
  c0_i32_52_r0
def k0_off5 : Fin 3 → Nat :=
  let c0_i32_64_r0 : BitVec 32 := 0#32
  let c4_i32_65_r0 : BitVec 32 := 4#32
  let v84_r0 : BitVec 32 := Scalar.remsi c0_i32_64_r0 c4_i32_65_r0
  let v85_r0 : Index := Scalar.indexCast v84_r0
  let c0_66_r0 : Index := 0#32
  let c0_67_r0 : Index := 0#32
  ![v85_r0.toNat, 0, 0]
def k0_off6 (c0_i32_71_r0 : BitVec 32) : Fin 3 → Nat :=
  let c4_i32_72_r0 : BitVec 32 := 4#32
  let v94_r0 : BitVec 32 := Scalar.remsi c0_i32_71_r0 c4_i32_72_r0
  let c0_i32_73_r0 : BitVec 32 := 0#32
  let c0_i32_74_r0 : BitVec 32 := 0#32
  ![v94_r0.toNat, 0, 0]
@[reducible] def k0_t1_loop : Scf.Loop 32 :=
  let c0_i32_239_r0 : BitVec 32 := 0#32
  let c11_i32_r0 : BitVec 32 := 11#32
  let v479_r0 : BitVec 32 := Scalar.addi c0_i32_239_r0 c11_i32_r0
  let c1_i32_240_r0 : BitVec 32 := 1#32
  ⟨c0_i32_239_r0, v479_r0, c1_i32_240_r0⟩
def k0_mult5 (k0_t1 : Fin k0_t1_loop.trips) : BitVec 32 :=
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c512_i32_1590_r0 : BitVec 32 := 512#32
  let v3220_r0 : BitVec 32 := Scalar.muli v3218_r0 c512_i32_1590_r0
  v3220_r0
def k0_off7 (k0_t1 : Fin k0_t1_loop.trips) : Fin 1 → Nat :=
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c4_i32_1589_r0 : BitVec 32 := 4#32
  let v3219_r0 : BitVec 32 := Scalar.remsi v3218_r0 c4_i32_1589_r0
  ![v3219_r0.toNat]
def k0_off8 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c4_i32_1589_r0 : BitVec 32 := 4#32
  let v3219_r0 : BitVec 32 := Scalar.remsi v3218_r0 c4_i32_1589_r0
  let c0_i32_1591_r0 : BitVec 32 := 0#32
  let c0_i32_1592_r0 : BitVec 32 := 0#32
  ![v3219_r0.toNat, 0, 0]
def k0_off9 (k0_t1 : Fin k0_t1_loop.trips) : Fin 2 → Nat :=
  let c0_i32_1593_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c512_i32_1590_r0 : BitVec 32 := 512#32
  let v3220_r0 : BitVec 32 := Scalar.muli v3218_r0 c512_i32_1590_r0
  let v3221_r0 : BitVec 32 := v3220_r0
  ![0, v3221_r0.toNat]
def k0_off10 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c4_i32_1589_r0 : BitVec 32 := 4#32
  let v3219_r0 : BitVec 32 := Scalar.remsi v3218_r0 c4_i32_1589_r0
  let c0_i32_1594_r0 : BitVec 32 := 0#32
  let c0_i32_1595_r0 : BitVec 32 := 0#32
  ![v3219_r0.toNat, 0, 0]
def k0_off11 (k0_t1 : Fin k0_t1_loop.trips) : Fin 2 → Nat :=
  let c0_i32_1596_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c512_i32_1590_r0 : BitVec 32 := 512#32
  let v3220_r0 : BitVec 32 := Scalar.muli v3218_r0 c512_i32_1590_r0
  let v3221_r0 : BitVec 32 := v3220_r0
  ![0, v3221_r0.toNat]
def k0_off12 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c4_i32_1589_r0 : BitVec 32 := 4#32
  let v3219_r0 : BitVec 32 := Scalar.remsi v3218_r0 c4_i32_1589_r0
  let c0_i32_1597_r0 : BitVec 32 := 0#32
  let c0_i32_1598_r0 : BitVec 32 := 0#32
  let c0_i32_1599_r0 : BitVec 32 := 0#32
  ![v3219_r0.toNat, 0, 0, 0]
def k0_off13 (k0_t1 : Fin k0_t1_loop.trips) : Fin 3 → Nat :=
  let c0_i32_1600_r0 : BitVec 32 := 0#32
  let c0_i32_1601_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c1_i32_1588_r0 : BitVec 32 := 1#32
  let v3218_r0 : BitVec 32 := Scalar.addi arg12_r0 c1_i32_1588_r0
  let c512_i32_1590_r0 : BitVec 32 := 512#32
  let v3220_r0 : BitVec 32 := Scalar.muli v3218_r0 c512_i32_1590_r0
  let v3221_r0 : BitVec 32 := v3220_r0
  ![0, 0, v3221_r0.toNat]
def k0_cond1 (k0_t1 : Fin k0_t1_loop.trips) : BitVec 1 :=
  let c0_i32_239_r0 : BitVec 32 := 0#32
  let c1_i32_240_r0 : BitVec 32 := 1#32
  let arg12_r0 : BitVec 32 := Scf.iv c0_i32_239_r0 c1_i32_240_r0 k0_t1
  let c9_i32_r0 : BitVec 32 := 9#32
  let v3237_r0 : BitVec 1 := Scalar.cmpi .slt arg12_r0 c9_i32_r0
  let v3238_r0 : BitVec 32 := Scalar.extui v3237_r0
  let c0_i32_1602_r0 : BitVec 32 := 0#32
  let v3239_r0 : BitVec 1 := Scalar.cmpi .ne v3238_r0 c0_i32_1602_r0
  v3239_r0

def k0_mult6 (k0_t1 : Fin k0_t1_loop.trips) : BitVec 32 :=
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c512_i32_3313_r0 : BitVec 32 := 512#32
  let v6380_r0 : BitVec 32 := Scalar.muli v6378_r0 c512_i32_3313_r0
  v6380_r0
def k0_off14 (k0_t1 : Fin k0_t1_loop.trips) : Fin 1 → Nat :=
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c4_i32_3312_r0 : BitVec 32 := 4#32
  let v6379_r0 : BitVec 32 := Scalar.remsi v6378_r0 c4_i32_3312_r0
  ![v6379_r0.toNat]
def k0_off15 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c4_i32_3312_r0 : BitVec 32 := 4#32
  let v6379_r0 : BitVec 32 := Scalar.remsi v6378_r0 c4_i32_3312_r0
  let c0_i32_3314_r0 : BitVec 32 := 0#32
  let c0_i32_3315_r0 : BitVec 32 := 0#32
  ![v6379_r0.toNat, 0, 0]
def k0_off16 (k0_t1 : Fin k0_t1_loop.trips) : Fin 2 → Nat :=
  let c0_i32_3316_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c512_i32_3313_r0 : BitVec 32 := 512#32
  let v6380_r0 : BitVec 32 := Scalar.muli v6378_r0 c512_i32_3313_r0
  let v6381_r0 : BitVec 32 := v6380_r0
  ![0, v6381_r0.toNat]
def k0_off17 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c4_i32_3312_r0 : BitVec 32 := 4#32
  let v6379_r0 : BitVec 32 := Scalar.remsi v6378_r0 c4_i32_3312_r0
  let c0_i32_3317_r0 : BitVec 32 := 0#32
  let c0_i32_3318_r0 : BitVec 32 := 0#32
  ![v6379_r0.toNat, 0, 0]
def k0_off18 (k0_t1 : Fin k0_t1_loop.trips) : Fin 2 → Nat :=
  let c0_i32_3319_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c512_i32_3313_r0 : BitVec 32 := 512#32
  let v6380_r0 : BitVec 32 := Scalar.muli v6378_r0 c512_i32_3313_r0
  let v6381_r0 : BitVec 32 := v6380_r0
  ![0, v6381_r0.toNat]
def k0_off19 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c4_i32_3312_r0 : BitVec 32 := 4#32
  let v6379_r0 : BitVec 32 := Scalar.remsi v6378_r0 c4_i32_3312_r0
  let c0_i32_3320_r0 : BitVec 32 := 0#32
  let c0_i32_3321_r0 : BitVec 32 := 0#32
  let c0_i32_3322_r0 : BitVec 32 := 0#32
  ![v6379_r0.toNat, 0, 0, 0]
def k0_off20 (k0_t1 : Fin k0_t1_loop.trips) : Fin 3 → Nat :=
  let c0_i32_3323_r0 : BitVec 32 := 0#32
  let c0_i32_3324_r0 : BitVec 32 := 0#32
  let c0_i32_239_r0 : BitVec 32 := 0#32
  let c1_i32_240_r0 : BitVec 32 := 1#32
  let arg12_r0 : BitVec 32 := Scf.iv c0_i32_239_r0 c1_i32_240_r0 k0_t1
  let c3_i32_r0 : BitVec 32 := 3#32
  let v6378_r0 : BitVec 32 := Scalar.addi arg12_r0 c3_i32_r0
  let c512_i32_3313_r0 : BitVec 32 := 512#32
  let v6380_r0 : BitVec 32 := Scalar.muli v6378_r0 c512_i32_3313_r0
  let v6381_r0 : BitVec 32 := v6380_r0
  ![0, 0, v6381_r0.toNat]
def k0_off21 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c4_i32_1603_r0 : BitVec 32 := 4#32
  let v3240_r0 : BitVec 32 := Scalar.remsi arg12_r0 c4_i32_1603_r0
  let v3241_r0 : Index := Scalar.indexCast v3240_r0
  let c0_1604_r0 : Index := 0#32
  let c256_1605_r0 : Index := 256#32
  ![v3241_r0.toNat, 0, 256]
def k0_off22 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c4_i32_1609_r0 : BitVec 32 := 4#32
  let v3250_r0 : BitVec 32 := Scalar.remsi arg12_r0 c4_i32_1609_r0
  let c0_i32_1610_r0 : BitVec 32 := 0#32
  let c0_i32_1611_r0 : BitVec 32 := 0#32
  ![v3250_r0.toNat, 0, 0]
def k0_off23 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c4_i32_1609_r0 : BitVec 32 := 4#32
  let v3250_r0 : BitVec 32 := Scalar.remsi arg12_r0 c4_i32_1609_r0
  let v4401_r0 : Index := Scalar.indexCast v3250_r0
  let c0_2230_r0 : Index := 0#32
  let c0_2231_r0 : Index := 0#32
  let c0_2232_r0 : Index := 0#32
  ![v4401_r0.toNat, 0, 0, 0]
def k0_off24 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c4_i32_1609_r0 : BitVec 32 := 4#32
  let v3250_r0 : BitVec 32 := Scalar.remsi arg12_r0 c4_i32_1609_r0
  let v4406_r0 : Index := Scalar.indexCast v3250_r0
  let c8_2235_r0 : Index := 8#32
  let c0_2236_r0 : Index := 0#32
  let c0_2237_r0 : Index := 0#32
  ![v4406_r0.toNat, 8, 0, 0]
def k0_off25 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c4_i32_2240_r0 : BitVec 32 := 4#32
  let v4411_r0 : BitVec 32 := Scalar.remsi arg12_r0 c4_i32_2240_r0
  let c0_i32_2241_r0 : BitVec 32 := 0#32
  let c256_i32_2242_r0 : BitVec 32 := 256#32
  ![v4411_r0.toNat, 0, 256]
def k0_mult7 (k0_t1 : Fin k0_t1_loop.trips) : BitVec 32 :=
  let c0_i32_239_r0 : BitVec 32 := 0#32
  let c1_i32_240_r0 : BitVec 32 := 1#32
  let arg12_r0 : BitVec 32 := Scf.iv c0_i32_239_r0 c1_i32_240_r0 k0_t1
  let c512_i32_2449_r0 : BitVec 32 := 512#32
  let v4801_r0 : BitVec 32 := Scalar.muli arg12_r0 c512_i32_2449_r0
  let c0_i32_2450_r0 : BitVec 32 := 0#32
  let v4802_r0 : BitVec 32 := Scalar.addi v4801_r0 c0_i32_2450_r0
  v4802_r0
def k0_off26 (k0_t1 : Fin k0_t1_loop.trips) (c0_i32_2450_r0 : BitVec 32) : Fin 2 → Nat :=
  let c0_2451_r0 : Index := 0#32
  let c0_i32_239_r0 : BitVec 32 := 0#32
  let c1_i32_240_r0 : BitVec 32 := 1#32
  let arg12_r0 : BitVec 32 := Scf.iv c0_i32_239_r0 c1_i32_240_r0 k0_t1
  let c512_i32_2449_r0 : BitVec 32 := 512#32
  let v4801_r0 : BitVec 32 := Scalar.muli arg12_r0 c512_i32_2449_r0
  let v4802_r0 : BitVec 32 := Scalar.addi v4801_r0 c0_i32_2450_r0
  let v4803_r0 : BitVec 32 := v4802_r0
  let v4804_r0 : Index := Scalar.indexCast v4803_r0
  ![0, v4804_r0.toNat]
def k0_off27 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c4_i32_2452_r0 : BitVec 32 := 4#32
  let v4806_r0 : BitVec 32 := Scalar.remsi arg12_r0 c4_i32_2452_r0
  let v5959_r0 : Index := Scalar.indexCast v4806_r0
  let c0_3077_r0 : Index := 0#32
  let c0_3078_r0 : Index := 0#32
  let c256_3079_r0 : Index := 256#32
  ![v5959_r0.toNat, 0, 0, 256]
def k0_off28 (k0_t1 : Fin k0_t1_loop.trips) : Fin 4 → Nat :=
  let c0_i32_239_r0 : BitVec 32 := 0#32
  let c1_i32_240_r0 : BitVec 32 := 1#32
  let arg12_r0 : BitVec 32 := Scf.iv c0_i32_239_r0 c1_i32_240_r0 k0_t1
  let c4_i32_2452_r0 : BitVec 32 := 4#32
  let v4806_r0 : BitVec 32 := Scalar.remsi arg12_r0 c4_i32_2452_r0
  let v5964_r0 : Index := Scalar.indexCast v4806_r0
  let c8_3082_r0 : Index := 8#32
  let c0_3083_r0 : Index := 0#32
  let c256_3084_r0 : Index := 256#32
  ![v5964_r0.toNat, 8, 0, 256]
def k0_off29 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c1_i32_3087_r0 : BitVec 32 := 1#32
  let v5969_r0 : BitVec 32 := Scalar.addi arg12_r0 c1_i32_3087_r0
  let c4_i32_3088_r0 : BitVec 32 := 4#32
  let v5970_r0 : BitVec 32 := Scalar.remsi v5969_r0 c4_i32_3088_r0
  let v5971_r0 : Index := Scalar.indexCast v5970_r0
  let c0_3089_r0 : Index := 0#32
  let c0_3090_r0 : Index := 0#32
  ![v5971_r0.toNat, 0, 0]
def k0_off30 (k0_t1 : Fin k0_t1_loop.trips) : Fin 3 → Nat :=
  let c0_i32_239_r0 : BitVec 32 := 0#32
  let c1_i32_240_r0 : BitVec 32 := 1#32
  let arg12_r0 : BitVec 32 := Scf.iv c0_i32_239_r0 c1_i32_240_r0 k0_t1
  let c1_i32_3094_r0 : BitVec 32 := 1#32
  let v5980_r0 : BitVec 32 := Scalar.addi arg12_r0 c1_i32_3094_r0
  let c4_i32_3095_r0 : BitVec 32 := 4#32
  let v5981_r0 : BitVec 32 := Scalar.remsi v5980_r0 c4_i32_3095_r0
  let c0_i32_3096_r0 : BitVec 32 := 0#32
  let c0_i32_3097_r0 : BitVec 32 := 0#32
  ![v5981_r0.toNat, 0, 0]
def k0_mult8 (k0_t1 : Fin k0_t1_loop.trips) : BitVec 32 :=
  let c0_i32_239_r0 : BitVec 32 := 0#32
  let c1_i32_240_r0 : BitVec 32 := 1#32
  let arg12_r0 : BitVec 32 := Scf.iv c0_i32_239_r0 c1_i32_240_r0 k0_t1
  let c512_i32_3308_r0 : BitVec 32 := 512#32
  let v6373_r0 : BitVec 32 := Scalar.muli arg12_r0 c512_i32_3308_r0
  let c256_i32_3309_r0 : BitVec 32 := 256#32
  let v6374_r0 : BitVec 32 := Scalar.addi v6373_r0 c256_i32_3309_r0
  v6374_r0
def k0_off31 : Fin 3 → Nat :=
  let c11_i32_242_r0 : BitVec 32 := 11#32
  let c4_i32_243_r0 : BitVec 32 := 4#32
  let v481_r0 : BitVec 32 := Scalar.remsi c11_i32_242_r0 c4_i32_243_r0
  let v482_r0 : Index := Scalar.indexCast v481_r0
  let c0_244_r0 : Index := 0#32
  let c256_245_r0 : Index := 256#32
  ![v482_r0.toNat, 0, 256]
def k0_off32 : Fin 4 → Nat :=
  let c11_i32_249_r0 : BitVec 32 := 11#32
  let c4_i32_250_r0 : BitVec 32 := 4#32
  let v491_r0 : BitVec 32 := Scalar.remsi c11_i32_249_r0 c4_i32_250_r0
  let v1642_r0 : Index := Scalar.indexCast v491_r0
  let c0_728_r0 : Index := 0#32
  let c0_729_r0 : Index := 0#32
  let c0_730_r0 : Index := 0#32
  ![v1642_r0.toNat, 0, 0, 0]
def k0_off33 : Fin 4 → Nat :=
  let c11_i32_249_r0 : BitVec 32 := 11#32
  let c4_i32_250_r0 : BitVec 32 := 4#32
  let v491_r0 : BitVec 32 := Scalar.remsi c11_i32_249_r0 c4_i32_250_r0
  let v1647_r0 : Index := Scalar.indexCast v491_r0
  let c8_733_r0 : Index := 8#32
  let c0_734_r0 : Index := 0#32
  let c0_735_r0 : Index := 0#32
  ![v1647_r0.toNat, 8, 0, 0]
def k0_off34 : Fin 3 → Nat :=
  let c11_i32_737_r0 : BitVec 32 := 11#32
  let c4_i32_738_r0 : BitVec 32 := 4#32
  let v1652_r0 : BitVec 32 := Scalar.remsi c11_i32_737_r0 c4_i32_738_r0
  let c0_i32_739_r0 : BitVec 32 := 0#32
  let c256_i32_r0 : BitVec 32 := 256#32
  ![v1652_r0.toNat, 0, 256]
def k0_mult9 : BitVec 32 :=
  let c5632_i32_r0 : BitVec 32 := 5632#32
  c5632_i32_r0
def k0_off35 : Fin 4 → Nat :=
  let c11_i32_947_r0 : BitVec 32 := 11#32
  let c4_i32_948_r0 : BitVec 32 := 4#32
  let v2045_r0 : BitVec 32 := Scalar.remsi c11_i32_947_r0 c4_i32_948_r0
  let v3198_r0 : Index := Scalar.indexCast v2045_r0
  let c0_1573_r0 : Index := 0#32
  let c0_1574_r0 : Index := 0#32
  let c256_1575_r0 : Index := 256#32
  ![v3198_r0.toNat, 0, 0, 256]
def k0_off36 : Fin 4 → Nat :=
  let c11_i32_947_r0 : BitVec 32 := 11#32
  let c4_i32_948_r0 : BitVec 32 := 4#32
  let v2045_r0 : BitVec 32 := Scalar.remsi c11_i32_947_r0 c4_i32_948_r0
  let v3203_r0 : Index := Scalar.indexCast v2045_r0
  let c8_1578_r0 : Index := 8#32
  let c0_1579_r0 : Index := 0#32
  let c256_1580_r0 : Index := 256#32
  ![v3203_r0.toNat, 8, 0, 256]
def k0_mult10 : BitVec 32 :=
  let c5888_i32_r0 : BitVec 32 := 5888#32
  c5888_i32_r0
abbrev stage0_0 : Fin 1 → Memref sig .tc .vmem S80x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S80x16384 : Shape := ⟨2, ![80, 16384]⟩
abbrev S80x512 : Shape := ⟨2, ![80, 512]⟩
abbrev S8192x6144 : Shape := ⟨2, ![8192, 6144]⟩
abbrev S128x6144 : Shape := ⟨2, ![128, 6144]⟩
abbrev S13x32x6144 : Shape := ⟨3, ![13, 32, 6144]⟩
abbrev S72x16384 : Shape := ⟨2, ![72, 16384]⟩
abbrev S_ : Shape := ⟨0, ![]⟩
abbrev S64x6144 : Shape := ⟨2, ![64, 6144]⟩
abbrev S64x128x6144 : Shape := ⟨3, ![64, 128, 6144]⟩
abbrev S64x1x6144 : Shape := ⟨3, ![64, 1, 6144]⟩
abbrev S72x8192 : Shape := ⟨2, ![72, 8192]⟩
abbrev S72x6144 : Shape := ⟨2, ![72, 6144]⟩
abbrev S72x416 : Shape := ⟨2, ![72, 416]⟩
abbrev S72x13x32 : Shape := ⟨3, ![72, 13, 32]⟩

abbrev nBuf : Space → Nat
  | .hbm => 51
  | .vmem => 0
  | .smem => 0
  | _ => 0

abbrev bufTy : (tb : Table) → Fin (tcTables nBuf tb) → BufTy
  | .hbm, ⟨0, _⟩ => ⟨S80x16384, .bf16⟩
  | .hbm, ⟨1, _⟩ => ⟨S80x512, .bf16⟩
  | .hbm, ⟨2, _⟩ => ⟨S8192x6144, .i8⟩
  | .hbm, ⟨3, _⟩ => ⟨S128x6144, .bf16⟩
  | .hbm, ⟨4, _⟩ => ⟨S13x32x6144, .bf16⟩
  | .hbm, ⟨5, _⟩ => ⟨S72x16384, .bf16⟩
  | .hbm, ⟨6, _⟩ => ⟨S8192x6144, .i32⟩
  | .hbm, ⟨7, _⟩ => ⟨S_, .i32⟩
  | .hbm, ⟨8, _⟩ => ⟨S8192x6144, .i32⟩
  | .hbm, ⟨9, _⟩ => ⟨S8192x6144, .i32⟩
  | .hbm, ⟨10, _⟩ => ⟨S_, .i32⟩
  | .hbm, ⟨11, _⟩ => ⟨S8192x6144, .i32⟩
  | .hbm, ⟨12, _⟩ => ⟨S8192x6144, .i32⟩
  | .hbm, ⟨13, _⟩ => ⟨S_, .i32⟩
  | .hbm, ⟨14, _⟩ => ⟨S8192x6144, .i32⟩
  | .hbm, ⟨15, _⟩ => ⟨S8192x6144, .i1⟩
  | .hbm, ⟨16, _⟩ => ⟨S_, .i32⟩
  | .hbm, ⟨17, _⟩ => ⟨S8192x6144, .i32⟩
  | .hbm, ⟨18, _⟩ => ⟨S8192x6144, .i32⟩
  | .hbm, ⟨19, _⟩ => ⟨S8192x6144, .i32⟩
  | .hbm, ⟨20, _⟩ => ⟨S8192x6144, .bf16⟩
  | .hbm, ⟨21, _⟩ => ⟨S_, .i32⟩
  | .hbm, ⟨22, _⟩ => ⟨S8192x6144, .i32⟩
  | .hbm, ⟨23, _⟩ => ⟨S8192x6144, .i1⟩
  | .hbm, ⟨24, _⟩ => ⟨S_, .i32⟩
  | .hbm, ⟨25, _⟩ => ⟨S8192x6144, .i32⟩
  | .hbm, ⟨26, _⟩ => ⟨S8192x6144, .i32⟩
  | .hbm, ⟨27, _⟩ => ⟨S8192x6144, .i32⟩
  | .hbm, ⟨28, _⟩ => ⟨S8192x6144, .bf16⟩
  | .hbm, ⟨29, _⟩ => ⟨S64x6144, .bf16⟩
  | .hbm, ⟨30, _⟩ => ⟨S64x128x6144, .bf16⟩
  | .hbm, ⟨31, _⟩ => ⟨S64x1x6144, .bf16⟩
  | .hbm, ⟨32, _⟩ => ⟨S64x128x6144, .bf16⟩
  | .hbm, ⟨33, _⟩ => ⟨S64x128x6144, .bf16⟩
  | .hbm, ⟨34, _⟩ => ⟨S8192x6144, .bf16⟩
  | .hbm, ⟨35, _⟩ => ⟨S64x6144, .bf16⟩
  | .hbm, ⟨36, _⟩ => ⟨S64x128x6144, .bf16⟩
  | .hbm, ⟨37, _⟩ => ⟨S64x1x6144, .bf16⟩
  | .hbm, ⟨38, _⟩ => ⟨S64x128x6144, .bf16⟩
  | .hbm, ⟨39, _⟩ => ⟨S64x128x6144, .bf16⟩
  | .hbm, ⟨40, _⟩ => ⟨S8192x6144, .bf16⟩
  | .hbm, ⟨41, _⟩ => ⟨S72x8192, .bf16⟩
  | .hbm, ⟨42, _⟩ => ⟨S72x6144, .f32⟩
  | .hbm, ⟨43, _⟩ => ⟨S72x8192, .bf16⟩
  | .hbm, ⟨44, _⟩ => ⟨S72x6144, .f32⟩
  | .hbm, ⟨45, _⟩ => ⟨S72x6144, .f32⟩
  | .hbm, ⟨46, _⟩ => ⟨S72x416, .bf16⟩
  | .hbm, ⟨47, _⟩ => ⟨S72x13x32, .bf16⟩
  | .hbm, ⟨48, _⟩ => ⟨S72x6144, .f32⟩
  | .hbm, ⟨49, _⟩ => ⟨S72x6144, .f32⟩
  | .hbm, ⟨50, _⟩ => ⟨S72x6144, .bf16⟩
  | _, _ => ⟨S80x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Up.lean ====
abbrev S72x6144 : Shape := ⟨2, ![72, 6144]⟩
abbrev S2x80x512 : Shape := ⟨3, ![2, 80, 512]⟩
abbrev S3072x32768 : Shape := ⟨2, ![3072, 32768]⟩
abbrev S48x32768 : Shape := ⟨2, ![48, 32768]⟩
abbrev S13x2x32x16384 : Shape := ⟨4, ![13, 2, 32, 16384]⟩
abbrev S72x16384 : Shape := ⟨2, ![72, 16384]⟩
abbrev S256x6144 : Shape := ⟨2, ![256, 6144]⟩
abbrev S4x2x3072x512 : Shape := ⟨4, ![4, 2, 3072, 512]⟩
abbrev S4x2x48x512 : Shape := ⟨4, ![4, 2, 48, 512]⟩
abbrev S4x2x16x32x512 : Shape := ⟨5, ![4, 2, 16, 32, 512]⟩
abbrev S2x48x256 : Shape := ⟨3, ![2, 48, 256]⟩
abbrev S80x16384 : Shape := ⟨2, ![80, 16384]⟩
abbrev S_ : Shape := ⟨0, ![]⟩
abbrev S4 : Shape := ⟨1, ![4]⟩
abbrev S1 : Shape := ⟨1, ![1]⟩
abbrev S1x1x3072x512 : Shape := ⟨4, ![1, 1, 3072, 512]⟩
abbrev S3072x512 : Shape := ⟨2, ![3072, 512]⟩
abbrev S1x1x48x512 : Shape := ⟨4, ![1, 1, 48, 512]⟩
abbrev S48x512 : Shape := ⟨2, ![48, 512]⟩
abbrev S1x1x13x32x512 : Shape := ⟨5, ![1, 1, 13, 32, 512]⟩
abbrev S13x32x512 : Shape := ⟨3, ![13, 32, 512]⟩
abbrev S13x1x32x512 : Shape := ⟨4, ![13, 1, 32, 512]⟩
abbrev S184x6144 : Shape := ⟨2, ![184, 6144]⟩
abbrev S2x3x32x512 : Shape := ⟨4, ![2, 3, 32, 512]⟩
abbrev S1x2x3x32x512 : Shape := ⟨5, ![1, 2, 3, 32, 512]⟩
abbrev S1x1x48x256 : Shape := ⟨4, ![1, 1, 48, 256]⟩
abbrev S48x256 : Shape := ⟨2, ![48, 256]⟩
abbrev S1x48x256 : Shape := ⟨3, ![1, 48, 256]⟩
abbrev S1x1x3072x256 : Shape := ⟨4, ![1, 1, 3072, 256]⟩
abbrev S3072x256 : Shape := ⟨2, ![3072, 256]⟩
abbrev S256x256 : Shape := ⟨2, ![256, 256]⟩
abbrev S64x256 : Shape := ⟨2, ![64, 256]⟩
abbrev S1x256 : Shape := ⟨2, ![1, 256]⟩
abbrev S128x256 : Shape := ⟨2, ![128, 256]⟩
abbrev S80x256 : Shape := ⟨2, ![80, 256]⟩
abbrev S72x512 : Shape := ⟨2, ![72, 512]⟩
abbrev S1x1x8x32x256 : Shape := ⟨5, ![1, 1, 8, 32, 256]⟩
abbrev S8x32x256 : Shape := ⟨3, ![8, 32, 256]⟩
abbrev S1x80x256 : Shape := ⟨3, ![1, 80, 256]⟩

abbrev nBuf : Space → Nat
  | .hbm => 6
  | .vmem => 8
  | .smem => 0
  | _ => 0

abbrev bufTy : (tb : Table) → Fin (tcTables nBuf tb) → BufTy
  | .hbm, ⟨0, _⟩ => ⟨S72x6144, .bf16⟩
  | .hbm, ⟨1, _⟩ => ⟨S2x80x512, .bf16⟩
  | .hbm, ⟨2, _⟩ => ⟨S3072x32768, .i8⟩
  | .hbm, ⟨3, _⟩ => ⟨S48x32768, .bf16⟩
  | .hbm, ⟨4, _⟩ => ⟨S13x2x32x16384, .bf16⟩
  | .hbm, ⟨5, _⟩ => ⟨S72x16384, .bf16⟩
  | .local _ .vmem, ⟨0, _⟩ => ⟨S2x80x512, .bf16⟩
  | .local _ .vmem, ⟨1, _⟩ => ⟨S256x6144, .bf16⟩
  | .local _ .vmem, ⟨2, _⟩ => ⟨S4x2x3072x512, .i8⟩
  | .local _ .vmem, ⟨3, _⟩ => ⟨S4x2x48x512, .bf16⟩
  | .local _ .vmem, ⟨4, _⟩ => ⟨S4x2x16x32x512, .bf16⟩
  | .local _ .vmem, ⟨5, _⟩ => ⟨S2x48x256, .f32⟩
  | .local _ .vmem, ⟨6, _⟩ => ⟨S2x48x256, .f32⟩
  | .local _ .vmem, ⟨7, _⟩ => ⟨S80x16384, .bf16⟩
  | _, _ => ⟨S72x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32_2 : BitVec 32 := 0#32
  c0_i32_2
def k0_off1 (c0_i32_1 : BitVec 32) : Fin 1 → Nat :=
  let c4_i32 : BitVec 32 := 4#32
  let v1 : BitVec 32 := Scalar.remsi c0_i32_1 c4_i32
  ![v1.toNat]
def k0_off2 (c0_i32_1 : BitVec 32) : Fin 4 → Nat :=
  let c4_i32 : BitVec 32 := 4#32
  let v1 : BitVec 32 := Scalar.remsi c0_i32_1 c4_i32
  let c0_i32_4 : BitVec 32 := 0#32
  let c0_i32_5 : BitVec 32 := 0#32
  let c0_i32_6 : BitVec 32 := 0#32
  ![v1.toNat, 0, 0, 0]
def k0_off3 (c0_i32_3 : BitVec 32) (c0_i32_2 : BitVec 32) : Fin 2 → Nat :=
  let c0_i32_7 : BitVec 32 := 0#32
  let v2 : BitVec 32 := c0_i32_2
  let v3 : BitVec 32 := Scalar.addi c0_i32_3 v2
  ![0, v3.toNat]
def k0_off4 (c0_i32_1 : BitVec 32) : Fin 4 → Nat :=
  let c4_i32 : BitVec 32 := 4#32
  let v1 : BitVec 32 := Scalar.remsi c0_i32_1 c4_i32
  let c0_i32_8 : BitVec 32 := 0#32
  let c0_i32_9 : BitVec 32 := 0#32
  let c0_i32_10 : BitVec 32 := 0#32
  ![v1.toNat, 0, 0, 0]
def k0_off5 (c0_i32_3 : BitVec 32) (c0_i32_2 : BitVec 32) : Fin 2 → Nat :=
  let c0_i32_11 : BitVec 32 := 0#32
  let v2 : BitVec 32 := c0_i32_2
  let v3 : BitVec 32 := Scalar.addi c0_i32_3 v2
  ![0, v3.toNat]
def k0_off6 (c0_i32_1 : BitVec 32) : Fin 5 → Nat :=
  let c4_i32 : BitVec 32 := 4#32
  let v1 : BitVec 32 := Scalar.remsi c0_i32_1 c4_i32
  let c0_i32_13 : BitVec 32 := 0#32
  let c0_i32_14 : BitVec 32 := 0#32
  let c0_i32_15 : BitVec 32 := 0#32
  let c0_i32_16 : BitVec 32 := 0#32
  ![v1.toNat, 0, 0, 0, 0]
def k0_off7 (c0_i32_1 : BitVec 32) : Fin 4 → Nat :=
  let c4_i32 : BitVec 32 := 4#32
  let v1 : BitVec 32 := Scalar.remsi c0_i32_1 c4_i32
  let c1_i32 : BitVec 32 := 1#32
  let c0_i32_19 : BitVec 32 := 0#32
  let c0_i32_20 : BitVec 32 := 0#32
  ![v1.toNat, 1, 0, 0]
def k0_off8 (c0_i32_1 : BitVec 32) : Fin 4 → Nat :=
  let c4_i32 : BitVec 32 := 4#32
  let v1 : BitVec 32 := Scalar.remsi c0_i32_1 c4_i32
  let c1_i32_22 : BitVec 32 := 1#32
  let c0_i32_23 : BitVec 32 := 0#32
  let c0_i32_24 : BitVec 32 := 0#32
  ![v1.toNat, 1, 0, 0]
def k0_off9 (c0_i32_1 : BitVec 32) : Fin 5 → Nat :=
  let c4_i32 : BitVec 32 := 4#32
  let v1 : BitVec 32 := Scalar.remsi c0_i32_1 c4_i32
  let c1_i32_27 : BitVec 32 := 1#32
  let c0_i32_28 : BitVec 32 := 0#32
  let c0_i32_29 : BitVec 32 := 0#32
  let c0_i32_30 : BitVec 32 := 0#32
  ![v1.toNat, 1, 0, 0, 0]
def k0_mult2 : BitVec 32 :=
  let c512_i32 : BitVec 32 := 512#32
  c512_i32
def k0_mult3 : BitVec 32 :=
  let c1024_i32 : BitVec 32 := 1024#32
  c1024_i32
def k0_mult4 : BitVec 32 :=
  let c0_i32_127_r0 : BitVec 32 := 0#32
  c0_i32_127_r0
def k0_off10 : Fin 4 → Nat :=
  let c0_i32_160_r0 : BitVec 32 := 0#32
  let c4_i32_161_r0 : BitVec 32 := 4#32
  let v167_r0 : BitVec 32 := Scalar.remsi c0_i32_160_r0 c4_i32_161_r0
  let v168_r0 : Index := Scalar.indexCast v167_r0
  let c0_162_r0 : Index := 0#32
  let c0_163_r0 : Index := 0#32
  let c0_164_r0 : Index := 0#32
  ![v168_r0.toNat, 0, 0, 0]
def k0_off11 : Fin 4 → Nat :=
  let c0_i32_160_r0 : BitVec 32 := 0#32
  let c4_i32_161_r0 : BitVec 32 := 4#32
  let v167_r0 : BitVec 32 := Scalar.remsi c0_i32_160_r0 c4_i32_161_r0
  let v177_r0 : Index := Scalar.indexCast v167_r0
  let c1_169_r0 : Index := 1#32
  let c0_170_r0 : Index := 0#32
  let c0_171_r0 : Index := 0#32
  ![v177_r0.toNat, 1, 0, 0]
def k0_off12 (c0_i32_176_r0 : BitVec 32) : Fin 4 → Nat :=
  let c4_i32_177_r0 : BitVec 32 := 4#32
  let v186_r0 : BitVec 32 := Scalar.remsi c0_i32_176_r0 c4_i32_177_r0
  let c0_i32_178_r0 : BitVec 32 := 0#32
  let c0_i32_179_r0 : BitVec 32 := 0#32
  let c0_i32_180_r0 : BitVec 32 := 0#32
  ![v186_r0.toNat, 0, 0, 0]
def k0_off13 (c0_i32_176_r0 : BitVec 32) : Fin 4 → Nat :=
  let c4_i32_177_r0 : BitVec 32 := 4#32
  let v186_r0 : BitVec 32 := Scalar.remsi c0_i32_176_r0 c4_i32_177_r0
  let c1_i32_195_r0 : BitVec 32 := 1#32
  let c0_i32_196_r0 : BitVec 32 := 0#32
  let c0_i32_197_r0 : BitVec 32 := 0#32
  ![v186_r0.toNat, 1, 0, 0]
@[reducible] def k0_t1_loop : Scf.Loop 32 :=
  let c0_i32_480_r0 : BitVec 32 := 0#32
  let c31_i32_r0 : BitVec 32 := 31#32
  let v635_r0 : BitVec 32 := Scalar.addi c0_i32_480_r0 c31_i32_r0
  let c1_i32_481_r0 : BitVec 32 := 1#32
  ⟨c0_i32_480_r0, v635_r0, c1_i32_481_r0⟩
def k0_mult5 (k0_t1 : Fin k0_t1_loop.trips) : BitVec 32 :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c512_i32_2121_r0 : BitVec 32 := 512#32
  let v2977_r0 : BitVec 32 := Scalar.muli v2975_r0 c512_i32_2121_r0
  v2977_r0
def k0_off14 (k0_t1 : Fin k0_t1_loop.trips) : Fin 1 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  ![v2976_r0.toNat]
def k0_off15 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c0_i32_2124_r0 : BitVec 32 := 0#32
  let c0_i32_2125_r0 : BitVec 32 := 0#32
  let c0_i32_2126_r0 : BitVec 32 := 0#32
  ![v2976_r0.toNat, 0, 0, 0]
def k0_off16 (k0_t1 : Fin k0_t1_loop.trips) (c0_i32_2122_r0 : BitVec 32) : Fin 2 → Nat :=
  let c0_i32_2127_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c512_i32_2121_r0 : BitVec 32 := 512#32
  let v2977_r0 : BitVec 32 := Scalar.muli v2975_r0 c512_i32_2121_r0
  let v2978_r0 : BitVec 32 := v2977_r0
  let v2979_r0 : BitVec 32 := Scalar.addi c0_i32_2122_r0 v2978_r0
  ![0, v2979_r0.toNat]
def k0_off17 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c0_i32_2128_r0 : BitVec 32 := 0#32
  let c0_i32_2129_r0 : BitVec 32 := 0#32
  let c0_i32_2130_r0 : BitVec 32 := 0#32
  ![v2976_r0.toNat, 0, 0, 0]
def k0_off18 (k0_t1 : Fin k0_t1_loop.trips) (c0_i32_2122_r0 : BitVec 32) : Fin 2 → Nat :=
  let c0_i32_2131_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c512_i32_2121_r0 : BitVec 32 := 512#32
  let v2977_r0 : BitVec 32 := Scalar.muli v2975_r0 c512_i32_2121_r0
  let v2978_r0 : BitVec 32 := v2977_r0
  let v2979_r0 : BitVec 32 := Scalar.addi c0_i32_2122_r0 v2978_r0
  ![0, v2979_r0.toNat]
def k0_off19 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c0_i32_2133_r0 : BitVec 32 := 0#32
  let c0_i32_2134_r0 : BitVec 32 := 0#32
  let c0_i32_2135_r0 : BitVec 32 := 0#32
  let c0_i32_2136_r0 : BitVec 32 := 0#32
  ![v2976_r0.toNat, 0, 0, 0, 0]
def k0_off20 (k0_t1 : Fin k0_t1_loop.trips) : Fin 4 → Nat :=
  let c0_i32_2137_r0 : BitVec 32 := 0#32
  let c0_i32_2132_r0 : BitVec 32 := 0#32
  let c0_i32_2138_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c512_i32_2121_r0 : BitVec 32 := 512#32
  let v2977_r0 : BitVec 32 := Scalar.muli v2975_r0 c512_i32_2121_r0
  let v2978_r0 : BitVec 32 := v2977_r0
  ![0, 0, 0, v2978_r0.toNat]
def k0_off21 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c1_i32_2139_r0 : BitVec 32 := 1#32
  let c0_i32_2140_r0 : BitVec 32 := 0#32
  let c0_i32_2141_r0 : BitVec 32 := 0#32
  ![v2976_r0.toNat, 1, 0, 0]
def k0_off22 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c1_i32_2143_r0 : BitVec 32 := 1#32
  let c0_i32_2144_r0 : BitVec 32 := 0#32
  let c0_i32_2145_r0 : BitVec 32 := 0#32
  ![v2976_r0.toNat, 1, 0, 0]
def k0_off23 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c4_i32_2120_r0 : BitVec 32 := 4#32
  let v2976_r0 : BitVec 32 := Scalar.remsi v2975_r0 c4_i32_2120_r0
  let c1_i32_2148_r0 : BitVec 32 := 1#32
  let c0_i32_2149_r0 : BitVec 32 := 0#32
  let c0_i32_2150_r0 : BitVec 32 := 0#32
  let c0_i32_2151_r0 : BitVec 32 := 0#32
  ![v2976_r0.toNat, 1, 0, 0, 0]
def k0_off24 (k0_t1 : Fin k0_t1_loop.trips) : Fin 4 → Nat :=
  let c0_i32_2152_r0 : BitVec 32 := 0#32
  let c1_i32_2147_r0 : BitVec 32 := 1#32
  let c0_i32_2153_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_2119_r0 : BitVec 32 := 1#32
  let v2975_r0 : BitVec 32 := Scalar.addi arg16_r0 c1_i32_2119_r0
  let c512_i32_2121_r0 : BitVec 32 := 512#32
  let v2977_r0 : BitVec 32 := Scalar.muli v2975_r0 c512_i32_2121_r0
  let v2978_r0 : BitVec 32 := v2977_r0
  ![0, 1, 0, v2978_r0.toNat]
def k0_cond1 (k0_t1 : Fin k0_t1_loop.trips) : BitVec 1 :=
  let c0_i32_480_r0 : BitVec 32 := 0#32
  let c1_i32_481_r0 : BitVec 32 := 1#32
  let arg16_r0 : BitVec 32 := Scf.iv c0_i32_480_r0 c1_i32_481_r0 k0_t1
  let c29_i32_r0 : BitVec 32 := 29#32
  let v3013_r0 : BitVec 1 := Scalar.cmpi .slt arg16_r0 c29_i32_r0
  let v3014_r0 : BitVec 32 := Scalar.extui v3013_r0
  let c0_i32_2154_r0 : BitVec 32 := 0#32
  let v3015_r0 : BitVec 1 := Scalar.cmpi .ne v3014_r0 c0_i32_2154_r0
  v3015_r0

def k0_mult6 (k0_t1 : Fin k0_t1_loop.trips) : BitVec 32 :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c512_i32_4177_r0 : BitVec 32 := 512#32
  let v5827_r0 : BitVec 32 := Scalar.muli v5825_r0 c512_i32_4177_r0
  v5827_r0
def k0_off25 (k0_t1 : Fin k0_t1_loop.trips) : Fin 1 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  ![v5826_r0.toNat]
def k0_off26 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c0_i32_4180_r0 : BitVec 32 := 0#32
  let c0_i32_4181_r0 : BitVec 32 := 0#32
  let c0_i32_4182_r0 : BitVec 32 := 0#32
  ![v5826_r0.toNat, 0, 0, 0]
def k0_off27 (k0_t1 : Fin k0_t1_loop.trips) (c0_i32_4178_r0 : BitVec 32) : Fin 2 → Nat :=
  let c0_i32_4183_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c512_i32_4177_r0 : BitVec 32 := 512#32
  let v5827_r0 : BitVec 32 := Scalar.muli v5825_r0 c512_i32_4177_r0
  let v5828_r0 : BitVec 32 := v5827_r0
  let v5829_r0 : BitVec 32 := Scalar.addi c0_i32_4178_r0 v5828_r0
  ![0, v5829_r0.toNat]
def k0_off28 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c0_i32_4184_r0 : BitVec 32 := 0#32
  let c0_i32_4185_r0 : BitVec 32 := 0#32
  let c0_i32_4186_r0 : BitVec 32 := 0#32
  ![v5826_r0.toNat, 0, 0, 0]
def k0_off29 (k0_t1 : Fin k0_t1_loop.trips) (c0_i32_4178_r0 : BitVec 32) : Fin 2 → Nat :=
  let c0_i32_4187_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c512_i32_4177_r0 : BitVec 32 := 512#32
  let v5827_r0 : BitVec 32 := Scalar.muli v5825_r0 c512_i32_4177_r0
  let v5828_r0 : BitVec 32 := v5827_r0
  let v5829_r0 : BitVec 32 := Scalar.addi c0_i32_4178_r0 v5828_r0
  ![0, v5829_r0.toNat]
def k0_off30 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c0_i32_4189_r0 : BitVec 32 := 0#32
  let c0_i32_4190_r0 : BitVec 32 := 0#32
  let c0_i32_4191_r0 : BitVec 32 := 0#32
  let c0_i32_4192_r0 : BitVec 32 := 0#32
  ![v5826_r0.toNat, 0, 0, 0, 0]
def k0_off31 (k0_t1 : Fin k0_t1_loop.trips) : Fin 4 → Nat :=
  let c0_i32_4193_r0 : BitVec 32 := 0#32
  let c0_i32_4188_r0 : BitVec 32 := 0#32
  let c0_i32_4194_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c512_i32_4177_r0 : BitVec 32 := 512#32
  let v5827_r0 : BitVec 32 := Scalar.muli v5825_r0 c512_i32_4177_r0
  let v5828_r0 : BitVec 32 := v5827_r0
  ![0, 0, 0, v5828_r0.toNat]
def k0_off32 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c1_i32_4195_r0 : BitVec 32 := 1#32
  let c0_i32_4196_r0 : BitVec 32 := 0#32
  let c0_i32_4197_r0 : BitVec 32 := 0#32
  ![v5826_r0.toNat, 1, 0, 0]
def k0_off33 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c1_i32_4199_r0 : BitVec 32 := 1#32
  let c0_i32_4200_r0 : BitVec 32 := 0#32
  let c0_i32_4201_r0 : BitVec 32 := 0#32
  ![v5826_r0.toNat, 1, 0, 0]
def k0_off34 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c4_i32_4176_r0 : BitVec 32 := 4#32
  let v5826_r0 : BitVec 32 := Scalar.remsi v5825_r0 c4_i32_4176_r0
  let c1_i32_4204_r0 : BitVec 32 := 1#32
  let c0_i32_4205_r0 : BitVec 32 := 0#32
  let c0_i32_4206_r0 : BitVec 32 := 0#32
  let c0_i32_4207_r0 : BitVec 32 := 0#32
  ![v5826_r0.toNat, 1, 0, 0, 0]
def k0_off35 (k0_t1 : Fin k0_t1_loop.trips) : Fin 4 → Nat :=
  let c0_i32_4208_r0 : BitVec 32 := 0#32
  let c1_i32_4203_r0 : BitVec 32 := 1#32
  let c0_i32_4209_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c3_i32_r0 : BitVec 32 := 3#32
  let v5825_r0 : BitVec 32 := Scalar.addi arg16_r0 c3_i32_r0
  let c512_i32_4177_r0 : BitVec 32 := 512#32
  let v5827_r0 : BitVec 32 := Scalar.muli v5825_r0 c512_i32_4177_r0
  let v5828_r0 : BitVec 32 := v5827_r0
  ![0, 1, 0, v5828_r0.toNat]
def k0_cond2 (k0_t1 : Fin k0_t1_loop.trips) : BitVec 1 :=
  let c0_i32_480_r0 : BitVec 32 := 0#32
  let c1_i32_481_r0 : BitVec 32 := 1#32
  let arg16_r0 : BitVec 32 := Scf.iv c0_i32_480_r0 c1_i32_481_r0 k0_t1
  let c0_i32_2155_r0 : BitVec 32 := 0#32
  let v3016_r0 : BitVec 1 := Scalar.cmpi .sgt arg16_r0 c0_i32_2155_r0
  let v3017_r0 : BitVec 32 := Scalar.extui v3016_r0
  let c0_i32_2156_r0 : BitVec 32 := 0#32
  let v3018_r0 : BitVec 1 := Scalar.cmpi .ne v3017_r0 c0_i32_2156_r0
  v3018_r0

def k0_mult7 (k0_t1 : Fin k0_t1_loop.trips) : BitVec 32 :=
  let c0_i32_480_r0 : BitVec 32 := 0#32
  let c1_i32_481_r0 : BitVec 32 := 1#32
  let arg16_r0 : BitVec 32 := Scf.iv c0_i32_480_r0 c1_i32_481_r0 k0_t1
  let c1_i32_4176_r0 : BitVec 32 := 1#32
  let v5825_r0 : BitVec 32 := Scalar.subi arg16_r0 c1_i32_4176_r0
  let c512_i32_4177_r0 : BitVec 32 := 512#32
  let v5826_r0 : BitVec 32 := Scalar.muli v5825_r0 c512_i32_4177_r0
  v5826_r0
def k0_off36 (k0_t1 : Fin k0_t1_loop.trips) : Fin 2 → Nat :=
  let c0_i32_4178_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_4176_r0 : BitVec 32 := 1#32
  let v5825_r0 : BitVec 32 := Scalar.subi arg16_r0 c1_i32_4176_r0
  let c512_i32_4177_r0 : BitVec 32 := 512#32
  let v5826_r0 : BitVec 32 := Scalar.muli v5825_r0 c512_i32_4177_r0
  let v5827_r0 : BitVec 32 := v5826_r0
  ![0, v5827_r0.toNat]
def k0_off37 (k0_t1 : Fin k0_t1_loop.trips) : Fin 2 → Nat :=
  let c0_i32_4179_r0 : BitVec 32 := 0#32
  let c0_i32_480_r0 : BitVec 32 := 0#32
  let c1_i32_481_r0 : BitVec 32 := 1#32
  let arg16_r0 : BitVec 32 := Scf.iv c0_i32_480_r0 c1_i32_481_r0 k0_t1
  let c1_i32_4176_r0 : BitVec 32 := 1#32
  let v5825_r0 : BitVec 32 := Scalar.subi arg16_r0 c1_i32_4176_r0
  let c512_i32_4177_r0 : BitVec 32 := 512#32
  let v5826_r0 : BitVec 32 := Scalar.muli v5825_r0 c512_i32_4177_r0
  let v5827_r0 : BitVec 32 := v5826_r0
  ![0, v5827_r0.toNat]
def k0_off38 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2157_r0 : BitVec 32 := 4#32
  let v3019_r0 : BitVec 32 := Scalar.remsi arg16_r0 c4_i32_2157_r0
  let v3020_r0 : Index := Scalar.indexCast v3019_r0
  let c0_2158_r0 : Index := 0#32
  let c0_2159_r0 : Index := 0#32
  let c256_2160_r0 : Index := 256#32
  ![v3020_r0.toNat, 0, 0, 256]
def k0_off39 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2157_r0 : BitVec 32 := 4#32
  let v3019_r0 : BitVec 32 := Scalar.remsi arg16_r0 c4_i32_2157_r0
  let v3029_r0 : Index := Scalar.indexCast v3019_r0
  let c1_2165_r0 : Index := 1#32
  let c0_2166_r0 : Index := 0#32
  let c256_2167_r0 : Index := 256#32
  ![v3029_r0.toNat, 1, 0, 256]
def k0_off40 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let c0_i32_2173_r0 : BitVec 32 := 0#32
  let c0_i32_2174_r0 : BitVec 32 := 0#32
  let c0_i32_2175_r0 : BitVec 32 := 0#32
  ![v3038_r0.toNat, 0, 0, 0]
def k0_off41 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let c1_i32_2191_r0 : BitVec 32 := 1#32
  let c0_i32_2192_r0 : BitVec 32 := 0#32
  let c0_i32_2193_r0 : BitVec 32 := 0#32
  ![v3038_r0.toNat, 1, 0, 0]
def k0_off42 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let v3933_r0 : Index := Scalar.indexCast v3038_r0
  let c0_2809_r0 : Index := 0#32
  let c0_2810_r0 : Index := 0#32
  let c0_2811_r0 : Index := 0#32
  let c0_2812_r0 : Index := 0#32
  ![v3933_r0.toNat, 0, 0, 0, 0]
def k0_off43 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let v3938_r0 : Index := Scalar.indexCast v3038_r0
  let c1_2815_r0 : Index := 1#32
  let c0_2816_r0 : Index := 0#32
  let c0_2817_r0 : Index := 0#32
  let c0_2818_r0 : Index := 0#32
  ![v3938_r0.toNat, 1, 0, 0, 0]
def k0_off44 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let v3943_r0 : Index := Scalar.indexCast v3038_r0
  let c0_2821_r0 : Index := 0#32
  let c8_2822_r0 : Index := 8#32
  let c0_2823_r0 : Index := 0#32
  let c0_2824_r0 : Index := 0#32
  ![v3943_r0.toNat, 0, 8, 0, 0]
def k0_off45 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_2172_r0 : BitVec 32 := 4#32
  let v3038_r0 : BitVec 32 := Scalar.remsi arg16_r0 c4_i32_2172_r0
  let v3949_r0 : Index := Scalar.indexCast v3038_r0
  let c1_2828_r0 : Index := 1#32
  let c8_2829_r0 : Index := 8#32
  let c0_2830_r0 : Index := 0#32
  let c0_2831_r0 : Index := 0#32
  ![v3949_r0.toNat, 1, 8, 0, 0]
def k0_off46 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2835_r0 : BitVec 32 := 4#32
  let v3955_r0 : BitVec 32 := Scalar.remsi arg16_r0 c4_i32_2835_r0
  let c0_i32_2836_r0 : BitVec 32 := 0#32
  let c0_i32_2837_r0 : BitVec 32 := 0#32
  let c256_i32_2838_r0 : BitVec 32 := 256#32
  ![v3955_r0.toNat, 0, 0, 256]
def k0_off47 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c4_i32_2835_r0 : BitVec 32 := 4#32
  let v3955_r0 : BitVec 32 := Scalar.remsi arg16_r0 c4_i32_2835_r0
  let c1_i32_2857_r0 : BitVec 32 := 1#32
  let c0_i32_2858_r0 : BitVec 32 := 0#32
  let c256_i32_2859_r0 : BitVec 32 := 256#32
  ![v3955_r0.toNat, 1, 0, 256]
def k0_mult8 (k0_t1 : Fin k0_t1_loop.trips) : BitVec 32 :=
  let c0_i32_480_r0 : BitVec 32 := 0#32
  let c1_i32_481_r0 : BitVec 32 := 1#32
  let arg16_r0 : BitVec 32 := Scf.iv c0_i32_480_r0 c1_i32_481_r0 k0_t1
  let c512_i32_3158_r0 : BitVec 32 := 512#32
  let v4412_r0 : BitVec 32 := Scalar.muli arg16_r0 c512_i32_3158_r0
  let c0_i32_3159_r0 : BitVec 32 := 0#32
  let v4413_r0 : BitVec 32 := Scalar.addi v4412_r0 c0_i32_3159_r0
  v4413_r0
def k0_off48 (k0_t1 : Fin k0_t1_loop.trips) (c0_i32_3159_r0 : BitVec 32) : Fin 2 → Nat :=
  let c0_3160_r0 : Index := 0#32
  let c0_i32_480_r0 : BitVec 32 := 0#32
  let c1_i32_481_r0 : BitVec 32 := 1#32
  let arg16_r0 : BitVec 32 := Scf.iv c0_i32_480_r0 c1_i32_481_r0 k0_t1
  let c512_i32_3158_r0 : BitVec 32 := 512#32
  let v4412_r0 : BitVec 32 := Scalar.muli arg16_r0 c512_i32_3158_r0
  let v4413_r0 : BitVec 32 := Scalar.addi v4412_r0 c0_i32_3159_r0
  let v4414_r0 : BitVec 32 := v4413_r0
  let v4415_r0 : Index := Scalar.indexCast v4414_r0
  ![0, v4415_r0.toNat]
def k0_off49 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_3161_r0 : BitVec 32 := 4#32
  let v4419_r0 : BitVec 32 := Scalar.remsi arg16_r0 c4_i32_3161_r0
  let v5316_r0 : Index := Scalar.indexCast v4419_r0
  let c0_3802_r0 : Index := 0#32
  let c0_3803_r0 : Index := 0#32
  let c0_3804_r0 : Index := 0#32
  let c256_3805_r0 : Index := 256#32
  ![v5316_r0.toNat, 0, 0, 0, 256]
def k0_off50 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_3161_r0 : BitVec 32 := 4#32
  let v4419_r0 : BitVec 32 := Scalar.remsi arg16_r0 c4_i32_3161_r0
  let v5321_r0 : Index := Scalar.indexCast v4419_r0
  let c1_3808_r0 : Index := 1#32
  let c0_3809_r0 : Index := 0#32
  let c0_3810_r0 : Index := 0#32
  let c256_3811_r0 : Index := 256#32
  ![v5321_r0.toNat, 1, 0, 0, 256]
def k0_off51 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_3161_r0 : BitVec 32 := 4#32
  let v4419_r0 : BitVec 32 := Scalar.remsi arg16_r0 c4_i32_3161_r0
  let v5326_r0 : Index := Scalar.indexCast v4419_r0
  let c0_3814_r0 : Index := 0#32
  let c8_3815_r0 : Index := 8#32
  let c0_3816_r0 : Index := 0#32
  let c256_3817_r0 : Index := 256#32
  ![v5326_r0.toNat, 0, 8, 0, 256]
def k0_off52 (k0_t1 : Fin k0_t1_loop.trips) : Fin 5 → Nat :=
  let c0_i32_480_r0 : BitVec 32 := 0#32
  let c1_i32_481_r0 : BitVec 32 := 1#32
  let arg16_r0 : BitVec 32 := Scf.iv c0_i32_480_r0 c1_i32_481_r0 k0_t1
  let c4_i32_3161_r0 : BitVec 32 := 4#32
  let v4419_r0 : BitVec 32 := Scalar.remsi arg16_r0 c4_i32_3161_r0
  let v5332_r0 : Index := Scalar.indexCast v4419_r0
  let c1_3821_r0 : Index := 1#32
  let c8_3822_r0 : Index := 8#32
  let c0_3823_r0 : Index := 0#32
  let c256_3824_r0 : Index := 256#32
  ![v5332_r0.toNat, 1, 8, 0, 256]
def k0_off53 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_3828_r0 : BitVec 32 := 1#32
  let v5338_r0 : BitVec 32 := Scalar.addi arg16_r0 c1_i32_3828_r0
  let c4_i32_3829_r0 : BitVec 32 := 4#32
  let v5339_r0 : BitVec 32 := Scalar.remsi v5338_r0 c4_i32_3829_r0
  let v5340_r0 : Index := Scalar.indexCast v5339_r0
  let c0_3830_r0 : Index := 0#32
  let c0_3831_r0 : Index := 0#32
  let c0_3832_r0 : Index := 0#32
  ![v5340_r0.toNat, 0, 0, 0]
def k0_off54 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_3828_r0 : BitVec 32 := 1#32
  let v5338_r0 : BitVec 32 := Scalar.addi arg16_r0 c1_i32_3828_r0
  let c4_i32_3829_r0 : BitVec 32 := 4#32
  let v5339_r0 : BitVec 32 := Scalar.remsi v5338_r0 c4_i32_3829_r0
  let v5349_r0 : Index := Scalar.indexCast v5339_r0
  let c1_3837_r0 : Index := 1#32
  let c0_3838_r0 : Index := 0#32
  let c0_3839_r0 : Index := 0#32
  ![v5349_r0.toNat, 1, 0, 0]
def k0_off55 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_3844_r0 : BitVec 32 := 1#32
  let v5358_r0 : BitVec 32 := Scalar.addi arg16_r0 c1_i32_3844_r0
  let c4_i32_3845_r0 : BitVec 32 := 4#32
  let v5359_r0 : BitVec 32 := Scalar.remsi v5358_r0 c4_i32_3845_r0
  let c0_i32_3846_r0 : BitVec 32 := 0#32
  let c0_i32_3847_r0 : BitVec 32 := 0#32
  let c0_i32_3848_r0 : BitVec 32 := 0#32
  ![v5359_r0.toNat, 0, 0, 0]
def k0_off56 (k0_t1 : Fin k0_t1_loop.trips) : Fin 4 → Nat :=
  let c0_i32_480_r0 : BitVec 32 := 0#32
  let c1_i32_481_r0 : BitVec 32 := 1#32
  let arg16_r0 : BitVec 32 := Scf.iv c0_i32_480_r0 c1_i32_481_r0 k0_t1
  let c1_i32_3844_r0 : BitVec 32 := 1#32
  let v5358_r0 : BitVec 32 := Scalar.addi arg16_r0 c1_i32_3844_r0
  let c4_i32_3845_r0 : BitVec 32 := 4#32
  let v5359_r0 : BitVec 32 := Scalar.remsi v5358_r0 c4_i32_3845_r0
  let c1_i32_3867_r0 : BitVec 32 := 1#32
  let c0_i32_3868_r0 : BitVec 32 := 0#32
  let c0_i32_3869_r0 : BitVec 32 := 0#32
  ![v5359_r0.toNat, 1, 0, 0]
def k0_mult9 (k0_t1 : Fin k0_t1_loop.trips) : BitVec 32 :=
  let c0_i32_480_r0 : BitVec 32 := 0#32
  let c1_i32_481_r0 : BitVec 32 := 1#32
  let arg16_r0 : BitVec 32 := Scf.iv c0_i32_480_r0 c1_i32_481_r0 k0_t1
  let c512_i32_4168_r0 : BitVec 32 := 512#32
  let v5816_r0 : BitVec 32 := Scalar.muli arg16_r0 c512_i32_4168_r0
  let c256_i32_4169_r0 : BitVec 32 := 256#32
  let v5817_r0 : BitVec 32 := Scalar.addi v5816_r0 c256_i32_4169_r0
  v5817_r0
def k0_mult10 : BitVec 32 :=
  let c15360_i32_r0 : BitVec 32 := 15360#32
  c15360_i32_r0
def k0_off57 : Fin 4 → Nat :=
  let c31_i32_485_r0 : BitVec 32 := 31#32
  let c4_i32_486_r0 : BitVec 32 := 4#32
  let v640_r0 : BitVec 32 := Scalar.remsi c31_i32_485_r0 c4_i32_486_r0
  let v641_r0 : Index := Scalar.indexCast v640_r0
  let c0_487_r0 : Index := 0#32
  let c0_488_r0 : Index := 0#32
  let c256_489_r0 : Index := 256#32
  ![v641_r0.toNat, 0, 0, 256]
def k0_off58 : Fin 4 → Nat :=
  let c31_i32_485_r0 : BitVec 32 := 31#32
  let c4_i32_486_r0 : BitVec 32 := 4#32
  let v640_r0 : BitVec 32 := Scalar.remsi c31_i32_485_r0 c4_i32_486_r0
  let v650_r0 : Index := Scalar.indexCast v640_r0
  let c1_494_r0 : Index := 1#32
  let c0_495_r0 : Index := 0#32
  let c256_496_r0 : Index := 256#32
  ![v650_r0.toNat, 1, 0, 256]
def k0_off59 : Fin 5 → Nat :=
  let c31_i32_501_r0 : BitVec 32 := 31#32
  let c4_i32_502_r0 : BitVec 32 := 4#32
  let v659_r0 : BitVec 32 := Scalar.remsi c31_i32_501_r0 c4_i32_502_r0
  let v1554_r0 : Index := Scalar.indexCast v659_r0
  let c0_1092_r0 : Index := 0#32
  let c0_1093_r0 : Index := 0#32
  let c0_1094_r0 : Index := 0#32
  let c0_1095_r0 : Index := 0#32
  ![v1554_r0.toNat, 0, 0, 0, 0]
def k0_off60 : Fin 5 → Nat :=
  let c31_i32_501_r0 : BitVec 32 := 31#32
  let c4_i32_502_r0 : BitVec 32 := 4#32
  let v659_r0 : BitVec 32 := Scalar.remsi c31_i32_501_r0 c4_i32_502_r0
  let v1559_r0 : Index := Scalar.indexCast v659_r0
  let c1_1097_r0 : Index := 1#32
  let c0_1098_r0 : Index := 0#32
  let c0_1099_r0 : Index := 0#32
  let c0_1100_r0 : Index := 0#32
  ![v1559_r0.toNat, 1, 0, 0, 0]
def k0_off61 : Fin 5 → Nat :=
  let c31_i32_501_r0 : BitVec 32 := 31#32
  let c4_i32_502_r0 : BitVec 32 := 4#32
  let v659_r0 : BitVec 32 := Scalar.remsi c31_i32_501_r0 c4_i32_502_r0
  let v1564_r0 : Index := Scalar.indexCast v659_r0
  let c0_1103_r0 : Index := 0#32
  let c8_1104_r0 : Index := 8#32
  let c0_1105_r0 : Index := 0#32
  let c0_1106_r0 : Index := 0#32
  ![v1564_r0.toNat, 0, 8, 0, 0]
def k0_off62 : Fin 5 → Nat :=
  let c31_i32_501_r0 : BitVec 32 := 31#32
  let c4_i32_502_r0 : BitVec 32 := 4#32
  let v659_r0 : BitVec 32 := Scalar.remsi c31_i32_501_r0 c4_i32_502_r0
  let v1570_r0 : Index := Scalar.indexCast v659_r0
  let c1_1110_r0 : Index := 1#32
  let c8_1111_r0 : Index := 8#32
  let c0_1112_r0 : Index := 0#32
  let c0_1113_r0 : Index := 0#32
  ![v1570_r0.toNat, 1, 8, 0, 0]
def k0_off63 : Fin 4 → Nat :=
  let c31_i32_1117_r0 : BitVec 32 := 31#32
  let c4_i32_1118_r0 : BitVec 32 := 4#32
  let v1576_r0 : BitVec 32 := Scalar.remsi c31_i32_1117_r0 c4_i32_1118_r0
  let c0_i32_1119_r0 : BitVec 32 := 0#32
  let c0_i32_1120_r0 : BitVec 32 := 0#32
  let c256_i32_r0 : BitVec 32 := 256#32
  ![v1576_r0.toNat, 0, 0, 256]
def k0_off64 : Fin 4 → Nat :=
  let c31_i32_1117_r0 : BitVec 32 := 31#32
  let c4_i32_1118_r0 : BitVec 32 := 4#32
  let v1576_r0 : BitVec 32 := Scalar.remsi c31_i32_1117_r0 c4_i32_1118_r0
  let c1_i32_1139_r0 : BitVec 32 := 1#32
  let c0_i32_1140_r0 : BitVec 32 := 0#32
  let c256_i32_1141_r0 : BitVec 32 := 256#32
  ![v1576_r0.toNat, 1, 0, 256]
def k0_mult11 : BitVec 32 :=
  let c15872_i32_r0 : BitVec 32 := 15872#32
  c15872_i32_r0
def k0_off65 : Fin 5 → Nat :=
  let c31_i32_1441_r0 : BitVec 32 := 31#32
  let c4_i32_1442_r0 : BitVec 32 := 4#32
  let v2038_r0 : BitVec 32 := Scalar.remsi c31_i32_1441_r0 c4_i32_1442_r0
  let v2935_r0 : Index := Scalar.indexCast v2038_r0
  let c0_2083_r0 : Index := 0#32
  let c0_2084_r0 : Index := 0#32
  let c0_2085_r0 : Index := 0#32
  let c256_2086_r0 : Index := 256#32
  ![v2935_r0.toNat, 0, 0, 0, 256]
def k0_off66 : Fin 5 → Nat :=
  let c31_i32_1441_r0 : BitVec 32 := 31#32
  let c4_i32_1442_r0 : BitVec 32 := 4#32
  let v2038_r0 : BitVec 32 := Scalar.remsi c31_i32_1441_r0 c4_i32_1442_r0
  let v2940_r0 : Index := Scalar.indexCast v2038_r0
  let c1_2089_r0 : Index := 1#32
  let c0_2090_r0 : Index := 0#32
  let c0_2091_r0 : Index := 0#32
  let c256_2092_r0 : Index := 256#32
  ![v2940_r0.toNat, 1, 0, 0, 256]
def k0_off67 : Fin 5 → Nat :=
  let c31_i32_1441_r0 : BitVec 32 := 31#32
  let c4_i32_1442_r0 : BitVec 32 := 4#32
  let v2038_r0 : BitVec 32 := Scalar.remsi c31_i32_1441_r0 c4_i32_1442_r0
  let v2945_r0 : Index := Scalar.indexCast v2038_r0
  let c0_2095_r0 : Index := 0#32
  let c8_2096_r0 : Index := 8#32
  let c0_2097_r0 : Index := 0#32
  let c256_2098_r0 : Index := 256#32
  ![v2945_r0.toNat, 0, 8, 0, 256]
def k0_off68 : Fin 5 → Nat :=
  let c31_i32_1441_r0 : BitVec 32 := 31#32
  let c4_i32_1442_r0 : BitVec 32 := 4#32
  let v2038_r0 : BitVec 32 := Scalar.remsi c31_i32_1441_r0 c4_i32_1442_r0
  let v2951_r0 : Index := Scalar.indexCast v2038_r0
  let c1_2102_r0 : Index := 1#32
  let c8_2103_r0 : Index := 8#32
  let c0_2104_r0 : Index := 0#32
  let c256_2105_r0 : Index := 256#32
  ![v2951_r0.toNat, 1, 8, 0, 256]
def k0_mult12 : BitVec 32 :=
  let c16128_i32_r0 : BitVec 32 := 16128#32
  c16128_i32_r0
def k0_mult13 : BitVec 32 :=
  let c15872_i32_2116_r0 : BitVec 32 := 15872#32
  c15872_i32_2116_r0
@[reducible] def k0_t2_loop : Scf.Loop 32 :=
  let c0_i32_122 : BitVec 32 := 0#32
  let c32_i32 : BitVec 32 := 32#32
  let v130 : BitVec 32 := Scalar.addi c0_i32_122 c32_i32
  let c1_i32_123 : BitVec 32 := 1#32
  ⟨c0_i32_122, v130, c1_i32_123⟩
def k0_mult14 (k0_t2 : Fin k0_t2_loop.trips) : BitVec 32 :=
  let c0_i32_122 : BitVec 32 := 0#32
  let c1_i32_123 : BitVec 32 := 1#32
  let arg16 : BitVec 32 := Scf.iv c0_i32_122 c1_i32_123 k0_t2
  let c512_i32_125 : BitVec 32 := 512#32
  let v131 : BitVec 32 := Scalar.muli arg16 c512_i32_125
  v131
def k0_off69 (k0_t2 : Fin k0_t2_loop.trips) : Fin 2 → Nat :=
  let c0_i32_126 : BitVec 32 := 0#32
  let c0_i32_122 : BitVec 32 := 0#32
  let c1_i32_123 : BitVec 32 := 1#32
  let arg16 : BitVec 32 := Scf.iv c0_i32_122 c1_i32_123 k0_t2
  let c512_i32_125 : BitVec 32 := 512#32
  let v131 : BitVec 32 := Scalar.muli arg16 c512_i32_125
  let v132 : BitVec 32 := v131
  ![0, v132.toNat]
def k0_off70 (k0_t2 : Fin k0_t2_loop.trips) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t2
  let c512_i32_125 : BitVec 32 := 512#32
  let v131 : BitVec 32 := Scalar.muli arg16 c512_i32_125
  let v132 : BitVec 32 := v131
  ![0, v132.toNat]
abbrev stage0_0 : Fin 1 → Memref sig .tc .vmem S2x80x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== UpReferenceIdeal.lean ====
abbrev S72x6144 : Shape := ⟨2, ![72, 6144]⟩
abbrev S2x80x512 : Shape := ⟨3, ![2, 80, 512]⟩
abbrev S3072x32768 : Shape := ⟨2, ![3072, 32768]⟩
abbrev S48x32768 : Shape := ⟨2, ![48, 32768]⟩
abbrev S13x2x32x16384 : Shape := ⟨4, ![13, 2, 32, 16384]⟩
abbrev S_ : Shape := ⟨0, ![]⟩
abbrev S24x32768 : Shape := ⟨2, ![24, 32768]⟩
abbrev S24x128x32768 : Shape := ⟨3, ![24, 128, 32768]⟩
abbrev S24x1x32768 : Shape := ⟨3, ![24, 1, 32768]⟩
abbrev S72x3072 : Shape := ⟨2, ![72, 3072]⟩
abbrev S72x32768 : Shape := ⟨2, ![72, 32768]⟩
abbrev S2x72x416 : Shape := ⟨3, ![2, 72, 416]⟩
abbrev S2x72x13x32 : Shape := ⟨4, ![2, 72, 13, 32]⟩
abbrev S2x16384x72 : Shape := ⟨3, ![2, 16384, 72]⟩
abbrev S72x2x16384 : Shape := ⟨3, ![72, 2, 16384]⟩
abbrev S72x1x16384 : Shape := ⟨3, ![72, 1, 16384]⟩
abbrev S72x16384 : Shape := ⟨2, ![72, 16384]⟩

abbrev nBuf : Space → Nat
  | .hbm => 66
  | .vmem => 0
  | .smem => 0
  | _ => 0

abbrev bufTy : (tb : Table) → Fin (tcTables nBuf tb) → BufTy
  | .hbm, ⟨0, _⟩ => ⟨S72x6144, .bf16⟩
  | .hbm, ⟨1, _⟩ => ⟨S2x80x512, .bf16⟩
  | .hbm, ⟨2, _⟩ => ⟨S3072x32768, .i8⟩
  | .hbm, ⟨3, _⟩ => ⟨S48x32768, .bf16⟩
  | .hbm, ⟨4, _⟩ => ⟨S13x2x32x16384, .bf16⟩
  | .hbm, ⟨5, _⟩ => ⟨S3072x32768, .i32⟩
  | .hbm, ⟨6, _⟩ => ⟨S_, .i32⟩
  | .hbm, ⟨7, _⟩ => ⟨S3072x32768, .i32⟩
  | .hbm, ⟨8, _⟩ => ⟨S3072x32768, .i32⟩
  | .hbm, ⟨9, _⟩ => ⟨S_, .i32⟩
  | .hbm, ⟨10, _⟩ => ⟨S3072x32768, .i32⟩
  | .hbm, ⟨11, _⟩ => ⟨S3072x32768, .i32⟩
  | .hbm, ⟨12, _⟩ => ⟨S_, .i32⟩
  | .hbm, ⟨13, _⟩ => ⟨S3072x32768, .i32⟩
  | .hbm, ⟨14, _⟩ => ⟨S3072x32768, .i1⟩
  | .hbm, ⟨15, _⟩ => ⟨S_, .i32⟩
  | .hbm, ⟨16, _⟩ => ⟨S3072x32768, .i32⟩
  | .hbm, ⟨17, _⟩ => ⟨S3072x32768, .i32⟩
  | .hbm, ⟨18, _⟩ => ⟨S3072x32768, .i32⟩
  | .hbm, ⟨19, _⟩ => ⟨S3072x32768, .bf16⟩
  | .hbm, ⟨20, _⟩ => ⟨S_, .i32⟩
  | .hbm, ⟨21, _⟩ => ⟨S3072x32768, .i32⟩
  | .hbm, ⟨22, _⟩ => ⟨S3072x32768, .i1⟩
  | .hbm, ⟨23, _⟩ => ⟨S_, .i32⟩
  | .hbm, ⟨24, _⟩ => ⟨S3072x32768, .i32⟩
  | .hbm, ⟨25, _⟩ => ⟨S3072x32768, .i32⟩
  | .hbm, ⟨26, _⟩ => ⟨S3072x32768, .i32⟩
  | .hbm, ⟨27, _⟩ => ⟨S3072x32768, .bf16⟩
  | .hbm, ⟨28, _⟩ => ⟨S24x32768, .bf16⟩
  | .hbm, ⟨29, _⟩ => ⟨S24x128x32768, .bf16⟩
  | .hbm, ⟨30, _⟩ => ⟨S24x1x32768, .bf16⟩
  | .hbm, ⟨31, _⟩ => ⟨S24x128x32768, .bf16⟩
  | .hbm, ⟨32, _⟩ => ⟨S24x128x32768, .bf16⟩
  | .hbm, ⟨33, _⟩ => ⟨S3072x32768, .bf16⟩
  | .hbm, ⟨34, _⟩ => ⟨S24x32768, .bf16⟩
  | .hbm, ⟨35, _⟩ => ⟨S24x128x32768, .bf16⟩
  | .hbm, ⟨36, _⟩ => ⟨S24x1x32768, .bf16⟩
  | .hbm, ⟨37, _⟩ => ⟨S24x128x32768, .bf16⟩
  | .hbm, ⟨38, _⟩ => ⟨S24x128x32768, .bf16⟩
  | .hbm, ⟨39, _⟩ => ⟨S3072x32768, .bf16⟩
  | .hbm, ⟨40, _⟩ => ⟨S72x3072, .bf16⟩
  | .hbm, ⟨41, _⟩ => ⟨S72x32768, .f32⟩
  | .hbm, ⟨42, _⟩ => ⟨S72x3072, .bf16⟩
  | .hbm, ⟨43, _⟩ => ⟨S72x32768, .f32⟩
  | .hbm, ⟨44, _⟩ => ⟨S72x32768, .f32⟩
  | .hbm, ⟨45, _⟩ => ⟨S2x72x416, .bf16⟩
  | .hbm, ⟨46, _⟩ => ⟨S2x72x13x32, .bf16⟩
  | .hbm, ⟨47, _⟩ => ⟨S2x16384x72, .f32⟩
  | .hbm, ⟨48, _⟩ => ⟨S72x2x16384, .f32⟩
  | .hbm, ⟨49, _⟩ => ⟨S72x2x16384, .f32⟩
  | .hbm, ⟨50, _⟩ => ⟨S72x2x16384, .f32⟩
  | .hbm, ⟨51, _⟩ => ⟨S72x1x16384, .f32⟩
  | .hbm, ⟨52, _⟩ => ⟨S72x16384, .f32⟩
  | .hbm, ⟨53, _⟩ => ⟨S72x1x16384, .f32⟩
  | .hbm, ⟨54, _⟩ => ⟨S72x16384, .f32⟩
  | .hbm, ⟨55, _⟩ => ⟨S72x16384, .f32⟩
  | .hbm, ⟨56, _⟩ => ⟨S72x16384, .f32⟩
  | .hbm, ⟨57, _⟩ => ⟨S_, .f32⟩
  | .hbm, ⟨58, _⟩ => ⟨S72x16384, .f32⟩
  | .hbm, ⟨59, _⟩ => ⟨S72x16384, .f32⟩
  | .hbm, ⟨60, _⟩ => ⟨S_, .f32⟩
  | .hbm, ⟨61, _⟩ => ⟨S72x16384, .f32⟩
  | .hbm, ⟨62, _⟩ => ⟨S72x16384, .f32⟩
  | .hbm, ⟨63, _⟩ => ⟨S72x16384, .f32⟩
  | .hbm, ⟨64, _⟩ => ⟨S72x16384, .f32⟩
  | .hbm, ⟨65, _⟩ => ⟨S72x16384, .bf16⟩
  | _, _ => ⟨S72x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.Struct.lean ====
/-
  The kernel's body written as a program over a list of instructions: one instruction stages a tile of the right-hand
  side, one accumulates a tile of the left-hand side, one widens a block of scales, one writes a finished block of the
  result. The two matrix units take turns; each accumulates a tile one turn after it was staged.
-/
module

public import proofs.«01_k».proof.Proof.Gen.KernelIdeal.Frame

@[expose] public section

noncomputable section

namespace Cert.KernelIdeal.Down

open Idealize.ShloMosaic Idealize.ShloMosaic.TcCoe
open Idealize.SL Idealize.SL.Sem
open Facts₀ Facts

variable {F : FTy → Type} [FloatOps F]

/-- The programs of the kernel. -/
abbrev P (F : FTy → Type) [FloatOps F] (α : Type) : Type _ := Prog (TpuEff nD τ sig (Elt F) Λ₀ .tc) α

/-- The kernel's buffers and semaphores. -/
structure Bufs where
  h : Memref sig .tc .vmem S80x16384 .bf16
  hh : h.IsWhole
  md : Memref sig .tc .vmem S80x512 .bf16
  hmd : md.IsWhole
  wdn : Memref sig .tc .hbm S8192x6144 .i8
  hwdn : wdn.IsWhole
  sdn : Memref sig .tc .hbm S128x6144 .bf16
  hsdn : sdn.IsWhole
  bdn : Memref sig .tc .hbm S13x32x6144 .bf16
  hbdn : bdn.IsWhole
  out : Memref sig .tc .vmem S72x6144 .bf16
  hout : out.IsWhole
  wd : Memref sig .tc .vmem S4x8192x512 .i8
  hwd : wd.IsWhole
  sd : Memref sig .tc .vmem S4x128x512 .bf16
  hsd : sd.IsWhole
  bd : Memref sig .tc .vmem S4x16x32x512 .bf16
  hbd : bd.IsWhole
  sa : Memref sig .tc .vmem S128x256 .f32
  hsa : sa.IsWhole
  sb : Memref sig .tc .vmem S128x256 .f32
  hsb : sb.IsWhole
  sem : DmaSems sig S4

/-! ## Offsets that lie inside the buffers -/

theorem inbW {sl : ℕ} (hs : sl < 4) (p : Fin 2) :
    ∀ a, (![sl, 0, 256 * p.val] : Fin 3 → ℕ) a + S1x8192x256.size a ≤ S4x8192x512.size a := by
  intro a; fin_cases a <;> fin_cases p <;> simp <;> omega
theorem inbBlk (k : ℕ) : ∀ a, (![256 * (k % 32), 0] : Fin 2 → ℕ) a + S256x256.size a ≤ S8192x256.size a := by
  intro a; fin_cases a <;> simp <;> omega
theorem inbRow {k : ℕ} (hk : k < 128) : ∀ a, (![k, 0] : Fin 2 → ℕ) a + S1x256.size a ≤ S128x256.size a := by
  intro a; fin_cases a <;> simp <;> omega
theorem inbBd {sl : ℕ} (hs : sl < 4) (p u : Fin 2) :
    ∀ a, (![sl, 8 * u.val, 0, 256 * p.val] : Fin 4 → ℕ) a + S1x8x32x256.size a ≤ S4x16x32x512.size a := by
  intro a; fin_cases a <;> fin_cases p <;> fin_cases u <;> simp <;> omega
theorem inbH {k : ℕ} (hk : k < 64) : ∀ a, (![0, 256 * k] : Fin 2 → ℕ) a + S80x256.size a ≤ S80x16384.size a := by
  intro a; fin_cases a <;> simp <;> omega
theorem inbMd (u : Fin 2) : ∀ a, (![0, 256 * u.val] : Fin 2 → ℕ) a + S80x256.size a ≤ S80x512.size a := by
  intro a; fin_cases a <;> fin_cases u <;> simp
theorem inbSd {sl : ℕ} (hs : sl < 4) (p : Fin 2) :
    ∀ a, (![sl, 0, 256 * p.val] : Fin 3 → ℕ) a + S1x128x256.size a ≤ S4x128x512.size a := by
  intro a; fin_cases a <;> fin_cases p <;> simp <;> omega
theorem inbSc : ∀ a, (![0, 0] : Fin 2 → ℕ) a + S128x256.size a ≤ S128x256.size a := by
  intro a; fin_cases a <;> simp
theorem ktLt {k : ℕ} (u : Fin 2) (hk : k < 32) : 32 * u.val + k < 64 := by omega

/-- Where a pair of chunks finds its ring slots and its columns of the result. -/
structure Env where
  /-- the slot of the pair, and of the pair after it -/
  sl : Fin 2 → ℕ
  hsl : ∀ w, sl w < 4
  /-- the first column of each chunk -/
  col : Fin 2 → ℕ
  hcol : ∀ p, ∀ a, (![0, col p] : Fin 2 → ℕ) a + S72x256.size a ≤ S72x6144.size a
  hpk : ∀ p, (Rect.unit (s := S72x6144) ![0, col p] S72x256.size (hcol p)).PackedRows (EltTy.packing .bf16)

/-! ## The tiles -/

/-- The scale buffer of a chunk. -/
def scb (b : Bufs) : Fin 2 → Memref sig .tc .vmem S128x256 .f32
  | 0 => b.sa
  | 1 => b.sb

/-- The packed codes of a block, as their signed field times sixteen. -/
def field (u : Fin 2) (blk : IVec S256x256 8) : FVec F S256x256 .bf16 :=
  match u with
  | 0 => sitofp .bf16 (bitcast S256x256 8 (andi (shli (bitcast S64x256 32 blk bitcasts_S256x256_w8_S64x256_w32)
      (broadcast S64x256 4#32)) (broadcast S64x256 4042322160#32)) bitcasts_S64x256_w32_S256x256_w8)
  | 1 => sitofp .bf16 (bitcast S256x256 8 (andi (bitcast S64x256 32 blk bitcasts_S256x256_w8_S64x256_w32)
      (broadcast S64x256 4042322160#32)) bitcasts_S64x256_w32_S256x256_w8)

/-- One row of scales over its group of rows. -/
def scaleRow (r : FVec F S1x256 .f32) : FVec F S128x256 .bf16 :=
  truncf .bf16 (broadcastTo S128x256 (shapeCast S1x256 r shapeCasts_S1x256_S1x256) broadcasts_S1x256_S128x256) bitsLt_bf16_f32

/-- A tile of the weights: the field times the scales of its two groups. -/
def wval (u : Fin 2) (blk : IVec S256x256 8) (r0 r1 : FVec F S1x256 .f32) : FVec F S256x256 .bf16 :=
  mulf (field u blk) (concatenate S256x256 0 [⟨S128x256, scaleRow r0⟩, ⟨S128x256, scaleRow r1⟩]
    concatenates_S128x256_S128x256_S256x256_d0)

/-- A tile of the adapters' second factors. -/
def bval (v : FVec F S1x8x32x256 .bf16) : FVec F S256x256 .bf16 :=
  shapeCast S256x256 (shapeCast S8x32x256 v shapeCasts_S1x8x32x256_S8x32x256) shapeCasts_S8x32x256_S256x256

/-- The widened scales, divided by sixteen. -/
def scval (v : FVec F S1x128x256 .bf16) : FVec F S128x256 .f32 :=
  shapeCast S128x256 (mulf (extf .f32 (shapeCast S128x256 v shapeCasts_S1x128x256_S128x256) bitsLt_bf16_f32)
    (broadcast S128x256 (Scalar.ofBits .f32 0x3D800000#32))) shapeCasts_S128x256_S128x256

/-- The block of the result from the two units' sums. -/
def oval (y0 y1 : FVec F S80x256 .f32) : FVec F S72x256 .bf16 :=
  truncf .bf16 (extractStridedSlice S72x256 ![0, 0] (addf y0 y1) slices_S80x256_o0_0_S72x256) bitsLt_bf16_f32

def wview (b : Bufs) (e : Env) (w p : Fin 2) : Memref sig .tc .vmem S8192x256 .i8 :=
  (b.wd.slice (Rect.unit (s := S4x8192x512) ![e.sl w, 0, 256 * p.val] S1x8192x256.size (inbW (e.hsl w) p))
    (fun _ => rfl)).squeeze S8192x256 squeezes_S1x8192x256_S8192x256

/-- The tile that unit `u` takes at step `k`: a tile of the weights, or the adapters' tile after the last one. -/
def rhs (b : Bufs) (e : Env) (w p u : Fin 2) (k : ℕ) : P F (FVec F S256x256 .bf16) :=
  if hk : k < 32 then do
    let blk : Vec F S256x256 .i8 ← Prog.lift (.load (wview b e w p) (Rect.unit (s := S8192x256) ![256 * ((32 * u.val + k) % 32), 0]
      S256x256.size (inbBlk _)).toLoadRect (View.loadsAt_vmem h_S256x256))
    let r0 : Vec F S1x256 .f32 ← Prog.lift (.load (scb b p) (Rect.unit (s := S128x256) ![2 * (32 * u.val + k), 0] S1x256.size
      (inbRow (by have := ktLt u hk; omega))).toLoadRect (View.loadsAt_vmem h_S1x256))
    let r1 : Vec F S1x256 .f32 ← Prog.lift (.load (scb b p) (Rect.unit (s := S128x256) ![2 * (32 * u.val + k) + 1, 0] S1x256.size
      (inbRow (by have := ktLt u hk; omega))).toLoadRect (View.loadsAt_vmem h_S1x256))
    pure (wval u blk r0 r1)
  else do
    let v : Vec F S1x8x32x256 .bf16 ← Prog.lift (.load b.bd (Rect.unit (s := S4x16x32x512) ![e.sl w, 8 * u.val, 0, 256 * p.val] S1x8x32x256.size
      (inbBd (e.hsl w) p u)).toLoadRect (View.loadsAt_vmem h_S1x8x32x256))
    pure (bval v)

/-- The left-hand tile of unit `u` at step `k`. -/
def lhs (b : Bufs) (u : Fin 2) (k : ℕ) : P F (FVec F S80x256 .bf16) :=
  if hk : k < 32 then do
    let v : Vec F S80x256 .bf16 ← Prog.lift (.load b.h (Rect.unit (s := S80x16384) ![0, 256 * (32 * u.val + k)] S80x256.size
      (inbH (ktLt u hk))).toLoadRect (View.loadsAt_vmem h_S80x256))
    pure v
  else do
    let v : Vec F S80x256 .bf16 ← Prog.lift (.load b.md (Rect.unit (s := S80x512) ![0, 256 * u.val] S80x256.size (inbMd u)).toLoadRect
      (View.loadsAt_vmem h_S80x256))
    pure v

/-- The address of a chunk's sums. -/
def addr : Fin 2 → ℕ
  | 0 => 0
  | 1 => 20

theorem fitsA (p : Fin 2) : Mxu.Fits (addr p) 80 := by fin_cases p <;> decide

/-! ## Instructions -/

/-- What the body is made of. `w` names the slot, `p` the chunk of the pair, `u` the unit, `k` the step, `r` the
    staging register. -/
inductive Instr where
  | push (w p u : Fin 2) (k : ℕ) (r : Fin 2)
  | acc (p u : Fin 2) (k : ℕ) (r : Fin 2)
  | scale (w p : Fin 2)
  | out (p : Fin 2)

/-- One instruction, on the state of the matrix units. -/
def exec (b : Bufs) (e : Env) (s : Mxu F) : Instr → P F (Mxu F)
  | .push w p u k r => do
    let v ← rhs b e w p u k
    s.pushRhs u r false v
  | .acc p u k r => do
    let v ← lhs b u k
    pure (s.accLhs u r (addr p) (M := 80) v (fitsA p))
  | .scale w p => do
    let v : Vec F S1x128x256 .bf16 ← Prog.lift (.load b.sd (Rect.unit (s := S4x128x512) ![e.sl w, 0, 256 * p.val] S1x128x256.size
      (inbSd (e.hsl w) p)).toLoadRect (View.loadsAt_vmem h_S1x128x256))
    let _ : Vec F S128x256 .f32 ← Prog.lift (.load (scb b p) (Rect.unit (s := S128x256) ![0, 0] S128x256.size inbSc).toLoadRect
      (View.loadsAt_vmem h_S128x256))
    Prog.lift (.store (scb b p) (Rect.unit (s := S128x256) ![0, 0] S128x256.size inbSc) (scval v) Finset.univ
      (View.stores_vmem_bits_univ h_S128x256 rfl) (.inl rfl))
    pure s
  | .out p => do
    let y0 := s.read 0 (addr p) (fitsA p)
    let s1 := s.pop 0 (addr p) 80 (fitsA p)
    let y1 := s1.read 1 (addr p) (fitsA p)
    let s2 := s1.pop 1 (addr p) 80 (fitsA p)
    let _ : Vec F S72x256 .bf16 ← Prog.lift (.load b.out (Rect.unit (s := S72x6144) ![0, e.col p] S72x256.size (e.hcol p)).toLoadRect
      (View.loadsAt_vmem h_S72x256))
    Prog.lift (.store b.out (Rect.unit (s := S72x6144) ![0, e.col p] S72x256.size (e.hcol p)) (oval y0 y1) Finset.univ
      (View.stores_vmem h_S72x256 (b.hout.storeExact_slice rfl _ (e.hpk p)) (fun _ => rfl)) (.inl rfl))
    pure s2

/-- A list of instructions, one after the other. -/
def run (b : Bufs) (e : Env) : List Instr → Mxu F → P F (Mxu F)
  | [], s => pure s
  | i :: is, s => do
    let s' ← exec b e s i
    run b e is s'

/-! ## The stream of tiles -/

/-- What the body does: feed tiles to the two units in turn, finish what is staged, widen scales, write a block. -/
inductive Cmd where
  | feed (w p u : Fin 2) (k : ℕ)
  | flush
  | scale (w p : Fin 2)
  | out (p : Fin 2)

/-- A unit between two tiles: the register to stage in, and the tile staged but not yet accumulated. -/
structure Unit2 where
  r : Fin 2
  pend : Option (Fin 2 × ℕ × Fin 2)

/-- The accumulation that a unit still owes. -/
def owed (u : Fin 2) (x : Unit2) : List Instr :=
  match x.pend with
  | none => []
  | some (p, k, r) => [.acc p u k r]

/-- A unit with the next tile staged. -/
def Unit2.next (x : Unit2) (p : Fin 2) (k : ℕ) : Unit2 := ⟨match x.r with | 0 => 1 | 1 => 0, some (p, k, x.r)⟩

/-- The instructions that commands come to. -/
def stream : List Cmd → Unit2 → Unit2 → List Instr
  | [], _, _ => []
  | .feed w p 0 k :: cs, x, y => .push w p 0 k x.r :: (owed 0 x ++ stream cs (x.next p k) y)
  | .feed w p 1 k :: cs, x, y => .push w p 1 k y.r :: (owed 1 y ++ stream cs x (y.next p k))
  | .flush :: cs, x, y => owed 0 x ++ (owed 1 y ++ stream cs ⟨x.r, none⟩ ⟨y.r, none⟩)
  | .scale w p :: cs, x, y => .scale w p :: stream cs x y
  | .out p :: cs, x, y => .out p :: stream cs x y

/-- Both units idle. -/
def idle : Unit2 := ⟨0, none⟩

/-- Steps `n, …, n + m - 1` of a chunk, on both units. -/
def feeds (w p : Fin 2) : ℕ → ℕ → List Cmd
  | _, 0 => []
  | n, m + 1 => .feed w p 0 n :: .feed w p 1 n :: feeds w p (n + 1) m

/-- The first eight steps of a pair's first chunk. -/
def headCmds : List Cmd := .scale 0 0 :: (feeds 0 0 0 8 ++ [.flush])
/-- A pair of chunks that another pair follows: its chunks are finished, the next pair's first one begun. -/
def bodyCmds : List Cmd :=
  .scale 0 1 :: (feeds 0 0 8 25 ++ (feeds 0 1 0 8 ++ (.out 0 :: (feeds 0 1 8 25 ++ (.scale 1 0 :: (feeds 1 0 0 8 ++
    [.flush, .out 1]))))))
/-- The last pair of chunks. -/
def tailCmds : List Cmd :=
  .scale 0 1 :: (feeds 0 0 8 25 ++ (feeds 0 1 0 8 ++ (.out 0 :: (feeds 0 1 8 25 ++ [.flush, .out 1]))))

def headI : List Instr := stream headCmds idle idle
def bodyI : List Instr := stream bodyCmds idle idle
def tailI : List Instr := stream tailCmds idle idle

/-! ## The copies -/

/-- Where the copies of a pair of chunks run: their slot and their first column. -/
structure Cp where
  sl : ℕ
  col : ℕ
  hsl : sl < 4
  hS : ∀ a, (![sl] : Fin 1 → ℕ) a + S1.size a ≤ S4.size a
  hW : ∀ a, (![sl, 0, 0] : Fin 3 → ℕ) a + S1x8192x512.size a ≤ S4x8192x512.size a
  hW' : ∀ a, (![0, col] : Fin 2 → ℕ) a + S8192x512.size a ≤ S8192x6144.size a
  wW : (Rect.unit (s := S4x8192x512) ![sl, 0, 0] S1x8192x512.size hW).WholeWords (EltTy.packing .i8)
  wW' : (Rect.unit (s := S8192x6144) ![0, col] S8192x512.size hW').WholeWords (EltTy.packing .i8)
  hD : ∀ a, (![sl, 0, 0] : Fin 3 → ℕ) a + S1x128x512.size a ≤ S4x128x512.size a
  hD' : ∀ a, (![0, col] : Fin 2 → ℕ) a + S128x512.size a ≤ S128x6144.size a
  wD : (Rect.unit (s := S4x128x512) ![sl, 0, 0] S1x128x512.size hD).WholeWords (EltTy.packing .bf16)
  wD' : (Rect.unit (s := S128x6144) ![0, col] S128x512.size hD').WholeWords (EltTy.packing .bf16)
  hB : ∀ a, (![sl, 0, 0, 0] : Fin 4 → ℕ) a + S1x13x32x512.size a ≤ S4x16x32x512.size a
  hB' : ∀ a, (![0, 0, col] : Fin 3 → ℕ) a + S13x32x512.size a ≤ S13x32x6144.size a
  wB : (Rect.unit (s := S4x16x32x512) ![sl, 0, 0, 0] S1x13x32x512.size hB).WholeWords (EltTy.packing .bf16)
  wB' : (Rect.unit (s := S13x32x6144) ![0, 0, col] S13x32x512.size hB').WholeWords (EltTy.packing .bf16)

def cpSem (b : Bufs) (c : Cp) : DmaSem sig := ((b.sem.slice (Rect.unit (s := S4) ![c.sl] S1.size c.hS)).squeeze S_ squeezes_S1_S_).sem
def wSrc (b : Bufs) (c : Cp) : Memref sig .tc .hbm S8192x512 .i8 :=
  b.wdn.slice (Rect.unit (s := S8192x6144) ![0, c.col] S8192x512.size c.hW') (fun _ => rfl)
def wDst (b : Bufs) (c : Cp) : Memref sig .tc .vmem S8192x512 .i8 :=
  (b.wd.slice (Rect.unit (s := S4x8192x512) ![c.sl, 0, 0] S1x8192x512.size c.hW) (fun _ => rfl)).squeeze S8192x512
    squeezes_S1x8192x512_S8192x512
def sSrc (b : Bufs) (c : Cp) : Memref sig .tc .hbm S128x512 .bf16 :=
  b.sdn.slice (Rect.unit (s := S128x6144) ![0, c.col] S128x512.size c.hD') (fun _ => rfl)
def sDst (b : Bufs) (c : Cp) : Memref sig .tc .vmem S128x512 .bf16 :=
  (b.sd.slice (Rect.unit (s := S4x128x512) ![c.sl, 0, 0] S1x128x512.size c.hD) (fun _ => rfl)).squeeze S128x512
    squeezes_S1x128x512_S128x512
def bSrc (b : Bufs) (c : Cp) : Memref sig .tc .hbm S13x32x512 .bf16 :=
  b.bdn.slice (Rect.unit (s := S13x32x6144) ![0, 0, c.col] S13x32x512.size c.hB') (fun _ => rfl)
def bDst (b : Bufs) (c : Cp) : Memref sig .tc .vmem S13x32x512 .bf16 :=
  (b.bd.slice (Rect.unit (s := S4x16x32x512) ![c.sl, 0, 0, 0] S1x13x32x512.size c.hB) (fun _ => rfl)).squeeze S13x32x512
    squeezes_S1x13x32x512_S13x32x512

/-- Start the three copies of a pair. -/
def startC (b : Bufs) (c : Cp) : P F PUnit := do
  Prog.lift (.enqueueDma (wSrc b c) (.here (wDst b c)) (.dma (cpSem b c)) (b.hwdn.wordExact_slice rfl _ c.wW')
    ((b.hwd.wordExact_slice rfl _ c.wW).reshape _ _) ⟨Or.inl rfl, trivial⟩)
  Prog.lift (.enqueueDma (sSrc b c) (.here (sDst b c)) (.dma (cpSem b c)) (b.hsdn.wordExact_slice rfl _ c.wD')
    ((b.hsd.wordExact_slice rfl _ c.wD).reshape _ _) ⟨Or.inl rfl, trivial⟩)
  Prog.lift (.enqueueDma (bSrc b c) (.here (bDst b c)) (.dma (cpSem b c)) (b.hbdn.wordExact_slice rfl _ c.wB')
    ((b.hbd.wordExact_slice rfl _ c.wB).reshape _ _) ⟨Or.inl rfl, trivial⟩)

/-- Wait for the three copies of a pair. -/
def waitC (b : Bufs) (c : Cp) : P F PUnit := do
  Prog.lift (.waitDma2 (cpSem b c) (wSrc b c) (wDst b c) (b.hwdn.wordExact_slice rfl _ c.wW')
    ((b.hwd.wordExact_slice rfl _ c.wW).reshape _ _))
  Prog.lift (.waitDma2 (cpSem b c) (sSrc b c) (sDst b c) (b.hsdn.wordExact_slice rfl _ c.wD')
    ((b.hsd.wordExact_slice rfl _ c.wD).reshape _ _))
  Prog.lift (.waitDma2 (cpSem b c) (bSrc b c) (bDst b c) (b.hbdn.wordExact_slice rfl _ c.wB')
    ((b.hbd.wordExact_slice rfl _ c.wB).reshape _ _))

/-- Zero the rows of a slot that no adapter fills. -/
def padC (b : Bufs) (s : Fin 4) (h : ∀ a, (![s.val, 13, 0, 0] : Fin 4 → ℕ) a + S1x3x32x512.size a ≤ S4x16x32x512.size a)
    (hp : (Rect.unit (s := S4x16x32x512) ![s.val, 13, 0, 0] S1x3x32x512.size h).PackedRows (EltTy.packing .bf16)) :
    P F PUnit := do
  let _ : Vec F S1x3x32x512 .bf16 ← Prog.lift (.load b.bd (Rect.unit (s := S4x16x32x512) ![s.val, 13, 0, 0] S1x3x32x512.size h).toLoadRect
    (View.loadsAt_vmem h_S1x3x32x512))
  Prog.lift (.store b.bd (Rect.unit (s := S4x16x32x512) ![s.val, 13, 0, 0] S1x3x32x512.size h)
    (shapeCast S1x3x32x512 (broadcast S3x32x512 (Scalar.ofBits (F := F) .bf16 0x0000#16)) shapeCasts_S3x32x512_S1x3x32x512)
    Finset.univ (View.stores_vmem h_S1x3x32x512 (b.hbd.storeExact_slice rfl _ hp) (fun _ => rfl)) (.inl rfl))

/-! ## The pairs -/

/-- The slot of pair `i`. -/
def slotN (i : BitVec 32) : ℕ := (Scalar.remsi i 4#32).toNat
/-- The first column of chunk `p` of pair `i`. -/
def colN (i : BitVec 32) (p : Fin 2) : ℕ := (Scalar.addi (Scalar.muli i 512#32) (BitVec.ofNat 32 (256 * p.val))).toNat
/-- The first column of pair `i`. -/
def colP (i : BitVec 32) : ℕ := (Scalar.muli i 512#32).toNat

theorem slotN_lt : ∀ i : Fin 13, slotN (BitVec.ofNat 32 i.val) < 4 := by decide +kernel

end Cert.KernelIdeal.Down

end
-- ==== Proof.Body.lean ====
/-
  The loop's body, as printed, is the list program.
-/
module

public import proofs.«01_k».proof.Proof.Struct
public import Idealize.ShloMosaic.Lib.Tactic.ProgEq

@[expose] public section

set_option maxRecDepth 100000

noncomputable section

namespace Cert.KernelIdeal.Down

open Idealize.ShloMosaic Idealize.ShloMosaic.TcCoe
open Idealize.SL Idealize.SL.Sem
open Facts₀ Facts

variable {F : FTy → Type} [FloatOps F]

/-- The trip's number as the kernel counts. -/
abbrev iv (t : Fin k0_t1_loop.trips) : BitVec 32 := Scf.iv 0#32 1#32 t

/-- The copies of the pair after trip `t`'s. -/
def cpL1 (t : Fin k0_t1_loop.trips) : Cp where
  sl := (Scalar.remsi (Scalar.addi (iv t) 1#32) 4#32).toNat
  col := (Scalar.muli (Scalar.addi (iv t) 1#32) 512#32).toNat
  hsl := by have := k0_off7_inb t 0; change _ + 1 ≤ 4 at this; exact this
  hS := k0_off7_inb t
  hW := k0_off8_inb t
  hW' := k0_off9_inb t
  wW := k0_off8_wordsi8 t
  wW' := k0_off9_wordsi8 t
  hD := k0_off10_inb t
  hD' := k0_off11_inb t
  wD := k0_off10_wordsbf16 t
  wD' := k0_off11_wordsbf16 t
  hB := k0_off12_inb t
  hB' := k0_off13_inb t
  wB := k0_off12_wordsbf16 t
  wB' := k0_off13_wordsbf16 t

/-- The copies of the third pair after trip `t`'s. -/
def cpL3 (t : Fin k0_t1_loop.trips) (h : k0_cond1 t = 1#1) : Cp where
  sl := (Scalar.remsi (Scalar.addi (iv t) 3#32) 4#32).toNat
  col := (Scalar.muli (Scalar.addi (iv t) 3#32) 512#32).toNat
  hsl := by have := k0_off14_inb t h 0; change _ + 1 ≤ 4 at this; exact this
  hS := k0_off14_inb t h
  hW := k0_off15_inb t h
  hW' := k0_off16_inb t h
  wW := k0_off15_wordsi8 t h
  wW' := k0_off16_wordsi8 t h
  hD := k0_off17_inb t h
  hD' := k0_off18_inb t h
  wD := k0_off17_wordsbf16 t h
  wD' := k0_off18_wordsbf16 t h
  hB := k0_off19_inb t h
  hB' := k0_off20_inb t h
  wB := k0_off19_wordsbf16 t h
  wB' := k0_off20_wordsbf16 t h

/-- The pair of trip `t`. -/
def envL (t : Fin k0_t1_loop.trips) : Env where
  sl := fun w => match w with
    | 0 => (Scalar.remsi (iv t) 4#32).toNat
    | 1 => (Scalar.remsi (Scalar.addi (iv t) 1#32) 4#32).toNat
  hsl := by
    intro w
    fin_cases w
    · have := k0_off21_inb t 0; change _ + 1 ≤ 4 at this; exact this
    · have := k0_off29_inb t 0; change _ + 1 ≤ 4 at this; exact this
  col := fun p => (Scalar.addi (Scalar.muli (iv t) 512#32) (BitVec.ofNat 32 (256 * p.val))).toNat
  hcol := k0_off26_inb t
  hpk := k0_off26_packedbf16 t

/-- The waits at the start of a trip, and the copies it starts. -/
def tripCopies (b : Bufs) (t : Fin k0_t1_loop.trips) : P F PUnit := do
  waitC b (cpL1 t)
  if h : k0_cond1 t = 1#1 then startC b (cpL3 t h) else pure ⟨⟩

/-- The loop's body, as printed. -/
def bodyP (b : Bufs) (k0_t1 : Fin k0_t1_loop.trips) (k0_mxu34 : Mxu F) : P F (BitVec 32 × Mxu F) := do
  let ⟨arg12_r0, v4806_r0, k0_mxu217, v5419_r0, v5423_r0, v5426_r0⟩ : Σ' (arg12_r0 : BitVec 32) (v4806_r0 : BitVec 32) (k0_mxu217 : Mxu F) (v5419_r0 : FVec F S256x256 .bf16) (v5423_r0 : FVec F S128x256 .bf16), FVec F S128x256 .f32 ← k0_part87 b.h b.hh b.md b.hmd b.wdn b.hwdn b.sdn b.hsdn b.bdn b.hbdn b.out b.hout b.wd b.hwd b.sd b.hsd b.bd b.hbd b.sa b.hsa b.sb b.hsb b.sem 0#32 1#32 k0_t1 k0_mxu34
  let ⟨k0_mxu221, v5458_r0, v5460_r0, v5461_r0⟩ : Σ' (k0_mxu221 : Mxu F) (v5458_r0 : IVec S64x256 32) (v5460_r0 : IVec S64x256 32), IVec S64x256 32 ← k0_part61 b.h b.hh b.md b.hmd b.wdn b.hwdn b.sdn b.hsdn b.bdn b.hbdn b.out b.hout b.wd b.hwd b.sd b.hsd b.bd b.hbd b.sa b.hsa b.sb b.hsb b.sem k0_t1 k0_mxu217 v5419_r0 v5423_r0 v5426_r0
  let ⟨k0_mxu223, v5501_r0⟩ : Σ' (k0_mxu223 : Mxu F), FVec F S256x256 .bf16 ← k0_part62 b.h b.hh b.md b.hmd b.wdn b.hwdn b.sdn b.hsdn b.bdn b.hbdn b.out b.hout b.wd b.hwd b.sd b.hsd b.bd b.hbd b.sa b.hsa b.sb b.hsb b.sem k0_t1 k0_mxu221 v5458_r0 v5460_r0 v5461_r0
  let ⟨k0_mxu227, v5530_r0, v5535_r0, c_m252645136_i32_2849_r0⟩ : Σ' (k0_mxu227 : Mxu F) (v5530_r0 : IVec S64x256 32) (v5535_r0 : IVec S256x256 8), BitVec 32 ← k0_part63 b.h b.hh b.md b.hmd b.wdn b.hwdn b.sdn b.hsdn b.bdn b.hbdn b.out b.hout b.wd b.hwd b.sd b.hsd b.bd b.hbd b.sa b.hsa b.sb b.hsb b.sem k0_t1 k0_mxu223 v5501_r0
  let k0_mxu230 : Mxu F ← k0_part64 b.h b.hh b.md b.hmd b.wdn b.hwdn b.sdn b.hsdn b.bdn b.hbdn b.out b.hout b.wd b.hwd b.sd b.hsd b.bd b.hbd b.sa b.hsa b.sb b.hsb b.sem k0_t1 k0_mxu227 v5530_r0 v5535_r0 c_m252645136_i32_2849_r0
  let ⟨k0_mxu233, v5610_r0⟩ : Σ' (k0_mxu233 : Mxu F), IVec S256x256 8 ← k0_part65 b.h b.hh b.md b.hmd b.wdn b.hwdn b.sdn b.hsdn b.bdn b.hbdn b.out b.hout b.wd b.hwd b.sd b.hsd b.bd b.hbd b.sa b.hsa b.sb b.hsb b.sem k0_t1 k0_mxu230
  let k0_mxu237 : Mxu F ← k0_part66 b.h b.hh b.md b.hmd b.wdn b.hwdn b.sdn b.hsdn b.bdn b.hbdn b.out b.hout b.wd b.hwd b.sd b.hsd b.bd b.hbd b.sa b.hsa b.sb b.hsb b.sem k0_t1 k0_mxu233 v5610_r0
  let ⟨k0_mxu239, v5683_r0⟩ : Σ' (k0_mxu239 : Mxu F), FVec F S256x256 .bf16 ← k0_part67 b.h b.hh b.md b.hmd b.wdn b.hwdn b.sdn b.hsdn b.bdn b.hbdn b.out b.hout b.wd b.hwd b.sd b.hsd b.bd b.hbd b.sa b.hsa b.sb b.hsb b.sem k0_t1 k0_mxu237
  let k0_mxu243 : Mxu F ← k0_part68 b.h b.hh b.md b.hmd b.wdn b.hwdn b.sdn b.hsdn b.bdn b.hbdn b.out b.hout b.wd b.hwd b.sd b.hsd b.bd b.hbd b.sa b.hsa b.sb b.hsb b.sem k0_t1 k0_mxu239 v5683_r0
  let ⟨k0_mxu245, v5755_r0, v5758_r0⟩ : Σ' (k0_mxu245 : Mxu F) (v5755_r0 : FVec F S256x256 .bf16), FVec F S128x256 .f32 ← k0_part69 b.h b.hh b.md b.hmd b.wdn b.hwdn b.sdn b.hsdn b.bdn b.hbdn b.out b.hout b.wd b.hwd b.sd b.hsd b.bd b.hbd b.sa b.hsa b.sb b.hsb b.sem k0_t1 k0_mxu243
  let ⟨k0_mxu249, v5793_r0⟩ : Σ' (k0_mxu249 : Mxu F), Vec F S256x256 .i8 ← k0_part70 b.h b.hh b.md b.hmd b.wdn b.hwdn b.sdn b.hsdn b.bdn b.hbdn b.out b.hout b.wd b.hwd b.sd b.hsd b.bd b.hbd b.sa b.hsa b.sb b.hsb b.sem k0_t1 k0_mxu245 v5755_r0 v5758_r0
  let ⟨k0_mxu251, v5827_r0, v5831_r0⟩ : Σ' (k0_mxu251 : Mxu F) (v5827_r0 : FVec F S256x256 .bf16), FVec F S128x256 .bf16 ← k0_part71 b.h b.hh b.md b.hmd b.wdn b.hwdn b.sdn b.hsdn b.bdn b.hbdn b.out b.hout b.wd b.hwd b.sd b.hsd b.bd b.hbd b.sa b.hsa b.sb b.hsb b.sem k0_t1 k0_mxu249 v5793_r0
  let ⟨k0_mxu255, v5866_r0, v5867_r0⟩ : Σ' (k0_mxu255 : Mxu F) (v5866_r0 : IVec S64x256 32), IVec S64x256 32 ← k0_part72 b.h b.hh b.md b.hmd b.wdn b.hwdn b.sdn b.hsdn b.bdn b.hbdn b.out b.hout b.wd b.hwd b.sd b.hsd b.bd b.hbd b.sa b.hsa b.sb b.hsb b.sem k0_t1 k0_mxu251 v5827_r0 v5831_r0
  let ⟨k0_mxu257, v5899_r0, v5903_r0, v5906_r0⟩ : Σ' (k0_mxu257 : Mxu F) (v5899_r0 : FVec F S256x256 .bf16) (v5903_r0 : FVec F S128x256 .bf16), FVec F S128x256 .f32 ← k0_part73 b.h b.hh b.md b.hmd b.wdn b.hwdn b.sdn b.hsdn b.bdn b.hbdn b.out b.hout b.wd b.hwd b.sd b.hsd b.bd b.hbd b.sa b.hsa b.sb b.hsb b.sem k0_t1 k0_mxu255 v5866_r0 v5867_r0
  let ⟨k0_mxu261, v5938_r0, v5940_r0, v5941_r0⟩ : Σ' (k0_mxu261 : Mxu F) (v5938_r0 : IVec S64x256 32) (v5940_r0 : IVec S64x256 32), IVec S64x256 32 ← k0_part74 b.h b.hh b.md b.hmd b.wdn b.hwdn b.sdn b.hsdn b.bdn b.hbdn b.out b.hout b.wd b.hwd b.sd b.hsd b.bd b.hbd b.sa b.hsa b.sb b.hsb b.sem k0_t1 k0_mxu257 v5899_r0 v5903_r0 v5906_r0
  let ⟨k0_mxu267, v5974_r0⟩ : Σ' (k0_mxu267 : Mxu F), FVec F S128x256 .f32 ← k0_part75 b.h b.hh b.md b.hmd b.wdn b.hwdn b.sdn b.hsdn b.bdn b.hbdn b.out b.hout b.wd b.hwd b.sd b.hsd b.bd b.hbd b.sa b.hsa b.sb b.hsb b.sem k0_t1 arg12_r0 v4806_r0 k0_mxu261 v5938_r0 v5940_r0 v5941_r0
  let ⟨k0_mxu269, v6009_r0⟩ : Σ' (k0_mxu269 : Mxu F), IVec S64x256 32 ← k0_part76 b.h b.hh b.md b.hmd b.wdn b.hwdn b.sdn b.hsdn b.bdn b.hbdn b.out b.hout b.wd b.hwd b.sd b.hsd b.bd b.hbd b.sa b.hsa b.sb b.hsb b.sem k0_t1 arg12_r0 k0_mxu267 v5974_r0
  let ⟨k0_mxu271, v6042_r0, v6046_r0, v6047_r0⟩ : Σ' (k0_mxu271 : Mxu F) (v6042_r0 : FVec F S256x256 .bf16) (v6046_r0 : FVec F S128x256 .bf16), Vec F S1x256 .f32 ← k0_part77 b.h b.hh b.md b.hmd b.wdn b.hwdn b.sdn b.hsdn b.bdn b.hbdn b.out b.hout b.wd b.hwd b.sd b.hsd b.bd b.hbd b.sa b.hsa b.sb b.hsb b.sem k0_t1 k0_mxu269 v6009_r0
  let ⟨k0_mxu275, v6081_r0, v6083_r0⟩ : Σ' (k0_mxu275 : Mxu F) (v6081_r0 : IVec S64x256 32), IVec S64x256 32 ← k0_part78 b.h b.hh b.md b.hmd b.wdn b.hwdn b.sdn b.hsdn b.bdn b.hbdn b.out b.hout b.wd b.hwd b.sd b.hsd b.bd b.hbd b.sa b.hsa b.sb b.hsb b.sem k0_t1 k0_mxu271 v6042_r0 v6046_r0 v6047_r0
  let ⟨k0_mxu277, v6114_r0, v6118_r0, v6122_r0⟩ : Σ' (k0_mxu277 : Mxu F) (v6114_r0 : FVec F S256x256 .bf16) (v6118_r0 : FVec F S128x256 .bf16), FVec F S128x256 .bf16 ← k0_part79 b.h b.hh b.md b.hmd b.wdn b.hwdn b.sdn b.hsdn b.bdn b.hbdn b.out b.hout b.wd b.hwd b.sd b.hsd b.bd b.hbd b.sa b.hsa b.sb b.hsb b.sem k0_t1 k0_mxu275 v6081_r0 v6083_r0
  let ⟨k0_mxu281, v6153_r0, v6157_r0⟩ : Σ' (k0_mxu281 : Mxu F) (v6153_r0 : IVec S64x256 32), IVec S64x256 32 ← k0_part80 b.h b.hh b.md b.hmd b.wdn b.hwdn b.sdn b.hsdn b.bdn b.hbdn b.out b.hout b.wd b.hwd b.sd b.hsd b.bd b.hbd b.sa b.hsa b.sb b.hsb b.sem k0_t1 k0_mxu277 v6114_r0 v6118_r0 v6122_r0
  let k0_mxu284 : Mxu F ← k0_part81 b.h b.hh b.md b.hmd b.wdn b.hwdn b.sdn b.hsdn b.bdn b.hbdn b.out b.hout b.wd b.hwd b.sd b.hsd b.bd b.hbd b.sa b.hsa b.sb b.hsb b.sem k0_t1 k0_mxu281 v6153_r0 v6157_r0
  let ⟨k0_mxu287, v6225_r0, v6230_r0, v6231_r0⟩ : Σ' (k0_mxu287 : Mxu F) (v6225_r0 : IVec S64x256 32) (v6230_r0 : IVec S256x256 8), IVec S64x256 32 ← k0_part82 b.h b.hh b.md b.hmd b.wdn b.hwdn b.sdn b.hsdn b.bdn b.hbdn b.out b.hout b.wd b.hwd b.sd b.hsd b.bd b.hbd b.sa b.hsa b.sb b.hsb b.sem k0_t1 k0_mxu284
  let ⟨k0_mxu290, v6269_r0⟩ : Σ' (k0_mxu290 : Mxu F), Vec F S80x256 .bf16 ← k0_part83 b.h b.hh b.md b.hmd b.wdn b.hwdn b.sdn b.hsdn b.bdn b.hbdn b.out b.hout b.wd b.hwd b.sd b.hsd b.bd b.hbd b.sa b.hsa b.sb b.hsb b.sem k0_t1 k0_mxu287 v6225_r0 v6230_r0 v6231_r0
  let ⟨k0_mxu293, v6306_r0⟩ : Σ' (k0_mxu293 : Mxu F), FVec F S256x256 .bf16 ← k0_part84 b.h b.hh b.md b.hmd b.wdn b.hwdn b.sdn b.hsdn b.bdn b.hbdn b.out b.hout b.wd b.hwd b.sd b.hsd b.bd b.hbd b.sa b.hsa b.sb b.hsb b.sem k0_t1 k0_mxu290 v6269_r0
  let k0_mxu297 : Mxu F ← k0_part85 b.h b.hh b.md b.hmd b.wdn b.hwdn b.sdn b.hsdn b.bdn b.hbdn b.out b.hout b.wd b.hwd b.sd b.hsd b.bd b.hbd b.sa b.hsa b.sb b.hsb b.sem k0_t1 k0_mxu293 v6306_r0
  let ⟨k0_mxu303, v6372_r0⟩ : Σ' (k0_mxu303 : Mxu F), FVec F S72x256 .bf16 ← k0_part86 b.h b.hh b.md b.hmd b.wdn b.hwdn b.sdn b.hsdn b.bdn b.hbdn b.out b.hout b.wd b.hwd b.sd b.hsd b.bd b.hbd b.sa b.hsa b.sb b.hsb b.sem k0_t1 arg12_r0 k0_mxu297
  Prog.lift (.store b.out (Rect.unit (s := S72x6144) (k0_off26 k0_t1 256#32) S72x256.size (k0_off26_inb k0_t1 1)) v6372_r0 Finset.univ (View.stores_vmem h_S72x256 (b.hout.storeExact_slice rfl _ (k0_off26_packedbf16 k0_t1 1)) (fun _ => rfl)) (.inl rfl))
  let c0_i32_3311_r0 : BitVec 32 := 0#32
  pure (c0_i32_3311_r0, k0_mxu303)

theorem part1_raw (b : Bufs) (t : Fin k0_t1_loop.trips) (s : Mxu F) :
    k0_part1 b.h b.hh b.md b.hmd b.wdn b.hwdn b.sdn b.hsdn b.bdn b.hbdn b.out b.hout b.wd b.hwd b.sd b.hsd b.bd b.hbd
      b.sa b.hsa b.sb b.hsb b.sem 0#32 1#32 t =
    (waitC (F := F) b (cpL1 t) >>= fun _ => dite (k0_cond1 t = 1#1)
      (fun h => startC b (cpL3 t h) >>= fun _ => exec b (envL t) s (.scale 0 1) >>= fun _ => pure (iv t))
      (fun _ => exec b (envL t) s (.scale 0 1) >>= fun _ => pure (iv t))) := by
  chain_rfl

theorem assoc1 {α β γ : Type} (w : P F α) (k1 : α → P F β) (k2 : β → P F γ) :
    ((w >>= k1) >>= k2) = (w >>= fun a => k1 a >>= k2) :=
  Idealize.ShloMosaic.ProgEq.bind_assoc _ _ _ _ _ _ _

theorem part1_eq (b : Bufs) (t : Fin k0_t1_loop.trips) (s : Mxu F) :
    k0_part1 b.h b.hh b.md b.hmd b.wdn b.hwdn b.sdn b.hsdn b.bdn b.hbdn b.out b.hout b.wd b.hwd b.sd b.hsd b.bd b.hbd
      b.sa b.hsa b.sb b.hsb b.sem 0#32 1#32 t =
    (tripCopies (F := F) b t >>= fun _ => exec b (envL t) s (.scale 0 1) >>= fun _ => pure (iv t)) := by
  rw [part1_raw b t s]
  unfold tripCopies
  rw [assoc1]
  congr 1
  funext _
  by_cases h : k0_cond1 t = 1#1
  · rw [dif_pos h, dif_pos h]
  · rw [dif_neg h, dif_neg h]; rfl

theorem assoc2 {α β γ : Type} (w : P F PUnit) (k1 : PUnit → P F α) (k2 : α → P F β) (k3 : β → P F γ) :
    (((w >>= k1) >>= k2) >>= k3) = (w >>= fun a => (k1 a >>= k2) >>= k3) := by
  rw [assoc1, assoc1]
  exact congrArg _ (funext fun a => (assoc1 _ _ _).symm)

/-- The loop's body is the copies and then the list program. -/
theorem bodyP_eq (b : Bufs) (t : Fin k0_t1_loop.trips) (s : Mxu F) :
    bodyP b t s = (tripCopies (F := F) b t >>= fun _ => run b (envL t) bodyI s >>= fun s' => pure (0#32, s')) := by
  unfold bodyP k0_part87
  rw [part1_eq b t s]
  refine (assoc2 _ _ _ _).trans ?_
  refine congrArg _ (funext fun _ => ?_)
  chain_rfl

end Cert.KernelIdeal.Down

end
-- ==== Proof.Whole.lean ====
/-
  The kernel's body, as printed, is: start three pairs' copies, zero the unused rows, begin the first pair, the loop over
  the pairs, the last pair.
-/
module

public import proofs.«01_k».proof.Proof.Body

@[expose] public section

set_option maxRecDepth 100000

noncomputable section

namespace Cert.KernelIdeal.Down

open Idealize.ShloMosaic Idealize.ShloMosaic.TcCoe
open Idealize.SL Idealize.SL.Sem
open Facts₀ Facts

variable {F : FTy → Type} [FloatOps F]

/-- The copies of the first pair. -/
def cp0 : Cp where
  sl := 0
  col := 0
  hsl := by decide
  hS := k0_off1_inb 0
  hW := k0_off2_inb 0
  hW' := inb_S8192x6144_S8192x512_0_0
  wW := k0_off2_wordsi8 0
  wW' := wordsi8_S8192x6144_S8192x512_0_0
  hD := k0_off3_inb 0
  hD' := inb_S128x6144_S128x512_0_0
  wD := k0_off3_wordsbf16 0
  wD' := wordsbf16_S128x6144_S128x512_0_0
  hB := k0_off4_inb 0
  hB' := inb_S13x32x6144_S13x32x512_0_0_0
  wB := k0_off4_wordsbf16 0
  wB' := wordsbf16_S13x32x6144_S13x32x512_0_0_0

/-- The copies of the second pair. -/
def cp1 : Cp where
  sl := 1
  col := 512
  hsl := by decide
  hS := k0_off1_inb 1
  hW := k0_off2_inb 1
  hW' := inb_S8192x6144_S8192x512_0_512
  wW := k0_off2_wordsi8 1
  wW' := wordsi8_S8192x6144_S8192x512_0_512
  hD := k0_off3_inb 1
  hD' := inb_S128x6144_S128x512_0_512
  wD := k0_off3_wordsbf16 1
  wD' := wordsbf16_S128x6144_S128x512_0_512
  hB := k0_off4_inb 1
  hB' := inb_S13x32x6144_S13x32x512_0_0_512
  wB := k0_off4_wordsbf16 1
  wB' := wordsbf16_S13x32x6144_S13x32x512_0_0_512

/-- The copies of the third pair. -/
def cp2 : Cp where
  sl := 2
  col := 1024
  hsl := by decide
  hS := k0_off1_inb 2
  hW := k0_off2_inb 2
  hW' := inb_S8192x6144_S8192x512_0_1024
  wW := k0_off2_wordsi8 2
  wW' := wordsi8_S8192x6144_S8192x512_0_1024
  hD := k0_off3_inb 2
  hD' := inb_S128x6144_S128x512_0_1024
  wD := k0_off3_wordsbf16 2
  wD' := wordsbf16_S128x6144_S128x512_0_1024
  hB := k0_off4_inb 2
  hB' := inb_S13x32x6144_S13x32x512_0_0_1024
  wB := k0_off4_wordsbf16 2
  wB' := wordsbf16_S13x32x6144_S13x32x512_0_0_1024

/-- The last pair. -/
def envE : Env where
  sl := fun _ => 3
  hsl := by decide
  col := fun p => 5632 + 256 * p.val
  hcol := fun p => match p with
    | 0 => inb_S72x6144_S72x256_0_5632
    | 1 => inb_S72x6144_S72x256_0_5888
  hpk := fun p => match p with
    | 0 => packedbf16_S72x6144_S72x256_0_5632
    | 1 => packedbf16_S72x6144_S72x256_0_5888

/-- The first pair, before the loop. -/
def env0 : Env where
  sl := fun _ => 0
  hsl := by decide
  col := envE.col
  hcol := envE.hcol
  hpk := envE.hpk

/-- Zero the rows that no adapter fills, in every slot. -/
def pads (b : Bufs) : P F PUnit := do
  padC b 0 inb_S4x16x32x512_S1x3x32x512_0_13_0_0 packedbf16_S4x16x32x512_S1x3x32x512_0_13_0_0
  padC b 1 inb_S4x16x32x512_S1x3x32x512_1_13_0_0 packedbf16_S4x16x32x512_S1x3x32x512_1_13_0_0
  padC b 2 inb_S4x16x32x512_S1x3x32x512_2_13_0_0 packedbf16_S4x16x32x512_S1x3x32x512_2_13_0_0
  padC b 3 inb_S4x16x32x512_S1x3x32x512_3_13_0_0 packedbf16_S4x16x32x512_S1x3x32x512_3_13_0_0

/-- Up to the loop. -/
def head (b : Bufs) : P F (Mxu F) := do
  startC b cp0
  startC b cp1
  startC b cp2
  pads b
  waitC b cp0
  run b env0 headI Mxu.init

/-- One trip of the loop. -/
def trip (b : Bufs) (t : Fin k0_t1_loop.trips) (s : Mxu F) : P F (BitVec 32 × Mxu F) := do
  tripCopies b t
  let s' ← run b (envL t) bodyI s
  pure (0#32, s')

/-- After the loop. -/
def tail (b : Bufs) (s : Mxu F) : P F PUnit := do
  let s' ← run b envE tailI s
  s'.exit
  pure ⟨⟩

/-- The whole body. -/
def whole (b : Bufs) : P F PUnit := do
  let s ← head b
  let x ← Scf.Loop.for k0_t1_loop k0_t1_ok (0#32, s) fun t x => trip b t x.2
  tail b x.2

/-- From the loop to the end of the window the loop stands in, as printed. -/
def after101 (b : Bufs) : BitVec 32 × Mxu F → P F (Σ' (k0_mxu35 : Mxu F) (v485_r0 : FVec F S128x256 .f32), FVec F S128x256 .f32) := fun (v480_r0, k0_mxu35) => do
  let c11_i32_241_r0 : BitVec 32 := 11#32
  let c11_i32_242_r0 : BitVec 32 := 11#32
  let c4_i32_243_r0 : BitVec 32 := 4#32
  let v481_r0 : BitVec 32 := Scalar.remsi c11_i32_242_r0 c4_i32_243_r0
  let v482_r0 : Index := Scalar.indexCast v481_r0
  let c0_244_r0 : Index := 0#32
  let c256_245_r0 : Index := 256#32
  let v483_r0 : Vec F S1x128x256 .bf16 ← Prog.lift (.load b.sd (Rect.unit (s := S4x128x512) k0_off31 S1x128x256.size k0_off31_inb).toLoadRect (View.loadsAt_vmem h_S1x128x256))
  have v484_r0 : FVec F S128x256 .bf16 := shapeCast S128x256 v483_r0 shapeCasts_S1x128x256_S128x256
  have v485_r0 : FVec F S128x256 .f32 := extf .f32 v484_r0 bitsLt_bf16_f32
  have cst_246_r0 : F .f32 := Scalar.ofBits .f32 0x3D800000#32
  have v486_r0 : FVec F S128x256 .f32 := broadcast S128x256 cst_246_r0
  pure ⟨k0_mxu35, v485_r0, v486_r0⟩

/-- From there to the end of the next window, as printed. -/
def after176 (b : Bufs) : (Σ' (k0_mxu35 : Mxu F) (v485_r0 : FVec F S128x256 .f32), FVec F S128x256 .f32) → P F (Σ' (v2045_r0 : BitVec 32) (k0_mxu445 : Mxu F) (v2178_r0 : FVec F S256x256 .bf16), FVec F S1x256 .f32) := fun ⟨k0_mxu35, v485_r0, v486_r0⟩ => do
  let ⟨v491_r0, k0_mxu304, v518_r0⟩ : Σ' (v491_r0 : BitVec 32) (k0_mxu304 : Mxu F), IVec S64x256 32 ← k0_part102 b.h b.hh b.md b.hmd b.wdn b.hwdn b.sdn b.hsdn b.bdn b.hbdn b.out b.hout b.wd b.hwd b.sd b.hsd b.bd b.hbd b.sa b.hsa b.sb b.hsb b.sem k0_mxu35 v485_r0 v486_r0
  let k0_mxu307 : Mxu F ← k0_part103 b.h b.hh b.md b.hmd b.wdn b.hwdn b.sdn b.hsdn b.bdn b.hbdn b.out b.hout b.wd b.hwd b.sd b.hsd b.bd b.hbd b.sa b.hsa b.sb b.hsb b.sem k0_mxu304 v518_r0
  let ⟨k0_mxu309, v598_r0⟩ : Σ' (k0_mxu309 : Mxu F), FVec F S256x256 .bf16 ← k0_part104 b.h b.hh b.md b.hmd b.wdn b.hwdn b.sdn b.hsdn b.bdn b.hbdn b.out b.hout b.wd b.hwd b.sd b.hsd b.bd b.hbd b.sa b.hsa b.sb b.hsb b.sem k0_mxu307
  let k0_mxu313 : Mxu F ← k0_part105 b.h b.hh b.md b.hmd b.wdn b.hwdn b.sdn b.hsdn b.bdn b.hbdn b.out b.hout b.wd b.hwd b.sd b.hsd b.bd b.hbd b.sa b.hsa b.sb b.hsb b.sem k0_mxu309 v598_r0
  let ⟨k0_mxu315, v670_r0, v673_r0⟩ : Σ' (k0_mxu315 : Mxu F) (v670_r0 : FVec F S256x256 .bf16), FVec F S128x256 .f32 ← k0_part106 b.h b.hh b.md b.hmd b.wdn b.hwdn b.sdn b.hsdn b.bdn b.hbdn b.out b.hout b.wd b.hwd b.sd b.hsd b.bd b.hbd b.sa b.hsa b.sb b.hsb b.sem k0_mxu313
  let ⟨k0_mxu319, v708_r0⟩ : Σ' (k0_mxu319 : Mxu F), Vec F S256x256 .i8 ← k0_part107 b.h b.hh b.md b.hmd b.wdn b.hwdn b.sdn b.hsdn b.bdn b.hbdn b.out b.hout b.wd b.hwd b.sd b.hsd b.bd b.hbd b.sa b.hsa b.sb b.hsb b.sem k0_mxu315 v670_r0 v673_r0
  let ⟨k0_mxu321, v742_r0, v746_r0⟩ : Σ' (k0_mxu321 : Mxu F) (v742_r0 : FVec F S256x256 .bf16), FVec F S128x256 .bf16 ← k0_part108 b.h b.hh b.md b.hmd b.wdn b.hwdn b.sdn b.hsdn b.bdn b.hbdn b.out b.hout b.wd b.hwd b.sd b.hsd b.bd b.hbd b.sa b.hsa b.sb b.hsb b.sem k0_mxu319 v708_r0
  let ⟨k0_mxu325, v781_r0, v782_r0⟩ : Σ' (k0_mxu325 : Mxu F) (v781_r0 : IVec S64x256 32), IVec S64x256 32 ← k0_part109 b.h b.hh b.md b.hmd b.wdn b.hwdn b.sdn b.hsdn b.bdn b.hbdn b.out b.hout b.wd b.hwd b.sd b.hsd b.bd b.hbd b.sa b.hsa b.sb b.hsb b.sem k0_mxu321 v742_r0 v746_r0
  let ⟨k0_mxu327, v814_r0, v818_r0, v821_r0⟩ : Σ' (k0_mxu327 : Mxu F) (v814_r0 : FVec F S256x256 .bf16) (v818_r0 : FVec F S128x256 .bf16), FVec F S128x256 .f32 ← k0_part110 b.h b.hh b.md b.hmd b.wdn b.hwdn b.sdn b.hsdn b.bdn b.hbdn b.out b.hout b.wd b.hwd b.sd b.hsd b.bd b.hbd b.sa b.hsa b.sb b.hsb b.sem k0_mxu325 v781_r0 v782_r0
  let ⟨k0_mxu331, v853_r0, v855_r0, v856_r0⟩ : Σ' (k0_mxu331 : Mxu F) (v853_r0 : IVec S64x256 32) (v855_r0 : IVec S64x256 32), IVec S64x256 32 ← k0_part111 b.h b.hh b.md b.hmd b.wdn b.hwdn b.sdn b.hsdn b.bdn b.hbdn b.out b.hout b.wd b.hwd b.sd b.hsd b.bd b.hbd b.sa b.hsa b.sb b.hsb b.sem k0_mxu327 v814_r0 v818_r0 v821_r0
  let ⟨k0_mxu333, v896_r0⟩ : Σ' (k0_mxu333 : Mxu F), FVec F S256x256 .bf16 ← k0_part112 b.h b.hh b.md b.hmd b.wdn b.hwdn b.sdn b.hsdn b.bdn b.hbdn b.out b.hout b.wd b.hwd b.sd b.hsd b.bd b.hbd b.sa b.hsa b.sb b.hsb b.sem k0_mxu331 v853_r0 v855_r0 v856_r0
  let ⟨k0_mxu337, v925_r0, v930_r0, c_m252645136_i32_433_r0⟩ : Σ' (k0_mxu337 : Mxu F) (v925_r0 : IVec S64x256 32) (v930_r0 : IVec S256x256 8), BitVec 32 ← k0_part113 b.h b.hh b.md b.hmd b.wdn b.hwdn b.sdn b.hsdn b.bdn b.hbdn b.out b.hout b.wd b.hwd b.sd b.hsd b.bd b.hbd b.sa b.hsa b.sb b.hsb b.sem k0_mxu333 v896_r0
  let k0_mxu340 : Mxu F ← k0_part114 b.h b.hh b.md b.hmd b.wdn b.hwdn b.sdn b.hsdn b.bdn b.hbdn b.out b.hout b.wd b.hwd b.sd b.hsd b.bd b.hbd b.sa b.hsa b.sb b.hsb b.sem k0_mxu337 v925_r0 v930_r0 c_m252645136_i32_433_r0
  let ⟨k0_mxu343, v1005_r0⟩ : Σ' (k0_mxu343 : Mxu F), IVec S256x256 8 ← k0_part115 b.h b.hh b.md b.hmd b.wdn b.hwdn b.sdn b.hsdn b.bdn b.hbdn b.out b.hout b.wd b.hwd b.sd b.hsd b.bd b.hbd b.sa b.hsa b.sb b.hsb b.sem k0_mxu340
  let k0_mxu347 : Mxu F ← k0_part116 b.h b.hh b.md b.hmd b.wdn b.hwdn b.sdn b.hsdn b.bdn b.hbdn b.out b.hout b.wd b.hwd b.sd b.hsd b.bd b.hbd b.sa b.hsa b.sb b.hsb b.sem k0_mxu343 v1005_r0
  let ⟨k0_mxu349, v1078_r0⟩ : Σ' (k0_mxu349 : Mxu F), FVec F S256x256 .bf16 ← k0_part117 b.h b.hh b.md b.hmd b.wdn b.hwdn b.sdn b.hsdn b.bdn b.hbdn b.out b.hout b.wd b.hwd b.sd b.hsd b.bd b.hbd b.sa b.hsa b.sb b.hsb b.sem k0_mxu347
  let k0_mxu353 : Mxu F ← k0_part118 b.h b.hh b.md b.hmd b.wdn b.hwdn b.sdn b.hsdn b.bdn b.hbdn b.out b.hout b.wd b.hwd b.sd b.hsd b.bd b.hbd b.sa b.hsa b.sb b.hsb b.sem k0_mxu349 v1078_r0
  let ⟨k0_mxu355, v1150_r0, v1153_r0⟩ : Σ' (k0_mxu355 : Mxu F) (v1150_r0 : FVec F S256x256 .bf16), FVec F S128x256 .f32 ← k0_part119 b.h b.hh b.md b.hmd b.wdn b.hwdn b.sdn b.hsdn b.bdn b.hbdn b.out b.hout b.wd b.hwd b.sd b.hsd b.bd b.hbd b.sa b.hsa b.sb b.hsb b.sem k0_mxu353
  let ⟨k0_mxu359, v1188_r0⟩ : Σ' (k0_mxu359 : Mxu F), Vec F S256x256 .i8 ← k0_part120 b.h b.hh b.md b.hmd b.wdn b.hwdn b.sdn b.hsdn b.bdn b.hbdn b.out b.hout b.wd b.hwd b.sd b.hsd b.bd b.hbd b.sa b.hsa b.sb b.hsb b.sem k0_mxu355 v1150_r0 v1153_r0
  let ⟨k0_mxu361, v1222_r0, v1226_r0⟩ : Σ' (k0_mxu361 : Mxu F) (v1222_r0 : FVec F S256x256 .bf16), FVec F S128x256 .bf16 ← k0_part121 b.h b.hh b.md b.hmd b.wdn b.hwdn b.sdn b.hsdn b.bdn b.hbdn b.out b.hout b.wd b.hwd b.sd b.hsd b.bd b.hbd b.sa b.hsa b.sb b.hsb b.sem k0_mxu359 v1188_r0
  let ⟨k0_mxu365, v1261_r0, v1262_r0⟩ : Σ' (k0_mxu365 : Mxu F) (v1261_r0 : IVec S64x256 32), IVec S64x256 32 ← k0_part122 b.h b.hh b.md b.hmd b.wdn b.hwdn b.sdn b.hsdn b.bdn b.hbdn b.out b.hout b.wd b.hwd b.sd b.hsd b.bd b.hbd b.sa b.hsa b.sb b.hsb b.sem k0_mxu361 v1222_r0 v1226_r0
  let ⟨k0_mxu367, v1294_r0, v1298_r0, v1301_r0⟩ : Σ' (k0_mxu367 : Mxu F) (v1294_r0 : FVec F S256x256 .bf16) (v1298_r0 : FVec F S128x256 .bf16), FVec F S128x256 .f32 ← k0_part123 b.h b.hh b.md b.hmd b.wdn b.hwdn b.sdn b.hsdn b.bdn b.hbdn b.out b.hout b.wd b.hwd b.sd b.hsd b.bd b.hbd b.sa b.hsa b.sb b.hsb b.sem k0_mxu365 v1261_r0 v1262_r0
  let ⟨k0_mxu371, v1333_r0, v1335_r0, v1336_r0⟩ : Σ' (k0_mxu371 : Mxu F) (v1333_r0 : IVec S64x256 32) (v1335_r0 : IVec S64x256 32), IVec S64x256 32 ← k0_part124 b.h b.hh b.md b.hmd b.wdn b.hwdn b.sdn b.hsdn b.bdn b.hbdn b.out b.hout b.wd b.hwd b.sd b.hsd b.bd b.hbd b.sa b.hsa b.sb b.hsb b.sem k0_mxu367 v1294_r0 v1298_r0 v1301_r0
  let ⟨k0_mxu373, v1376_r0⟩ : Σ' (k0_mxu373 : Mxu F), FVec F S256x256 .bf16 ← k0_part125 b.h b.hh b.md b.hmd b.wdn b.hwdn b.sdn b.hsdn b.bdn b.hbdn b.out b.hout b.wd b.hwd b.sd b.hsd b.bd b.hbd b.sa b.hsa b.sb b.hsb b.sem k0_mxu371 v1333_r0 v1335_r0 v1336_r0
  let ⟨k0_mxu377, v1405_r0, v1410_r0, c_m252645136_i32_633_r0⟩ : Σ' (k0_mxu377 : Mxu F) (v1405_r0 : IVec S64x256 32) (v1410_r0 : IVec S256x256 8), BitVec 32 ← k0_part126 b.h b.hh b.md b.hmd b.wdn b.hwdn b.sdn b.hsdn b.bdn b.hbdn b.out b.hout b.wd b.hwd b.sd b.hsd b.bd b.hbd b.sa b.hsa b.sb b.hsb b.sem k0_mxu373 v1376_r0
  let k0_mxu380 : Mxu F ← k0_part127 b.h b.hh b.md b.hmd b.wdn b.hwdn b.sdn b.hsdn b.bdn b.hbdn b.out b.hout b.wd b.hwd b.sd b.hsd b.bd b.hbd b.sa b.hsa b.sb b.hsb b.sem k0_mxu377 v1405_r0 v1410_r0 c_m252645136_i32_633_r0
  let ⟨k0_mxu383, v1485_r0⟩ : Σ' (k0_mxu383 : Mxu F), IVec S256x256 8 ← k0_part128 b.h b.hh b.md b.hmd b.wdn b.hwdn b.sdn b.hsdn b.bdn b.hbdn b.out b.hout b.wd b.hwd b.sd b.hsd b.bd b.hbd b.sa b.hsa b.sb b.hsb b.sem k0_mxu380
  let k0_mxu387 : Mxu F ← k0_part129 b.h b.hh b.md b.hmd b.wdn b.hwdn b.sdn b.hsdn b.bdn b.hbdn b.out b.hout b.wd b.hwd b.sd b.hsd b.bd b.hbd b.sa b.hsa b.sb b.hsb b.sem k0_mxu383 v1485_r0
  let ⟨k0_mxu389, v1558_r0⟩ : Σ' (k0_mxu389 : Mxu F), FVec F S256x256 .bf16 ← k0_part130 b.h b.hh b.md b.hmd b.wdn b.hwdn b.sdn b.hsdn b.bdn b.hbdn b.out b.hout b.wd b.hwd b.sd b.hsd b.bd b.hbd b.sa b.hsa b.sb b.hsb b.sem k0_mxu387
  let k0_mxu393 : Mxu F ← k0_part131 b.h b.hh b.md b.hmd b.wdn b.hwdn b.sdn b.hsdn b.bdn b.hbdn b.out b.hout b.wd b.hwd b.sd b.hsd b.bd b.hbd b.sa b.hsa b.sb b.hsb b.sem k0_mxu389 v1558_r0
  let ⟨k0_mxu395, v1630_r0, v1633_r0⟩ : Σ' (k0_mxu395 : Mxu F) (v1630_r0 : FVec F S256x256 .bf16), FVec F S128x256 .f32 ← k0_part132 b.h b.hh b.md b.hmd b.wdn b.hwdn b.sdn b.hsdn b.bdn b.hbdn b.out b.hout b.wd b.hwd b.sd b.hsd b.bd b.hbd b.sa b.hsa b.sb b.hsb b.sem k0_mxu393
  let ⟨k0_mxu401, v1661_r0⟩ : Σ' (k0_mxu401 : Mxu F), IVec S256x256 8 ← k0_part133 b.h b.hh b.md b.hmd b.wdn b.hwdn b.sdn b.hsdn b.bdn b.hbdn b.out b.hout b.wd b.hwd b.sd b.hsd b.bd b.hbd b.sa b.hsa b.sb b.hsb b.sem v491_r0 k0_mxu395 v1630_r0 v1633_r0
  let k0_mxu405 : Mxu F ← k0_part134 b.h b.hh b.md b.hmd b.wdn b.hwdn b.sdn b.hsdn b.bdn b.hbdn b.out b.hout b.wd b.hwd b.sd b.hsd b.bd b.hbd b.sa b.hsa b.sb b.hsb b.sem k0_mxu401 v1661_r0
  let ⟨k0_mxu407, v1737_r0⟩ : Σ' (k0_mxu407 : Mxu F), FVec F S256x256 .bf16 ← k0_part135 b.h b.hh b.md b.hmd b.wdn b.hwdn b.sdn b.hsdn b.bdn b.hbdn b.out b.hout b.wd b.hwd b.sd b.hsd b.bd b.hbd b.sa b.hsa b.sb b.hsb b.sem k0_mxu405
  let k0_mxu411 : Mxu F ← k0_part136 b.h b.hh b.md b.hmd b.wdn b.hwdn b.sdn b.hsdn b.bdn b.hbdn b.out b.hout b.wd b.hwd b.sd b.hsd b.bd b.hbd b.sa b.hsa b.sb b.hsb b.sem k0_mxu407 v1737_r0
  let ⟨k0_mxu413, v1809_r0, v1812_r0⟩ : Σ' (k0_mxu413 : Mxu F) (v1809_r0 : FVec F S256x256 .bf16), FVec F S128x256 .f32 ← k0_part137 b.h b.hh b.md b.hmd b.wdn b.hwdn b.sdn b.hsdn b.bdn b.hbdn b.out b.hout b.wd b.hwd b.sd b.hsd b.bd b.hbd b.sa b.hsa b.sb b.hsb b.sem k0_mxu411
  let ⟨k0_mxu417, v1847_r0⟩ : Σ' (k0_mxu417 : Mxu F), Vec F S256x256 .i8 ← k0_part138 b.h b.hh b.md b.hmd b.wdn b.hwdn b.sdn b.hsdn b.bdn b.hbdn b.out b.hout b.wd b.hwd b.sd b.hsd b.bd b.hbd b.sa b.hsa b.sb b.hsb b.sem k0_mxu413 v1809_r0 v1812_r0
  let ⟨k0_mxu419, v1881_r0, v1885_r0⟩ : Σ' (k0_mxu419 : Mxu F) (v1881_r0 : FVec F S256x256 .bf16), FVec F S128x256 .bf16 ← k0_part139 b.h b.hh b.md b.hmd b.wdn b.hwdn b.sdn b.hsdn b.bdn b.hbdn b.out b.hout b.wd b.hwd b.sd b.hsd b.bd b.hbd b.sa b.hsa b.sb b.hsb b.sem k0_mxu417 v1847_r0
  let ⟨k0_mxu423, v1920_r0, v1921_r0⟩ : Σ' (k0_mxu423 : Mxu F) (v1920_r0 : IVec S64x256 32), IVec S64x256 32 ← k0_part140 b.h b.hh b.md b.hmd b.wdn b.hwdn b.sdn b.hsdn b.bdn b.hbdn b.out b.hout b.wd b.hwd b.sd b.hsd b.bd b.hbd b.sa b.hsa b.sb b.hsb b.sem k0_mxu419 v1881_r0 v1885_r0
  let ⟨k0_mxu425, v1953_r0, v1957_r0, v1960_r0⟩ : Σ' (k0_mxu425 : Mxu F) (v1953_r0 : FVec F S256x256 .bf16) (v1957_r0 : FVec F S128x256 .bf16), FVec F S128x256 .f32 ← k0_part141 b.h b.hh b.md b.hmd b.wdn b.hwdn b.sdn b.hsdn b.bdn b.hbdn b.out b.hout b.wd b.hwd b.sd b.hsd b.bd b.hbd b.sa b.hsa b.sb b.hsb b.sem k0_mxu423 v1920_r0 v1921_r0
  let ⟨k0_mxu429, v1992_r0, v1994_r0, v1995_r0⟩ : Σ' (k0_mxu429 : Mxu F) (v1992_r0 : IVec S64x256 32) (v1994_r0 : IVec S64x256 32), IVec S64x256 32 ← k0_part142 b.h b.hh b.md b.hmd b.wdn b.hwdn b.sdn b.hsdn b.bdn b.hbdn b.out b.hout b.wd b.hwd b.sd b.hsd b.bd b.hbd b.sa b.hsa b.sb b.hsb b.sem k0_mxu425 v1953_r0 v1957_r0 v1960_r0
  let ⟨k0_mxu431, v2035_r0⟩ : Σ' (k0_mxu431 : Mxu F), FVec F S256x256 .bf16 ← k0_part143 b.h b.hh b.md b.hmd b.wdn b.hwdn b.sdn b.hsdn b.bdn b.hbdn b.out b.hout b.wd b.hwd b.sd b.hsd b.bd b.hbd b.sa b.hsa b.sb b.hsb b.sem k0_mxu429 v1992_r0 v1994_r0 v1995_r0
  let ⟨v2045_r0, k0_mxu437⟩ : Σ' (v2045_r0 : BitVec 32), Mxu F ← k0_part144 b.h b.hh b.md b.hmd b.wdn b.hwdn b.sdn b.hsdn b.bdn b.hbdn b.out b.hout b.wd b.hwd b.sd b.hsd b.bd b.hbd b.sa b.hsa b.sb b.hsb b.sem k0_mxu431 v2035_r0
  let ⟨k0_mxu439, v2106_r0⟩ : Σ' (k0_mxu439 : Mxu F), FVec F S256x256 .bf16 ← k0_part145 b.h b.hh b.md b.hmd b.wdn b.hwdn b.sdn b.hsdn b.bdn b.hbdn b.out b.hout b.wd b.hwd b.sd b.hsd b.bd b.hbd b.sa b.hsa b.sb b.hsb b.sem k0_mxu437
  let k0_mxu443 : Mxu F ← k0_part146 b.h b.hh b.md b.hmd b.wdn b.hwdn b.sdn b.hsdn b.bdn b.hbdn b.out b.hout b.wd b.hwd b.sd b.hsd b.bd b.hbd b.sa b.hsa b.sb b.hsb b.sem k0_mxu439 v2106_r0
  let ⟨k0_mxu445, v2178_r0, v2180_r0⟩ : Σ' (k0_mxu445 : Mxu F) (v2178_r0 : FVec F S256x256 .bf16), FVec F S1x256 .f32 ← k0_part147 b.h b.hh b.md b.hmd b.wdn b.hwdn b.sdn b.hsdn b.bdn b.hbdn b.out b.hout b.wd b.hwd b.sd b.hsd b.bd b.hbd b.sa b.hsa b.sb b.hsb b.sem k0_mxu443
  pure ⟨v2045_r0, k0_mxu445, v2178_r0, v2180_r0⟩

/-- From there to the end, as printed. -/
def afterEnd (b : Bufs) : (Σ' (v2045_r0 : BitVec 32) (k0_mxu445 : Mxu F) (v2178_r0 : FVec F S256x256 .bf16), FVec F S1x256 .f32) → P F PUnit := fun ⟨v2045_r0, k0_mxu445, v2178_r0, v2180_r0⟩ => do
  let k0_mxu449 : Mxu F ← k0_part148 b.h b.hh b.md b.hmd b.wdn b.hwdn b.sdn b.hsdn b.bdn b.hbdn b.out b.hout b.wd b.hwd b.sd b.hsd b.bd b.hbd b.sa b.hsa b.sb b.hsb b.sem k0_mxu445 v2178_r0 v2180_r0
  let ⟨k0_mxu451, v2250_r0, v2254_r0⟩ : Σ' (k0_mxu451 : Mxu F) (v2250_r0 : FVec F S256x256 .bf16), FVec F S128x256 .bf16 ← k0_part149 b.h b.hh b.md b.hmd b.wdn b.hwdn b.sdn b.hsdn b.bdn b.hbdn b.out b.hout b.wd b.hwd b.sd b.hsd b.bd b.hbd b.sa b.hsa b.sb b.hsb b.sem k0_mxu449
  let ⟨k0_mxu455, v2289_r0, c4_i32_1083_r0⟩ : Σ' (k0_mxu455 : Mxu F) (v2289_r0 : IVec S64x256 32), BitVec 32 ← k0_part150 b.h b.hh b.md b.hmd b.wdn b.hwdn b.sdn b.hsdn b.bdn b.hbdn b.out b.hout b.wd b.hwd b.sd b.hsd b.bd b.hbd b.sa b.hsa b.sb b.hsb b.sem k0_mxu451 v2250_r0 v2254_r0
  let ⟨k0_mxu457, v2322_r0, v2326_r0, v2328_r0⟩ : Σ' (k0_mxu457 : Mxu F) (v2322_r0 : FVec F S256x256 .bf16) (v2326_r0 : FVec F S128x256 .bf16), FVec F S1x256 .f32 ← k0_part151 b.h b.hh b.md b.hmd b.wdn b.hwdn b.sdn b.hsdn b.bdn b.hbdn b.out b.hout b.wd b.hwd b.sd b.hsd b.bd b.hbd b.sa b.hsa b.sb b.hsb b.sem k0_mxu455 v2289_r0 c4_i32_1083_r0
  let ⟨k0_mxu461, v2361_r0, v2363_r0, c_m252645136_i32_1123_r0⟩ : Σ' (k0_mxu461 : Mxu F) (v2361_r0 : IVec S64x256 32) (v2363_r0 : IVec S64x256 32), BitVec 32 ← k0_part152 b.h b.hh b.md b.hmd b.wdn b.hwdn b.sdn b.hsdn b.bdn b.hbdn b.out b.hout b.wd b.hwd b.sd b.hsd b.bd b.hbd b.sa b.hsa b.sb b.hsb b.sem k0_mxu457 v2322_r0 v2326_r0 v2328_r0
  let ⟨k0_mxu463, v2394_r0, v2403_r0⟩ : Σ' (k0_mxu463 : Mxu F) (v2394_r0 : FVec F S256x256 .bf16), FVec F S256x256 .bf16 ← k0_part153 b.h b.hh b.md b.hmd b.wdn b.hwdn b.sdn b.hsdn b.bdn b.hbdn b.out b.hout b.wd b.hwd b.sd b.hsd b.bd b.hbd b.sa b.hsa b.sb b.hsb b.sem k0_mxu461 v2361_r0 v2363_r0 c_m252645136_i32_1123_r0
  let ⟨k0_mxu467, v2433_r0, v2438_r0⟩ : Σ' (k0_mxu467 : Mxu F) (v2433_r0 : IVec S64x256 32), IVec S256x256 8 ← k0_part154 b.h b.hh b.md b.hmd b.wdn b.hwdn b.sdn b.hsdn b.bdn b.hbdn b.out b.hout b.wd b.hwd b.sd b.hsd b.bd b.hbd b.sa b.hsa b.sb b.hsb b.sem k0_mxu463 v2394_r0 v2403_r0
  let k0_mxu470 : Mxu F ← k0_part155 b.h b.hh b.md b.hmd b.wdn b.hwdn b.sdn b.hsdn b.bdn b.hbdn b.out b.hout b.wd b.hwd b.sd b.hsd b.bd b.hbd b.sa b.hsa b.sb b.hsb b.sem k0_mxu467 v2433_r0 v2438_r0
  let ⟨k0_mxu473, v2512_r0⟩ : Σ' (k0_mxu473 : Mxu F), IVec S64x256 32 ← k0_part156 b.h b.hh b.md b.hmd b.wdn b.hwdn b.sdn b.hsdn b.bdn b.hbdn b.out b.hout b.wd b.hwd b.sd b.hsd b.bd b.hbd b.sa b.hsa b.sb b.hsb b.sem k0_mxu470
  let k0_mxu477 : Mxu F ← k0_part157 b.h b.hh b.md b.hmd b.wdn b.hwdn b.sdn b.hsdn b.bdn b.hbdn b.out b.hout b.wd b.hwd b.sd b.hsd b.bd b.hbd b.sa b.hsa b.sb b.hsb b.sem k0_mxu473 v2512_r0
  let ⟨k0_mxu479, v2586_r0⟩ : Σ' (k0_mxu479 : Mxu F), FVec F S256x256 .bf16 ← k0_part158 b.h b.hh b.md b.hmd b.wdn b.hwdn b.sdn b.hsdn b.bdn b.hbdn b.out b.hout b.wd b.hwd b.sd b.hsd b.bd b.hbd b.sa b.hsa b.sb b.hsb b.sem k0_mxu477
  let k0_mxu483 : Mxu F ← k0_part159 b.h b.hh b.md b.hmd b.wdn b.hwdn b.sdn b.hsdn b.bdn b.hbdn b.out b.hout b.wd b.hwd b.sd b.hsd b.bd b.hbd b.sa b.hsa b.sb b.hsb b.sem k0_mxu479 v2586_r0
  let ⟨k0_mxu485, v2658_r0, v2660_r0⟩ : Σ' (k0_mxu485 : Mxu F) (v2658_r0 : FVec F S256x256 .bf16), FVec F S1x256 .f32 ← k0_part160 b.h b.hh b.md b.hmd b.wdn b.hwdn b.sdn b.hsdn b.bdn b.hbdn b.out b.hout b.wd b.hwd b.sd b.hsd b.bd b.hbd b.sa b.hsa b.sb b.hsb b.sem k0_mxu483
  let k0_mxu489 : Mxu F ← k0_part161 b.h b.hh b.md b.hmd b.wdn b.hwdn b.sdn b.hsdn b.bdn b.hbdn b.out b.hout b.wd b.hwd b.sd b.hsd b.bd b.hbd b.sa b.hsa b.sb b.hsb b.sem k0_mxu485 v2658_r0 v2660_r0
  let ⟨k0_mxu491, v2730_r0, v2734_r0⟩ : Σ' (k0_mxu491 : Mxu F) (v2730_r0 : FVec F S256x256 .bf16), FVec F S128x256 .bf16 ← k0_part162 b.h b.hh b.md b.hmd b.wdn b.hwdn b.sdn b.hsdn b.bdn b.hbdn b.out b.hout b.wd b.hwd b.sd b.hsd b.bd b.hbd b.sa b.hsa b.sb b.hsb b.sem k0_mxu489
  let ⟨k0_mxu495, v2769_r0, c4_i32_1343_r0⟩ : Σ' (k0_mxu495 : Mxu F) (v2769_r0 : IVec S64x256 32), BitVec 32 ← k0_part163 b.h b.hh b.md b.hmd b.wdn b.hwdn b.sdn b.hsdn b.bdn b.hbdn b.out b.hout b.wd b.hwd b.sd b.hsd b.bd b.hbd b.sa b.hsa b.sb b.hsb b.sem k0_mxu491 v2730_r0 v2734_r0
  let ⟨k0_mxu497, v2802_r0, v2806_r0, v2808_r0⟩ : Σ' (k0_mxu497 : Mxu F) (v2802_r0 : FVec F S256x256 .bf16) (v2806_r0 : FVec F S128x256 .bf16), FVec F S1x256 .f32 ← k0_part164 b.h b.hh b.md b.hmd b.wdn b.hwdn b.sdn b.hsdn b.bdn b.hbdn b.out b.hout b.wd b.hwd b.sd b.hsd b.bd b.hbd b.sa b.hsa b.sb b.hsb b.sem k0_mxu495 v2769_r0 c4_i32_1343_r0
  let ⟨k0_mxu501, v2841_r0, v2843_r0, c_m252645136_i32_1383_r0⟩ : Σ' (k0_mxu501 : Mxu F) (v2841_r0 : IVec S64x256 32) (v2843_r0 : IVec S64x256 32), BitVec 32 ← k0_part165 b.h b.hh b.md b.hmd b.wdn b.hwdn b.sdn b.hsdn b.bdn b.hbdn b.out b.hout b.wd b.hwd b.sd b.hsd b.bd b.hbd b.sa b.hsa b.sb b.hsb b.sem k0_mxu497 v2802_r0 v2806_r0 v2808_r0
  let ⟨k0_mxu503, v2874_r0, v2883_r0⟩ : Σ' (k0_mxu503 : Mxu F) (v2874_r0 : FVec F S256x256 .bf16), FVec F S256x256 .bf16 ← k0_part166 b.h b.hh b.md b.hmd b.wdn b.hwdn b.sdn b.hsdn b.bdn b.hbdn b.out b.hout b.wd b.hwd b.sd b.hsd b.bd b.hbd b.sa b.hsa b.sb b.hsb b.sem k0_mxu501 v2841_r0 v2843_r0 c_m252645136_i32_1383_r0
  let ⟨k0_mxu507, v2913_r0, v2918_r0⟩ : Σ' (k0_mxu507 : Mxu F) (v2913_r0 : IVec S64x256 32), IVec S256x256 8 ← k0_part167 b.h b.hh b.md b.hmd b.wdn b.hwdn b.sdn b.hsdn b.bdn b.hbdn b.out b.hout b.wd b.hwd b.sd b.hsd b.bd b.hbd b.sa b.hsa b.sb b.hsb b.sem k0_mxu503 v2874_r0 v2883_r0
  let k0_mxu510 : Mxu F ← k0_part168 b.h b.hh b.md b.hmd b.wdn b.hwdn b.sdn b.hsdn b.bdn b.hbdn b.out b.hout b.wd b.hwd b.sd b.hsd b.bd b.hbd b.sa b.hsa b.sb b.hsb b.sem k0_mxu507 v2913_r0 v2918_r0
  let ⟨k0_mxu513, v2992_r0⟩ : Σ' (k0_mxu513 : Mxu F), IVec S64x256 32 ← k0_part169 b.h b.hh b.md b.hmd b.wdn b.hwdn b.sdn b.hsdn b.bdn b.hbdn b.out b.hout b.wd b.hwd b.sd b.hsd b.bd b.hbd b.sa b.hsa b.sb b.hsb b.sem k0_mxu510
  let k0_mxu517 : Mxu F ← k0_part170 b.h b.hh b.md b.hmd b.wdn b.hwdn b.sdn b.hsdn b.bdn b.hbdn b.out b.hout b.wd b.hwd b.sd b.hsd b.bd b.hbd b.sa b.hsa b.sb b.hsb b.sem k0_mxu513 v2992_r0
  let ⟨k0_mxu519, v3066_r0⟩ : Σ' (k0_mxu519 : Mxu F), FVec F S256x256 .bf16 ← k0_part171 b.h b.hh b.md b.hmd b.wdn b.hwdn b.sdn b.hsdn b.bdn b.hbdn b.out b.hout b.wd b.hwd b.sd b.hsd b.bd b.hbd b.sa b.hsa b.sb b.hsb b.sem k0_mxu517
  let k0_mxu523 : Mxu F ← k0_part172 b.h b.hh b.md b.hmd b.wdn b.hwdn b.sdn b.hsdn b.bdn b.hbdn b.out b.hout b.wd b.hwd b.sd b.hsd b.bd b.hbd b.sa b.hsa b.sb b.hsb b.sem k0_mxu519 v3066_r0
  let ⟨k0_mxu525, v3138_r0, v3140_r0⟩ : Σ' (k0_mxu525 : Mxu F) (v3138_r0 : FVec F S256x256 .bf16), FVec F S1x256 .f32 ← k0_part173 b.h b.hh b.md b.hmd b.wdn b.hwdn b.sdn b.hsdn b.bdn b.hbdn b.out b.hout b.wd b.hwd b.sd b.hsd b.bd b.hbd b.sa b.hsa b.sb b.hsb b.sem k0_mxu523
  let k0_mxu529 : Mxu F ← k0_part174 b.h b.hh b.md b.hmd b.wdn b.hwdn b.sdn b.hsdn b.bdn b.hbdn b.out b.hout b.wd b.hwd b.sd b.hsd b.bd b.hbd b.sa b.hsa b.sb b.hsb b.sem k0_mxu525 v3138_r0 v3140_r0
  let ⟨k0_mxu535, v3208_r0⟩ : Σ' (k0_mxu535 : Mxu F), Vec F S80x256 .bf16 ← k0_part175 b.h b.hh b.md b.hmd b.wdn b.hwdn b.sdn b.hsdn b.bdn b.hbdn b.out b.hout b.wd b.hwd b.sd b.hsd b.bd b.hbd b.sa b.hsa b.sb b.hsb b.sem v2045_r0 k0_mxu529
  have k0_mxu536 : Mxu F := k0_mxu535.accLhs 0 1 20 v3208_r0 fits_20_80
  let c0_1585_r0 : Index := 0#32
  let c256_1586_r0 : Index := 256#32
  let v3209_r0 : Vec F S80x256 .bf16 ← Prog.lift (.load b.md (Rect.unit (s := S80x512) ![0, 256] S80x256.size inb_S80x512_S80x256_0_256).toLoadRect (View.loadsAt_vmem h_S80x256))
  have k0_mxu537 : Mxu F := k0_mxu536.accLhs 1 1 20 v3209_r0 fits_20_80
  have v3210_r0 : FVec F S80x256 .f32 := k0_mxu537.read 0 20 fits_20_80
  have k0_mxu538 : Mxu F := k0_mxu537.pop 0 20 80 fits_20_80
  have v3211_r0 : FVec F S80x256 .f32 := k0_mxu538.read 1 20 fits_20_80
  have k0_mxu539 : Mxu F := k0_mxu538.pop 1 20 80 fits_20_80
  have v3212_r0 : FVec F S80x256 .f32 := addf v3210_r0 v3211_r0
  have v3213_r0 : FVec F S72x256 .f32 := extractStridedSlice S72x256 ![0, 0] v3212_r0 slices_S80x256_o0_0_S72x256
  have v3214_r0 : FVec F S72x256 .bf16 := truncf .bf16 v3213_r0 bitsLt_bf16_f32
  let c5888_i32_r0 : BitVec 32 := 5888#32
  let v3215_r0 : BitVec 32 := c5888_i32_r0
  let c0_1587_r0 : Index := 0#32
  let v3216_r0 : Index := Scalar.indexCast v3215_r0
  let v3217_r0 : Vec F S72x256 .bf16 ← Prog.lift (.load b.out (Rect.unit (s := S72x6144) ![0, 5888] S72x256.size inb_S72x6144_S72x256_0_5888).toLoadRect (View.loadsAt_vmem h_S72x256))
  Prog.lift (.store b.out (Rect.unit (s := S72x6144) ![0, 5888] S72x256.size inb_S72x6144_S72x256_0_5888) v3214_r0 Finset.univ (View.stores_vmem h_S72x256 (b.hout.storeExact_slice rfl _ packedbf16_S72x6144_S72x256_0_5888) (fun _ => rfl)) (.inl rfl))

  k0_mxu539.exit
  pure ⟨⟩

theorem cc0_raw (b : Bufs) :
    cc0_swiglu_int4_lora (F := F) b.h b.hh b.md b.hmd b.wdn b.hwdn b.sdn b.hsdn b.bdn b.hbdn b.out b.hout b.wd b.hwd b.sd b.hsd
      b.bd b.hbd b.sa b.hsa b.sb b.hsb b.sem =
    (head b >>= fun s => ((Scf.Loop.for k0_t1_loop k0_t1_ok (0#32, s) (fun t x => bodyP b t x.2) >>= after101 b) >>=
      after176 b) >>= afterEnd b) := by
  chain_rfl

theorem after_eq (b : Bufs) (x : BitVec 32 × Mxu F) :
    ((after101 b x >>= after176 b) >>= afterEnd b) = tail b x.2 := by
  chain_rfl

/-- The printed body is the list program. -/
theorem cc0_eq (b : Bufs) :
    cc0_swiglu_int4_lora (F := F) b.h b.hh b.md b.hmd b.wdn b.hwdn b.sdn b.hsdn b.bdn b.hbdn b.out b.hout b.wd b.hwd b.sd b.hsd
      b.bd b.hbd b.sa b.hsa b.sb b.hsb b.sem = whole b := by
  rw [cc0_raw b]
  refine congrArg _ (funext fun s => ?_)
  rw [assoc1, assoc1]
  have hb : (fun (t : Fin k0_t1_loop.trips) (x : BitVec 32 × Mxu F) => bodyP b t x.2) = fun t x => trip b t x.2 :=
    funext fun t => funext fun x => bodyP_eq b t x.2
  rw [hb]
  refine congrArg _ (funext fun x => ?_)
  rw [← assoc1]
  exact after_eq b x

end Cert.KernelIdeal.Down

end
-- ==== Proof.Machine.lean ====
/-
  What the instructions do, as mathematics: the staging registers and the sums of the two matrix units are a finite
  table of tiles, and a list of instructions rewrites that table. The lists of a pair of chunks are evaluated here once.
-/
module

public import proofs.«01_k».proof.Proof.Struct
public import Idealize.ShloMosaic.Lib.Mxu.Lemmas
public import Idealize.ShloMosaic.Lib.ValueLayout

@[expose] public section

noncomputable section

namespace Cert.KernelIdeal.Down

open Idealize.ShloMosaic Idealize.ShloMosaic.TcCoe
open Idealize.SL Idealize.SL.Sem
open Facts₀ Facts

variable {F : FTy → Type} [FloatOps F]

/-- What the buffers hold that a pair of chunks reads: by slot `w`, chunk `p`, unit `u`, tile `k`. -/
structure Reads (F : FTy → Type) [FloatOps F] where
  blk : Fin 2 → Fin 2 → ℕ → IVec S256x256 8
  st : Fin 2 → Fin 2 → FVec F S1x128x256 .bf16
  bt : Fin 2 → Fin 2 → Fin 2 → FVec F S1x8x32x256 .bf16
  h : ℕ → FVec F S80x256 .bf16
  md : Fin 2 → FVec F S80x256 .bf16

/-- A row of a scale buffer. -/
def rowOf (sc : FVec F S128x256 .f32) (k : ℕ) : FVec F S1x256 .f32 :=
  fun x => sc (ValueIdx.ix2 ⟨k % 128, Nat.mod_lt _ (by decide)⟩ (x 1))

/-- The tile staged for unit `u` at step `k`. -/
def rt (D : Reads F) (w p u : Fin 2) (k : ℕ) (sc : FVec F S128x256 .f32) : FVec F S256x256 .bf16 :=
  if k < 32 then wval u (D.blk w p (32 * u.val + k)) (rowOf sc (2 * (32 * u.val + k))) (rowOf sc (2 * (32 * u.val + k) + 1))
  else bval (D.bt w p u)

/-- The left-hand tile of unit `u` at step `k`. -/
def lt (D : Reads F) (u : Fin 2) (k : ℕ) : FVec F S80x256 .bf16 :=
  if k < 32 then D.h (32 * u.val + k) else D.md u

/-- The product of two tiles. -/
def pass (x : FVec F S80x256 .bf16) (y : FVec F S256x256 .bf16) : FVec F S80x256 .f32 :=
  FloatOps.mxuPass (DotDims.plain 80 256 256) x y

/-- The sum of a chunk's products on unit `u`, up to step `n`. -/
def chain (D : Reads F) (w p u : Fin 2) (sc : FVec F S128x256 .f32) : ℕ → FVec F S80x256 .f32
  | 0 => pass (lt D u 0) (rt D w p u 0 sc)
  | n + 1 => addf (chain D w p u sc n) (pass (lt D u (n + 1)) (rt D w p u (n + 1) sc))

/-- The result with a block of columns replaced. -/
def putCols (X : FVec F S72x6144 .bf16) (col : ℕ) (v : FVec F S72x256 .bf16) : FVec F S72x6144 .bf16 :=
  fun y => if h : col ≤ (y 1).val ∧ (y 1).val < col + 256 then v (ValueIdx.ix2 (y 0) ⟨(y 1).val - col, by omega⟩) else X y

/-- The table. -/
structure Tab (F : FTy → Type) [FloatOps F] where
  reg : Fin 2 → Fin 2 → Option (FVec F S256x256 .bf16)
  acc : Fin 2 → Fin 2 → Option (FVec F S80x256 .f32)
  sc : Fin 2 → FVec F S128x256 .f32
  out : FVec F S72x6144 .bf16

/-- One entry replaced. -/
def put {α : Type} (f : Fin 2 → Fin 2 → α) (q r : Fin 2) (v : α) : Fin 2 → Fin 2 → α :=
  fun q' r' => if q' = q ∧ r' = r then v else f q' r'

/-- One instruction. -/
def tstep (D : Reads F) (e : Env) (a : Tab F) : Instr → Option (Tab F)
  | .push w p u k r => match a.reg u r with
    | none => some { a with reg := put a.reg u r (some (rt D w p u k (a.sc p))) }
    | some _ => none
  | .acc p u k r => match a.reg u r with
    | none => none
    | some t => some { a with
        reg := put a.reg u r none
        acc := put a.acc u p (some (match a.acc u p with
          | none => pass (lt D u k) t
          | some y => addf y (pass (lt D u k) t))) }
  | .scale w p => some { a with sc := fun p' => if p' = p then scval (D.st w p) else a.sc p' }
  | .out p => match a.acc 0 p, a.acc 1 p with
    | some y0, some y1 => some { a with
        acc := put (put a.acc 0 p none) 1 p none
        out := putCols a.out (e.col p) (oval y0 y1) }
    | _, _ => none

/-- A list of instructions. -/
def trun (D : Reads F) (e : Env) : List Instr → Tab F → Option (Tab F)
  | [], a => some a
  | i :: is, a => (tstep D e a i).bind (trun D e is)

/-- The table's entries, one after the other. -/
def Tab.view (a : Tab F) :=
  (a.reg 0 0, a.reg 0 1, a.reg 1 0, a.reg 1 1, a.acc 0 0, a.acc 0 1, a.acc 1 0, a.acc 1 1, a.sc 0, a.sc 1, a.out)

theorem Tab.view_inj {a b : Tab F} (h : a.view = b.view) : a = b := by
  unfold Tab.view at h
  simp only [Prod.mk.injEq] at h
  obtain ⟨h1, h2, h3, h4, h5, h6, h7, h8, h9, h10, h11⟩ := h
  cases a; cases b
  simp only at h1 h2 h3 h4 h5 h6 h7 h8 h9 h10 h11
  congr 1
  · funext q r; fin_cases q <;> fin_cases r <;> assumption
  · funext q r; fin_cases q <;> fin_cases r <;> assumption
  · funext q; fin_cases q <;> assumption

theorem eq_of_view {o : Option (Tab F)} {b : Tab F} (h : o.map Tab.view = some b.view) : o = some b := by
  cases o with
  | none => cases h
  | some a => exact congrArg some (Tab.view_inj (Option.some.inj h))

/-- Nothing staged, no sums. -/
def tab0 (sc : Fin 2 → FVec F S128x256 .f32) (out : FVec F S72x6144 .bf16) : Tab F := ⟨fun _ _ => none, fun _ _ => none, sc, out⟩

/-- Between two pairs: the first chunk of the next pair, in slot `w`, is begun. -/
def mid (D : Reads F) (w : Fin 2) (sc : Fin 2 → FVec F S128x256 .f32) (out : FVec F S72x6144 .bf16) : Tab F :=
  ⟨fun _ _ => none, fun u p => match p with | 0 => some (chain D w 0 u (sc 0) 7) | 1 => none, sc, out⟩

/-- The block of a chunk. -/
def blockOf (D : Reads F) (w p : Fin 2) : FVec F S72x256 .bf16 :=
  oval (chain D w p 0 (scval (D.st w p)) 32) (chain D w p 1 (scval (D.st w p)) 32)

/-- The scale buffers with a pair's second chunk, and the first chunk of the next pair. -/
def scs (x y : FVec F S128x256 .f32) : Fin 2 → FVec F S128x256 .f32
  | 0 => x
  | 1 => y

set_option maxRecDepth 100000 in
/-- The beginning of the first pair. -/
theorem trun_head (D : Reads F) (e : Env) (sc : Fin 2 → FVec F S128x256 .f32) (out : FVec F S72x6144 .bf16) :
    trun D e headI (tab0 sc out) = some (mid D 0 (scs (scval (D.st 0 0)) (sc 1)) out) :=
  eq_of_view (by chain_rfl)

set_option maxRecDepth 100000 in
/-- A pair that another follows. -/
theorem trun_body (D : Reads F) (e : Env) (s1 : FVec F S128x256 .f32) (out : FVec F S72x6144 .bf16) :
    trun D e bodyI (mid D 0 (scs (scval (D.st 0 0)) s1) out)
      = some (mid D 1 (scs (scval (D.st 1 0)) (scval (D.st 0 1)))
          (putCols (putCols out (e.col 0) (blockOf D 0 0)) (e.col 1) (blockOf D 0 1))) :=
  eq_of_view (by chain_rfl)

set_option maxRecDepth 100000 in
/-- The last pair. -/
theorem trun_tail (D : Reads F) (e : Env) (s1 : FVec F S128x256 .f32) (out : FVec F S72x6144 .bf16) :
    trun D e tailI (mid D 0 (scs (scval (D.st 0 0)) s1) out)
      = some (tab0 (scs (scval (D.st 0 0)) (scval (D.st 0 1)))
          (putCols (putCols out (e.col 0) (blockOf D 0 0)) (e.col 1) (blockOf D 0 1))) :=
  eq_of_view (by chain_rfl)

/-! ## The matrix units hold the table -/

/-- The units' state is the table's. -/
structure Rep (s : Mxu F) (a : Tab F) : Prop where
  reg : ∀ q r, s.reg q r = (a.reg q r).map fun v => ⟨.bf16, false, v⟩
  none : ∀ q p, a.acc q p = Option.none → ∀ r, s.live q (Mxu.row (fitsA p) r) = false
  some : ∀ q p y, a.acc q p = Option.some y → (∀ r, s.live q (Mxu.row (fitsA p) r) = true) ∧ s.read q (addr p) (fitsA p) = y
  dead : ∀ q R, 160 ≤ R.val → s.live q R = false

theorem addr_ne {p p' : Fin 2} (h : p' ≠ p) : 4 * addr p' + 80 ≤ 4 * addr p ∨ 4 * addr p + 80 ≤ 4 * addr p' := by
  fin_cases p <;> fin_cases p' <;> simp_all [addr]

theorem addr_le (p : Fin 2) : 4 * addr p + 80 ≤ 160 := by fin_cases p <;> simp [addr]

theorem Rep.init (sc : Fin 2 → FVec F S128x256 .f32) (out : FVec F S72x6144 .bf16) : Rep Mxu.init (tab0 sc out) where
  reg q r := by simp [tab0]
  none q p _ r := rfl
  some q p y h := by cases h
  dead q R _ := rfl

theorem Rep.push {s : Mxu F} {a : Tab F} (h : Rep s a) (u r : Fin 2) (v : FVec F S256x256 .bf16) (hn : a.reg u r = Option.none) :
    Rep (s.pushed u r false v) { a with reg := put a.reg u r (Option.some v) } where
  reg q r' := by
    have hs : s.reg u r = Option.none := by rw [h.reg, hn]; rfl
    by_cases hq : q = u ∧ r' = r
    · obtain ⟨rfl, rfl⟩ := hq
      rw [Mxu.reg_pushed_of_none _ _ _ _ _ hs]; simp [put]
    · rw [Mxu.reg_pushed_ne _ _ _ _ _ _ _ hq, h.reg]; simp [put, hq]
  none q p hq r := by rw [Mxu.live_pushed]; exact h.none q p hq r
  some q p y hy := by rw [Mxu.live_pushed, Mxu.read_pushed]; exact h.some q p y hy
  dead q R hR := by rw [Mxu.live_pushed]; exact h.dead q R hR

theorem row_val (p : Fin 2) (r : Fin 80) : (Mxu.row (fitsA p) r).val = 4 * addr p + r.val := rfl

theorem live_ne {s : Mxu F} {u r p : Fin 2} {v : FVec F S80x256 .bf16} {q p' : Fin 2} (hq : ¬ (q = u ∧ p' = p)) (i : Fin 80) :
    (s.accLhs u r (addr p) (M := 80) v (fitsA p)).live q (Mxu.row (fitsA p') i) = s.live q (Mxu.row (fitsA p') i) := by
  rw [Mxu.live_accLhs]
  by_cases hu : q = u
  · have := addr_ne (fun e => hq ⟨hu, e⟩)
    have hi := i.isLt
    rw [if_neg]; rw [row_val]; omega
  · simp [hu]

theorem ne_or {q u p' p : Fin 2} (hq : ¬ (q = u ∧ p' = p)) :
    q ≠ u ∨ 4 * addr p' + 80 ≤ 4 * addr p ∨ 4 * addr p + 80 ≤ 4 * addr p' := by
  by_cases hu : q = u
  · exact .inr (addr_ne fun e => hq ⟨hu, e⟩)
  · exact .inl hu

theorem Rep.accL {s : Mxu F} {a : Tab F} (h : Rep s a) (p u r : Fin 2) (v : FVec F S80x256 .bf16) (t : FVec F S256x256 .bf16)
    (ht : a.reg u r = Option.some t) :
    Rep (s.accLhs u r (addr p) (M := 80) v (fitsA p))
      { a with
        reg := put a.reg u r Option.none
        acc := put a.acc u p (Option.some (match a.acc u p with | Option.none => pass v t | Option.some y => addf y (pass v t))) } where
  reg q r' := by
    by_cases hq : q = u ∧ r' = r
    · obtain ⟨rfl, rfl⟩ := hq
      rw [Mxu.reg_accLhs]; simp [put]
    · rw [Mxu.reg_accLhs_ne _ _ _ _ _ _ _ _ hq, h.reg]; simp [put, hq]
  none q p' hq i := by
    by_cases hu : q = u ∧ p' = p
    · simp [put, hu] at hq
    · rw [live_ne hu]; exact h.none q p' (by simpa [put, hu] using hq) i
  some q p' y hy := by
    by_cases hu : q = u ∧ p' = p
    · obtain ⟨rfl, rfl⟩ := hu
      refine ⟨fun i => Mxu.live_accLhs_row _ _ _ _ _ _ _, ?_⟩
      have hst : s.staged q r = ⟨.bf16, false, t⟩ := by rw [Mxu.staged_eq, h.reg, ht]; rfl
      have hy' : (match a.acc q p' with | Option.none => pass v t | Option.some y => addf y (pass v t)) = y := by
        simpa [put] using hy
      rw [← hy']
      cases ha : a.acc q p' with
      | none => rw [Mxu.read_accLhs_of_not_live _ _ _ _ _ _ (h.none q p' ha), hst]; rfl
      | some z =>
        obtain ⟨hl, hz⟩ := h.some q p' z ha
        rw [Mxu.read_accLhs_of_live _ _ _ _ _ _ hl, hst, hz]; rfl
    · have hy' : a.acc q p' = Option.some y := by simpa [put, hu] using hy
      obtain ⟨hl, hz⟩ := h.some q p' y hy'
      refine ⟨fun i => by rw [live_ne hu]; exact hl i, ?_⟩
      rw [Mxu.read_accLhs_ne _ _ _ _ _ _ _ _ _ (ne_or hu), hz]
  dead q R hR := by
    have := addr_le p
    rw [Mxu.live_accLhs, if_neg (by omega)]; exact h.dead q R hR

theorem Rep.pop {s : Mxu F} {a : Tab F} (h : Rep s a) (u p : Fin 2) :
    Rep (s.pop u (addr p) 80 (fitsA p)) { a with acc := put a.acc u p Option.none } where
  reg q r := by rw [Mxu.reg_pop]; exact h.reg q r
  none q p' hq i := by
    by_cases hu : q = u ∧ p' = p
    · obtain ⟨rfl, rfl⟩ := hu; exact Mxu.live_pop_row _ _ _ _ _
    · have h0 := h.none q p' (by simpa [put, hu] using hq) i
      rw [Mxu.live_pop]; split
      · rfl
      · exact h0
  some q p' y hy := by
    by_cases hu : q = u ∧ p' = p
    · simp [put, hu] at hy
    · obtain ⟨hl, hz⟩ := h.some q p' y (by simpa [put, hu] using hy)
      refine ⟨fun i => ?_, by rw [Mxu.read_pop_ne _ _ _ _ _ _ _ (ne_or hu), hz]⟩
      rw [Mxu.live_pop]
      by_cases hq : q = u
      · have := addr_ne (fun e => hu ⟨hq, e⟩)
        have hi := i.isLt
        rw [if_neg (by rw [row_val]; omega)]; exact hl i
      · simp only [hq, false_and, if_false]; exact hl i
  dead q R hR := by
    rw [Mxu.live_pop]; split
    · rfl
    · exact h.dead q R hR

theorem Rep.drained {s : Mxu F} {sc : Fin 2 → FVec F S128x256 .f32} {out : FVec F S72x6144 .bf16} (h : Rep s (tab0 sc out)) : s.Drained := by
  refine ⟨fun q r => by rw [h.reg]; rfl, fun q R => ?_⟩
  by_cases hR : 160 ≤ R.val
  · exact h.dead q R hR
  · by_cases h8 : R.val < 80
    · have := h.none q 0 rfl ⟨R.val, h8⟩
      rwa [show Mxu.row (fitsA 0) ⟨R.val, h8⟩ = R from Fin.ext (by rw [row_val]; simp [addr])] at this
    · have := h.none q 1 rfl ⟨R.val - 80, by omega⟩
      rwa [show Mxu.row (fitsA 1) ⟨R.val - 80, by omega⟩ = R from Fin.ext (by rw [row_val]; simp [addr]; omega)] at this

end Cert.KernelIdeal.Down

end
-- ==== Proof.Run.lean ====
/-
  A list of instructions runs as the table says: from ownership of what it reads, of the two scale buffers and of the
  result, the program reaches a state of the matrix units that holds the rewritten table.
-/
module

public import proofs.«01_k».proof.Proof.Machine
public import Idealize.ShloMosaic.Lib.MixedBatch
public import Idealize.ShloMosaic.Lib.Tactic
public import Idealize.ShloMosaic.Lib.Pipeline.FrameBody

@[expose] public section

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
abbrev Asrt (F : FTy → Type) [FloatOps F] : Type := sProp (MT nD τ sig Unit (Elt F) ℕ (Pipeline.UD sig nD τ) ℕ)

/-- The weakest precondition of a program of the kernel on core `c`. -/
abbrev wpc (c : Dev nD) {α : Type} (p : P F α) (Q : α → Asrt F) : Asrt F :=
  wp frame (wpE (defs₀ (F := F)) Variants.none (c : Thread nD τ) none) Set.univ p Q

/-- A program that only reads: from `R` it yields `v` and leaves `R`. -/
def Gets (c : Dev nD) (R : Asrt F) {β : Type} (p : P F β) (v : β) : Prop :=
  ∀ (α : Type) (K : β → P F α) (Q : α → Asrt F), iprop(R ∗ (R -∗ wpc c (K v) Q)) ⊢ wpc c (p >>= K) Q

variable {c : Dev nD} {R : Asrt F}

theorem Gets.pure {β : Type} (v : β) : Gets c R (Pure.pure v : P F β) v := by
  intro α K Q
  iintro ⟨HR, Hk⟩
  rw [show ((Pure.pure v : P F β) >>= K) = K v from rfl]
  iapply Hk; iexact HR

theorem Gets.bind {β γ : Type} {p : P F β} {v : β} {k : β → P F γ} {w : γ} (hp : Gets c R p v) (hk : Gets c R (k v) w) :
    Gets c R (p >>= k) w := by
  intro α K Q
  rw [bind_assoc]
  iintro ⟨HR, Hk⟩
  iapply (hp α (fun x => k x >>= K) Q)
  isplitl [HR]; · iexact HR
  iintro HR
  iapply (hk α K Q)
  isplitl [HR]; · iexact HR
  iexact Hk

/-- Reading from a part. -/
theorem Gets.of_acc {β : Type} {p : P F β} {v : β} {S : Asrt F} (h : Gets c S p v) (hR : R ⊢ iprop(S ∗ (S -∗ R))) : Gets c R p v := by
  intro α K Q
  iintro ⟨HR, Hk⟩
  ihave H := hR $$ HR
  icases H with ⟨HS, Hb⟩
  iapply (h α K Q)
  isplitl [HS]; · iexact HS
  iintro HS
  iapply Hk
  iapply Hb; iexact HS

/-- A load through an owned memref, at a rectangle. -/
theorem gets_load {cs : CoreSpace} {s : Shape} {e : EltTy} (m : Memref sig .tc cs s e) (r : Rect s) (hl : m.view.LoadsAt r.toLoadRect)
    (q : PosShare TreeShare) (X : s.Idx → Elt F e) :
    Gets c (owns (c : Thread nD τ) m q X) (Prog.lift (.load m r.toLoadRect hl) : P F (r.shape.Idx → Elt F e)) (fun x => X (r.emb x)) := by
  intro α K Q
  iintro ⟨HX, Hk⟩
  unfold owns
  icases HX with ⟨%f, %hf, H⟩
  subst hf
  rw [show ((Prog.lift (.load m r.toLoadRect hl) : P F (r.shape.Idx → Elt F e)) >>= K) = .op (.load m r.toLoadRect hl) K from rfl]
  iapply (wp_load_rect Variants.none (c : Thread nD τ) none Set.univ (m := m) (r := r) (hl := hl) (S := m.view.set) (q := q) (f := f)
    (View.set_slice_subset _ _)) $$ H
  iintro H
  iapply Hk
  iexists f
  isplitr; · ipureintro; rfl
  iexact H

/-! ## What a pair reads -/

/-- From `R` the loads of a pair of chunks yield what `D` says. -/
structure Provides (c : Dev nD) (b : Bufs) (e : Env) (R : Asrt F) (D : Reads F) : Prop where
  blk : ∀ (w p : Fin 2) (k : ℕ), Gets c R (Prog.lift (.load (wview b e w p) (Rect.unit (s := S8192x256) ![256 * (k % 32), 0]
      S256x256.size (inbBlk _)).toLoadRect (View.loadsAt_vmem h_S256x256)) : P F (Vec F S256x256 .i8)) (D.blk w p k)
  st : ∀ w p : Fin 2, Gets c R (Prog.lift (.load b.sd (Rect.unit (s := S4x128x512) ![e.sl w, 0, 256 * p.val] S1x128x256.size
      (inbSd (e.hsl w) p)).toLoadRect (View.loadsAt_vmem h_S1x128x256)) : P F (Vec F S1x128x256 .bf16)) (D.st w p)
  bt : ∀ w p u : Fin 2, Gets c R (Prog.lift (.load b.bd (Rect.unit (s := S4x16x32x512) ![e.sl w, 8 * u.val, 0, 256 * p.val] S1x8x32x256.size
      (inbBd (e.hsl w) p u)).toLoadRect (View.loadsAt_vmem h_S1x8x32x256)) : P F (Vec F S1x8x32x256 .bf16)) (D.bt w p u)
  h : ∀ (k : ℕ) (hk : k < 64), Gets c R (Prog.lift (.load b.h (Rect.unit (s := S80x16384) ![0, 256 * k] S80x256.size
      (inbH hk)).toLoadRect (View.loadsAt_vmem h_S80x256)) : P F (Vec F S80x256 .bf16)) (D.h k)
  md : ∀ u : Fin 2, Gets c R (Prog.lift (.load b.md (Rect.unit (s := S80x512) ![0, 256 * u.val] S80x256.size (inbMd u)).toLoadRect
      (View.loadsAt_vmem h_S80x256)) : P F (Vec F S80x256 .bf16)) (D.md u)

/-- What a list of instructions needs: what it reads, the scale buffers, the result. -/
def Res (c : Dev nD) (b : Bufs) (R : Asrt F) (a : Tab F) : Asrt F :=
  iprop(R ∗ owns (c : Thread nD τ) b.sa fullShare (a.sc 0) ∗ owns (c : Thread nD τ) b.sb fullShare (a.sc 1)
    ∗ owns (c : Thread nD τ) b.out fullShare a.out)

variable {b : Bufs} {e : Env} {D : Reads F}

theorem res_R (a : Tab F) : Res c b R a ⊢ iprop(R ∗ (R -∗ Res c b R a)) := by
  unfold Res
  iintro ⟨HR, Ha, Hb, Ho⟩
  isplitl [HR]; · iexact HR
  iintro HR
  isplitl [HR]; · iexact HR
  isplitl [Ha]; · iexact Ha
  isplitl [Hb]; · iexact Hb
  iexact Ho

theorem res_sc (a : Tab F) (p : Fin 2) : Res c b R a ⊢ iprop(owns (c : Thread nD τ) (scb b p) fullShare (a.sc p)
    ∗ ∀ x, owns (c : Thread nD τ) (scb b p) fullShare x -∗ Res c b R { a with sc := fun p' => if p' = p then x else a.sc p' }) := by
  match p with
  | 0 =>
    unfold Res scb
    iintro ⟨HR, Ha, Hb, Ho⟩
    isplitl [Ha]; · iexact Ha
    iintro %x Ha
    isplitl [HR]; · iexact HR
    isplitl [Ha]; · iexact Ha
    isplitl [Hb]; · iexact Hb
    iexact Ho
  | 1 =>
    unfold Res scb
    iintro ⟨HR, Ha, Hb, Ho⟩
    isplitl [Hb]; · iexact Hb
    iintro %x Hb
    isplitl [HR]; · iexact HR
    isplitl [Ha]; · iexact Ha
    isplitl [Hb]; · iexact Hb
    iexact Ho

theorem sc_self (a : Tab F) (p : Fin 2) : ({ a with sc := fun p' => if p' = p then a.sc p else a.sc p' } : Tab F) = a := by
  cases a; congr 1; funext p'; by_cases h : p' = p
  · simp [h]
  · simp [h]

theorem res_sc' (a : Tab F) (p : Fin 2) : Res c b R a ⊢ iprop(owns (c : Thread nD τ) (scb b p) fullShare (a.sc p)
    ∗ (owns (c : Thread nD τ) (scb b p) fullShare (a.sc p) -∗ Res c b R a)) := by
  iintro H
  ihave H := res_sc a p $$ H
  icases H with ⟨Hs, Hb⟩
  isplitl [Hs]; · iexact Hs
  iintro Hs
  ispecialize Hb $$ %(a.sc p)
  rw [sc_self]
  iapply Hb; iexact Hs

theorem res_out (a : Tab F) : Res c b R a ⊢ iprop(owns (c : Thread nD τ) b.out fullShare a.out
    ∗ ∀ x, owns (c : Thread nD τ) b.out fullShare x -∗ Res c b R { a with out := x }) := by
  unfold Res
  iintro ⟨HR, Ha, Hb, Ho⟩
  isplitl [Ho]; · iexact Ho
  iintro %x Ho
  isplitl [HR]; · iexact HR
  isplitl [Ha]; · iexact Ha
  isplitl [Hb]; · iexact Hb
  iexact Ho

theorem rowOf_eq (sc : FVec F S128x256 .f32) {k : ℕ} (hk : k < 128) :
    (fun x => sc ((Rect.unit (s := S128x256) ![k, 0] S1x256.size (inbRow hk)).emb x)) = rowOf sc k := by
  funext x
  unfold rowOf
  congr 1
  funext a
  apply Fin.ext
  match a with
  | ⟨0, _⟩ =>
    show k + 1 * (x 0).val = k % 128
    have h0 : (x 0).val < 1 := (x 0).isLt
    omega
  | ⟨1, _⟩ => show 0 + 1 * (x 1).val = (x 1).val; omega

/-- The right-hand tile. -/
theorem gets_rhs (hD : Provides c b e R D) (a : Tab F) (w p u : Fin 2) (k : ℕ) :
    Gets c (Res c b R a) (rhs b e w p u k) (rt D w p u k (a.sc p)) := by
  unfold rhs rt
  by_cases hk : k < 32
  · rw [dif_pos hk, if_pos hk]
    have hu := ktLt u hk
    refine Gets.bind ((hD.blk w p _).of_acc (res_R a)) (Gets.bind ((gets_load (c := c) _ _ _ _ _).of_acc (res_sc' a p))
      (Gets.bind ((gets_load (c := c) _ _ _ _ _).of_acc (res_sc' a p)) ?_))
    rw [rowOf_eq _ (by omega), rowOf_eq _ (by omega)]
    exact Gets.pure _
  · rw [dif_neg hk, if_neg hk]
    exact Gets.bind ((hD.bt w p u).of_acc (res_R a)) (Gets.pure _)

/-- The left-hand tile. -/
theorem gets_lhs (hD : Provides c b e R D) (a : Tab F) (u : Fin 2) (k : ℕ) :
    Gets c (Res c b R a) (lhs b u k) (lt D u k) := by
  unfold lhs lt
  by_cases hk : k < 32
  · rw [dif_pos hk, if_pos hk]
    exact Gets.bind ((hD.h _ (ktLt u hk)).of_acc (res_R a)) (Gets.pure _)
  · rw [dif_neg hk, if_neg hk]
    exact Gets.bind ((hD.md u).of_acc (res_R a)) (Gets.pure _)

/-! ## Stores -/

/-- A store through an owned memref, at a rectangle. -/
theorem wp_put {cs : CoreSpace} {s : Shape} {e : EltTy} (m : Memref sig .tc cs s e) (r : Rect s) (v : r.shape.Idx → Elt F e)
    (hx : (m.access r).Stores Finset.univ) (hm) (X Y : s.Idx → Elt F e)
    (hin : ∀ x, Y (r.emb x) = v x) (hout : ∀ y, y ∉ r.set → Y y = X y) {α : Type} (K : PUnit → P F α) (Q : α → Asrt F) :
    iprop(owns (c : Thread nD τ) m fullShare X ∗ (owns (c : Thread nD τ) m fullShare Y -∗ wpc c (K ⟨⟩) Q))
      ⊢ wpc c ((Prog.lift (.store m r v Finset.univ hx hm) : P F PUnit) >>= K) Q := by
  iintro ⟨HX, Hk⟩
  unfold owns
  icases HX with ⟨%f, %hf, H⟩
  subst hf
  rw [show ((Prog.lift (.store m r v Finset.univ hx hm) : P F PUnit) >>= K) = .op (.store m r v Finset.univ hx hm) K from rfl]
  iapply (wp_store Variants.none (c : Thread nD τ) none Set.univ (m := m) (r := r) (w := v) (Mk := Finset.univ) (hx := hx) (hm := hm)
    (S := m.view.set) (f := f) (View.set_slice_subset _ _)) $$ H
  iintro H
  iapply Hk
  iexists _
  isplitr; swap
  · iexact H
  ipureintro
  funext y
  by_cases hy : y ∈ r.set
  · rw [← Rect.map_emb_univ] at hy
    obtain ⟨x, -, rfl⟩ := Finset.mem_map.mp hy
    rw [hin]
    exact View.read_slice_write_emb r f v (Finset.mem_univ x)
  · rw [hout y hy]
    exact View.read_slice_write_of_not_mem r f v Finset.univ (by rwa [Rect.map_emb_univ])

theorem putCols_in (X : FVec F S72x6144 .bf16) (col : ℕ) (hc) (v : FVec F S72x256 .bf16) (x : S72x256.Idx) :
    putCols X col v ((Rect.unit (s := S72x6144) ![0, col] S72x256.size hc).emb x) = v x := by
  have h1 : ((Rect.unit (s := S72x6144) ![0, col] S72x256.size hc).emb x 1).val = col + 1 * (x 1).val := rfl
  have hx : (x 1).val < 256 := (x 1).isLt
  unfold putCols
  rw [dif_pos (by omega)]
  congr 1
  funext a
  apply Fin.ext
  match a with
  | ⟨0, _⟩ => show 0 + 1 * (x 0).val = (x 0).val; omega
  | ⟨1, _⟩ => show col + 1 * (x 1).val - col = (x 1).val; omega

theorem putCols_out (X : FVec F S72x6144 .bf16) (col : ℕ) (hc) (v : FVec F S72x256 .bf16) (y : S72x6144.Idx)
    (hy : y ∉ (Rect.unit (s := S72x6144) ![0, col] S72x256.size hc).set) : putCols X col v y = X y := by
  unfold putCols
  rw [dif_neg]
  intro h
  refine hy ?_
  rw [← Rect.map_emb_univ]
  refine Finset.mem_map.mpr ⟨ValueIdx.ix2 (y 0) ⟨(y 1).val - col, by omega⟩, Finset.mem_univ _, ?_⟩
  funext a
  apply Fin.ext
  match a with
  | ⟨0, _⟩ => show 0 + 1 * (y 0).val = (y 0).val; omega
  | ⟨1, _⟩ => show col + 1 * ((y 1).val - col) = (y 1).val; omega

theorem emb_all (x : S128x256.Idx) : (Rect.unit (s := S128x256) ![0, 0] S128x256.size inbSc).emb x = x := by
  funext a
  apply Fin.ext
  match a with
  | ⟨0, _⟩ => show 0 + 1 * (x 0).val = (x 0).val; omega
  | ⟨1, _⟩ => show 0 + 1 * (x 1).val = (x 1).val; omega

/-! ## One instruction, and a list of them -/

theorem exec_wp (hD : Provides c b e R D) {s : Mxu F} {a a' : Tab F} (h : Rep s a) (i : Instr) (hi : tstep D e a i = some a') :
    ∃ s', Rep s' a' ∧ ∀ (α : Type) (K : Mxu F → P F α) (Q : α → Asrt F),
      iprop(Res c b R a ∗ (Res c b R a' -∗ wpc c (K s') Q)) ⊢ wpc c (exec b e s i >>= K) Q := by
  cases i with
  | push w p u k r =>
    simp only [tstep] at hi
    split at hi
    next hn =>
      obtain rfl := Option.some.inj hi
      refine ⟨_, h.push u r _ hn, fun α K Q => ?_⟩
      unfold exec
      rw [bind_assoc]
      iintro ⟨HR, Hk⟩
      iapply (gets_rhs hD a w p u k α _ Q)
      isplitl [HR]; · iexact HR
      iintro HR
      iapply (Mxu.wp_pushRhs (c := (c : Thread nD τ)) (rt D w p u k (a.sc p)) (Mxu.pushOk_of_none s u r false (by rw [h.reg, hn]; rfl)))
      iapply Hk
      iexact HR
    next => cases hi
  | acc p u k r =>
    simp only [tstep] at hi
    split at hi
    next => cases hi
    next t ht =>
      obtain rfl := Option.some.inj hi
      refine ⟨_, h.accL p u r (lt D u k) t ht, fun α K Q => ?_⟩
      unfold exec
      rw [bind_assoc]
      iintro ⟨HR, Hk⟩
      iapply (gets_lhs hD a u k α _ Q)
      isplitl [HR]; · iexact HR
      iintro HR
      iapply Hk
      iexact HR
  | scale w p =>
    obtain rfl := Option.some.inj hi
    refine ⟨s, ⟨h.reg, h.none, h.some, h.dead⟩, fun α K Q => ?_⟩
    unfold exec
    rw [bind_assoc]
    iintro ⟨HR, Hk⟩
    iapply (((hD.st w p).of_acc (res_R a)) α _ Q)
    isplitl [HR]; · iexact HR
    iintro HR
    rw [bind_assoc]
    iapply (((gets_load (c := c) (scb b p) _ _ _ _).of_acc (res_sc' a p)) α _ Q)
    isplitl [HR]; · iexact HR
    iintro HR
    rw [bind_assoc]
    ihave HR := res_sc a p $$ HR
    icases HR with ⟨Hs, Hb⟩
    iapply (wp_put (c := c) (scb b p) _ (scval (D.st w p)) _ _ (a.sc p) (scval (D.st w p)) (fun x => by rw [emb_all]) (fun y hy => absurd
      (by rw [← Rect.map_emb_univ]; exact Finset.mem_map.mpr ⟨y, Finset.mem_univ _, emb_all y⟩) hy))
    isplitl [Hs]; · iexact Hs
    iintro Hs
    iapply Hk
    iapply Hb
    iexact Hs
  | out p =>
    simp only [tstep] at hi
    split at hi
    next y0 y1 h0 h1 =>
      obtain rfl := Option.some.inj hi
      have hr1 : ((s.pop 0 (addr p) 80 (fitsA p)).read 1 (addr p) (fitsA p) : FVec F S80x256 .f32) = y1 := by
        rw [Mxu.read_pop_ne _ _ _ _ _ _ _ (.inl (by decide))]; exact (h.some 1 p y1 h1).2
      have hr0 := (h.some 0 p y0 h0).2
      refine ⟨(s.pop 0 (addr p) 80 (fitsA p)).pop 1 (addr p) 80 (fitsA p), ?_, fun α K Q => ?_⟩
      · have h2 := (h.pop 0 p).pop 1 p
        exact ⟨h2.reg, h2.none, h2.some, h2.dead⟩
      unfold exec
      simp only [hr0, hr1]
      rw [bind_assoc]
      iintro ⟨HR, Hk⟩
      ihave HR := res_out a $$ HR
      icases HR with ⟨Ho, Hb⟩
      iapply (gets_load (c := c) b.out _ _ _ _ α _ Q)
      isplitl [Ho]; · iexact Ho
      iintro Ho
      rw [bind_assoc]
      iapply (wp_put (c := c) b.out _ (oval y0 y1) _ _ a.out (putCols a.out (e.col p) (oval y0 y1)) (putCols_in _ _ _ _) (putCols_out _ _ _ _))
      isplitl [Ho]; · iexact Ho
      iintro Ho
      iapply Hk
      iapply Hb $$ %(putCols a.out (e.col p) (oval y0 y1))
      iexact Ho
    next => cases hi

theorem run_wp (hD : Provides c b e R D) (l : List Instr) : ∀ {s : Mxu F} {a a' : Tab F}, Rep s a → trun D e l a = some a' →
    ∃ s', Rep s' a' ∧ ∀ (α : Type) (K : Mxu F → P F α) (Q : α → Asrt F),
      iprop(Res c b R a ∗ (Res c b R a' -∗ wpc c (K s') Q)) ⊢ wpc c (run b e l s >>= K) Q := by
  induction l with
  | nil =>
    intro s a a' h hr
    obtain rfl := Option.some.inj hr
    refine ⟨s, h, fun α K Q => ?_⟩
    iintro ⟨HR, Hk⟩
    unfold run
    rw [show ((Pure.pure s : P F (Mxu F)) >>= K) = K s from rfl]
    iapply Hk; iexact HR
  | cons i l ih =>
    intro s a a' h hr
    unfold trun at hr
    cases ha : tstep D e a i with
    | none => rw [ha] at hr; cases hr
    | some a1 =>
      rw [ha] at hr
      obtain ⟨s1, h1, w1⟩ := exec_wp hD h i ha
      obtain ⟨s2, h2, w2⟩ := ih h1 hr
      refine ⟨s2, h2, fun α K Q => ?_⟩
      unfold run
      rw [bind_assoc]
      iintro ⟨HR, Hk⟩
      iapply (w1 α _ Q)
      isplitl [HR]; · iexact HR
      iintro HR
      iapply (w2 α K Q)
      isplitl [HR]; · iexact HR
      iexact Hk

end Cert.KernelIdeal.Down

end
-- ==== Proof.Ring.lean ====
/-
  The copies. A pair of chunks has three of them, on its slot's semaphore: the codes, the scales and the adapters' factors
  of its columns. Started, they are in flight; waited for, the slot holds the columns and the sources are back.
-/
module

public import proofs.«01_k».proof.Proof.Whole
public import proofs.«01_k».proof.Proof.Run

@[expose] public section

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The contents of the arrays the kernel reads. -/
structure Data (F : FTy → Type) [FloatOps F] where
  H : FVec F S80x16384 .bf16
  M : FVec F S80x512 .bf16
  W : IVec S8192x6144 8
  Sd : FVec F S128x6144 .bf16
  Bd : FVec F S13x32x6144 .bf16

/-- The columns of a pair. -/
def cutW (X : Data F) (p : Cp) : S8192x512.Idx → Elt F .i8 := fun x => X.W ((Rect.unit (s := S8192x6144) ![0, p.col] S8192x512.size p.hW').emb x)
def cutS (X : Data F) (p : Cp) : S128x512.Idx → Elt F .bf16 := fun x => X.Sd ((Rect.unit (s := S128x6144) ![0, p.col] S128x512.size p.hD').emb x)
def cutB (X : Data F) (p : Cp) : S13x32x512.Idx → Elt F .bf16 := fun x => X.Bd ((Rect.unit (s := S13x32x6144) ![0, 0, p.col] S13x32x512.size p.hB').emb x)

variable (c : Dev nD) (b : Bufs) (X : Data F)

/-- The columns of a pair in the arrays. -/
def src (p : Cp) : Asrt F :=
  iprop(owns (c : Thread nD τ) (wSrc b p) fullShare (cutW X p) ∗ owns (c : Thread nD τ) (sSrc b p) fullShare (cutS X p)
    ∗ owns (c : Thread nD τ) (bSrc b p) fullShare (cutB X p))

/-- A slot that holds a pair's columns. -/
def full (p : Cp) : Asrt F :=
  iprop(owns (c : Thread nD τ) (wDst b p) fullShare (cutW X p) ∗ owns (c : Thread nD τ) (sDst b p) fullShare (cutS X p)
    ∗ owns (c : Thread nD τ) (bDst b p) fullShare (cutB X p))

/-- A slot that holds anything, nothing in flight to it. -/
def free (p : Cp) : Asrt F :=
  iprop(semVal ((c : Thread nD τ), SemLoc.dma (cpSem b p)) 0 ∗ (∃ d, owns (c : Thread nD τ) (wDst b p) fullShare d)
    ∗ (∃ d, owns (c : Thread nD τ) (sDst b p) fullShare d) ∗ (∃ d, owns (c : Thread nD τ) (bDst b p) fullShare d))

/-- The copies' amounts. -/
def amt (p : Cp) : Fin 3 → ℕ
  | 0 => (wDst b p).view.dmaCredit
  | 1 => (sDst b p).view.dmaCredit
  | 2 => (bDst b p).view.dmaCredit

/-- What the copies bring. -/
def deliv (p : Cp) : Fin 3 → Asrt F
  | 0 => iprop(owns (c : Thread nD τ) (wDst b p) fullShare (cutW X p) ∗ owns (c : Thread nD τ) (wSrc b p) fullShare (cutW X p))
  | 1 => iprop(owns (c : Thread nD τ) (sDst b p) fullShare (cutS X p) ∗ owns (c : Thread nD τ) (sSrc b p) fullShare (cutS X p))
  | 2 => iprop(owns (c : Thread nD τ) (bDst b p) fullShare (cutB X p) ∗ owns (c : Thread nD τ) (bSrc b p) fullShare (cutB X p))

instance (p : Cp) (t : Fin 3) : Storable (upEmb : UEmb _ (MT nD τ sig Unit (Elt F) ℕ (Pipeline.UD sig nD τ) ℕ)) (deliv c b X p t) := by
  match t with
  | 0 => unfold deliv; infer_instance
  | 1 => unfold deliv; infer_instance
  | 2 => unfold deliv; infer_instance

/-- The state of a pair's copies: `j` started, `u` units waited for. -/
abbrev batch (p : Cp) (j u : ℕ) : Asrt F :=
  Transfers.MixedBatch (countersEmb (U := Pipeline.UD sig nD τ)) (c : Thread nD τ) (SemLoc.dma (cpSem b p)) () (amt b p) (deliv c b X p) j u

/-- A pair's copies are in flight. -/
def fly (p : Cp) : Asrt F := batch c b X p 3 0

theorem amt_pos (p : Cp) (t : Fin 3) : 0 < amt b p t := by
  match t with
  | 0 => exact View.dmaCredit_pos _ (by decide)
  | 1 => exact View.dmaCredit_pos _ (by decide)
  | 2 => exact View.dmaCredit_pos _ (by decide)

theorem sum1 (p : Cp) : Transfers.sumTo (amt b p) 1 = (wDst b p).view.dmaCredit := by
  rw [Transfers.sumTo_succ _ (by decide), Transfers.sumTo_zero, Nat.zero_add]; rfl
theorem sum2 (p : Cp) : Transfers.sumTo (amt b p) 2 = (wDst b p).view.dmaCredit + (sDst b p).view.dmaCredit := by
  rw [Transfers.sumTo_succ _ (by decide), sum1]; rfl
theorem sum3 (p : Cp) : Transfers.sumTo (amt b p) 3 = (wDst b p).view.dmaCredit + (sDst b p).view.dmaCredit + (bDst b p).view.dmaCredit := by
  rw [Transfers.sumTo_succ _ (by decide), sum2]; rfl

variable {c b X}

/-- One copy of a pair. -/
theorem copy_wp (p : Cp) {j : ℕ} (hj : j < 3) {sp sp' : Space} {s : Shape} {e : EltTy} (sr : Memref sig .tc sp s e) (ds : Memref sig .tc sp' s e)
    (Y d : s.Idx → Elt F e) {h1 h2 h3} (hA : ds.view.dmaCredit = amt b p ⟨j, hj⟩)
    (hD : deliv c b X p ⟨j, hj⟩ = iprop(owns (c : Thread nD τ) ds fullShare Y ∗ owns (c : Thread nD τ) sr fullShare Y))
    {α : Type} (K : PUnit → P F α) (Q : α → Asrt F) :
    iprop(owns (c : Thread nD τ) sr fullShare Y ∗ owns (c : Thread nD τ) ds fullShare d ∗ batch c b X p j 0
        ∗ (batch c b X p (j + 1) 0 -∗ wpc c (K ⟨⟩) Q))
      ⊢ wpc c ((Prog.lift (.enqueueDma sr (.here ds) (.dma (cpSem b p)) h1 h2 h3) : P F PUnit) >>= K) Q := by
  rw [show ((Prog.lift (.enqueueDma sr (.here ds) (.dma (cpSem b p)) h1 h2 h3) : P F PUnit) >>= K)
    = .op (.enqueueDmaAs sr (.here ds) .same (.dma (cpSem b p)) h1 h2 h3) K from rfl]
  unfold owns
  iintro ⟨⟨%fs, %hfs, Hs⟩, ⟨%fd, %hfd, Hd⟩, HB, Hk⟩
  have hd : iprop((ds.view.loc (c : Thread nD τ) ↦[ds.view.set]{fullShare} (ds.view.write (Elt F) fd (ReadAs.same.apply (sr.view.read (Elt F) fs)) Finset.univ))
      ∗ (sr.view.loc (c : Thread nD τ) ↦[sr.view.set]{fullShare} fs)) ⊢ deliv c b X p ⟨j, hj⟩ := by
    rw [hD]
    unfold owns
    iintro ⟨H1, H2⟩
    isplitl [H1]
    · iexists _
      isplitr; swap
      · iexact H1
      ipureintro
      rw [View.read_write_univ]
      exact hfs
    · iexists fs
      isplitr; · ipureintro; exact hfs
      iexact H2
  have hA' : ds.view.amount (SemLoc.dma (cpSem b p)) = amt b p ⟨j, hj⟩ := hA
  iapply (Transfers.wp_dmaMixedBatch (countersEmb (U := Pipeline.UD sig nD τ)) Variants.none (c : Thread nD τ) none () (amt b p)
    (Finset.Subset.refl _) hj hA' (Nat.zero_le _) hd) $$ [Hs Hd HB]
  · isplitl [Hs]; · iexact Hs
    isplitl [Hd]; · iexact Hd
    iexact HB
  · iexact Hk

/-- One wait of a pair, not the last. -/
theorem wait_step (p : Cp) {u : ℕ} {sp sp' : Space} {s : Shape} {e : EltTy} (sr : Memref sig .tc sp s e) (ds : Memref sig .tc sp' s e)
    (h1 : sr.view.WordExact) (h2 : ds.view.WordExact) (hu : u + ds.view.dmaCredit ≤ Transfers.sumTo (amt b p) 3) {W : Waits sig Unit}
    {α : Type} (K : PUnit → P F α) (Q : α → Asrt F) :
    iprop(batch c b X p 3 u ∗ owes (c : Thread nD τ) 0 W
        ∗ (batch c b X p 3 (u + ds.view.dmaCredit) -∗ (∃ W', owes (c : Thread nD τ) 0 W') -∗ wpc c (K ⟨⟩) Q))
      ⊢ wpc c ((Prog.lift (.waitDma2 (cpSem b p) sr ds h1 h2) : P F PUnit) >>= K) Q := by
  rw [show ((Prog.lift (.waitDma2 (cpSem b p) sr ds h1 h2) : P F PUnit) >>= K) = .op (.waitDma2 (cpSem b p) sr ds h1 h2) K from rfl]
  iintro ⟨HB, HO, Hk⟩
  iapply (Transfers.wp_waitMixedBatch (countersEmb (U := Pipeline.UD sig nD τ)) Variants.none (c : Thread nD τ) none () (A := amt b p)
    (D := deliv c b X p) rfl hu (W := W)) $$ [HB HO]
  · isplitl [HB]; · iexact HB
    iexact HO
  iintro ⟨HB, HO⟩
  iapply Hk $$ [HB] [HO]
  · iexact HB
  · iexists _; iexact HO

/-- The last wait of a pair. -/
theorem wait_last (p : Cp) {u : ℕ} {sp sp' : Space} {s : Shape} {e : EltTy} (sr : Memref sig .tc sp s e) (ds : Memref sig .tc sp' s e)
    (h1 : sr.view.WordExact) (h2 : ds.view.WordExact) (hu : u + ds.view.dmaCredit = Transfers.sumTo (amt b p) 3) {W : Waits sig Unit}
    {α : Type} (K : PUnit → P F α) (Q : α → Asrt F) :
    iprop(batch c b X p 3 u ∗ owes (c : Thread nD τ) 0 W
        ∗ (iprop(deliv c b X p 0 ∗ deliv c b X p 1 ∗ deliv c b X p 2) -∗ semVal ((c : Thread nD τ), SemLoc.dma (cpSem b p)) 0
            -∗ (∃ W', owes (c : Thread nD τ) 0 W') -∗ wpc c (K ⟨⟩) Q))
      ⊢ wpc c ((Prog.lift (.waitDma2 (cpSem b p) sr ds h1 h2) : P F PUnit) >>= K) Q := by
  rw [show ((Prog.lift (.waitDma2 (cpSem b p) sr ds h1 h2) : P F PUnit) >>= K) = .op (.waitDma2 (cpSem b p) sr ds h1 h2) K from rfl]
  iintro ⟨HB, HO, Hk⟩
  iapply (Transfers.wp_waitMixedBatchAll (countersEmb (U := Pipeline.UD sig nD τ)) Variants.none (c : Thread nD τ) none () (A := amt b p)
    (D := deliv c b X p) rfl (amt_pos b p) hu (W := W)) $$ [HB HO]
  · isplitl [HB]; · iexact HB
    iexact HO
  rw [show bigSep Finset.univ (deliv c b X p) = iprop(deliv c b X p 0 ∗ deliv c b X p 1 ∗ deliv c b X p 2) from
    bigSep_univ_eq_bigSepL [(0 : Fin 3), (1 : Fin 3), (2 : Fin 3)] (by decide) (by decide) _]
  iintro ⟨HD, Hv, HO⟩
  iapply Hk $$ [HD] [Hv] [HO]
  · iexact HD
  · iexact Hv
  · iexists _; iexact HO

/-- Starting the copies of a pair. -/
theorem start_wp (p : Cp) {α : Type} (K : PUnit → P F α) (Q : α → Asrt F) :
    iprop(src c b X p ∗ free c b p ∗ (fly c b X p -∗ wpc c (K ⟨⟩) Q)) ⊢ wpc c (startC b p >>= K) Q := by
  unfold startC src free
  iintro ⟨⟨H1, H2, H3⟩, ⟨Hq, ⟨%d1, G1⟩, ⟨%d2, G2⟩, ⟨%d3, G3⟩⟩, Hk⟩
  imod (Transfers.mixedBatch_alloc' (Lvl := ℕ) (countersEmb (U := Pipeline.UD sig nD τ)) (c : Thread nD τ) () (amt b p)
    (deliv c b X p) (sm := SemLoc.dma (cpSem b p)) (E := Set.univ)) $$ Hq with HB
  rw [bind_assoc]
  iapply (copy_wp p (j := 0) (by decide) (wSrc b p) (wDst b p) (cutW X p) d1 rfl rfl)
  isplitl [H1]; · iexact H1
  isplitl [G1]; · iexact G1
  isplitl [HB]; · iexact HB
  iintro HB
  rw [bind_assoc]
  iapply (copy_wp p (j := 1) (by decide) (sSrc b p) (sDst b p) (cutS X p) d2 rfl rfl)
  isplitl [H2]; · iexact H2
  isplitl [G2]; · iexact G2
  isplitl [HB]; · iexact HB
  iintro HB
  iapply (copy_wp p (j := 2) (by decide) (bSrc b p) (bDst b p) (cutB X p) d3 rfl rfl)
  isplitl [H3]; · iexact H3
  isplitl [G3]; · iexact G3
  isplitl [HB]; · iexact HB
  iexact Hk

/-- Waiting for the copies of a pair. -/
theorem wait_wp (p : Cp) {W : Waits sig Unit} {α : Type} (K : PUnit → P F α) (Q : α → Asrt F) :
    iprop(fly c b X p ∗ owes (c : Thread nD τ) 0 W
        ∗ (full c b X p -∗ src c b X p -∗ semVal ((c : Thread nD τ), SemLoc.dma (cpSem b p)) 0
            -∗ (∃ W', owes (c : Thread nD τ) 0 W') -∗ wpc c (K ⟨⟩) Q))
      ⊢ wpc c (waitC b p >>= K) Q := by
  unfold waitC fly
  iintro ⟨HB, HO, Hk⟩
  rw [bind_assoc]
  iapply (wait_step (X := X) p (u := 0) (wSrc b p) (wDst b p) (b.hwdn.wordExact_slice rfl _ p.wW') ((b.hwd.wordExact_slice rfl _ p.wW).reshape _ _)
    (by rw [sum3]; omega) (W := W))
  isplitl [HB]; · iexact HB
  isplitl [HO]; · iexact HO
  iintro HB ⟨%W1, HO⟩
  rw [bind_assoc]
  iapply (wait_step (X := X) p (u := 0 + (wDst b p).view.dmaCredit) (sSrc b p) (sDst b p) (b.hsdn.wordExact_slice rfl _ p.wD') ((b.hsd.wordExact_slice rfl _ p.wD).reshape _ _)
    (by rw [sum3]; omega) (W := W1))
  isplitl [HB]; · iexact HB
  isplitl [HO]; · iexact HO
  iintro HB ⟨%W2, HO⟩
  iapply (wait_last (X := X) p (u := 0 + (wDst b p).view.dmaCredit + (sDst b p).view.dmaCredit) (bSrc b p) (bDst b p) (b.hbdn.wordExact_slice rfl _ p.wB') ((b.hbd.wordExact_slice rfl _ p.wB).reshape _ _)
    (by rw [sum3]; omega) (W := W2))
  isplitl [HB]; · iexact HB
  isplitl [HO]; · iexact HO
  iintro HD Hv HO
  unfold deliv
  icases HD with ⟨⟨A1, B1⟩, ⟨A2, B2⟩, ⟨A3, B3⟩⟩
  iapply Hk $$ [A1 A2 A3] [B1 B2 B3] [Hv] [HO]
  · unfold full
    isplitl [A1]; · iexact A1
    isplitl [A2]; · iexact A2
    iexact A3
  · unfold src
    isplitl [B1]; · iexact B1
    isplitl [B2]; · iexact B2
    iexact B3
  · iexact Hv
  · iexact HO

/-! ## The pairs' copies by number -/

theorem Cp.ext' {p q : Cp} (h1 : p.sl = q.sl) (h2 : p.col = q.col) : p = q := by
  cases p; cases q; cases h1; cases h2; rfl

theorem trips_eq : k0_t1_loop.trips = 11 := by decide

/-- The copies of pair `i` (of pair `i - 12` past the last). -/
def cpN (i : ℕ) : Cp := if h : i % 12 = 0 then cp0 else cpL1 ⟨i % 12 - 1, by have := trips_eq; omega⟩

theorem cpL1_sl : ∀ t : Fin k0_t1_loop.trips, (cpL1 t).sl = (t.val + 1) % 4 := by decide +kernel
theorem cpL1_col : ∀ t : Fin k0_t1_loop.trips, (cpL1 t).col = 512 * (t.val + 1) := by decide +kernel
theorem cpL3_sl : ∀ (t : Fin k0_t1_loop.trips) (h : k0_cond1 t = 1#1), (cpL3 t h).sl = (t.val + 3) % 4 := by decide +kernel
theorem cpL3_col : ∀ (t : Fin k0_t1_loop.trips) (h : k0_cond1 t = 1#1), (cpL3 t h).col = 512 * (t.val + 3) := by decide +kernel
theorem cond_iff : ∀ t : Fin k0_t1_loop.trips, k0_cond1 t = 1#1 ↔ t.val < 9 := by decide +kernel

theorem cpN_sl (i : ℕ) : (cpN i).sl = i % 4 := by
  unfold cpN
  split
  next h => show 0 = i % 4; omega
  next h => rw [cpL1_sl]; show (i % 12 - 1 + 1) % 4 = i % 4; omega
theorem cpN_col (i : ℕ) : (cpN i).col = 512 * (i % 12) := by
  unfold cpN
  split
  next h => show 0 = 512 * (i % 12); omega
  next h => rw [cpL1_col]; show 512 * (i % 12 - 1 + 1) = 512 * (i % 12); omega

theorem cpN_of {p : Cp} {i : ℕ} (h1 : p.sl = i % 4) (h2 : p.col = 512 * (i % 12)) : p = cpN i :=
  Cp.ext' (h1.trans (cpN_sl i).symm) (h2.trans (cpN_col i).symm)

theorem cp0_eq : cp0 = cpN 0 := cpN_of rfl rfl
theorem cp1_eq : cp1 = cpN 1 := cpN_of rfl rfl
theorem cp2_eq : cp2 = cpN 2 := cpN_of rfl rfl
theorem cpL1_eq (t : Fin k0_t1_loop.trips) : cpL1 t = cpN (t.val + 1) :=
  cpN_of (cpL1_sl t) (by rw [cpL1_col]; have := t.isLt; have := trips_eq; omega)
theorem cpL3_eq (t : Fin k0_t1_loop.trips) (h : k0_cond1 t = 1#1) : cpL3 t h = cpN (t.val + 3) :=
  cpN_of (cpL3_sl t h) (by rw [cpL3_col]; have := (cond_iff t).mp h; omega)

/-- A free slot is the same slot for every pair it serves. -/
theorem free_congr {p q : Cp} (h : p.sl = q.sl) : (free c b p : Asrt F) = free c b q := by
  cases p; cases q; cases h; rfl

theorem free_N {i j : ℕ} (h : i % 4 = j % 4) : (free c b (cpN i) : Asrt F) = free c b (cpN j) :=
  free_congr (by rw [cpN_sl, cpN_sl, h])

/-- A slot whose columns are no longer wanted. -/
theorem free_of_full (p : Cp) : iprop(full c b X p ∗ semVal ((c : Thread nD τ), SemLoc.dma (cpSem b p)) 0) ⊢ free c b p := by
  unfold full free
  iintro ⟨⟨H1, H2, H3⟩, Hv⟩
  isplitl [Hv]; · iexact Hv
  isplitl [H1]; · iexists _; iexact H1
  isplitl [H2]; · iexists _; iexact H2
  iexists _; iexact H3

end Cert.KernelIdeal.Down

end
-- ==== Proof.Slot.lean ====
/-
  What a slot that holds a pair's columns yields to the loads of its tiles. The rows that no adapter fills are kept beside
  the slot, at zero.
-/
module

public import proofs.«01_k».proof.Proof.Ring

@[expose] public section

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The rows no adapter fills -/

theorem inbPad {sl : ℕ} (h : sl < 4) : ∀ a, (![sl, 13, 0, 0] : Fin 4 → ℕ) a + S1x3x32x512.size a ≤ S4x16x32x512.size a := by
  intro a; fin_cases a <;> simp <;> omega

/-- The zero of the adapters' element type. -/
def zb : Elt F .bf16 := Scalar.ofBits .bf16 0x0000#16

/-- The rows of a slot that no adapter fills. -/
def padM (b : Bufs) {sl : ℕ} (h : sl < 4) : Memref sig .tc .vmem S1x3x32x512 .bf16 :=
  b.bd.slice (Rect.unit (s := S4x16x32x512) ![sl, 13, 0, 0] S1x3x32x512.size (inbPad h)) (fun _ => rfl)

/-- They are zero. -/
def pad (c : Dev nD) (b : Bufs) {sl : ℕ} (h : sl < 4) : Asrt F := owns (c : Thread nD τ) (padM b h) fullShare (fun _ => zb)
/-- They are anything. -/
def padAny (c : Dev nD) (b : Bufs) {sl : ℕ} (h : sl < 4) : Asrt F := iprop(∃ d, owns (c : Thread nD τ) (padM b h) fullShare d)

variable {c : Dev nD} {b : Bufs} {X : Data F}

/-- Zeroing them. -/
theorem padC_wp (s : Fin 4) (h hp) {α : Type} (K : PUnit → P F α) (Q : α → Asrt F) :
    iprop(padAny c b s.isLt ∗ (pad c b s.isLt -∗ wpc c (K ⟨⟩) Q)) ⊢ wpc c (padC b s h hp >>= K) Q := by
  unfold padAny pad padC owns
  iintro ⟨⟨%d, %f, %hf, H⟩, Hk⟩
  rw [bind_assoc]
  rw [show ∀ K' : Vec F S1x3x32x512 .bf16 → P F α, ((Prog.lift (.load b.bd (Rect.unit (s := S4x16x32x512) ![s.val, 13, 0, 0] S1x3x32x512.size h).toLoadRect
    (View.loadsAt_vmem h_S1x3x32x512)) : P F (Vec F S1x3x32x512 .bf16)) >>= K') = .op (.load b.bd (Rect.unit (s := S4x16x32x512) ![s.val, 13, 0, 0] S1x3x32x512.size h).toLoadRect
    (View.loadsAt_vmem h_S1x3x32x512)) K' from fun _ => rfl]
  ihave H := (show iprop((padM b s.isLt).view.loc (c : Thread nD τ) ↦[(padM b s.isLt).view.set]{fullShare} f)
    ⊢ (iprop((b.bd.access (Rect.unit (s := S4x16x32x512) ![s.val, 13, 0, 0] S1x3x32x512.size h)).loc (c : Thread nD τ)
      ↦[(padM b s.isLt).view.set]{fullShare} f) : Asrt F) from .rfl) $$ H
  iapply (wp_load_rect (defs := defs₀) (α := α) Variants.none (c : Thread nD τ) none Set.univ (m := b.bd)
    (r := Rect.unit (s := S4x16x32x512) ![s.val, 13, 0, 0] S1x3x32x512.size h) (S := (padM b s.isLt).view.set) (q := fullShare) (f := f)
    (Finset.Subset.refl _)) $$ H
  iintro H
  iapply (wp_store (defs := defs₀) (α := α) Variants.none (c : Thread nD τ) none Set.univ (m := b.bd)
    (r := Rect.unit (s := S4x16x32x512) ![s.val, 13, 0, 0] S1x3x32x512.size h) (S := (padM b s.isLt).view.set) (f := f)
    (Finset.Subset.refl _)) $$ H
  iintro H
  iapply Hk
  iexists _
  isplitr; swap
  · iexact H
  ipureintro
  exact (View.read_write_univ (Val := Elt F) (v := (padM b s.isLt).view) f _).trans rfl

/-! ## Loads from a part of a buffer -/

/-- A load through `m` at a rectangle, from ownership of the elements `S` of its buffer. -/
theorem gets_load_sub {cs : CoreSpace} {s : Shape} {e : EltTy} (m : Memref sig .tc cs s e) (r : Rect s) (hl : m.view.LoadsAt r.toLoadRect)
    (S : Finset (Idx (m.view.loc (c : Thread nD τ)))) (q : PosShare TreeShare) (f : Buf (Elt F) (m.view.loc (c : Thread nD τ)))
    (Y : r.shape.Idx → Elt F e) (hS : (m.access r).set ⊆ S) (hY : (m.access r).read (Elt F) f = Y) :
    Gets c (iprop(m.view.loc (c : Thread nD τ) ↦[S]{q} f) : Asrt F) (Prog.lift (.load m r.toLoadRect hl) : P F (r.shape.Idx → Elt F e)) Y := by
  subst hY
  intro α K Q
  iintro ⟨H, Hk⟩
  rw [show ((Prog.lift (.load m r.toLoadRect hl) : P F (r.shape.Idx → Elt F e)) >>= K) = .op (.load m r.toLoadRect hl) K from rfl]
  iapply (wp_load_rect Variants.none (c : Thread nD τ) none Set.univ (m := m) (r := r) (hl := hl) (S := S) (q := q) (f := f) hS) $$ H
  iintro H
  iapply Hk
  iexact H

/-- The tiles' contents for a pair `pr 0` and the pair `pr 1` after it. -/
def readsOf (X : Data F) (pr : Fin 2 → ℕ) : Reads F where
  blk w p k := fun x => X.W (ValueIdx.ix2 ⟨256 * (k % 32) + (x 0).val, by have : (x 0).val < 256 := (x 0).isLt; omega⟩
    ⟨512 * (pr w % 12) + (256 * p.val + (x 1).val), by have : (x 1).val < 256 := (x 1).isLt; omega⟩)
  st w p := fun x => X.Sd (ValueIdx.ix2 (x 1) ⟨512 * (pr w % 12) + (256 * p.val + (x 2).val), by have : (x 2).val < 256 := (x 2).isLt; omega⟩)
  bt w p u := fun x => if h : 8 * u.val + (x 1).val < 13 then X.Bd (ValueIdx.ix3 ⟨8 * u.val + (x 1).val, h⟩ (x 2)
    ⟨512 * (pr w % 12) + (256 * p.val + (x 3).val), by have : (x 3).val < 256 := (x 3).isLt; omega⟩) else zb
  h k := fun x => X.H (ValueIdx.ix2 (x 0) ⟨256 * (k % 64) + (x 1).val, by have : (x 1).val < 256 := (x 1).isLt; omega⟩)
  md u := fun x => X.M (ValueIdx.ix2 (x 0) ⟨256 * u.val + (x 1).val, by have : (x 1).val < 256 := (x 1).isLt; omega⟩)

variable {e : Env} {pr : Fin 2 → ℕ}

/-! ## Places in the rings -/

theorem lt2 {n : ℕ} {s : Shape} {a : Fin s.rank} (h : s.size a = n) (x : s.Idx) : (x a).val < n := h ▸ (x a).isLt

theorem emb_wDst (q : Cp) (i : Fin 8192) (j : Fin 512) :
    (wDst b q).view.emb (ValueIdx.ix2 i j) = b.wd.view.emb (ValueIdx.ix3 (⟨q.sl, q.hsl⟩ : Fin 4) i j) := by
  show b.wd.view.emb ((Rect.unit (s := S4x8192x512) ![q.sl, 0, 0] S1x8192x512.size q.hW).emb (Shape.reshapeEquiv _ (ValueIdx.ix2 i j))) = _
  rw [ValueIdx.reshapeEquiv_ix2_1ab]
  congr 1
  funext a; apply Fin.ext
  match a with
  | ⟨0, _⟩ => show q.sl + 1 * 0 = q.sl; omega
  | ⟨1, _⟩ => show 0 + 1 * i.val = i.val; omega
  | ⟨2, _⟩ => show 0 + 1 * j.val = j.val; omega

theorem emb_sDst (q : Cp) (i : Fin 128) (j : Fin 512) :
    (sDst b q).view.emb (ValueIdx.ix2 i j) = b.sd.view.emb (ValueIdx.ix3 (⟨q.sl, q.hsl⟩ : Fin 4) i j) := by
  show b.sd.view.emb ((Rect.unit (s := S4x128x512) ![q.sl, 0, 0] S1x128x512.size q.hD).emb (Shape.reshapeEquiv _ (ValueIdx.ix2 i j))) = _
  rw [ValueIdx.reshapeEquiv_ix2_1ab]
  congr 1
  funext a; apply Fin.ext
  match a with
  | ⟨0, _⟩ => show q.sl + 1 * 0 = q.sl; omega
  | ⟨1, _⟩ => show 0 + 1 * i.val = i.val; omega
  | ⟨2, _⟩ => show 0 + 1 * j.val = j.val; omega

theorem emb_bDst (q : Cp) (n : Fin 13) (i : Fin 32) (j : Fin 512) :
    (bDst b q).view.emb (ValueIdx.ix3 n i j) = b.bd.view.emb (ValueIdx.ix4 (⟨q.sl, q.hsl⟩ : Fin 4) ⟨n.val, by omega⟩ i j) := by
  show b.bd.view.emb ((Rect.unit (s := S4x16x32x512) ![q.sl, 0, 0, 0] S1x13x32x512.size q.hB).emb (Shape.reshapeEquiv _ (ValueIdx.ix3 n i j))) = _
  rw [ValueIdx.reshapeEquiv_ix3_1abc]
  congr 1
  funext a; apply Fin.ext
  match a with
  | ⟨0, _⟩ => show q.sl + 1 * 0 = q.sl; omega
  | ⟨1, _⟩ => show 0 + 1 * n.val = n.val; omega
  | ⟨2, _⟩ => show 0 + 1 * i.val = i.val; omega
  | ⟨3, _⟩ => show 0 + 1 * j.val = j.val; omega

theorem emb_padM {sl : ℕ} (h : sl < 4) (x : S1x3x32x512.Idx) :
    (padM b h).view.emb x = b.bd.view.emb (ValueIdx.ix4 (⟨sl, h⟩ : Fin 4) ⟨13 + (x 1).val, by have := lt2 (a := 1) (n := 3) rfl x; omega⟩ (x 2) (x 3)) := by
  show b.bd.view.emb ((Rect.unit (s := S4x16x32x512) ![sl, 13, 0, 0] S1x3x32x512.size (inbPad h)).emb x) = _
  congr 1
  funext a; apply Fin.ext
  match a with
  | ⟨0, _⟩ => show sl + 1 * (x 0).val = sl; have := lt2 (a := 0) (n := 1) rfl x; omega
  | ⟨1, _⟩ => show 13 + 1 * (x 1).val = 13 + (x 1).val; omega
  | ⟨2, _⟩ => show 0 + 1 * (x 2).val = (x 2).val; omega
  | ⟨3, _⟩ => show 0 + 1 * (x 3).val = (x 3).val; omega

/-- The place of an element of a block of codes. -/
theorem emb_blk (w p : Fin 2) (k : ℕ) (x : S256x256.Idx) :
    ((wview b e w p).access (Rect.unit (s := S8192x256) ![256 * (k % 32), 0] S256x256.size (inbBlk _))).emb x
      = b.wd.view.emb (ValueIdx.ix3 (⟨e.sl w, e.hsl w⟩ : Fin 4) ⟨256 * (k % 32) + (x 0).val, by have := lt2 (a := 0) (n := 256) rfl x; omega⟩
        ⟨256 * p.val + (x 1).val, by have := lt2 (a := 1) (n := 256) rfl x; omega⟩) := by
  have hx0 : (x 0).val < 256 := (x 0).isLt
  have hx1 : (x 1).val < 256 := (x 1).isLt
  have e1 : (Rect.unit (s := S8192x256) ![256 * (k % 32), 0] S256x256.size (inbBlk _)).emb x
      = ValueIdx.ix2 (⟨256 * (k % 32) + (x 0).val, by omega⟩ : Fin 8192) (⟨(x 1).val, hx1⟩ : Fin 256) := by
    funext a; apply Fin.ext
    match a with
    | ⟨0, _⟩ => show 256 * (k % 32) + 1 * (x 0).val = 256 * (k % 32) + (x 0).val; omega
    | ⟨1, _⟩ => show 0 + 1 * (x 1).val = (x 1).val; omega
  show b.wd.view.emb ((Rect.unit (s := S4x8192x512) ![e.sl w, 0, 256 * p.val] S1x8192x256.size (inbW (e.hsl w) p)).emb
    (Shape.reshapeEquiv squeezes_S1x8192x256_S8192x256.numel_eq ((Rect.unit (s := S8192x256) ![256 * (k % 32), 0] S256x256.size (inbBlk _)).emb x))) = _
  rw [e1, ValueIdx.reshapeEquiv_ix2_1ab]
  congr 1
  funext a; apply Fin.ext
  match a with
  | ⟨0, _⟩ => show e.sl w + 1 * 0 = e.sl w; omega
  | ⟨1, _⟩ => show 0 + 1 * (256 * (k % 32) + (x 0).val) = 256 * (k % 32) + (x 0).val; omega
  | ⟨2, _⟩ => show 256 * p.val + 1 * (x 1).val = 256 * p.val + (x 1).val; omega

/-- The place of an element of a block of scales. -/
theorem emb_st (w p : Fin 2) (x : S1x128x256.Idx) :
    (b.sd.access (Rect.unit (s := S4x128x512) ![e.sl w, 0, 256 * p.val] S1x128x256.size (inbSd (e.hsl w) p))).emb x
      = b.sd.view.emb (ValueIdx.ix3 (⟨e.sl w, e.hsl w⟩ : Fin 4) (x 1) ⟨256 * p.val + (x 2).val, by have := lt2 (a := 2) (n := 256) rfl x; omega⟩) := by
  show b.sd.view.emb ((Rect.unit (s := S4x128x512) ![e.sl w, 0, 256 * p.val] S1x128x256.size (inbSd (e.hsl w) p)).emb x) = _
  congr 1
  funext a; apply Fin.ext
  match a with
  | ⟨0, _⟩ => show e.sl w + 1 * (x 0).val = e.sl w; have := lt2 (a := 0) (n := 1) rfl x; omega
  | ⟨1, _⟩ => show 0 + 1 * (x 1).val = (x 1).val; omega
  | ⟨2, _⟩ => show 256 * p.val + 1 * (x 2).val = 256 * p.val + (x 2).val; omega

/-- The place of an element of a block of the adapters' factors. -/
theorem emb_bt (w p u : Fin 2) (x : S1x8x32x256.Idx) :
    (b.bd.access (Rect.unit (s := S4x16x32x512) ![e.sl w, 8 * u.val, 0, 256 * p.val] S1x8x32x256.size (inbBd (e.hsl w) p u))).emb x
      = b.bd.view.emb (ValueIdx.ix4 (⟨e.sl w, e.hsl w⟩ : Fin 4) ⟨8 * u.val + (x 1).val, by have := lt2 (a := 1) (n := 8) rfl x; omega⟩ (x 2)
        ⟨256 * p.val + (x 3).val, by have := lt2 (a := 3) (n := 256) rfl x; omega⟩) := by
  show b.bd.view.emb ((Rect.unit (s := S4x16x32x512) ![e.sl w, 8 * u.val, 0, 256 * p.val] S1x8x32x256.size (inbBd (e.hsl w) p u)).emb x) = _
  congr 1
  funext a; apply Fin.ext
  match a with
  | ⟨0, _⟩ => show e.sl w + 1 * (x 0).val = e.sl w; have := lt2 (a := 0) (n := 1) rfl x; omega
  | ⟨1, _⟩ => show 8 * u.val + 1 * (x 1).val = 8 * u.val + (x 1).val; omega
  | ⟨2, _⟩ => show 0 + 1 * (x 2).val = (x 2).val; omega
  | ⟨3, _⟩ => show 256 * p.val + 1 * (x 3).val = 256 * p.val + (x 3).val; omega

/-! ## The loads of a slot -/

theorem owns_get {sp : Space} {s : Shape} {e : EltTy} {m : Memref sig .tc sp s e} {Y : s.Idx → Elt F e} {f : Buf (Elt F) (m.view.loc (c : Thread nD τ))}
    (hf : m.view.read (Elt F) f = Y) (q : PosShare TreeShare) :
    iprop(m.view.loc (c : Thread nD τ) ↦[m.view.set]{q} f) ⊢ (owns (c : Thread nD τ) m q Y : Asrt F) := by
  unfold owns
  iintro H
  iexists f
  isplitr; · ipureintro; exact hf
  iexact H

/-- A load in terms of owned contents: whatever contents the memref has at that reading. -/
theorem Gets.of_owns {sp : Space} {s : Shape} {e : EltTy} {m : Memref sig .tc sp s e} {q : PosShare TreeShare} {Y : s.Idx → Elt F e}
    {β : Type} {p : P F β} {v : β}
    (h : ∀ f : Buf (Elt F) (m.view.loc (c : Thread nD τ)), m.view.read (Elt F) f = Y →
      Gets c (iprop(m.view.loc (c : Thread nD τ) ↦[m.view.set]{q} f) : Asrt F) p v) :
    Gets c (owns (c : Thread nD τ) m q Y : Asrt F) p v := by
  intro α K Q
  unfold owns
  iintro ⟨⟨%f, %hf, H⟩, Hk⟩
  iapply (h f hf α K Q)
  isplitl [H]; · iexact H
  iintro H
  iapply Hk
  iexists f
  isplitr; · ipureintro; exact hf
  iexact H

theorem gets_blk (w p : Fin 2) (k : ℕ) (i : ℕ) (hsl : e.sl w = i % 4) (hpr : pr w = i) :
    Gets c (owns (c : Thread nD τ) (wDst b (cpN i)) fullShare (cutW X (cpN i)))
      (Prog.lift (.load (wview b e w p) (Rect.unit (s := S8192x256) ![256 * (k % 32), 0]
      S256x256.size (inbBlk _)).toLoadRect (View.loadsAt_vmem h_S256x256)) : P F (Vec F S256x256 .i8)) ((readsOf X pr).blk w p k) := by
  refine Gets.of_owns fun f hf => ?_
  have key : ∀ x : S256x256.Idx, ((wview b e w p).access (Rect.unit (s := S8192x256) ![256 * (k % 32), 0] S256x256.size (inbBlk _))).emb x
      = (wDst b (cpN i)).view.emb (ValueIdx.ix2 (⟨256 * (k % 32) + (x 0).val, by have := lt2 (a := 0) (n := 256) rfl x; omega⟩ : Fin 8192)
        (⟨256 * p.val + (x 1).val, by have := lt2 (a := 1) (n := 256) rfl x; omega⟩ : Fin 512)) := by
    intro x
    refine (emb_blk w p k x).trans (Eq.trans ?_ (emb_wDst _ _ _).symm)
    congr 2
    exact Fin.ext (hsl.trans (cpN_sl i).symm)
  refine gets_load_sub (wview b e w p) _ _ (wDst b (cpN i)).view.set fullShare f _ ?_ ?_
  · intro y hy
    obtain ⟨x, -, rfl⟩ := Finset.mem_map.mp hy
    exact Finset.mem_map.mpr ⟨_, Finset.mem_univ _, (key x).symm⟩
  · funext x
    have h1 := congrFun hf (ValueIdx.ix2 (⟨256 * (k % 32) + (x 0).val, by have := lt2 (a := 0) (n := 256) rfl x; omega⟩ : Fin 8192)
        (⟨256 * p.val + (x 1).val, by have := lt2 (a := 1) (n := 256) rfl x; omega⟩ : Fin 512))
    refine Eq.trans ?_ (h1.trans ?_)
    · exact congrArg (fun z => _root_.cast _ (f z)) (key x)
    · unfold cutW readsOf
      dsimp only
      congr 1
      funext a; apply Fin.ext
      match a with
      | ⟨0, _⟩ => show 0 + 1 * (256 * (k % 32) + (x 0).val) = 256 * (k % 32) + (x 0).val; omega
      | ⟨1, _⟩ => show (cpN i).col + 1 * (256 * p.val + (x 1).val) = 512 * (pr w % 12) + (256 * p.val + (x 1).val); rw [cpN_col, hpr]; omega

theorem gets_st (w p : Fin 2) (i : ℕ) (hsl : e.sl w = i % 4) (hpr : pr w = i) :
    Gets c (owns (c : Thread nD τ) (sDst b (cpN i)) fullShare (cutS X (cpN i)))
      (Prog.lift (.load b.sd (Rect.unit (s := S4x128x512) ![e.sl w, 0, 256 * p.val] S1x128x256.size
      (inbSd (e.hsl w) p)).toLoadRect (View.loadsAt_vmem h_S1x128x256)) : P F (Vec F S1x128x256 .bf16)) ((readsOf X pr).st w p) := by
  refine Gets.of_owns fun f hf => ?_
  have key : ∀ x : S1x128x256.Idx, (b.sd.access (Rect.unit (s := S4x128x512) ![e.sl w, 0, 256 * p.val] S1x128x256.size (inbSd (e.hsl w) p))).emb x
      = (sDst b (cpN i)).view.emb (ValueIdx.ix2 (x 1) (⟨256 * p.val + (x 2).val, by have := lt2 (a := 2) (n := 256) rfl x; omega⟩ : Fin 512)) := by
    intro x
    refine (emb_st w p x).trans (Eq.trans ?_ (emb_sDst _ _ _).symm)
    congr 2
    exact Fin.ext (hsl.trans (cpN_sl i).symm)
  refine gets_load_sub b.sd _ _ (sDst b (cpN i)).view.set fullShare f _ ?_ ?_
  · intro y hy
    obtain ⟨x, -, rfl⟩ := Finset.mem_map.mp hy
    exact Finset.mem_map.mpr ⟨_, Finset.mem_univ _, (key x).symm⟩
  · funext x
    have h1 := congrFun hf (ValueIdx.ix2 (x 1) (⟨256 * p.val + (x 2).val, by have := lt2 (a := 2) (n := 256) rfl x; omega⟩ : Fin 512))
    refine Eq.trans ?_ (h1.trans ?_)
    · exact congrArg (fun z => _root_.cast _ (f z)) (key x)
    · unfold cutS readsOf
      dsimp only
      congr 1
      funext a; apply Fin.ext
      match a with
      | ⟨0, _⟩ => show 0 + 1 * (x 1).val = (x 1).val; omega
      | ⟨1, _⟩ => show (cpN i).col + 1 * (256 * p.val + (x 2).val) = 512 * (pr w % 12) + (256 * p.val + (x 2).val); rw [cpN_col, hpr]; omega

/-- The adapters' rows and the rows no adapter fills are different elements of the ring. -/
theorem disj_pad (q : Cp) : Disjoint (bDst b q).view.set (padM b q.hsl).view.set := by
  refine Finset.disjoint_left.mpr fun y h1 h2 => ?_
  obtain ⟨x, -, rfl⟩ := Finset.mem_map.mp h1
  obtain ⟨z, -, hz⟩ := Finset.mem_map.mp h2
  have hx : x = ValueIdx.ix3 (x 0) (x 1) (x 2) := by funext a; match a with | ⟨0, _⟩ => rfl | ⟨1, _⟩ => rfl | ⟨2, _⟩ => rfl
  have h3 := (emb_padM (b := b) q.hsl z).symm.trans (hz.trans ((congrArg _ hx).trans (emb_bDst (b := b) q (x 0) (x 1) (x 2))))
  have h4 := congrArg Fin.val (congrFun (b.bd.view.emb.injective h3) 1)
  have h5 : 13 + (z 1).val = (x 0).val := h4
  have h6 : (x 0).val < 13 := (x 0).isLt
  omega

theorem gets_bt (w p u : Fin 2) (i : ℕ) (hsl : e.sl w = i % 4) (hpr : pr w = i) :
    Gets c (iprop(owns (c : Thread nD τ) (bDst b (cpN i)) fullShare (cutB X (cpN i)) ∗ pad c b (cpN i).hsl) : Asrt F)
      (Prog.lift (.load b.bd (Rect.unit (s := S4x16x32x512) ![e.sl w, 8 * u.val, 0, 256 * p.val] S1x8x32x256.size
      (inbBd (e.hsl w) p u)).toLoadRect (View.loadsAt_vmem h_S1x8x32x256)) : P F (Vec F S1x8x32x256 .bf16)) ((readsOf X pr).bt w p u) := by
  intro α K Q
  unfold pad owns
  iintro ⟨⟨⟨%f, %hf, H⟩, ⟨%g, %hg, G⟩⟩, Hk⟩
  have hdis := disj_pad (b := b) (cpN i)
  let S : Finset (Idx (b.bd.view.loc (c : Thread nD τ))) := (bDst b (cpN i)).view.set
  let T : Finset (Idx (b.bd.view.loc (c : Thread nD τ))) := (padM b (cpN i).hsl).view.set
  have hST : Disjoint S T := hdis
  let J : Buf (Elt F) (b.bd.view.loc (c : Thread nD τ)) := T.piecewise g f
  have hJf : ∀ y ∈ S, J y = f y := fun y hy => Finset.piecewise_eq_of_notMem T g f (Finset.disjoint_left.mp hST hy)
  have hJg : ∀ y ∈ T, J y = g y := fun y hy => Finset.piecewise_eq_of_mem T g f hy
  ihave HJ := (show iprop((b.bd.view.loc (c : Thread nD τ) ↦[S]{fullShare} f) ∗ (b.bd.view.loc (c : Thread nD τ) ↦[T]{fullShare} g))
    ⊢ (iprop(b.bd.view.loc (c : Thread nD τ) ↦[S ∪ T]{fullShare} J) : Asrt F) from pointsTo_join hST) $$ [H G]
  · isplitl [H]; · iexact H
    iexact G
  have key : ∀ x : S1x8x32x256.Idx, (h : 8 * u.val + (x 1).val < 13) →
      (b.bd.access (Rect.unit (s := S4x16x32x512) ![e.sl w, 8 * u.val, 0, 256 * p.val] S1x8x32x256.size (inbBd (e.hsl w) p u))).emb x
      = (bDst b (cpN i)).view.emb (ValueIdx.ix3 (⟨8 * u.val + (x 1).val, h⟩ : Fin 13) (x 2)
        (⟨256 * p.val + (x 3).val, by have := lt2 (a := 3) (n := 256) rfl x; omega⟩ : Fin 512)) := by
    intro x h
    refine (emb_bt w p u x).trans (Eq.trans ?_ (emb_bDst _ _ _ _).symm)
    congr 2
    exact Fin.ext (hsl.trans (cpN_sl i).symm)
  have keyp : ∀ x : S1x8x32x256.Idx, (h : ¬ 8 * u.val + (x 1).val < 13) →
      (b.bd.access (Rect.unit (s := S4x16x32x512) ![e.sl w, 8 * u.val, 0, 256 * p.val] S1x8x32x256.size (inbBd (e.hsl w) p u))).emb x
      = (padM b (cpN i).hsl).view.emb (ValueIdx.ix4 (⟨0, Nat.one_pos⟩ : Fin 1) (⟨8 * u.val + (x 1).val - 13, by have := lt2 (a := 1) (n := 8) rfl x; omega⟩ : Fin 3) (x 2)
        (⟨256 * p.val + (x 3).val, by have := lt2 (a := 3) (n := 256) rfl x; omega⟩ : Fin 512)) := by
    intro x h
    refine (emb_bt w p u x).trans (Eq.trans ?_ (emb_padM _ _).symm)
    congr 1
    funext a; apply Fin.ext
    match a with
    | ⟨0, _⟩ => exact hsl.trans (cpN_sl i).symm
    | ⟨1, _⟩ => show 8 * u.val + (x 1).val = 13 + (8 * u.val + (x 1).val - 13); omega
    | ⟨2, _⟩ => rfl
    | ⟨3, _⟩ => rfl
  iapply (gets_load_sub b.bd _ (View.loadsAt_vmem h_S1x8x32x256) (S ∪ T) fullShare J ((readsOf X pr).bt w p u) ?_ ?_ α K Q)
  · intro y hy
    obtain ⟨x, -, rfl⟩ := Finset.mem_map.mp hy
    by_cases h : 8 * u.val + (x 1).val < 13
    · exact Finset.mem_union_left _ (Finset.mem_map.mpr ⟨_, Finset.mem_univ _, (key x h).symm⟩)
    · exact Finset.mem_union_right _ (Finset.mem_map.mpr ⟨_, Finset.mem_univ _, (keyp x h).symm⟩)
  · funext x
    by_cases h : 8 * u.val + (x 1).val < 13
    · have h1 := congrFun hf (ValueIdx.ix3 (⟨8 * u.val + (x 1).val, h⟩ : Fin 13) (x 2)
        (⟨256 * p.val + (x 3).val, by have := lt2 (a := 3) (n := 256) rfl x; omega⟩ : Fin 512))
      refine Eq.trans ?_ (h1.trans ?_)
      · refine congrArg (fun z => _root_.cast _ z) ((congrArg J (key x h)).trans (hJf _ (View.emb_mem_set _ _)))
      · unfold cutB readsOf
        dsimp only
        rw [dif_pos h]
        congr 1
        funext a; apply Fin.ext
        match a with
        | ⟨0, _⟩ => show 0 + 1 * (8 * u.val + (x 1).val) = 8 * u.val + (x 1).val; omega
        | ⟨1, _⟩ => show 0 + 1 * (x 2).val = (x 2).val; omega
        | ⟨2, _⟩ => show (cpN i).col + 1 * (256 * p.val + (x 3).val) = 512 * (pr w % 12) + (256 * p.val + (x 3).val); rw [cpN_col, hpr]; omega
    · have h1 := congrFun hg (ValueIdx.ix4 (⟨0, Nat.one_pos⟩ : Fin 1) (⟨8 * u.val + (x 1).val - 13, by have := lt2 (a := 1) (n := 8) rfl x; omega⟩ : Fin 3) (x 2)
        (⟨256 * p.val + (x 3).val, by have := lt2 (a := 3) (n := 256) rfl x; omega⟩ : Fin 512))
      refine Eq.trans ?_ (h1.trans ?_)
      · refine congrArg (fun z => _root_.cast _ z) ((congrArg J (keyp x h)).trans (hJg _ (View.emb_mem_set _ _)))
      · unfold readsOf
        dsimp only
        rw [dif_neg h]
  · isplitl [HJ]; · iexact HJ
    iintro HJ
    iapply Hk
    ihave HJ := (show (iprop(b.bd.view.loc (c : Thread nD τ) ↦[S ∪ T]{fullShare} J) : Asrt F)
      ⊢ iprop((b.bd.view.loc (c : Thread nD τ) ↦[S]{fullShare} f) ∗ (b.bd.view.loc (c : Thread nD τ) ↦[T]{fullShare} g)) from
      ((pointsTo_union hST).1.trans (by rw [pointsTo_congr hJf, pointsTo_congr hJg]))) $$ HJ
    icases HJ with ⟨H, G⟩
    isplitl [H]
    · iexists f
      isplitr; · ipureintro; exact hf
      iexact H
    · iexists g
      isplitr; · ipureintro; exact hg
      iexact G

/-- What a slot that holds pair `i` gives the loads: its columns and the rows no adapter fills. -/
def slot (c : Dev nD) (b : Bufs) (X : Data F) (i : ℕ) : Asrt F := iprop(full c b X (cpN i) ∗ pad c b (cpN i).hsl)

/-- The loads of a pair, from anything that holds its slots and the two left-hand sides. -/
theorem provides {R : Asrt F} (hsl : ∀ w, e.sl w = pr w % 4) (hS : ∀ w, R ⊢ iprop(slot c b X (pr w) ∗ (slot c b X (pr w) -∗ R)))
    (hH : R ⊢ iprop(owns (c : Thread nD τ) b.h fullShare X.H ∗ (owns (c : Thread nD τ) b.h fullShare X.H -∗ R)))
    (hM : R ⊢ iprop(owns (c : Thread nD τ) b.md fullShare X.M ∗ (owns (c : Thread nD τ) b.md fullShare X.M -∗ R))) :
    Provides c b e R (readsOf X pr) where
  blk w p k := by
    refine ((gets_blk w p k (pr w) (hsl w) rfl).of_acc (S := owns (c : Thread nD τ) (wDst b (cpN (pr w))) fullShare (cutW X (cpN (pr w)))) (R := slot c b X (pr w)) ?_).of_acc (hS w)
    unfold slot full
    iintro ⟨⟨H1, H2, H3⟩, H4⟩
    isplitl [H1]; · iexact H1
    iintro H1
    isplitr [H4]; swap
    · iexact H4
    isplitl [H1]; · iexact H1
    isplitl [H2]; · iexact H2
    iexact H3
  st w p := by
    refine ((gets_st w p (pr w) (hsl w) rfl).of_acc (S := owns (c : Thread nD τ) (sDst b (cpN (pr w))) fullShare (cutS X (cpN (pr w)))) (R := slot c b X (pr w)) ?_).of_acc (hS w)
    unfold slot full
    iintro ⟨⟨H1, H2, H3⟩, H4⟩
    isplitl [H2]; · iexact H2
    iintro H2
    isplitr [H4]; swap
    · iexact H4
    isplitl [H1]; · iexact H1
    isplitl [H2]; · iexact H2
    iexact H3
  bt w p u := by
    refine ((gets_bt w p u (pr w) (hsl w) rfl).of_acc (R := slot c b X (pr w)) ?_).of_acc (hS w)
    unfold slot full
    iintro ⟨⟨H1, H2, H3⟩, H4⟩
    isplitl [H3 H4]
    · isplitl [H3]; · iexact H3
      iexact H4
    iintro ⟨H3, H4⟩
    isplitr [H4]; swap
    · iexact H4
    isplitl [H1]; · iexact H1
    isplitl [H2]; · iexact H2
    iexact H3
  h k hk := by
    have hv : (fun x => X.H ((Rect.unit (s := S80x16384) ![0, 256 * k] S80x256.size (inbH hk)).emb x)) = (readsOf X pr).h k := by
      funext x
      unfold readsOf
      dsimp only
      congr 1
      funext a; apply Fin.ext
      match a with
      | ⟨0, _⟩ => show 0 + 1 * (x 0).val = (x 0).val; omega
      | ⟨1, _⟩ => show 256 * k + 1 * (x 1).val = 256 * (k % 64) + (x 1).val; omega
    exact hv ▸ (gets_load (c := c) b.h _ _ fullShare X.H).of_acc hH
  md u := by
    have hv : (fun x => X.M ((Rect.unit (s := S80x512) ![0, 256 * u.val] S80x256.size (inbMd u)).emb x)) = (readsOf X pr).md u := by
      funext x
      unfold readsOf
      dsimp only
      congr 1
      funext a; apply Fin.ext
      match a with
      | ⟨0, _⟩ => show 0 + 1 * (x 0).val = (x 0).val; omega
      | ⟨1, _⟩ => show 256 * u.val + 1 * (x 1).val = 256 * u.val + (x 1).val; omega
    exact hv ▸ (gets_load (c := c) b.md _ _ fullShare X.M).of_acc hM

end Cert.KernelIdeal.Down

end
-- ==== Proof.Loop.lean ====
/-
  The body, from the copies of the first three pairs to the last pair's block: at the start of trip `t` the slot of pair
  `t` is full, the next two pairs are in flight, the fourth slot is free, and the result holds the blocks of the pairs
  before `t`.
-/
module

public import proofs.«01_k».proof.Proof.Slot

@[expose] public section

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## What the result holds -/

/-- The block of chunk `p` of pair `i`. -/
def blockN (X : Data F) (i : ℕ) (p : Fin 2) : FVec F S72x256 .bf16 := blockOf (readsOf X fun _ => i) 0 p

/-- The result after `n` pairs. -/
def outAt (X : Data F) (O : FVec F S72x6144 .bf16) : ℕ → FVec F S72x6144 .bf16
  | 0 => O
  | n + 1 => putCols (putCols (outAt X O n) (512 * n) (blockN X n 0)) (512 * n + 256) (blockN X n 1)

theorem rt_N (X : Data F) (pr : Fin 2 → ℕ) (w p u : Fin 2) (k : ℕ) (sc) :
    rt (readsOf X pr) w p u k sc = rt (readsOf X fun _ => pr w) 0 p u k sc := rfl
theorem chain_N (X : Data F) (pr : Fin 2 → ℕ) (w p u : Fin 2) (sc) (n : ℕ) :
    chain (readsOf X pr) w p u sc n = chain (readsOf X fun _ => pr w) 0 p u sc n := by
  induction n with
  | zero => rfl
  | succ n ih => unfold chain; rw [ih]; rfl
theorem st_N (X : Data F) (pr : Fin 2 → ℕ) (w p : Fin 2) : (readsOf X pr).st w p = (readsOf X fun _ => pr w).st 0 p := rfl
theorem mid_N (X : Data F) (pr : Fin 2 → ℕ) (w : Fin 2) (sc out) : mid (readsOf X pr) w sc out = mid (readsOf X fun _ => pr w) 0 sc out := by
  unfold mid
  congr 1
theorem blockOf_N (X : Data F) (pr : Fin 2 → ℕ) (w p : Fin 2) : blockOf (readsOf X pr) w p = blockN X (pr w) p := by
  unfold blockN blockOf
  rw [chain_N X pr w p 0, chain_N X pr w p 1, st_N]

/-- Between pairs. -/
def midN (X : Data F) (i : ℕ) (s1 : FVec F S128x256 .f32) (out : FVec F S72x6144 .bf16) : Tab F :=
  mid (readsOf X fun _ => i) 0 (scs (scval ((readsOf X fun _ => i).st 0 0)) s1) out

/-- Pairs `t` and `t + 1`. -/
def prs (t : ℕ) : Fin 2 → ℕ := fun w => t + w.val

theorem envL_sl : ∀ (t : Fin k0_t1_loop.trips) (w : Fin 2), (envL t).sl w = (t.val + w.val) % 4 := by decide +kernel
theorem envL_col : ∀ (t : Fin k0_t1_loop.trips) (p : Fin 2), (envL t).col p = 512 * t.val + 256 * p.val := by decide +kernel

theorem trun_head' (X : Data F) (sc : Fin 2 → FVec F S128x256 .f32) (out) :
    trun (readsOf X fun _ => 0) env0 headI (tab0 sc out) = some (midN X 0 (sc 1) out) := trun_head _ _ _ _

theorem trun_body' (X : Data F) (t : Fin k0_t1_loop.trips) (s1) (O) :
    trun (readsOf X (prs t.val)) (envL t) bodyI (midN X t.val s1 (outAt X O t.val))
      = some (midN X (t.val + 1) (scval ((readsOf X fun _ => t.val).st 0 1)) (outAt X O (t.val + 1))) := by
  have h := trun_body (readsOf X (prs t.val)) (envL t) s1 (outAt X O t.val)
  rw [mid_N, mid_N, st_N, st_N, st_N, blockOf_N, blockOf_N, envL_col, envL_col] at h
  exact h

theorem trun_tail' (X : Data F) (s1) (O) :
    ∃ sc, trun (readsOf X fun _ => 11) envE tailI (midN X 11 s1 (outAt X O 11)) = some (tab0 sc (outAt X O 12)) :=
  ⟨_, (trun_tail (readsOf X fun _ => 11) envE s1 (outAt X O 11)).trans rfl⟩

/-! ## The ring -/

variable (c : Dev nD) (b : Bufs) (X : Data F)

/-- The columns of the pairs of a set, in the arrays. -/
def srcs (A : Finset ℕ) : Asrt F := bigSep A fun i => src c b X (cpN i)
/-- The pairs whose columns no copy reads at the start of trip `t`. -/
def St (t : ℕ) : Finset ℕ := (Finset.range 12).filter fun i => i ≠ t + 1 ∧ i ≠ t + 2
/-- A pair's copies in flight, or its slot free when there is no such pair. -/
def fly' (i : ℕ) : Asrt F := if i < 12 then fly c b X (cpN i) else free c b (cpN i)
def padN (i : ℕ) : Asrt F := pad c b (cpN i).hsl
def semN (i : ℕ) : Asrt F := semVal ((c : Thread nD τ), SemLoc.dma (cpSem b (cpN i))) 0

/-- At the start of trip `t`. -/
def ring (t : ℕ) : Asrt F :=
  iprop(slot c b X t ∗ semN c b t ∗ fly' c b X (t + 1) ∗ padN c b (t + 1) ∗ fly' c b X (t + 2) ∗ padN c b (t + 2)
    ∗ free c b (cpN (t + 3)) ∗ padN c b (t + 3) ∗ srcs c b X (St t) ∗ (∃ W, owes (c : Thread nD τ) 0 W))

/-- Beside the two slots that trip `t` reads. -/
def rest (t : ℕ) : Asrt F :=
  iprop(semN c b t ∗ semN c b (t + 1) ∗ fly' c b X (t + 2) ∗ padN c b (t + 2)
    ∗ fly' c b X (t + 3) ∗ padN c b (t + 3) ∗ srcs c b X (St (t + 1)) ∗ (∃ W, owes (c : Thread nD τ) 0 W))

variable {c b X}

theorem pad_congr {p q : Cp} (h : p.sl = q.sl) : (pad c b p.hsl : Asrt F) = pad c b q.hsl := by
  cases p; cases q; cases h; rfl
theorem padN_congr {i j : ℕ} (h : i % 4 = j % 4) : (padN c b i : Asrt F) = padN c b j := pad_congr (by rw [cpN_sl, cpN_sl, h])

theorem srcs_insert {A : Finset ℕ} {i : ℕ} (h : i ∉ A) : srcs c b X (insert i A) = iprop(src c b X (cpN i) ∗ srcs c b X A) :=
  bigSep_insert h

/-- Between the waits and the starts of trip `t`. -/
theorem St_wait {t : ℕ} (h : t < 11) : insert (t + 1) (St t) = (Finset.range 12).filter fun i => i ≠ t + 2 := by
  ext i; simp only [St, Finset.mem_insert, Finset.mem_filter, Finset.mem_range]; omega
theorem St_start {t : ℕ} (h : t < 9) : insert (t + 3) (St (t + 1)) = (Finset.range 12).filter fun i => i ≠ t + 2 := by
  ext i; simp only [St, Finset.mem_insert, Finset.mem_filter, Finset.mem_range]; omega
theorem St_keep {t : ℕ} (h : 9 ≤ t) : St (t + 1) = (Finset.range 12).filter fun i => i ≠ t + 2 := by
  ext i; simp only [St, Finset.mem_filter, Finset.mem_range]; omega

/-- The copies of a trip. -/
theorem copies_wp (t : Fin k0_t1_loop.trips) {α : Type} (K : PUnit → P F α) (Q : α → Asrt F) :
    iprop(ring c b X t.val ∗ (iprop(slot c b X t.val ∗ slot c b X (t.val + 1) ∗ rest c b X t.val) -∗ wpc c (K ⟨⟩) Q))
      ⊢ wpc c (tripCopies b t >>= K) Q := by
  have ht : t.val < 11 := by have := t.isLt; have := trips_eq; omega
  unfold tripCopies ring
  rw [cpL1_eq, bind_assoc, show (fly' c b X (t.val + 1) : Asrt F) = fly c b X (cpN (t.val + 1)) from if_pos (by omega)]
  iintro ⟨⟨Hs, Hv, Hf1, Hp1, Hf2, Hp2, Hf3, Hp3, HS, ⟨%W, HO⟩⟩, Hk⟩
  iapply (wait_wp (cpN (t.val + 1)) (W := W))
  isplitl [Hf1]; · iexact Hf1
  isplitl [HO]; · iexact HO
  iintro Hfull Hsrc Hv1 HO
  ihave Hp1 := (show padN c b (t.val + 1) ⊢ (pad c b (cpN (t.val + 1)).hsl : Asrt F) from .rfl) $$ Hp1
  ihave Hv1 := (show semVal ((c : Thread nD τ), SemLoc.dma (cpSem b (cpN (t.val + 1)))) 0 ⊢ (semN c b (t.val + 1) : Asrt F) from .rfl) $$ Hv1
  ihave HS := (show iprop(src c b X (cpN (t.val + 1)) ∗ srcs c b X (St t.val)) ⊢ srcs c b X ((Finset.range 12).filter fun i => i ≠ t.val + 2) from
    by rw [← St_wait ht, srcs_insert (by simp [St])]) $$ [Hsrc HS]
  · isplitl [Hsrc]; · iexact Hsrc
    iexact HS
  by_cases h : k0_cond1 t = 1#1
  · have h9 := (cond_iff t).mp h
    rw [dif_pos h, cpL3_eq]
    ihave HS := (show srcs c b X ((Finset.range 12).filter fun i => i ≠ t.val + 2) ⊢ iprop(src c b X (cpN (t.val + 3)) ∗ srcs c b X (St (t.val + 1))) from
      by rw [← St_start h9, srcs_insert (by simp [St])]) $$ HS
    icases HS with ⟨Hsrc, HS⟩
    iapply (start_wp (X := X) (cpN (t.val + 3)))
    isplitl [Hsrc]; · iexact Hsrc
    isplitl [Hf3]; · iexact Hf3
    iintro Hf3
    iapply Hk
    isplitl [Hs]; · iexact Hs
    isplitl [Hfull Hp1]
    · unfold slot
      isplitl [Hfull]; · iexact Hfull
      iexact Hp1
    iapply (show _ ⊢ rest c b X t.val from by
      unfold rest
      rw [show (fly' c b X (t.val + 3) : Asrt F) = fly c b X (cpN (t.val + 3)) from if_pos (by omega)])
    isplitl [Hv]; · iexact Hv
    isplitl [Hv1]; · iexact Hv1
    isplitl [Hf2]; · iexact Hf2
    isplitl [Hp2]; · iexact Hp2
    isplitl [Hf3]; · iexact Hf3
    isplitl [Hp3]; · iexact Hp3
    isplitl [HS]; · iexact HS
    iexact HO
  · have h9 : 9 ≤ t.val := by have := mt (cond_iff t).mpr h; omega
    rw [dif_neg h]
    rw [show ((Pure.pure ⟨⟩ : P F PUnit) >>= K) = K ⟨⟩ from rfl]
    iapply Hk
    isplitl [Hs]; · iexact Hs
    isplitl [Hfull Hp1]
    · unfold slot
      isplitl [Hfull]; · iexact Hfull
      iexact Hp1
    iapply (show _ ⊢ rest c b X t.val from by
      unfold rest
      rw [show (fly' c b X (t.val + 3) : Asrt F) = free c b (cpN (t.val + 3)) from if_neg (by omega), St_keep h9])
    isplitl [Hv]; · iexact Hv
    isplitl [Hv1]; · iexact Hv1
    isplitl [Hf2]; · iexact Hf2
    isplitl [Hp2]; · iexact Hp2
    isplitl [Hf3]; · iexact Hf3
    isplitl [Hp3]; · iexact Hp3
    isplitl [HS]; · iexact HS
    iexact HO

/-- A slot read for the last time. -/
theorem slot_done (t : ℕ) : iprop(slot c b X t ∗ semN c b t) ⊢ iprop(free c b (cpN t) ∗ padN c b t) := by
  unfold slot padN semN
  iintro ⟨⟨H, Hp⟩, Hv⟩
  isplitr [Hp]; swap
  · iexact Hp
  iapply (free_of_full (X := X) (cpN t))
  isplitl [H]; · iexact H
  iexact Hv

/-- To the next trip. -/
theorem ring_next (t : ℕ) : iprop(slot c b X t ∗ slot c b X (t + 1) ∗ rest c b X t) ⊢ ring c b X (t + 1) := by
  unfold rest ring
  rw [free_N (c := c) (b := b) (F := F) (show (t + 1 + 3) % 4 = t % 4 by omega), padN_congr (c := c) (b := b) (F := F) (show (t + 1 + 3) % 4 = t % 4 by omega)]
  iintro ⟨Hs, Hs1, Hv, Hv1, Hf2, Hp2, Hf3, Hp3, HS, HO⟩
  ihave HD := (slot_done (X := X) (c := c) (b := b) t) $$ [Hs Hv]
  · isplitl [Hs]; · iexact Hs
    iexact Hv
  icases HD with ⟨Hf, Hp⟩
  isplitl [Hs1]; · iexact Hs1
  isplitl [Hv1]; · iexact Hv1
  isplitl [Hf2]; · iexact Hf2
  isplitl [Hp2]; · iexact Hp2
  isplitl [Hf3]; · iexact Hf3
  isplitl [Hp3]; · iexact Hp3
  isplitl [Hf]; · iexact Hf
  isplitl [Hp]; · iexact Hp
  isplitl [HS]; · iexact HS
  iexact HO

/-- The end of a program. -/
theorem wpc_ret {α : Type} (a : α) (Q : α → Asrt F) : Q a ⊢ wpc c (Pure.pure a : P F α) Q := by
  exact fupd_intro (P := Q a)

/-- The exit of the drained matrix units. -/
theorem wpc_exit {u : Mxu F} (hd : u.Drained) {α : Type} (K : PUnit → P F α) (Q : α → Asrt F) : wpc c (K ⟨⟩) Q ⊢ wpc c (u.exit >>= K) Q :=
  Mxu.wp_exit (hd := hd)

/-! ## A trip -/

/-- The left-hand sides. -/
def lefts (c : Dev nD) (b : Bufs) (X : Data F) : Asrt F :=
  iprop(owns (c : Thread nD τ) b.h fullShare X.H ∗ owns (c : Thread nD τ) b.md fullShare X.M)

/-- What a trip reads, from its two slots. -/
def R2 (c : Dev nD) (b : Bufs) (X : Data F) (t : ℕ) : Asrt F := iprop(slot c b X t ∗ slot c b X (t + 1) ∗ lefts c b X)
/-- What the first and the last run read, from one slot. -/
def R1 (c : Dev nD) (b : Bufs) (X : Data F) (t : ℕ) : Asrt F := iprop(slot c b X t ∗ lefts c b X)

theorem provides2 (t : Fin k0_t1_loop.trips) : Provides c b (envL t) (R2 c b X t.val) (readsOf X (prs t.val)) := by
  refine provides (envL_sl t) (fun w => ?_) ?_ ?_
  · match w with
    | 0 =>
      unfold R2
      iintro ⟨H1, H2, H3⟩
      isplitl [H1]; · iexact H1
      iintro H1
      isplitl [H1]; · iexact H1
      isplitl [H2]; · iexact H2
      iexact H3
    | 1 =>
      unfold R2
      iintro ⟨H1, H2, H3⟩
      isplitl [H2]; · iexact H2
      iintro H2
      isplitl [H1]; · iexact H1
      isplitl [H2]; · iexact H2
      iexact H3
  · unfold R2 lefts
    iintro ⟨H1, H2, H3, H4⟩
    isplitl [H3]; · iexact H3
    iintro H3
    isplitl [H1]; · iexact H1
    isplitl [H2]; · iexact H2
    isplitl [H3]; · iexact H3
    iexact H4
  · unfold R2 lefts
    iintro ⟨H1, H2, H3, H4⟩
    isplitl [H4]; · iexact H4
    iintro H4
    isplitl [H1]; · iexact H1
    isplitl [H2]; · iexact H2
    isplitl [H3]; · iexact H3
    iexact H4

theorem provides1 {e : Env} (i : ℕ) (h : ∀ w, e.sl w = i % 4) : Provides c b e (R1 c b X i) (readsOf X fun _ => i) := by
  refine provides h (fun w => ?_) ?_ ?_
  · unfold R1
    iintro ⟨H1, H3⟩
    isplitl [H1]; · iexact H1
    iintro H1
    isplitl [H1]; · iexact H1
    iexact H3
  · unfold R1 lefts
    iintro ⟨H1, H3, H4⟩
    isplitl [H3]; · iexact H3
    iintro H3
    isplitl [H1]; · iexact H1
    isplitl [H3]; · iexact H3
    iexact H4
  · unfold R1 lefts
    iintro ⟨H1, H3, H4⟩
    isplitl [H4]; · iexact H4
    iintro H4
    isplitl [H1]; · iexact H1
    isplitl [H3]; · iexact H3
    iexact H4

/-- The two scale buffers and the result. -/
def bufs3 (c : Dev nD) (b : Bufs) (a : Tab F) : Asrt F :=
  iprop(owns (c : Thread nD τ) b.sa fullShare (a.sc 0) ∗ owns (c : Thread nD τ) b.sb fullShare (a.sc 1) ∗ owns (c : Thread nD τ) b.out fullShare a.out)

theorem res_eq (R : Asrt F) (a : Tab F) : Res c b R a = iprop(R ∗ bufs3 c b a) := rfl

/-- The loop's invariant. -/
def Inv (c : Dev nD) (b : Bufs) (X : Data F) (O : FVec F S72x6144 .bf16) (t : ℕ) (x : BitVec 32 × Mxu F) : Asrt F :=
  iprop(∃ s1 : FVec F S128x256 .f32, ⌜Rep x.2 (midN X t s1 (outAt X O t))⌝ ∗ ring c b X t ∗ lefts c b X ∗ bufs3 c b (midN X t s1 (outAt X O t)))

theorem trip_wp (O : FVec F S72x6144 .bf16) (t : Fin k0_t1_loop.trips) (x : BitVec 32 × Mxu F) :
    Inv c b X O t.val x ⊢ wpc c (trip b t x.2) (Inv c b X O (t.val + 1)) := by
  unfold trip
  unfold Inv
  iintro ⟨%s1, %hR, Hr, Hl, Hb⟩
  iapply (copies_wp (X := X) t)
  isplitl [Hr]; · iexact Hr
  iintro ⟨Hs, Hs1, Hrest⟩
  obtain ⟨s', hs', hw⟩ := run_wp (provides2 (c := c) (b := b) (X := X) t) bodyI hR (trun_body' X t s1 O)
  iapply (hw _ _ _)
  rw [res_eq, res_eq]
  unfold R2
  isplitl [Hs Hs1 Hl Hb]
  · isplitr [Hb]; swap
    · iexact Hb
    isplitl [Hs]; · iexact Hs
    isplitl [Hs1]; · iexact Hs1
    iexact Hl
  iintro ⟨⟨Hs, Hs1, Hl⟩, Hb⟩
  iapply (wpc_ret (c := c) _ _)
  iexists _
  isplitr; · ipureintro; exact hs'
  isplitl [Hs Hs1 Hrest]
  · iapply (ring_next (X := X) t.val)
    isplitl [Hs]; · iexact Hs
    isplitl [Hs1]; · iexact Hs1
    iexact Hrest
  isplitl [Hl]; · iexact Hl
  iexact Hb

/-! ## The whole body -/

/-- What the body starts from: free slots, the arrays, the left-hand sides, the scale buffers, the result. -/
def Pre (c : Dev nD) (b : Bufs) (X : Data F) (O : FVec F S72x6144 .bf16) : Asrt F :=
  iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl)
    ∗ srcs c b X (Finset.range 12) ∗ lefts c b X
    ∗ (∃ sc : Fin 2 → FVec F S128x256 .f32, owns (c : Thread nD τ) b.sa fullShare (sc 0) ∗ owns (c : Thread nD τ) b.sb fullShare (sc 1))
    ∗ owns (c : Thread nD τ) b.out fullShare O ∗ (∃ W, owes (c : Thread nD τ) 0 W))

theorem padAny_congr {p q : Cp} (h : p.sl = q.sl) : (padAny c b p.hsl : Asrt F) = padAny c b q.hsl := by
  cases p; cases q; cases h; rfl

theorem pad_any {sl : ℕ} (h : sl < 4) : (pad c b h : Asrt F) ⊢ padAny c b h := by
  unfold pad padAny
  iintro H
  iexists _
  iexact H

/-- After the copies of the first three pairs, the zero rows and the first pair's wait. -/
theorem start_ring {α : Type} (K : P F α) (Q : α → Asrt F) :
    iprop((free c b (cpN 0) ∗ free c b (cpN 1) ∗ free c b (cpN 2) ∗ free c b (cpN 3))
        ∗ (padAny c b (cpN 0).hsl ∗ padAny c b (cpN 1).hsl ∗ padAny c b (cpN 2).hsl ∗ padAny c b (cpN 3).hsl)
        ∗ srcs c b X (Finset.range 12) ∗ (∃ W, owes (c : Thread nD τ) 0 W) ∗ (ring c b X 0 -∗ wpc c K Q))
      ⊢ wpc c (startC b cp0 >>= fun _ => startC b cp1 >>= fun _ => startC b cp2 >>= fun _ => pads b >>= fun _ => waitC b cp0 >>= fun _ => K) Q := by
  have e : (srcs c b X (Finset.range 12) : Asrt F) ⊢ iprop(src c b X (cpN 0) ∗ src c b X (cpN 1) ∗ src c b X (cpN 2) ∗ srcs c b X ((Finset.range 12).filter fun i => i ≠ 0 ∧ i ≠ 1 ∧ i ≠ 2)) := by
    rw [← srcs_insert (by decide), ← srcs_insert (by decide), ← srcs_insert (by decide)]
    exact Entails.of_eq (congrArg _ (by decide))
  have e' : iprop(src c b X (cpN 0) ∗ srcs c b X ((Finset.range 12).filter fun i => i ≠ 0 ∧ i ≠ 1 ∧ i ≠ 2)) ⊢ (srcs c b X (St 0) : Asrt F) := by
    rw [← srcs_insert (by decide)]
    exact Entails.of_eq (congrArg _ (by decide))
  rw [cp0_eq, cp1_eq, cp2_eq]
  unfold pads ring
  simp only [bind_assoc]
  rw [show (fly' c b X (0 + 1) : Asrt F) = fly c b X (cpN 1) from if_pos (by omega), show (fly' c b X (0 + 2) : Asrt F) = fly c b X (cpN 2) from if_pos (by omega)]
  iintro ⟨⟨Hf0, Hf1, Hf2, Hf3⟩, ⟨Hp0, Hp1, Hp2, Hp3⟩, HS, ⟨%W, HO⟩, Hk⟩
  ihave HS := e $$ HS
  icases HS with ⟨Hs0, Hs1, Hs2, HS⟩
  iapply (start_wp (X := X) (cpN 0))
  isplitl [Hs0]; · iexact Hs0
  isplitl [Hf0]; · iexact Hf0
  iintro Hf0
  iapply (start_wp (X := X) (cpN 1))
  isplitl [Hs1]; · iexact Hs1
  isplitl [Hf1]; · iexact Hf1
  iintro Hf1
  iapply (start_wp (X := X) (cpN 2))
  isplitl [Hs2]; · iexact Hs2
  isplitl [Hf2]; · iexact Hf2
  iintro Hf2
  iapply (padC_wp (0 : Fin 4))
  isplitl [Hp0]; · iexact Hp0
  iintro Hp0
  iapply (padC_wp (1 : Fin 4))
  isplitl [Hp1]; · iexact Hp1
  iintro Hp1
  iapply (padC_wp (2 : Fin 4))
  isplitl [Hp2]; · iexact Hp2
  iintro Hp2
  iapply (padC_wp (3 : Fin 4))
  isplitl [Hp3]; · iexact Hp3
  iintro Hp3
  iapply (wait_wp (cpN 0) (W := W))
  isplitl [Hf0]; · iexact Hf0
  isplitl [HO]; · iexact HO
  iintro Hfull Hsrc Hv HO
  ihave HS := e' $$ [Hsrc HS]
  · isplitl [Hsrc]; · iexact Hsrc
    iexact HS
  ihave Hv := (show semVal ((c : Thread nD τ), SemLoc.dma (cpSem b (cpN 0))) 0 ⊢ (semN c b 0 : Asrt F) from .rfl) $$ Hv
  iapply Hk
  isplitl [Hfull Hp0]
  · unfold slot
    isplitl [Hfull]; · iexact Hfull
    iexact Hp0
  isplitl [Hv]; · iexact Hv
  isplitl [Hf1]; · iexact Hf1
  isplitl [Hp1]
  · unfold padN; iexact Hp1
  isplitl [Hf2]; · iexact Hf2
  isplitl [Hp2]
  · unfold padN; iexact Hp2
  isplitl [Hf3]; · iexact Hf3
  isplitl [Hp3]
  · unfold padN; iexact Hp3
  isplitl [HS]; · iexact HS
  iexact HO

/-- After the last pair. -/
theorem ring_end : (ring c b X 11 : Asrt F) ⊢ iprop(slot c b X 11 ∗ (slot c b X 11 -∗
    iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl)
    ∗ srcs c b X (Finset.range 12) ∗ (∃ W, owes (c : Thread nD τ) 0 W)))) := by
  unfold ring
  rw [show (fly' c b X (11 + 1) : Asrt F) = free c b (cpN 0) from (if_neg (by omega)).trans (free_N (by omega)),
    show (fly' c b X (11 + 2) : Asrt F) = free c b (cpN 1) from (if_neg (by omega)).trans (free_N (by omega)),
    show (free c b (cpN (11 + 3)) : Asrt F) = free c b (cpN 2) from free_N (by omega),
    show (padN c b (11 + 1) : Asrt F) = pad c b (cpN 0).hsl from padN_congr (i := 12) (j := 0) (by omega),
    show (padN c b (11 + 2) : Asrt F) = pad c b (cpN 1).hsl from padN_congr (i := 13) (j := 1) (by omega),
    show (padN c b (11 + 3) : Asrt F) = pad c b (cpN 2).hsl from padN_congr (i := 14) (j := 2) (by omega),
    show St 11 = Finset.range 12 by decide]
  have e : iprop(slot c b X 11 ∗ semN c b 11) ⊢ iprop(free c b (cpN 3) ∗ (pad c b (cpN 3).hsl : Asrt F)) :=
    (slot_done 11).trans (Entails.of_eq (by
      rw [free_N (i := 11) (j := 3) (by omega)]
      exact congrArg _ (padN_congr (i := 11) (j := 3) (by omega))))
  iintro ⟨Hs, Hv, Hf0, Hp0, Hf1, Hp1, Hf2, Hp2, HS, HO⟩
  isplitl [Hs]; · iexact Hs
  iintro Hs
  ihave HD := e $$ [Hs Hv]
  · isplitl [Hs]; · iexact Hs
    iexact Hv
  icases HD with ⟨Hf3, Hp3⟩
  ihave Hp0 := (pad_any (c := c) (b := b) (F := F) (cpN 0).hsl) $$ Hp0
  ihave Hp1 := (pad_any (c := c) (b := b) (F := F) (cpN 1).hsl) $$ Hp1
  ihave Hp2 := (pad_any (c := c) (b := b) (F := F) (cpN 2).hsl) $$ Hp2
  ihave Hp3 := (pad_any (c := c) (b := b) (F := F) (cpN 3).hsl) $$ Hp3
  isplitl [Hf0 Hf1 Hf2 Hf3]
  · isplitl [Hf0]; · iexact Hf0
    isplitl [Hf1]; · iexact Hf1
    isplitl [Hf2]; · iexact Hf2
    iexact Hf3
  isplitl [Hp0 Hp1 Hp2 Hp3]
  · isplitl [Hp0]; · iexact Hp0
    isplitl [Hp1]; · iexact Hp1
    isplitl [Hp2]; · iexact Hp2
    iexact Hp3
  isplitl [HS]; · iexact HS
  iexact HO

/-- From the free slots to the whole result. -/
theorem whole_wp (O : FVec F S72x6144 .bf16) (Q : PUnit → Asrt F) :
    iprop(Pre c b X O ∗ (Pre c b X (outAt X O 12) -∗ Q ⟨⟩)) ⊢ wpc c (whole b) Q := by
  unfold whole head
  simp only [bind_assoc]
  unfold Pre
  iintro ⟨⟨Hf, Hp, HS, Hl, ⟨%sc, Hsa, Hsb⟩, Ho, HO⟩, Hk⟩
  iapply (start_ring (X := X))
  isplitl [Hf]; · iexact Hf
  isplitl [Hp]; · iexact Hp
  isplitl [HS]; · iexact HS
  isplitl [HO]; · iexact HO
  iintro Hr
  obtain ⟨s0, hs0, hw⟩ := run_wp (provides1 (c := c) (b := b) (X := X) (e := env0) 0 (fun w => rfl)) headI (Rep.init sc O) (trun_head' X sc O)
  ihave Hr := (show ring c b X 0 ⊢ iprop(slot c b X 0 ∗ (slot c b X 0 -∗ (ring c b X 0 : Asrt F))) from by
    unfold ring
    iintro ⟨H1, H2⟩
    isplitl [H1]; · iexact H1
    iintro H1
    isplitl [H1]; · iexact H1
    iexact H2) $$ Hr
  icases Hr with ⟨Hs, Hr⟩
  iapply (hw _ _ _)
  rw [res_eq, res_eq]
  unfold R1
  isplitl [Hs Hl Hsa Hsb Ho]
  · isplitl [Hs Hl]
    · isplitl [Hs]; · iexact Hs
      iexact Hl
    unfold bufs3
    isplitl [Hsa]; · iexact Hsa
    isplitl [Hsb]; · iexact Hsb
    iexact Ho
  iintro ⟨⟨Hs, Hl⟩, Hb⟩
  ispecialize Hr $$ Hs
  iapply (Scf.wp_for_bind _ _ _ _ _ _ _ _ _ (Inv c b X O) (fun t x => trip_wp (X := X) O t x)) $$ [Hr Hl Hb]
  · unfold Inv
    iexists _
    isplitr; · ipureintro; exact hs0
    isplitl [Hr]; · iexact Hr
    isplitl [Hl]; · iexact Hl
    iexact Hb
  iintro %x HI
  rw [show (Scf.trips k0_t1_loop.lb k0_t1_loop.ub k0_t1_loop.st) = 11 from trips_eq]
  unfold Inv tail
  icases HI with ⟨%s1, %hR, Hr, Hl, Hb⟩
  obtain ⟨sc', ht⟩ := trun_tail' X s1 O
  obtain ⟨s', hs', hw'⟩ := run_wp (provides1 (c := c) (b := b) (X := X) (e := envE) 11 (fun w => rfl)) tailI hR ht
  ihave Hr := (ring_end (X := X)) $$ Hr
  icases Hr with ⟨Hs, Hr⟩
  iapply (hw' _ _ _)
  rw [res_eq, res_eq]
  unfold R1
  isplitl [Hs Hl Hb]
  · isplitr [Hb]; swap
    · iexact Hb
    isplitl [Hs]; · iexact Hs
    iexact Hl
  iintro ⟨⟨Hs, Hl⟩, Hb⟩
  ispecialize Hr $$ Hs
  icases Hr with ⟨Hf, Hp, HS, HO⟩
  unfold bufs3
  icases Hb with ⟨Hsa, Hsb, Ho⟩
  iapply (wpc_exit (c := c) hs'.drained)
  iapply (wpc_ret (c := c) _ _)
  iapply Hk
  isplitl [Hf]; · iexact Hf
  isplitl [Hp]; · iexact Hp
  isplitl [HS]; · iexact HS
  isplitl [Hl]; · iexact Hl
  isplitl [Hsa Hsb]
  · iexists sc'
    isplitl [Hsa]; · iexact Hsa
    iexact Hsb
  isplitl [Ho]; · iexact Ho
  iexact HO

end Cert.KernelIdeal.Down

end
-- ==== Proof.Split.lean ====
/-
  The buffers in parts: a ring of four slots is its slots, the arrays are their pairs' columns.
-/
module

public import proofs.«01_k».proof.Proof.Loop
public import Idealize.SL.BI.BigOpNat

@[expose] public section

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- Parts told apart by a number are disjoint and cover. -/
theorem family {I Y : Type} [DecidableEq Y] (emb : I ↪ Y) (k : I → ℕ) (n : ℕ) (S : ℕ → Finset Y) (U : Finset Y)
    (hS : ∀ j < n, ∀ y, y ∈ S j ↔ ∃ x, emb x = y ∧ k x = j) (hU : ∀ y, y ∈ U ↔ ∃ x, emb x = y) (hk : ∀ x, k x < n) :
    (∀ i ∈ Finset.range n, ∀ j ∈ Finset.range n, i ≠ j → Disjoint (S i) (S j)) ∧ U = (Finset.range n).biUnion S := by
  constructor
  · intro i hi j hj hij
    refine Finset.disjoint_left.mpr fun y h1 h2 => ?_
    obtain ⟨x, hx, h3⟩ := (hS i (Finset.mem_range.mp hi) y).mp h1
    obtain ⟨z, hz, h4⟩ := (hS j (Finset.mem_range.mp hj) y).mp h2
    have := emb.injective (hx.trans hz.symm)
    subst this
    exact hij (h3.symm.trans h4)
  · ext y
    rw [hU, Finset.mem_biUnion]
    constructor
    · rintro ⟨x, hx⟩
      exact ⟨k x, Finset.mem_range.mpr (hk x), (hS _ (hk x) y).mpr ⟨x, hx, rfl⟩⟩
    · rintro ⟨j, hj, h⟩
      obtain ⟨x, hx, -⟩ := (hS j (Finset.mem_range.mp hj) y).mp h
      exact ⟨x, hx⟩

section
variable {ℓ : Loc nD τ sig} (S : ℕ → Finset (Idx ℓ))

/-- Elements held at some contents. -/
def anyAt (ℓ : Loc nD τ sig) (A : Finset (Idx ℓ)) : Asrt F := iprop(∃ g : Buf (Elt F) ℓ, ℓ ↦[A]{fullShare} g)

theorem any_intro {A : Finset (Idx ℓ)} (g : Buf (Elt F) ℓ) : (iprop(ℓ ↦[A]{fullShare} g) : Asrt F) ⊢ anyAt ℓ A := by
  unfold anyAt
  iintro H
  iexists g
  iexact H

theorem split_any (n : ℕ) (h : ∀ i ∈ Finset.range n, ∀ j ∈ Finset.range n, i ≠ j → Disjoint (S i) (S j)) :
    (anyAt ℓ ((Finset.range n).biUnion S) : Asrt F) ⊢ bigSep (Finset.range n) fun j => anyAt ℓ (S j) := by
  conv_lhs => unfold anyAt
  iintro ⟨%g, H⟩
  ihave H := (Entails.of_eq (pointsTo_biUnion (Finset.range n) S h)) $$ H
  iapply (show (bigSep (Finset.range n) fun j => ℓ ↦[S j]{fullShare} g : Asrt F) ⊢ bigSep (Finset.range n) fun j => anyAt ℓ (S j) from
    bigSep_mono fun j _ => any_intro g)
  iexact H

theorem join_any (n : ℕ) (h : ∀ i ∈ Finset.range (n + 1), ∀ j ∈ Finset.range (n + 1), i ≠ j → Disjoint (S i) (S j)) :
    (bigSep (Finset.range (n + 1)) fun j => anyAt ℓ (S j)) ⊢ (anyAt ℓ ((Finset.range (n + 1)).biUnion S) : Asrt F) := by
  classical
  induction n with
  | zero =>
    rw [show Finset.range (0 + 1) = {0} from rfl, bigSep_singleton, Finset.singleton_biUnion]
  | succ n ih =>
    have hd : Disjoint (S (n + 1)) ((Finset.range (n + 1)).biUnion S) :=
      (Finset.disjoint_biUnion_right _ _ _).mpr fun t ht => h _ (Finset.mem_range.mpr (by omega)) _
        (Finset.mem_range.mpr (by have := Finset.mem_range.mp ht; omega)) (by have := Finset.mem_range.mp ht; omega)
    rw [bigSep_range_succ, show (Finset.range (n + 1 + 1)).biUnion S = S (n + 1) ∪ (Finset.range (n + 1)).biUnion S by
      rw [Finset.range_add_one (n := n + 1), Finset.biUnion_insert]]
    have ih' := ih fun i hi j hj => h i (Finset.mem_range.mpr (by have := Finset.mem_range.mp hi; omega)) j (Finset.mem_range.mpr (by have := Finset.mem_range.mp hj; omega))
    iintro ⟨H, HR⟩
    ihave HR := ih' $$ HR
    unfold anyAt
    icases H with ⟨%f, H⟩
    icases HR with ⟨%g, HR⟩
    iexists _
    iapply (pointsTo_join hd)
    isplitl [H]; · iexact H
    iexact HR

end

/-- A memref held at some contents is its elements at some contents. -/
theorem any_owns (c : Dev nD) {sp : Space} {s : Shape} {e : EltTy} (m : Memref sig .tc sp s e) :
    (iprop(∃ d, owns (c : Thread nD τ) m fullShare d) : Asrt F) ⊢ anyAt (m.view.loc (c : Thread nD τ)) m.view.set := by
  unfold owns anyAt
  iintro ⟨%d, %f, -, H⟩
  iexists f
  iexact H
theorem owns_any (c : Dev nD) {sp : Space} {s : Shape} {e : EltTy} (m : Memref sig .tc sp s e) :
    (anyAt (m.view.loc (c : Thread nD τ)) m.view.set : Asrt F) ⊢ iprop(∃ d, owns (c : Thread nD τ) m fullShare d) := by
  unfold owns anyAt
  iintro ⟨%f, H⟩
  iexists _
  iexists f
  isplitr; · ipureintro; rfl
  iexact H

/-- Contents that read as owned are the contents. -/
theorem owns_eq (c : Dev nD) {sp : Space} {s : Shape} {e : EltTy} (m : Memref sig .tc sp s e) (q) (Y : s.Idx → Elt F e)
    (f : Buf (Elt F) (m.view.loc (c : Thread nD τ))) (hf : m.view.read (Elt F) f = Y) :
    (owns (c : Thread nD τ) m q Y : Asrt F) = iprop(m.view.loc (c : Thread nD τ) ↦[m.view.set]{q} f) := by
  refine BI.equiv_iff.mp ⟨show (owns (c : Thread nD τ) m q Y : Asrt F) ⊢ _ from ?_, owns_get hf q⟩
  unfold owns
  iintro ⟨%g, %hg, H⟩
  have : ∀ i ∈ m.view.set, g i = f i := by
    intro i hi
    obtain ⟨x, -, rfl⟩ := Finset.mem_map.mp hi
    have h := congrFun (hg.trans hf.symm) x
    unfold View.read at h
    exact (cast_bijective _).1 h
  iapply (Entails.of_eq (pointsTo_congr this))
  iexact H

variable (c : Dev nD) (b : Bufs) (X : Data F)

/-! ## The rings -/

theorem mem_set {sp : Space} {s : Shape} {e : EltTy} (m : Memref sig .tc sp s e) (y) : y ∈ m.view.set ↔ ∃ x, m.view.emb x = y := by
  unfold View.set
  simp

def setW (j : ℕ) : Finset (Idx (b.wd.view.loc (c : Thread nD τ))) := (wDst b (cpN j)).view.set
def setS (j : ℕ) : Finset (Idx (b.sd.view.loc (c : Thread nD τ))) := (sDst b (cpN j)).view.set
def setB (j : ℕ) : Finset (Idx (b.bd.view.loc (c : Thread nD τ))) := (bDst b (cpN j)).view.set
def setP (j : ℕ) : Finset (Idx (b.bd.view.loc (c : Thread nD τ))) := (padM b (cpN j).hsl).view.set

theorem famW : (∀ i ∈ Finset.range 4, ∀ j ∈ Finset.range 4, i ≠ j → Disjoint (setW c b i) (setW c b j))
    ∧ (b.wd.view.set : Finset (Idx (b.wd.view.loc (c : Thread nD τ)))) = (Finset.range 4).biUnion (setW c b) := family (b.wd.view.emb) (fun x => (x 0).val) 4 (setW c b) b.wd.view.set (by
    intro j hj y
    refine (mem_set (wDst b (cpN j)) y).trans ⟨?_, ?_⟩
    · rintro ⟨z, hz⟩
      have hz' : z = ValueIdx.ix2 (z 0) (z 1) := by funext a; match a with | ⟨0, _⟩ => rfl | ⟨1, _⟩ => rfl
      refine ⟨_, (emb_wDst (b := b) (cpN j) (z 0) (z 1)).symm.trans ((congrArg _ hz'.symm).trans hz), ?_⟩
      exact (cpN_sl j).trans (by omega)
    · rintro ⟨x, hx, hk⟩
      refine ⟨ValueIdx.ix2 (x 1) (x 2), (emb_wDst (b := b) (cpN j) (x 1) (x 2)).trans ((congrArg _ ?_).trans hx)⟩
      funext a; apply Fin.ext
      match a with
      | ⟨0, _⟩ => exact (cpN_sl j).trans ((Nat.mod_eq_of_lt hj).trans hk.symm)
      | ⟨1, _⟩ => rfl
      | ⟨2, _⟩ => rfl) (fun y => mem_set b.wd y) (fun x => (x 0).isLt)

theorem famS : (∀ i ∈ Finset.range 4, ∀ j ∈ Finset.range 4, i ≠ j → Disjoint (setS c b i) (setS c b j))
    ∧ (b.sd.view.set : Finset (Idx (b.sd.view.loc (c : Thread nD τ)))) = (Finset.range 4).biUnion (setS c b) := family (b.sd.view.emb) (fun x => (x 0).val) 4 (setS c b) b.sd.view.set (by
    intro j hj y
    refine (mem_set (sDst b (cpN j)) y).trans ⟨?_, ?_⟩
    · rintro ⟨z, hz⟩
      have hz' : z = ValueIdx.ix2 (z 0) (z 1) := by funext a; match a with | ⟨0, _⟩ => rfl | ⟨1, _⟩ => rfl
      refine ⟨_, (emb_sDst (b := b) (cpN j) (z 0) (z 1)).symm.trans ((congrArg _ hz'.symm).trans hz), ?_⟩
      exact (cpN_sl j).trans (by omega)
    · rintro ⟨x, hx, hk⟩
      refine ⟨ValueIdx.ix2 (x 1) (x 2), (emb_sDst (b := b) (cpN j) (x 1) (x 2)).trans ((congrArg _ ?_).trans hx)⟩
      funext a; apply Fin.ext
      match a with
      | ⟨0, _⟩ => exact (cpN_sl j).trans ((Nat.mod_eq_of_lt hj).trans hk.symm)
      | ⟨1, _⟩ => rfl
      | ⟨2, _⟩ => rfl) (fun y => mem_set b.sd y) (fun x => (x 0).isLt)

theorem famB : (∀ i ∈ Finset.range 4, ∀ j ∈ Finset.range 4, i ≠ j → Disjoint ((fun j => setB c b j ∪ setP c b j) i) ((fun j => setB c b j ∪ setP c b j) j))
    ∧ (b.bd.view.set : Finset (Idx (b.bd.view.loc (c : Thread nD τ)))) = (Finset.range 4).biUnion ((fun j => setB c b j ∪ setP c b j)) := family (b.bd.view.emb) (fun x => (x 0).val) 4 (fun j => setB c b j ∪ setP c b j) b.bd.view.set (by
    intro j hj y
    refine Finset.mem_union.trans (((mem_set (bDst b (cpN j)) y).or (mem_set (padM b (cpN j).hsl) y)).trans ⟨?_, ?_⟩)
    · rintro (⟨z, hz⟩ | ⟨z, hz⟩)
      · have hz' : z = ValueIdx.ix3 (z 0) (z 1) (z 2) := by funext a; match a with | ⟨0, _⟩ => rfl | ⟨1, _⟩ => rfl | ⟨2, _⟩ => rfl
        refine ⟨_, (emb_bDst (b := b) (cpN j) (z 0) (z 1) (z 2)).symm.trans ((congrArg _ hz'.symm).trans hz), ?_⟩
        exact (cpN_sl j).trans (by omega)
      · refine ⟨_, (emb_padM (b := b) (cpN j).hsl z).symm.trans hz, ?_⟩
        exact (cpN_sl j).trans (by omega)
    · rintro ⟨x, hx, hk⟩
      have hx1 : (x 1).val < 16 := (x 1).isLt
      by_cases h : (x 1).val < 13
      · refine Or.inl ⟨ValueIdx.ix3 (⟨(x 1).val, h⟩ : Fin 13) (x 2) (x 3), (emb_bDst (b := b) (cpN j) ⟨(x 1).val, h⟩ (x 2) (x 3)).trans ((congrArg _ ?_).trans hx)⟩
        funext a; apply Fin.ext
        match a with
        | ⟨0, _⟩ => exact (cpN_sl j).trans ((Nat.mod_eq_of_lt hj).trans hk.symm)
        | ⟨1, _⟩ => rfl
        | ⟨2, _⟩ => rfl
        | ⟨3, _⟩ => rfl
      · refine Or.inr ⟨ValueIdx.ix4 (⟨0, Nat.one_pos⟩ : Fin 1) (⟨(x 1).val - 13, by omega⟩ : Fin 3) (x 2) (x 3),
          (emb_padM (b := b) (cpN j).hsl _).trans ((congrArg _ ?_).trans hx)⟩
        funext a; apply Fin.ext
        match a with
        | ⟨0, _⟩ => exact (cpN_sl j).trans ((Nat.mod_eq_of_lt hj).trans hk.symm)
        | ⟨1, _⟩ => show 13 + ((x 1).val - 13) = (x 1).val; omega
        | ⟨2, _⟩ => rfl
        | ⟨3, _⟩ => rfl) (fun y => mem_set b.bd y) (fun x => (x 0).isLt)

/-! ## The arrays -/

theorem emb_wSrc (j : ℕ) (z : S8192x512.Idx) :
    (wSrc b (cpN j)).view.emb z = b.wdn.view.emb (ValueIdx.ix2 (z 0) (⟨512 * (j % 12) + (z 1).val, by have := lt2 (a := 1) (n := 512) rfl z; omega⟩ : Fin 6144)) := by
  show b.wdn.view.emb ((Rect.unit (s := S8192x6144) ![0, (cpN j).col] S8192x512.size (cpN j).hW').emb z) = _
  congr 1
  funext a; apply Fin.ext
  match a with
  | ⟨0, _⟩ => show 0 + 1 * (z 0).val = (z 0).val; omega
  | ⟨1, _⟩ => show (cpN j).col + 1 * (z 1).val = 512 * (j % 12) + (z 1).val; rw [cpN_col]; omega
theorem emb_sSrc (j : ℕ) (z : S128x512.Idx) :
    (sSrc b (cpN j)).view.emb z = b.sdn.view.emb (ValueIdx.ix2 (z 0) (⟨512 * (j % 12) + (z 1).val, by have := lt2 (a := 1) (n := 512) rfl z; omega⟩ : Fin 6144)) := by
  show b.sdn.view.emb ((Rect.unit (s := S128x6144) ![0, (cpN j).col] S128x512.size (cpN j).hD').emb z) = _
  congr 1
  funext a; apply Fin.ext
  match a with
  | ⟨0, _⟩ => show 0 + 1 * (z 0).val = (z 0).val; omega
  | ⟨1, _⟩ => show (cpN j).col + 1 * (z 1).val = 512 * (j % 12) + (z 1).val; rw [cpN_col]; omega
theorem emb_bSrc (j : ℕ) (z : S13x32x512.Idx) :
    (bSrc b (cpN j)).view.emb z = b.bdn.view.emb (ValueIdx.ix3 (z 0) (z 1) (⟨512 * (j % 12) + (z 2).val, by have := lt2 (a := 2) (n := 512) rfl z; omega⟩ : Fin 6144)) := by
  show b.bdn.view.emb ((Rect.unit (s := S13x32x6144) ![0, 0, (cpN j).col] S13x32x512.size (cpN j).hB').emb z) = _
  congr 1
  funext a; apply Fin.ext
  match a with
  | ⟨0, _⟩ => show 0 + 1 * (z 0).val = (z 0).val; omega
  | ⟨1, _⟩ => show 0 + 1 * (z 1).val = (z 1).val; omega
  | ⟨2, _⟩ => show (cpN j).col + 1 * (z 2).val = 512 * (j % 12) + (z 2).val; rw [cpN_col]; omega

def srcW (j : ℕ) : Finset (Idx (b.wdn.view.loc (c : Thread nD τ))) := (wSrc b (cpN j)).view.set
def srcS (j : ℕ) : Finset (Idx (b.sdn.view.loc (c : Thread nD τ))) := (sSrc b (cpN j)).view.set
def srcB (j : ℕ) : Finset (Idx (b.bdn.view.loc (c : Thread nD τ))) := (bSrc b (cpN j)).view.set

theorem famSrcW : (∀ i ∈ Finset.range 12, ∀ j ∈ Finset.range 12, i ≠ j → Disjoint (srcW c b i) (srcW c b j))
    ∧ (b.wdn.view.set : Finset (Idx (b.wdn.view.loc (c : Thread nD τ)))) = (Finset.range 12).biUnion (srcW c b) :=
  family (b.wdn.view.emb) (fun x => (x 1).val / 512) 12 (srcW c b) b.wdn.view.set (by
    intro j hj y
    refine (mem_set (wSrc b (cpN j)) y).trans ⟨?_, ?_⟩
    · rintro ⟨z, hz⟩
      refine ⟨_, (emb_wSrc b j z).symm.trans hz, ?_⟩
      have := lt2 (a := 1) (n := 512) rfl z
      show (512 * (j % 12) + (z 1).val) / 512 = j
      omega
    · rintro ⟨x, hx, hk⟩
      have h1 : (x 1).val / 512 = j := hk
      refine ⟨ValueIdx.ix2 (x 0) (⟨(x 1).val % 512, Nat.mod_lt _ (by decide)⟩ : Fin 512), (emb_wSrc b j _).trans ((congrArg _ ?_).trans hx)⟩
      funext a; apply Fin.ext
      match a with
      | ⟨0, _⟩ => rfl
      | ⟨1, _⟩ => show 512 * (j % 12) + (x 1).val % 512 = (x 1).val; omega) (fun y => mem_set b.wdn y)
    (fun x => by have : (x 1).val < 6144 := (x 1).isLt; show (x 1).val / 512 < 12; omega)

theorem famSrcS : (∀ i ∈ Finset.range 12, ∀ j ∈ Finset.range 12, i ≠ j → Disjoint (srcS c b i) (srcS c b j))
    ∧ (b.sdn.view.set : Finset (Idx (b.sdn.view.loc (c : Thread nD τ)))) = (Finset.range 12).biUnion (srcS c b) :=
  family (b.sdn.view.emb) (fun x => (x 1).val / 512) 12 (srcS c b) b.sdn.view.set (by
    intro j hj y
    refine (mem_set (sSrc b (cpN j)) y).trans ⟨?_, ?_⟩
    · rintro ⟨z, hz⟩
      refine ⟨_, (emb_sSrc b j z).symm.trans hz, ?_⟩
      have := lt2 (a := 1) (n := 512) rfl z
      show (512 * (j % 12) + (z 1).val) / 512 = j
      omega
    · rintro ⟨x, hx, hk⟩
      have h1 : (x 1).val / 512 = j := hk
      refine ⟨ValueIdx.ix2 (x 0) (⟨(x 1).val % 512, Nat.mod_lt _ (by decide)⟩ : Fin 512), (emb_sSrc b j _).trans ((congrArg _ ?_).trans hx)⟩
      funext a; apply Fin.ext
      match a with
      | ⟨0, _⟩ => rfl
      | ⟨1, _⟩ => show 512 * (j % 12) + (x 1).val % 512 = (x 1).val; omega) (fun y => mem_set b.sdn y)
    (fun x => by have : (x 1).val < 6144 := (x 1).isLt; show (x 1).val / 512 < 12; omega)

theorem famSrcB : (∀ i ∈ Finset.range 12, ∀ j ∈ Finset.range 12, i ≠ j → Disjoint (srcB c b i) (srcB c b j))
    ∧ (b.bdn.view.set : Finset (Idx (b.bdn.view.loc (c : Thread nD τ)))) = (Finset.range 12).biUnion (srcB c b) :=
  family (b.bdn.view.emb) (fun x => (x 2).val / 512) 12 (srcB c b) b.bdn.view.set (by
    intro j hj y
    refine (mem_set (bSrc b (cpN j)) y).trans ⟨?_, ?_⟩
    · rintro ⟨z, hz⟩
      refine ⟨_, (emb_bSrc b j z).symm.trans hz, ?_⟩
      have := lt2 (a := 2) (n := 512) rfl z
      show (512 * (j % 12) + (z 2).val) / 512 = j
      omega
    · rintro ⟨x, hx, hk⟩
      have h1 : (x 2).val / 512 = j := hk
      refine ⟨ValueIdx.ix3 (x 0) (x 1) (⟨(x 2).val % 512, Nat.mod_lt _ (by decide)⟩ : Fin 512), (emb_bSrc b j _).trans ((congrArg _ ?_).trans hx)⟩
      funext a; apply Fin.ext
      match a with
      | ⟨0, _⟩ => rfl
      | ⟨1, _⟩ => rfl
      | ⟨2, _⟩ => show 512 * (j % 12) + (x 2).val % 512 = (x 2).val; omega) (fun y => mem_set b.bdn y)
    (fun x => by have : (x 2).val < 6144 := (x 2).isLt; show (x 2).val / 512 < 12; omega)

/-- The arrays are their pairs' columns. -/
theorem srcs_eq (fW : Buf (Elt F) (b.wdn.view.loc (c : Thread nD τ))) (fS : Buf (Elt F) (b.sdn.view.loc (c : Thread nD τ)))
    (fB : Buf (Elt F) (b.bdn.view.loc (c : Thread nD τ))) (hW : b.wdn.view.read (Elt F) fW = X.W) (hS : b.sdn.view.read (Elt F) fS = X.Sd)
    (hB : b.bdn.view.read (Elt F) fB = X.Bd) :
    (srcs c b X (Finset.range 12) : Asrt F) = iprop((b.wdn.view.loc (c : Thread nD τ) ↦[b.wdn.view.set]{fullShare} fW)
      ∗ (b.sdn.view.loc (c : Thread nD τ) ↦[b.sdn.view.set]{fullShare} fS) ∗ (b.bdn.view.loc (c : Thread nD τ) ↦[b.bdn.view.set]{fullShare} fB)) := by
  have e : ∀ j, (src c b X (cpN j) : Asrt F) = iprop((b.wdn.view.loc (c : Thread nD τ) ↦[srcW c b j]{fullShare} fW)
      ∗ (b.sdn.view.loc (c : Thread nD τ) ↦[srcS c b j]{fullShare} fS) ∗ (b.bdn.view.loc (c : Thread nD τ) ↦[srcB c b j]{fullShare} fB)) := by
    intro j
    unfold src
    rw [owns_eq c (wSrc b (cpN j)) fullShare (cutW X (cpN j)) fW (by funext x; exact congrFun hW _),
      owns_eq c (sSrc b (cpN j)) fullShare (cutS X (cpN j)) fS (by funext x; exact congrFun hS _),
      owns_eq c (bSrc b (cpN j)) fullShare (cutB X (cpN j)) fB (by funext x; exact congrFun hB _)]
    rfl
  unfold srcs
  rw [bigSep_congr fun j _ => e j, bigSep_sep', bigSep_sep', ← pointsTo_biUnion _ _ (famSrcW c b).1, ← pointsTo_biUnion _ _ (famSrcS c b).1,
    ← pointsTo_biUnion _ _ (famSrcB c b).1, ← (famSrcW c b).2, ← (famSrcS c b).2, ← (famSrcB c b).2]

/-- Four of a kind. -/
theorem four (Φ : ℕ → Asrt F) : bigSep (Finset.range 4) Φ = iprop(Φ 3 ∗ Φ 2 ∗ Φ 1 ∗ Φ 0) := by
  rw [bigSep_range_succ, bigSep_range_succ, bigSep_range_succ, show Finset.range 1 = {0} from rfl, bigSep_singleton]

/-- The rings, whole. -/
def rings : Asrt F := iprop(anyAt (b.wd.view.loc (c : Thread nD τ)) b.wd.view.set ∗ anyAt (b.sd.view.loc (c : Thread nD τ)) b.sd.view.set
  ∗ anyAt (b.bd.view.loc (c : Thread nD τ)) b.bd.view.set)
/-- The four counters, at zero. -/
def counters : Asrt F := iprop(semN c b 0 ∗ semN c b 1 ∗ semN c b 2 ∗ semN c b 3)
/-- The slots, free. -/
def slots : Asrt F := iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl))

/-- The slot's parts in the rings. -/
def part (j : ℕ) : Asrt F := iprop(anyAt (b.wd.view.loc (c : Thread nD τ)) (setW c b j) ∗ anyAt (b.sd.view.loc (c : Thread nD τ)) (setS c b j)
  ∗ anyAt (b.bd.view.loc (c : Thread nD τ)) (setB c b j ∪ setP c b j))

theorem rings_parts : (rings c b : Asrt F) ⊢ bigSep (Finset.range 4) (part c b) := by
  unfold rings part
  rw [bigSep_sep', bigSep_sep', (famW c b).2, (famS c b).2, (famB c b).2]
  exact BIClass.sep_mono (split_any _ 4 (famW c b).1) (BIClass.sep_mono (split_any _ 4 (famS c b).1) (split_any _ 4 (famB c b).1))
theorem parts_rings : bigSep (Finset.range 4) (part c b) ⊢ (rings c b : Asrt F) := by
  unfold rings part
  rw [bigSep_sep', bigSep_sep', (famW c b).2, (famS c b).2, (famB c b).2]
  exact BIClass.sep_mono (join_any _ 3 (famW c b).1) (BIClass.sep_mono (join_any _ 3 (famS c b).1) (join_any _ 3 (famB c b).1))

theorem part_free (j : ℕ) : iprop(part c b j ∗ semN c b j) ⊢ (iprop(free c b (cpN j) ∗ padAny c b (cpN j).hsl) : Asrt F) := by
  unfold part free padAny semN
  iintro ⟨⟨HW, HS, HB⟩, Hv⟩
  ihave HW := (show (anyAt (b.wd.view.loc (c : Thread nD τ)) (setW c b j) : Asrt F) ⊢ _ from owns_any c (wDst b (cpN j))) $$ HW
  ihave HS := (show (anyAt (b.sd.view.loc (c : Thread nD τ)) (setS c b j) : Asrt F) ⊢ _ from owns_any c (sDst b (cpN j))) $$ HS
  ihave HB := (show (anyAt (b.bd.view.loc (c : Thread nD τ)) (setB c b j ∪ setP c b j) : Asrt F)
      ⊢ iprop(anyAt (b.bd.view.loc (c : Thread nD τ)) (setB c b j) ∗ anyAt (b.bd.view.loc (c : Thread nD τ)) (setP c b j)) from by
    unfold anyAt
    iintro ⟨%g, H⟩
    ihave H := (pointsTo_union (show Disjoint (setB c b j) (setP c b j) from disj_pad (cpN j))).1 $$ H
    icases H with ⟨H1, H2⟩
    isplitl [H1]
    · iexists g; iexact H1
    · iexists g; iexact H2) $$ HB
  icases HB with ⟨HB, HP⟩
  ihave HB := (show (anyAt (b.bd.view.loc (c : Thread nD τ)) (setB c b j) : Asrt F) ⊢ _ from owns_any c (bDst b (cpN j))) $$ HB
  ihave HP := (show (anyAt (b.bd.view.loc (c : Thread nD τ)) (setP c b j) : Asrt F) ⊢ _ from owns_any c (padM b (cpN j).hsl)) $$ HP
  isplitr [HP]; swap
  · iexact HP
  isplitl [Hv]; · iexact Hv
  isplitl [HW]; · iexact HW
  isplitl [HS]; · iexact HS
  iexact HB

theorem free_part (j : ℕ) : (iprop(free c b (cpN j) ∗ padAny c b (cpN j).hsl) : Asrt F) ⊢ iprop(part c b j ∗ semN c b j) := by
  unfold part free padAny semN
  iintro ⟨⟨Hv, HW, HS, HB⟩, HP⟩
  ihave HW := (show _ ⊢ (anyAt (b.wd.view.loc (c : Thread nD τ)) (setW c b j) : Asrt F) from any_owns c (wDst b (cpN j))) $$ HW
  ihave HS := (show _ ⊢ (anyAt (b.sd.view.loc (c : Thread nD τ)) (setS c b j) : Asrt F) from any_owns c (sDst b (cpN j))) $$ HS
  ihave HB := (show _ ⊢ (anyAt (b.bd.view.loc (c : Thread nD τ)) (setB c b j) : Asrt F) from any_owns c (bDst b (cpN j))) $$ HB
  ihave HP := (show _ ⊢ (anyAt (b.bd.view.loc (c : Thread nD τ)) (setP c b j) : Asrt F) from any_owns c (padM b (cpN j).hsl)) $$ HP
  ihave HB := (show iprop(anyAt (b.bd.view.loc (c : Thread nD τ)) (setB c b j) ∗ anyAt (b.bd.view.loc (c : Thread nD τ)) (setP c b j))
      ⊢ (anyAt (b.bd.view.loc (c : Thread nD τ)) (setB c b j ∪ setP c b j) : Asrt F) from by
    unfold anyAt
    iintro ⟨⟨%g, H1⟩, ⟨%h, H2⟩⟩
    iexists _
    iapply (pointsTo_join (show Disjoint (setB c b j) (setP c b j) from disj_pad (cpN j)))
    isplitl [H1]; · iexact H1
    iexact H2) $$ [HB HP]
  · isplitl [HB]; · iexact HB
    iexact HP
  isplitr [Hv]; swap
  · iexact Hv
  isplitl [HW]; · iexact HW
  isplitl [HS]; · iexact HS
  iexact HB

theorem slots_of_rings : iprop(rings c b ∗ counters c b) ⊢ (slots c b : Asrt F) := by
  refine (show iprop(rings c b ∗ counters c b) ⊢ iprop(bigSep (Finset.range 4) (part c b) ∗ (counters c b : Asrt F)) from sep_mono_l (rings_parts c b)).trans ?_
  rw [four]
  unfold counters slots
  iintro ⟨⟨H3, H2, H1, H0⟩, ⟨V0, V1, V2, V3⟩⟩
  ihave H0 := (part_free (F := F) c b 0) $$ [H0 V0]
  · isplitl [H0]; · iexact H0
    iexact V0
  ihave H1 := (part_free (F := F) c b 1) $$ [H1 V1]
  · isplitl [H1]; · iexact H1
    iexact V1
  ihave H2 := (part_free (F := F) c b 2) $$ [H2 V2]
  · isplitl [H2]; · iexact H2
    iexact V2
  ihave H3 := (part_free (F := F) c b 3) $$ [H3 V3]
  · isplitl [H3]; · iexact H3
    iexact V3
  icases H0 with ⟨F0, P0⟩
  icases H1 with ⟨F1, P1⟩
  icases H2 with ⟨F2, P2⟩
  icases H3 with ⟨F3, P3⟩
  isplitl [F0 F1 F2 F3]
  · isplitl [F0]; · iexact F0
    isplitl [F1]; · iexact F1
    isplitl [F2]; · iexact F2
    iexact F3
  · isplitl [P0]; · iexact P0
    isplitl [P1]; · iexact P1
    isplitl [P2]; · iexact P2
    iexact P3

theorem rings_of_slots : (slots c b : Asrt F) ⊢ iprop(rings c b ∗ counters c b) := by
  refine (show (slots c b : Asrt F) ⊢ iprop(bigSep (Finset.range 4) (part c b) ∗ counters c b) from ?_).trans (sep_mono_l (parts_rings c b))
  rw [four]
  unfold counters slots
  iintro ⟨⟨F0, F1, F2, F3⟩, ⟨P0, P1, P2, P3⟩⟩
  ihave H0 := (free_part (F := F) c b 0) $$ [F0 P0]
  · isplitl [F0]; · iexact F0
    iexact P0
  ihave H1 := (free_part (F := F) c b 1) $$ [F1 P1]
  · isplitl [F1]; · iexact F1
    iexact P1
  ihave H2 := (free_part (F := F) c b 2) $$ [F2 P2]
  · isplitl [F2]; · iexact F2
    iexact P2
  ihave H3 := (free_part (F := F) c b 3) $$ [F3 P3]
  · isplitl [F3]; · iexact F3
    iexact P3
  icases H0 with ⟨H0, V0⟩
  icases H1 with ⟨H1, V1⟩
  icases H2 with ⟨H2, V2⟩
  icases H3 with ⟨H3, V3⟩
  isplitl [H0 H1 H2 H3]
  · isplitl [H3]; · iexact H3
    isplitl [H2]; · iexact H2
    isplitl [H1]; · iexact H1
    iexact H0
  · isplitl [V0]; · iexact V0
    isplitl [V1]; · iexact V1
    isplitl [V2]; · iexact V2
    iexact V3

/-! ## The result -/

/-- The result, block by block. -/
def result : FVec F S72x6144 .bf16 := fun x =>
  blockN X ((x 1).val / 512) ⟨(x 1).val / 256 % 2, Nat.mod_lt _ (by decide)⟩ (ValueIdx.ix2 (x 0) ⟨(x 1).val % 256, Nat.mod_lt _ (by decide)⟩)

variable {X}

theorem outAt_apply (O : FVec F S72x6144 .bf16) (n : ℕ) (x : S72x6144.Idx) (h : (x 1).val < 512 * n) : outAt X O n x = result X x := by
  induction n with
  | zero => omega
  | succ n ih =>
    show putCols (putCols (outAt X O n) (512 * n) (blockN X n 0)) (512 * n + 256) (blockN X n 1) x = _
    unfold putCols
    by_cases h1 : 512 * n + 256 ≤ (x 1).val
    · rw [dif_pos ⟨h1, by omega⟩]
      unfold result
      have e1 : (x 1).val / 512 = n := by omega
      have e2 : (⟨(x 1).val / 256 % 2, Nat.mod_lt _ (by decide)⟩ : Fin 2) = 1 := Fin.ext (show (x 1).val / 256 % 2 = 1 by omega)
      rw [e1, e2]
      congr 2
      exact Fin.ext (show (x 1).val - (512 * n + 256) = (x 1).val % 256 by omega)
    · rw [dif_neg (by omega)]
      by_cases h2 : 512 * n ≤ (x 1).val
      · rw [dif_pos ⟨h2, by omega⟩]
        unfold result
        have e1 : (x 1).val / 512 = n := by omega
        have e2 : (⟨(x 1).val / 256 % 2, Nat.mod_lt _ (by decide)⟩ : Fin 2) = 0 := Fin.ext (show (x 1).val / 256 % 2 = 0 by omega)
        rw [e1, e2]
        congr 2
        exact Fin.ext (show (x 1).val - 512 * n = (x 1).val % 256 by omega)
      · rw [dif_neg (by omega)]
        exact ih (by omega)

/-- Every column of the result is written. -/
theorem outAt_eq (O : FVec F S72x6144 .bf16) : outAt X O 12 = result X := by
  funext x
  exact outAt_apply O 12 x (by have : (x 1).val < 6144 := (x 1).isLt; omega)

end Cert.KernelIdeal.Down

end
-- ==== Proof.Launch.lean ====
/-
  The launch: the kernel's one call runs from any memory to one in which the result holds its blocks, every argument is as
  it was and every counter is at zero.
-/
module

public import proofs.«01_k».proof.Proof.Split
public import proofs.«01_k».proof.Proof.Gen.KernelIdeal.Launch
public import proofs.«01_k».proof.Proof.Gen.KernelIdeal.Points

@[expose] public section

noncomputable section

namespace Cert.KernelIdeal.Down

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers at the call: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's operands -/

/-- What the body is called with. -/
def bufs (t : Fin cfg0.N) : Bufs where
  h := win0_0.stage (cfg0.slots t 0)
  hh := hstage0_0 0
  md := win0_1.stage (cfg0.slots t 1)
  hmd := hstage0_1 0
  wdn := Memref.whole main_arg2
  hwdn := Memref.isWhole_whole _
  sdn := Memref.whole main_arg3
  hsdn := Memref.isWhole_whole _
  bdn := Memref.whole main_arg4
  hbdn := Memref.isWhole_whole _
  out := win0_2.stage (cfg0.slots t 2)
  hout := hstage0_2 0
  wd := Memref.whole cc0_scratch0
  hwd := Memref.isWhole_whole _
  sd := Memref.whole cc0_scratch1
  hsd := Memref.isWhole_whole _
  bd := Memref.whole cc0_scratch2
  hbd := Memref.isWhole_whole _
  sa := Memref.whole cc0_scratch3
  hsa := Memref.isWhole_whole _
  sb := Memref.whole cc0_scratch4
  hsb := Memref.isWhole_whole _
  sem := cc0_scratch5

theorem body_eq (t : Fin cfg0.N) : (bodyAt0 t : P F PUnit) = whole (bufs t) := cc0_eq (bufs t)

/-- The four cells the body's copies complete on. -/
abbrev osem0 : Fin 4 → SemLoc sig := fun j => (![SemLoc.dma 3, SemLoc.dma 4, SemLoc.dma 5, SemLoc.dma 6] : Fin 4 → SemLoc sig) j
theorem ownSemFacts0 : Pipeline.OwnSemFacts spec0 osem0 := by decide
theorem counters_eq (c : Dev nD) (t : Fin cfg0.N) : (Pipeline.ownSems0 (Ix := Unit) (Name := ℕ) (U := Pipeline.UD sig nD τ) (Lvl := ℕ) (Val := Elt F) (τ := τ) osem0 c : Asrt F)
    = counters c (bufs t) := by
  rw [Pipeline.ownSems0_eq_of_list c osem0 [0, 1, 2, 3] (by decide) (by decide)]; rfl

/-- The arrays the copies read. -/
def H0 : Finset (Ref sig .tc) := {main_arg2, main_arg3, main_arg4}
theorem H0_sub : H0 ⊆ Pipeline.restRefs sig spec0 := by decide

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The contents of what the body reads. -/
def data (c : Dev nD) (t : Fin cfg0.N) : Data F where
  H := iblk m c 0 t
  M := iblk m c 1 t
  W := V m c main_arg2
  Sd := V m c main_arg3
  Bd := V m c main_arg4

theorem arrays_eq (c : Dev nD) (t : Fin cfg0.N) : (bigSep H0 (fun b => ((c : Thread nD τ).loc b) ↦{fullShare} V m c b) : Asrt F)
    = srcs c (bufs t) (data m c t) (Finset.range 12) := by
  rw [BI.bigSep_eq_bigSepL_of_eq [main_arg2, main_arg3, main_arg4] (by decide) (by decide),
    srcs_eq c (bufs t) (data m c t) (V m c main_arg2) (V m c main_arg3) (V m c main_arg4) rfl rfl rfl]
  unfold bufs
  simp only [Memref.whole, View.set_whole]
  rfl

theorem rings_eq (c : Dev nD) (t : Fin cfg0.N) : (Pipeline.scopedRest (Ix := Unit) (Name := ℕ) (U := Pipeline.UD sig nD τ) (Lvl := ℕ) (Val := Elt F) spec0 c : Asrt F)
    = iprop((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f)
      ∗ (∃ d, owns (c : Thread nD τ) (bufs t).sa fullShare d) ∗ (∃ d, owns (c : Thread nD τ) (bufs t).sb fullShare d)) := by
  rw [scopedRest0_eq]
  unfold bufs
  simp only [owns_whole]
  rfl

theorem rings_eq' (c : Dev nD) (t : Fin cfg0.N) : (rings c (bufs t) : Asrt F)
    = iprop((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f)) := by
  unfold rings anyAt bufs
  simp only [Memref.whole, View.set_whole]

/-! ## The proof data -/

/-- The one pipeline: the inputs stay, the result's buffer ends with the blocks. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => result (data m c t)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = result (data m c t) := by dsimp only [dats]

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : Asrt F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq, show (dats m 0 c).Φ t.succ = (dats m 0 c).Φ t.castSucc from rfl, after0_0, after0_1, after0_2]
  rw [show (dats m 0 c).Φ t.castSucc = Pipeline.ΦD osem0 spec0 H0 (V m) c from rfl, Pipeline.ΦD_eq, rings_eq c t, counters_eq c t, arrays_eq m c t]
  simp only [before0_0, before0_1]
  unfold Dat.owesAt Pipeline.owesWithin
  rw [show (dats m 0 c).owed t.castSucc = 0 from rfl, show (dats m 0 c).owed t.succ = 0 from rfl]
  iintro ⟨⟨⟨HW, HS, HB, ⟨%da, Ha⟩, ⟨%db, Hb⟩⟩, Hg, HC, HA⟩, ⟨%W, -, HO⟩, ⟨%d0, H0⟩, ⟨%d1, H1⟩, ⟨%d2, H2⟩⟩
  ihave HR := (Entails.of_eq (rings_eq' (F := F) c t).symm) $$ [HW HS HB]
  · isplitl [HW]; · iexact HW
    isplitl [HS]; · iexact HS
    iexact HB
  ihave HF := (slots_of_rings (F := F) c (bufs t)) $$ [HR HC]
  · isplitl [HR]; · iexact HR
    iexact HC
  unfold slots
  icases HF with ⟨HF, HP⟩
  iapply (whole_wp (c := c) (b := bufs t) (X := data m c t) ((dats m 0 c).before 2 t d2) (fun _ => _))
  unfold Pre lefts
  isplitl [HF HP HA Ha Hb HO H0 H1 H2]
  · isplitl [HF]; · iexact HF
    isplitl [HP]; · iexact HP
    isplitl [HA]; · iexact HA
    isplitl [H0 H1]
    · isplitl [H0]; · iexact H0
      iexact H1
    isplitl [Ha Hb]
    · iexists ![da, db]
      isplitl [Ha]; · iexact Ha
      iexact Hb
    isplitl [H2]; · iexact H2
    iexists W
    iexact HO
  iintro ⟨HF, HP, HA, ⟨H0, H1⟩, ⟨%sc, Ha, Hb⟩, H2, ⟨%W', HO⟩⟩
  ihave HR := (rings_of_slots (F := F) c (bufs t)) $$ [HF HP]
  · unfold slots
    isplitl [HF]; · iexact HF
    iexact HP
  icases HR with ⟨HR, HC⟩
  ihave HR := (Entails.of_eq (rings_eq' (F := F) c t)) $$ HR
  icases HR with ⟨HW, HS, HB⟩
  isplitl [HW HS HB Ha Hb Hg HC HA]
  · isplitl [HW HS HB Ha Hb]
    · isplitl [HW]; · iexact HW
      isplitl [HS]; · iexact HS
      isplitl [HB]; · iexact HB
      isplitl [Ha]
      · iexists _; iexact Ha
      iexists _; iexact Hb
    isplitl [Hg]; · iexact Hg
    isplitl [HC]; · iexact HC
    iexact HA
  isplitl [HO]
  · iexists W'; isplitr; · ipureintro; exact fun _ _ => Or.inl trivial
    iexact HO
  isplitl [H0]; · iexact H0
  isplitl [H1]; · iexact H1
  iapply (Entails.of_eq (congrArg (owns (c : Thread nD τ) (bufs t).out fullShare) (outAt_eq (X := data m c t) ((dats m 0 c).before 2 t d2))))
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩, h.2⟩) (run_main m ρ)

end Cert.KernelIdeal.Down

end
-- ==== Proof.Frames.lean ====
/-
  The frames: the idealized kernel's and the kernel's, one program under two names.
-/
module

public import proofs.«01_k».proof.Proof.Launch
public import proofs.«01_k».proof.Proof.Gen.Kernel.Frame

@[expose] public section

noncomputable section

namespace Cert.KernelIdeal.Down

open Idealize.ShloMosaic Idealize.ShloMosaic.TcCoe Idealize.ShloMosaic.Tactic
open Idealize.SL.Sem

/-- The frame of the idealized kernel, at any floats. -/
def FrameIdeal : Prop := ∀ (F : FTy → Type) [FloatOps F] (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The frame of the kernel, at any floats. -/
def FrameKernel : Prop := ∀ (F : FTy → Type) [FloatOps F] (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

theorem frameIdeal : FrameIdeal := fun _ _ m g => frame_run m g

/-- The kernel and its idealization are one program. -/
theorem same : FrameIdeal = FrameKernel := by chain_rfl

theorem frameKernel : FrameKernel := same ▸ frameIdeal

end Cert.KernelIdeal.Down

end
-- ==== Proof.Final.lean ====
/-
  The result array after the run: the kernel has one grid point and its windows are whole arrays, so the array ends with
  what the body left in the staging buffer, computed from the argument arrays.
-/
module

public import proofs.«01_k».proof.Proof.Launch

@[expose] public section

noncomputable section

namespace Cert.KernelIdeal.Down

open Idealize.ShloMosaic Idealize.ShloMosaic.TcCoe Idealize.ShloMosaic.Tactic
open Idealize.SL Idealize.SL.Sem
open Cert.KernelIdeal.Gen
open Idealize.ShloMosaic.Pipeline (Dat Cfg Window)

variable {F : FTy → Type} [FloatOps F] (m : (ℓ : Loc nD τ sig) → Buf (Elt F) ℓ) (ρ : Dev nD → PrngReg)

/-- The argument arrays of a device. -/
def args (c : Dev nD) : Data F where
  H := m ((c : Thread nD τ).loc main_arg0)
  M := m ((c : Thread nD τ).loc main_arg1)
  W := m ((c : Thread nD τ).loc main_arg2)
  Sd := m ((c : Thread nD τ).loc main_arg3)
  Bd := m ((c : Thread nD τ).loc main_arg4)

theorem data_eq (c : Dev nD) : data m c t0_0 = args m c := by
  have hz0 : (fun a => (win0_0.index t0_0) a * main_arg0.ty.shape.size a) = fun _ => 0 := funext fun a => by fin_cases a <;> decide
  have hr0 := fun f => Memref.read_access_unit_zero (Elt F) main_arg0 hz0 (fun a => by fin_cases a <;> decide) f
  have hz1 : (fun a => (win0_1.index t0_0) a * main_arg1.ty.shape.size a) = fun _ => 0 := funext fun a => by fin_cases a <;> decide
  have hr1 := fun f => Memref.read_access_unit_zero (Elt F) main_arg1 hz1 (fun a => by fin_cases a <;> decide) f
  unfold data args
  congr 1
  · unfold iblk; exact hr0 _
  · unfold iblk; exact hr1 _

/-- The result array after the run. -/
theorem final_out (c : Dev nD) :
    ((cfg0.win (2 : Fin 3)).blk t0_0).view.read (Elt F) ((dats (F := F) m 0 c).arrAt (2 : Fin 3) cfg0.N)
      = (dats (F := F) m 0 c).flushed (2 : Fin 3) t0_0 := by
  rw [show cfg0.N = (t0_0 : Fin cfg0.N).val + 1 from rfl, (dats (F := F) m 0 c).arrAt_succ (2 : Fin 3) t0_0]
  rw [show (cfg0.win (2 : Fin 3)).flush t0_0 = true from by decide, if_pos rfl]
  exact View.read_write_univ _ _

theorem final_value (c : Dev nD) : (dats (F := F) m 0 c).arrAt (2 : Fin 3) cfg0.N = result (args m c) := by
  have ho := final_out (F := F) m c
  have hz2 : (fun a => (win0_2.index t0_0) a * main_v0.ty.shape.size a) = fun _ => 0 := funext fun a => by fin_cases a <;> decide
  have hr2 := fun f => Memref.read_access_unit_zero (Elt F) main_v0 hz2 (fun a => by fin_cases a <;> decide) f
  rw [hr2] at ho
  rw [ho]
  show (cfg0.win (2 : Fin 3)).cut _ ((dats (F := F) m 0 c).after 2 t0_0) = _
  rw [after0_2, data_eq]
  rfl

/-- The kernel's run: the result is the blocks of the arguments, the arguments end as they were. -/
theorem value_run : θ_run defs (onTc (τ := τ) (main (F := F))) ⟨m, fun _ => 0, ρ⟩ (fun r => ∀ c : Dev nD,
      r.2.mem ((c.tc : Thread nD τ).loc main_v0) = result (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 2).trans (final_value m c),
      ((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩) (run_main m ρ)

end Cert.KernelIdeal.Down

end
-- ==== Proof.Nibble.lean ====
/-
  The four-bit codes. A byte holds two signed codes: the kernel keeps a field in the high half of a byte, which is
  sixteen times the code; the reference sign-extends the field. Here the two are compared on all bytes.
-/
module

public import proofs.«01_k».proof.Proof.Struct
public import Idealize.ShloMosaic.Lib.BitcastFour
public import Idealize.ShloMosaic.PureOps.Ideal

@[expose] public section

noncomputable section

namespace Cert.KernelIdeal.Down

open Idealize.ShloMosaic Idealize.ShloMosaic.TcCoe
open Facts₀ Facts

/-- The signed code in field `u` of a byte, as a number. -/
def code (u : Fin 2) (b : BitVec 8) : ℤ :=
  let v : ℕ := match u with
    | 0 => b.toNat % 16
    | 1 => b.toNat / 16
  if 8 ≤ v then v - 16 else v

/-- Field `u` moved to the high half of its byte. -/
def high (u : Fin 2) (b : BitVec 8) : BitVec 8 :=
  match u with
  | 0 => (b <<< 4) &&& 240#8
  | 1 => b &&& 240#8

/-- The field in the high half is sixteen times the code. -/
theorem high_toInt (u : Fin 2) (b : BitVec 8) : (high u b).toInt = 16 * code u b := by
  revert b; fin_cases u <;> decide

theorem mask_bit (p : ℕ) (hp : p < 32) : (4042322160#32 : BitVec 32).getLsbD p = decide (4 ≤ p % 8) := by
  interval_cases p <;> rfl

theorem mask8_bit (p : ℕ) (hp : p < 8) : (240#8 : BitVec 8).getLsbD p = decide (4 ≤ p) := by
  interval_cases p <;> rfl

/-- A word array read as bytes: bit `q` of byte `x` of a column is bit `(8x + q) % 32` of word `(8x + q) / 32`. -/
theorem byte_bit (w : IVec S64x256 32) (x y : Fin 256) (q : ℕ) (hq : q < 8) :
    (bitcast S256x256 8 w bitcasts_S64x256_w32_S256x256_w8 (ValueIdx.ix2 x y)).getLsbD q
      = (w (ValueIdx.ix2 (⟨(8 * x.val + q) / 32, by omega⟩ : Fin 64) y)).getLsbD ((8 * x.val + q) % 32) := by
  rw [bitcast_getLsbD w bitcasts_S64x256_w32_S256x256_w8 _ q hq (by decide)]
  have hrow : S256x256.row (ValueIdx.ix2 x y) = x.val := rfl
  congr 2
  · funext c
    match c with
    | ⟨0, _⟩ => exact Fin.ext ((bitcasts_S64x256_w32_S256x256_w8.srcIdx_row _ _ _ ⟨0, Nat.zero_lt_two⟩ rfl).trans (by rw [hrow, Nat.mul_comm]))
    | ⟨1, _⟩ => exact Fin.ext (bitcasts_S64x256_w32_S256x256_w8.srcIdx_other _ _ _ ⟨1, Nat.one_lt_two⟩ (by show ¬ 1 + 2 = 2; omega))
  · rw [hrow, Nat.mul_comm]

/-- Bytes read as words: bit `p` of word `a` of a column is bit `p % 8` of byte `4a + p / 8`. -/
theorem word_bit (blk : IVec S256x256 8) (a : Fin 64) (x y : Fin 256) (p : ℕ) (hp : p < 32) (hx : x.val = 4 * a.val + p / 8) :
    (bitcast S64x256 32 blk bitcasts_S256x256_w8_S64x256_w32 (ValueIdx.ix2 a y)).getLsbD p = (blk (ValueIdx.ix2 x y)).getLsbD (p % 8) :=
  bitcast_8_32_getLsbD_ix2 blk _ a y p hp x hx

/-- The kernel's masked words of field 1, read as bytes again. -/
theorem words_high1 (blk : IVec S256x256 8) (x y : Fin 256) :
    bitcast S256x256 8 (andi (bitcast S64x256 32 blk bitcasts_S256x256_w8_S64x256_w32)
        (broadcast S64x256 4042322160#32)) bitcasts_S64x256_w32_S256x256_w8 (ValueIdx.ix2 x y)
      = high 1 (blk (ValueIdx.ix2 x y)) := by
  apply BitVec.eq_of_getLsbD_eq
  intro q hq
  rw [byte_bit _ x y q hq]
  show ((bitcast S64x256 32 blk bitcasts_S256x256_w8_S64x256_w32 _) &&& (4042322160#32)).getLsbD _ = (_ &&& 240#8).getLsbD q
  rw [BitVec.getLsbD_and, BitVec.getLsbD_and, mask_bit _ (by omega), mask8_bit _ hq,
    word_bit blk _ x y _ (by omega) (by simp only []; omega)]
  have e1 : (8 * x.val + q) % 32 % 8 = q := by omega
  rw [e1]

/-- The kernel's shifted and masked words of field 0, read as bytes again. -/
theorem words_high0 (blk : IVec S256x256 8) (x y : Fin 256) :
    bitcast S256x256 8 (andi (shli (bitcast S64x256 32 blk bitcasts_S256x256_w8_S64x256_w32)
        (broadcast S64x256 4#32)) (broadcast S64x256 4042322160#32)) bitcasts_S64x256_w32_S256x256_w8 (ValueIdx.ix2 x y)
      = high 0 (blk (ValueIdx.ix2 x y)) := by
  apply BitVec.eq_of_getLsbD_eq
  intro q hq
  rw [byte_bit _ x y q hq]
  show ((bitcast S64x256 32 blk bitcasts_S256x256_w8_S64x256_w32 _ <<< (4 : ℕ)) &&& (4042322160#32)).getLsbD _ = ((blk (ValueIdx.ix2 x y) <<< (4 : ℕ)) &&& 240#8).getLsbD q
  rw [BitVec.getLsbD_and, BitVec.getLsbD_and, mask_bit _ (by omega), mask8_bit _ hq, BitVec.getLsbD_shiftLeft, BitVec.getLsbD_shiftLeft]
  have e1 : (8 * x.val + q) % 32 % 8 = q := by omega
  by_cases h4 : 4 ≤ q
  · rw [word_bit blk _ x y _ (by omega) (by simp only []; omega)]
    have e2 : ((8 * x.val + q) % 32 - 4) % 8 = q - 4 := by omega
    have e3 : ¬ (8 * x.val + q) % 32 < 4 := by omega
    have e4 : (8 * x.val + q) % 32 < 32 := by omega
    rw [e1, e2]; simp [h4, hq, e3, e4, show ¬ q < 4 by omega]
  · simp [e1, h4]

/-- A tile of codes as numbers: sixteen times the code. -/
theorem field_apply (u : Fin 2) (blk : IVec S256x256 8) (x y : Fin 256) :
    field (F := Ideal) u blk (ValueIdx.ix2 x y) = (((16 * code u (blk (ValueIdx.ix2 x y)) : ℤ) : ℝ) : EReal) := by
  rw [← high_toInt]
  fin_cases u
  · exact congrArg (fun b : BitVec 8 => ((b.toInt : ℝ) : EReal)) (words_high0 blk x y)
  · exact congrArg (fun b : BitVec 8 => ((b.toInt : ℝ) : EReal)) (words_high1 blk x y)

end Cert.KernelIdeal.Down

end
-- ==== Proof.Tiles.lean ====
/-
  The tiles and the tiles' products over the extended reals, entry by entry.
-/
module

public import proofs.«01_k».proof.Proof.Machine
public import proofs.«01_k».proof.Proof.Nibble
public import Idealize.ShloMosaic.Lib.MatmulPlain
public import Idealize.ShloMosaic.Lib.Pointwise

@[expose] public section

noncomputable section

namespace Cert.KernelIdeal.Down

open Idealize.ShloMosaic Idealize.ShloMosaic.TcCoe
open Facts₀ Facts
open scoped BigOperators

/-- A product of two tiles at an entry. -/
theorem pass_apply (x : FVec Ideal S80x256 .bf16) (y : FVec Ideal S256x256 .bf16) (r : Fin 80) (j : Fin 256) :
    pass x y (ValueIdx.ix2 r j) = ∑ k : Fin 256, (x (ValueIdx.ix2 r k) * y (ValueIdx.ix2 k j) : EReal) := by
  have h := Ideal.matmul_plain_apply (M := 80) (K := 256) (N := 256) none x y (fun _ => (0 : EReal)) r j
  rw [zero_add] at h
  rw [← h]
  show Ideal.mxuPass _ _ _ _ = _
  rw [Ideal.matmul_apply, zero_add]
  rfl

theorem scaleRow_apply (r : FVec Ideal S1x256 .f32) (x : Fin 128) (y : Fin 256) :
    scaleRow r (ix2 x y) = r (ix2 0 y) := by
  pointwise [scaleRow]

/-- A tile of the weights at an entry. -/
theorem wval_apply (u : Fin 2) (blk : IVec S256x256 8) (r0 r1 : FVec Ideal S1x256 .f32) (x y : Fin 256) :
    wval u blk r0 r1 (ix2 x y) = (field (F := Ideal) u blk (ix2 x y) * (if x.val < 128 then r0 (ix2 0 y) else r1 (ix2 0 y)) : EReal) := by
  unfold wval
  pointwise
  split <;> simp only [scaleRow_apply]

/-- A tile of the adapters' second factors at an entry. -/
theorem bval_apply (v : FVec Ideal S1x8x32x256 .bf16) (x y : Fin 256) :
    bval v (ix2 x y) = v (ix4 0 ⟨x.val / 32, by omega⟩ ⟨x.val % 32, by omega⟩ y) := by
  pointwise [bval]

/-- The constant that the scales are multiplied by. -/
theorem sixteenth : Ideal.ofBits .f32 0x3D800000#32 = ((1 / 16 : ℝ) : EReal) := by
  simp [Ideal.ofBits, Ideal.ieee, -EReal.coe_mul]; norm_num

/-- The widened scales at an entry. -/
theorem scval_apply (v : FVec Ideal S1x128x256 .bf16) (x : Fin 128) (y : Fin 256) :
    scval v (ix2 x y) = (v (ix3 0 x y) * ((1 / 16 : ℝ) : EReal) : EReal) := by
  pointwise [scval]
  rw [sixteenth]

/-- A block of the result at an entry. -/
theorem oval_apply (y0 y1 : FVec Ideal S80x256 .f32) (x : Fin 72) (y : Fin 256) :
    oval y0 y1 (ix2 x y) = (y0 (ix2 ⟨x.val, by omega⟩ y) + y1 (ix2 ⟨x.val, by omega⟩ y) : EReal) := by
  pointwise [oval]

example (a b : Fin 256) : (ix2 a b : S256x256.Idx) = ValueIdx.ix2 a b := rfl

end Cert.KernelIdeal.Down

end
-- ==== Proof.Formula.lean ====
/-
  The result as one formula over the extended reals: two sums of weighted codes, one for each field of the packed bytes,
  and the adapters' sum.
-/
module

public import proofs.«01_k».proof.Proof.Nibble
public import Idealize.ShloMosaic.Lib.Pointwise

@[expose] public section

noncomputable section

namespace Cert.KernelIdeal.Down

open Idealize.ShloMosaic Idealize.ShloMosaic.TcCoe
open scoped BigOperators

/-- The product at position `n` of field `u`'s half of a row of `h` with a column of the weights. -/
def wterm (H : FVec Ideal S80x16384 .bf16) (W : IVec S8192x6144 8) (S : FVec Ideal S128x6144 .bf16) (u : Fin 2) (r : Fin 80) (d : Fin 6144)
    (n : ℕ) : EReal :=
  H (ix2 r ⟨(8192 * u.val + n) % 16384, Nat.mod_lt _ (by decide)⟩)
    * ((((code u (W (ix2 ⟨n % 8192, Nat.mod_lt _ (by decide)⟩ d)) : ℤ) : ℝ) : EReal) * S (ix2 ⟨(64 * u.val + n / 128) % 128, Nat.mod_lt _ (by decide)⟩ d))

/-- The product at position `n` of a row of the adapters' first products with a column of their second factors: position
    `32 a + j` is rank `j` of adapter `a`, of thirteen adapters. -/
def mterm (M : FVec Ideal S80x512 .bf16) (B : FVec Ideal S13x32x6144 .bf16) (r : Fin 80) (d : Fin 6144) (n : ℕ) : EReal :=
  if h : n < 416 then M (ix2 r ⟨n, by omega⟩) * B (ix3 ⟨n / 32, by omega⟩ ⟨n % 32, by omega⟩ d) else 0

/-- An entry of the result. -/
def entry (H : FVec Ideal S80x16384 .bf16) (M : FVec Ideal S80x512 .bf16) (W : IVec S8192x6144 8) (S : FVec Ideal S128x6144 .bf16)
    (B : FVec Ideal S13x32x6144 .bf16) (r : Fin 80) (d : Fin 6144) : EReal :=
  (∑ n ∈ Finset.range 8192, wterm H W S 0 r d n + ∑ n ∈ Finset.range 8192, wterm H W S 1 r d n) + ∑ n ∈ Finset.range 416, mterm M B r d n

/-- A sum over `a * m` positions, by blocks of `a`. -/
theorem sum_blocks {α : Type} [AddCommMonoid α] (f : ℕ → α) (a m : ℕ) :
    ∑ n ∈ Finset.range (a * m), f n = ∑ t ∈ Finset.range m, ∑ k ∈ Finset.range a, f (a * t + k) := by
  induction m with
  | zero => simp
  | succ m ih => rw [Nat.mul_succ, Finset.sum_range_add, ih, Finset.sum_range_succ]

end Cert.KernelIdeal.Down

end
-- ==== Proof.Sums.lean ====
/-
  The kernel's blocks are the formula: a chunk's chain of products on a unit is the sum over one field of the codes and
  one half of the adapters' positions.
-/
module

public import proofs.«01_k».proof.Proof.Split
public import proofs.«01_k».proof.Proof.Tiles
public import proofs.«01_k».proof.Proof.Formula

@[expose] public section

noncomputable section

namespace Cert.KernelIdeal.Down

open Idealize.ShloMosaic Idealize.ShloMosaic.TcCoe
open Facts₀ Facts
open scoped BigOperators

/-- The chain is a sum. -/
theorem chain_apply (D : Reads Ideal) (w p u : Fin 2) (sc : FVec Ideal S128x256 .f32) (n : ℕ) (x : S80x256.Idx) :
    chain D w p u sc n x = ∑ t ∈ Finset.range (n + 1), (pass (lt D u t) (rt D w p u t sc) x : EReal) := by
  induction n with
  | zero => rw [Finset.sum_range_one]; rfl
  | succ n ih => rw [Finset.sum_range_succ, ← ih]; rfl

/-- Sixteen times a code, times a sixteenth of a scale. -/
theorem code_mul (z : ℤ) (s : EReal) : (((16 * z : ℤ) : ℝ) : EReal) * (s * ((1 / 16 : ℝ) : EReal)) = ((z : ℝ) : EReal) * s := by
  rw [mul_comm s, ← mul_assoc, ← EReal.coe_mul]
  congr 2
  push_cast; ring

variable (X : Data Ideal) (i : ℕ) (p u : Fin 2) (r : Fin 80) (y : Fin 256)

/-- The scales of a chunk's slot. -/
abbrev scl : FVec Ideal S128x256 .f32 := scval ((readsOf X fun _ => i).st 0 p)

/-- The column of the result. -/
abbrev colOf (hi : i < 12) : Fin 6144 := ⟨512 * i + 256 * p.val + y.val, by omega⟩

theorem row_apply (hi : i < 12) (k : ℕ) :
    rowOf (scl X i p) k (ix2 0 y) = (X.Sd (ix2 ⟨k % 128, Nat.mod_lt _ (by decide)⟩ (colOf i p y hi)) * ((1 / 16 : ℝ) : EReal) : EReal) := by
  refine (scval_apply _ _ _).trans (congrArg (· * ((1 / 16 : ℝ) : EReal)) (congrArg X.Sd ?_))
  show ValueIdx.ix2 _ _ = ValueIdx.ix2 _ _
  congr 1
  apply Fin.ext
  show 512 * (i % 12) + (256 * p.val + y.val) = 512 * i + 256 * p.val + y.val
  omega

/-- A step of the weights. -/
theorem step_apply (hi : i < 12) (t : ℕ) (ht : t < 32) :
    pass (lt (readsOf X fun _ => i) u t) (rt (readsOf X fun _ => i) 0 p u t (scl X i p)) (ValueIdx.ix2 r y)
      = ∑ k ∈ Finset.range 256, wterm X.H X.W X.Sd u r (colOf i p y hi) (256 * t + k) := by
  rw [pass_apply, Finset.sum_range]
  refine Finset.sum_congr rfl fun k _ => ?_
  unfold lt rt wterm
  rw [if_pos ht, if_pos ht]
  refine congrArg₂ (· * ·) ?_ ?_
  · refine congrArg X.H ?_
    show ValueIdx.ix2 _ _ = ValueIdx.ix2 _ _
    congr 1
    apply Fin.ext
    show 256 * ((32 * u.val + t) % 64) + k.val = (8192 * u.val + (256 * t + k.val)) % 16384
    omega
  · refine (wval_apply _ _ _ _ _ _).trans ?_
    rw [row_apply X i p y hi, row_apply X i p y hi]
    have e : (if k.val < 128 then (X.Sd (ix2 ⟨2 * (32 * u.val + t) % 128, Nat.mod_lt _ (by decide)⟩ (colOf i p y hi)) * ((1 / 16 : ℝ) : EReal) : EReal)
        else X.Sd (ix2 ⟨(2 * (32 * u.val + t) + 1) % 128, Nat.mod_lt _ (by decide)⟩ (colOf i p y hi)) * ((1 / 16 : ℝ) : EReal))
        = X.Sd (ix2 ⟨(64 * u.val + (256 * t + k.val) / 128) % 128, Nat.mod_lt _ (by decide)⟩ (colOf i p y hi)) * ((1 / 16 : ℝ) : EReal) := by
      split
      · congr 3; apply Fin.ext; show 2 * (32 * u.val + t) % 128 = (64 * u.val + (256 * t + k.val) / 128) % 128; omega
      · congr 3; apply Fin.ext; show (2 * (32 * u.val + t) + 1) % 128 = (64 * u.val + (256 * t + k.val) / 128) % 128; omega
    rw [e]
    refine (congrArg (· * _) (field_apply u _ k y)).trans ?_
    rw [code_mul]
    congr 4
    refine congrArg X.W ?_
    show ValueIdx.ix2 _ _ = ValueIdx.ix2 _ _
    congr 1
    · apply Fin.ext
      show 256 * ((32 * u.val + t) % 32) + k.val = (256 * t + k.val) % 8192
      omega
    · apply Fin.ext
      show 512 * (i % 12) + (256 * p.val + y.val) = 512 * i + 256 * p.val + y.val
      omega

theorem zb_ideal : zb (F := Ideal) = (0 : EReal) := Ideal.ofBits_zero_bf16

/-- The step of the adapters. -/
theorem last_apply (hi : i < 12) :
    pass (lt (readsOf X fun _ => i) u 32) (rt (readsOf X fun _ => i) 0 p u 32 (scl X i p)) (ValueIdx.ix2 r y)
      = ∑ k ∈ Finset.range 256, mterm X.M X.Bd r (colOf i p y hi) (256 * u.val + k) := by
  rw [pass_apply, Finset.sum_range]
  refine Finset.sum_congr rfl fun k _ => ?_
  unfold lt rt mterm
  rw [if_neg (lt_irrefl 32), if_neg (lt_irrefl 32)]
  have hb := bval_apply ((readsOf X fun _ => i).bt 0 p u) k y
  refine (congrArg (_ * ·) hb).trans ?_
  by_cases h : 256 * u.val + k.val < 416
  · have h' : 8 * u.val + k.val / 32 < 13 := by omega
    rw [dif_pos h]
    refine congrArg₂ (· * ·) rfl ((dif_pos h').trans (congrArg X.Bd ?_))
    show ValueIdx.ix3 _ _ _ = ValueIdx.ix3 _ _ _
    congr 1
    · apply Fin.ext; show 8 * u.val + k.val / 32 = (256 * u.val + k.val) / 32; omega
    · apply Fin.ext; show k.val % 32 = (256 * u.val + k.val) % 32; omega
    · apply Fin.ext
      show 512 * (i % 12) + (256 * p.val + y.val) = 512 * i + 256 * p.val + y.val
      omega
  · have h' : ¬ 8 * u.val + k.val / 32 < 13 := by omega
    rw [dif_neg h]
    refine (congrArg (_ * ·) ((dif_neg h').trans zb_ideal)).trans (mul_zero _)

/-- A unit's sum of a chunk. -/
theorem unit_apply (hi : i < 12) :
    chain (readsOf X fun _ => i) 0 p u (scl X i p) 32 (ValueIdx.ix2 r y)
      = (∑ n ∈ Finset.range 8192, wterm X.H X.W X.Sd u r (colOf i p y hi) n
        + ∑ k ∈ Finset.range 256, mterm X.M X.Bd r (colOf i p y hi) (256 * u.val + k) : EReal) := by
  rw [chain_apply, Finset.sum_range_succ, last_apply X i p u r y hi, show (8192 : ℕ) = 256 * 32 from rfl, sum_blocks]
  congr 1
  exact Finset.sum_congr rfl fun t ht => step_apply X i p u r y hi t (Finset.mem_range.mp ht)

/-- The adapters' positions past the thirteenth adapter add nothing. -/
theorem adapters (M : FVec Ideal S80x512 .bf16) (B : FVec Ideal S13x32x6144 .bf16) (d : Fin 6144) :
    ∑ k ∈ Finset.range 256, mterm M B r d (256 * (0 : Fin 2).val + k) + ∑ k ∈ Finset.range 256, mterm M B r d (256 * (1 : Fin 2).val + k)
      = ∑ n ∈ Finset.range 416, mterm M B r d n := by
  have h := (sum_blocks (mterm M B r d) 256 2).symm.trans (Finset.sum_range_add (mterm M B r d) 416 96)
  rw [Finset.sum_range_succ, Finset.sum_range_one] at h
  refine h.trans ?_
  rw [Finset.sum_eq_zero (f := fun x => mterm M B r d (416 + x)) fun k _ => dif_neg (by omega), add_zero]

/-- The kernel's result at an entry. -/
theorem result_apply (x : Fin 72) (d : Fin 6144) :
    result X (ix2 x d) = entry X.H X.M X.W X.Sd X.Bd ⟨x.val, by omega⟩ d := by
  have hi : d.val / 512 < 12 := by omega
  unfold result blockN blockOf
  refine (oval_apply _ _ _ _).trans ?_
  have hd : colOf (d.val / 512) ⟨d.val / 256 % 2, Nat.mod_lt _ (by decide)⟩ ⟨d.val % 256, Nat.mod_lt _ (by decide)⟩ hi = d := by
    apply Fin.ext
    show 512 * (d.val / 512) + 256 * (d.val / 256 % 2) + d.val % 256 = d.val
    omega
  have h0 := unit_apply X (d.val / 512) ⟨d.val / 256 % 2, Nat.mod_lt _ (by decide)⟩ 0 ⟨x.val, by omega⟩ ⟨d.val % 256, Nat.mod_lt _ (by decide)⟩ hi
  have h1 := unit_apply X (d.val / 512) ⟨d.val / 256 % 2, Nat.mod_lt _ (by decide)⟩ 1 ⟨x.val, by omega⟩ ⟨d.val % 256, Nat.mod_lt _ (by decide)⟩ hi
  rw [hd] at h0 h1
  refine (congrArg₂ (· + ·) h0 h1).trans ?_
  rw [add_add_add_comm, adapters]
  rfl

end Cert.KernelIdeal.Down

end
-- ==== Proof.RefValue.lean ====
/-
  The reference's result over the extended reals, entry by entry.
-/
module

public import proofs.«01_k».proof.Proof.Gen.ReferenceIdeal.Run
public import proofs.«01_k».proof.Proof.Formula

@[expose] public section

noncomputable section

namespace Cert.ReferenceIdeal.Val

open Idealize.ShloMosaic Idealize.ShloMosaic.TcCoe
open Cert.ReferenceIdeal Facts₀ Facts
open scoped BigOperators

/-- The reference's result as a term of its arguments. -/
def ref (H : FVec Ideal S80x16384 .bf16) (M : FVec Ideal S80x512 .bf16) (W : IVec S8192x6144 8) (S : FVec Ideal S128x6144 .bf16)
    (B : FVec Ideal S13x32x6144 .bf16) : FVec Ideal S72x6144 .bf16 :=
  truncf .bf16 (addf (addf (Host.dotGeneral dot_S72x8192_S8192x6144_S72x6144_1_0_0_1_n_n none (extractStridedSlice S72x8192 ![0, 0] (extractStridedSlice S72x16384 ![0, 0] H slices_S80x16384_S72x16384_0_0) slices_S72x16384_S72x8192_0_0) (shapeCast _ (mulf (shapeCast _ (sitofp .bf16 (select (cmpi .sge (andi (extui 32 W natLt_8_32) (broadcastInDim S8192x6144 ![] bcast_S_S8192x6144 (constantI S_ 32 15#32))) (broadcastInDim S8192x6144 ![] bcast_S_S8192x6144 (constantI S_ 32 8#32))) (subi (andi (extui 32 W natLt_8_32) (broadcastInDim S8192x6144 ![] bcast_S_S8192x6144 (constantI S_ 32 15#32))) (broadcastInDim S8192x6144 ![] bcast_S_S8192x6144 (constantI S_ 32 16#32))) (andi (extui 32 W natLt_8_32) (broadcastInDim S8192x6144 ![] bcast_S_S8192x6144 (constantI S_ 32 15#32))))) shapeCasts_S8192x6144_S64x128x6144) (broadcastInDim S64x128x6144 ![0, 1, 2] bcast_S64x1x6144_S64x128x6144_0_1_2 (broadcastInDim S64x1x6144 ![0, 2] bcast_S64x6144_S64x1x6144_0_2 (extractStridedSlice S64x6144 ![0, 0] S slices_S128x6144_S64x6144_0_0)))) shapeCasts_S64x128x6144_S8192x6144)) (Host.dotGeneral dot_S72x8192_S8192x6144_S72x6144_1_0_0_1_n_n none (extractStridedSlice S72x8192 ![0, 8192] (extractStridedSlice S72x16384 ![0, 0] H slices_S80x16384_S72x16384_0_0) slices_S72x16384_S72x8192_0_8192) (shapeCast _ (mulf (shapeCast _ (sitofp .bf16 (select (cmpi .sge (Host.shrsi (extui 32 W natLt_8_32) (broadcastInDim S8192x6144 ![] bcast_S_S8192x6144 (constantI S_ 32 4#32))) (broadcastInDim S8192x6144 ![] bcast_S_S8192x6144 (constantI S_ 32 8#32))) (subi (Host.shrsi (extui 32 W natLt_8_32) (broadcastInDim S8192x6144 ![] bcast_S_S8192x6144 (constantI S_ 32 4#32))) (broadcastInDim S8192x6144 ![] bcast_S_S8192x6144 (constantI S_ 32 16#32))) (Host.shrsi (extui 32 W natLt_8_32) (broadcastInDim S8192x6144 ![] bcast_S_S8192x6144 (constantI S_ 32 4#32))))) shapeCasts_S8192x6144_S64x128x6144) (broadcastInDim S64x128x6144 ![0, 1, 2] bcast_S64x1x6144_S64x128x6144_0_1_2 (broadcastInDim S64x1x6144 ![0, 2] bcast_S64x6144_S64x1x6144_0_2 (extractStridedSlice S64x6144 ![64, 0] S slices_S128x6144_S64x6144_64_0)))) shapeCasts_S64x128x6144_S8192x6144))) (Host.dotGeneral dot_S72x13x32_S13x32x6144_S72x6144_12_01_0_2_n_n none (shapeCast _ (extractStridedSlice S72x416 ![0, 0] M slices_S80x512_S72x416_0_0) shapeCasts_S72x416_S72x13x32) B)) bitsLt_bf16_f32

/-- The reference's low field as a number. -/
theorem lo_toInt (b : BitVec 8) :
    (Scalar.select (IntOp.cmpi .sge (IntOp.andi (BitVec.setWidth 32 b) 15#32) 8#32) (IntOp.subi (IntOp.andi (BitVec.setWidth 32 b) 15#32) 16#32)
      (IntOp.andi (BitVec.setWidth 32 b) 15#32)).toInt = Cert.KernelIdeal.Down.code 0 b := by
  revert b; decide

/-- The reference's high field as a number. -/
theorem hi_toInt (b : BitVec 8) :
    (Scalar.select (IntOp.cmpi .sge (IntOp.shrsi .host (BitVec.setWidth 32 b) 4#32) 8#32) (IntOp.subi (IntOp.shrsi .host (BitVec.setWidth 32 b) 4#32) 16#32)
      (IntOp.shrsi .host (BitVec.setWidth 32 b) 4#32)).toInt = Cert.KernelIdeal.Down.code 1 b := by
  revert b; decide

set_option maxRecDepth 16384 in
/-- The reference's result at an entry. -/
theorem ref_apply (H : FVec Ideal S80x16384 .bf16) (M : FVec Ideal S80x512 .bf16) (W : IVec S8192x6144 8) (S : FVec Ideal S128x6144 .bf16)
    (B : FVec Ideal S13x32x6144 .bf16) (r : Fin 72) (d : Fin 6144) :
    ref H M W S B (ix2 r d) = Cert.KernelIdeal.Down.entry H M W S B ⟨r.val, by omega⟩ d := by
  pointwise [ref]
  unfold Cert.KernelIdeal.Down.entry
  refine congrArg₂ (· + ·) (congrArg₂ (· + ·) ?_ ?_) ?_
  · rw [Finset.sum_range]
    refine Finset.sum_congr rfl fun n _ => ?_
    unfold Cert.KernelIdeal.Down.wterm
    refine congrArg₂ (· * ·) (congrArg (fun k => H (ix2 _ k)) (Fin.ext ?_)) (congrArg₂ (· * ·) ?_ (congrArg (fun k => S (ix2 k d)) (Fin.ext ?_)))
    · show n.val = (8192 * 0 + n.val) % 16384; omega
    · have hn : (⟨n.val % 8192, Nat.mod_lt _ (by decide)⟩ : Fin 8192) = n := Fin.ext (Nat.mod_eq_of_lt n.isLt)
      rw [hn, ← lo_toInt]; rfl
    · show n.val / 128 = (64 * 0 + n.val / 128) % 128; omega
  · rw [Finset.sum_range]
    refine Finset.sum_congr rfl fun n _ => ?_
    unfold Cert.KernelIdeal.Down.wterm
    refine congrArg₂ (· * ·) (congrArg (fun k => H (ix2 _ k)) (Fin.ext ?_)) (congrArg₂ (· * ·) ?_ (congrArg (fun k => S (ix2 k d)) (Fin.ext ?_)))
    · show 8192 + n.val = (8192 * 1 + n.val) % 16384; omega
    · have hn : (⟨n.val % 8192, Nat.mod_lt _ (by decide)⟩ : Fin 8192) = n := Fin.ext (Nat.mod_eq_of_lt n.isLt)
      rw [hn, ← hi_toInt]; rfl
    · show 64 + n.val / 128 = (64 * 1 + n.val / 128) % 128; omega
  · refine Eq.trans ?_ (Cert.KernelIdeal.Down.sum_blocks (Cert.KernelIdeal.Down.mterm M B ⟨r.val, by omega⟩ d) 32 13).symm
    rw [Finset.sum_range]
    refine Finset.sum_congr rfl fun a _ => ?_
    rw [Finset.sum_range]
    refine Finset.sum_congr rfl fun j _ => ?_
    unfold Cert.KernelIdeal.Down.mterm
    rw [dif_pos (by omega)]
    refine congrArg₂ (· * ·) (congrArg (fun k => M (ix2 _ k)) (Fin.ext ?_)) (congrArg₂ (fun a j => B (ix3 a j d)) (Fin.ext ?_) (Fin.ext ?_))
    · show a.val * 32 + j.val = 32 * a.val + j.val; omega
    · show a.val = (32 * a.val + j.val) / 32; omega
    · show j.val = (32 * a.val + j.val) % 32; omega

end Cert.ReferenceIdeal.Val

end
-- ==== Proof.UpStruct.lean ====
/-
  The first call's body written as a program over a list of instructions: one instruction stages a tile of the right-hand
  side, one accumulates a tile of the left-hand side, one widens a block of scales, one writes a finished block of the
  hidden layer. One matrix unit sums the gate's tiles, the other the up projection's.
-/
module

public import proofs.«01_k».proof.Proof.Gen.UpIdeal.Frame

@[expose] public section

noncomputable section

namespace Cert.UpIdeal.Up

open Idealize.ShloMosaic Idealize.ShloMosaic.TcCoe
open Idealize.SL Idealize.SL.Sem
open Facts₀ Facts

variable {F : FTy → Type} [FloatOps F]

/-- The programs of the kernel. -/
abbrev P (F : FTy → Type) [FloatOps F] (α : Type) : Type _ := Prog (TpuEff nD τ sig (Elt F) Λ₀ .tc) α

/-- The kernel's buffers and semaphores. -/
structure Bufs where
  x : Memref sig .tc .hbm S72x6144 .bf16
  hx : x.IsWhole
  md : Memref sig .tc .vmem S2x80x512 .bf16
  hmd : md.IsWhole
  wgu : Memref sig .tc .hbm S3072x32768 .i8
  hwgu : wgu.IsWhole
  sgu : Memref sig .tc .hbm S48x32768 .bf16
  hsgu : sgu.IsWhole
  bgu : Memref sig .tc .hbm S13x2x32x16384 .bf16
  hbgu : bgu.IsWhole
  ho : Memref sig .tc .hbm S72x16384 .bf16
  hho : ho.IsWhole
  xp : Memref sig .tc .vmem S256x6144 .bf16
  hxp : xp.IsWhole
  wg : Memref sig .tc .vmem S4x2x3072x512 .i8
  hwg : wg.IsWhole
  sg : Memref sig .tc .vmem S4x2x48x512 .bf16
  hsg : sg.IsWhole
  bg : Memref sig .tc .vmem S4x2x16x32x512 .bf16
  hbg : bg.IsWhole
  sa : Memref sig .tc .vmem S2x48x256 .f32
  hsa : sa.IsWhole
  sb : Memref sig .tc .vmem S2x48x256 .f32
  hsb : sb.IsWhole
  hs : Memref sig .tc .vmem S80x16384 .bf16
  hhs : hs.IsWhole
  xsem : DmaSems sig S_
  sem : DmaSems sig S4
  hsem : DmaSems sig S_

/-! ## Offsets that lie inside the buffers -/

theorem inbW {sl : ℕ} (hs : sl < 4) (u p : Fin 2) :
    ∀ a, (![sl, u.val, 0, 256 * p.val] : Fin 4 → ℕ) a + S1x1x3072x256.size a ≤ S4x2x3072x512.size a := by
  intro a; fin_cases a <;> fin_cases p <;> fin_cases u <;> simp <;> omega
theorem inbBlk (k : ℕ) : ∀ a, (![256 * (k % 12), 0] : Fin 2 → ℕ) a + S256x256.size a ≤ S3072x256.size a := by
  intro a; fin_cases a <;> simp <;> omega
theorem inbRow {k : ℕ} (hk : k < 48) : ∀ a, (![k, 0] : Fin 2 → ℕ) a + S1x256.size a ≤ S48x256.size a := by
  intro a; fin_cases a <;> simp <;> omega
theorem inbScv (u : Fin 2) : ∀ a, (![u.val, 0, 0] : Fin 3 → ℕ) a + S1x48x256.size a ≤ S2x48x256.size a := by
  intro a; fin_cases a <;> fin_cases u <;> simp
theorem inbBd {sl : ℕ} (hs : sl < 4) (p u : Fin 2) {j : ℕ} (hj : j < 2) :
    ∀ a, (![sl, u.val, 8 * j, 0, 256 * p.val] : Fin 5 → ℕ) a + S1x1x8x32x256.size a ≤ S4x2x16x32x512.size a := by
  intro a; fin_cases a <;> fin_cases p <;> fin_cases u <;> simp <;> omega
theorem inbX {k : ℕ} (hk : k < 24) : ∀ a, (![0, 256 * k] : Fin 2 → ℕ) a + S80x256.size a ≤ S256x6144.size a := by
  intro a; fin_cases a <;> simp <;> omega
theorem inbMd (u : Fin 2) {j : ℕ} (hj : j < 2) :
    ∀ a, (![u.val, 0, 256 * j] : Fin 3 → ℕ) a + S1x80x256.size a ≤ S2x80x512.size a := by
  intro a; fin_cases a <;> fin_cases u <;> simp <;> omega
theorem inbSg {sl : ℕ} (hs : sl < 4) (u p : Fin 2) :
    ∀ a, (![sl, u.val, 0, 256 * p.val] : Fin 4 → ℕ) a + S1x1x48x256.size a ≤ S4x2x48x512.size a := by
  intro a; fin_cases a <;> fin_cases p <;> fin_cases u <;> simp <;> omega

/-- Where a pair of chunks finds its ring slots and its columns of the hidden layer. -/
structure Env where
  /-- the slot of the pair, and of the pair after it -/
  sl : Fin 2 → ℕ
  hsl : ∀ w, sl w < 4
  /-- the first column of each chunk -/
  col : Fin 2 → ℕ
  hcol : ∀ p, ∀ a, (![0, col p] : Fin 2 → ℕ) a + S80x256.size a ≤ S80x16384.size a
  hpk : ∀ p, (Rect.unit (s := S80x16384) ![0, col p] S80x256.size (hcol p)).PackedRows (EltTy.packing .bf16)

/-! ## The tiles -/

/-- The scale buffer of a chunk. -/
def scb (b : Bufs) : Fin 2 → Memref sig .tc .vmem S2x48x256 .f32
  | 0 => b.sa
  | 1 => b.sb

/-- The half of a chunk's scale buffer that a unit reads. -/
def scv (b : Bufs) (p u : Fin 2) : Memref sig .tc .vmem S48x256 .f32 :=
  ((scb b p).slice (Rect.unit (s := S2x48x256) ![u.val, 0, 0] S1x48x256.size (inbScv u)) (fun _ => rfl)).squeeze S48x256
    squeezes_S1x48x256_S48x256

/-- The packed codes of a block, as their signed field times sixteen. -/
def field (f : Fin 2) (blk : IVec S256x256 8) : FVec F S256x256 .bf16 :=
  match f with
  | 0 => sitofp .bf16 (bitcast S256x256 8 (andi (shli (bitcast S64x256 32 blk bitcasts_S256x256_w8_S64x256_w32)
      (broadcast S64x256 4#32)) (broadcast S64x256 4042322160#32)) bitcasts_S64x256_w32_S256x256_w8)
  | 1 => sitofp .bf16 (bitcast S256x256 8 (andi (bitcast S64x256 32 blk bitcasts_S256x256_w8_S64x256_w32)
      (broadcast S64x256 4042322160#32)) bitcasts_S64x256_w32_S256x256_w8)

/-- Which of a byte's two codes a step reads. -/
def fld (k : ℕ) : Fin 2 := if k < 12 then 0 else 1

/-- One row of scales over its group of rows. -/
def scaleRow (r : FVec F S1x256 .f32) : FVec F S128x256 .bf16 :=
  truncf .bf16 (broadcastTo S128x256 (shapeCast S1x256 r shapeCasts_S1x256_S1x256) broadcasts_S1x256_S128x256) bitsLt_bf16_f32

/-- A tile of the weights: the field times the scales of its two groups. -/
def wval (f : Fin 2) (blk : IVec S256x256 8) (r0 r1 : FVec F S1x256 .f32) : FVec F S256x256 .bf16 :=
  mulf (field f blk) (concatenate S256x256 0 [⟨S128x256, scaleRow r0⟩, ⟨S128x256, scaleRow r1⟩]
    concatenates_S128x256_S128x256_S256x256_d0)

/-- A tile of the adapters' second factors. -/
def bval (v : FVec F S1x1x8x32x256 .bf16) : FVec F S256x256 .bf16 :=
  shapeCast S256x256 (shapeCast S8x32x256 v shapeCasts_S1x1x8x32x256_S8x32x256) shapeCasts_S8x32x256_S256x256

/-- A tile of the adapters' left-hand side. -/
def mval (v : FVec F S1x80x256 .bf16) : FVec F S80x256 .bf16 := shapeCast S80x256 v shapeCasts_S1x80x256_S80x256

/-- The widened scales, divided by sixteen. -/
def scval (v : FVec F S1x1x48x256 .bf16) : FVec F S1x48x256 .f32 :=
  shapeCast S1x48x256 (mulf (extf .f32 (shapeCast S48x256 v shapeCasts_S1x1x48x256_S48x256) bitsLt_bf16_f32)
    (broadcast S48x256 (Scalar.ofBits .f32 0x3D800000#32))) shapeCasts_S48x256_S1x48x256

/-- The block of the hidden layer from the gate's sum and the up projection's. -/
def hval (y0 y1 : FVec F S80x256 .f32) : FVec F S80x256 .bf16 :=
  shapeCast S80x256 (truncf .bf16 (mulf (mulf y0 (logistic y0)) y1) bitsLt_bf16_f32) shapeCasts_S80x256_S80x256

def wview (b : Bufs) (e : Env) (w p u : Fin 2) : Memref sig .tc .vmem S3072x256 .i8 :=
  (b.wg.slice (Rect.unit (s := S4x2x3072x512) ![e.sl w, u.val, 0, 256 * p.val] S1x1x3072x256.size (inbW (e.hsl w) u p))
    (fun _ => rfl)).squeeze S3072x256 squeezes_S1x1x3072x256_S3072x256

/-- The tile that unit `u` takes at step `k`: a tile of the weights, or one of the adapters' two tiles after the last. -/
def rhs (b : Bufs) (e : Env) (w p u : Fin 2) (k : ℕ) : P F (FVec F S256x256 .bf16) :=
  if hk : k < 24 then do
    let blk : Vec F S256x256 .i8 ← Prog.lift (.load (wview b e w p u) (Rect.unit (s := S3072x256) ![256 * (k % 12), 0]
      S256x256.size (inbBlk _)).toLoadRect (View.loadsAt_vmem h_S256x256))
    let r0 : Vec F S1x256 .f32 ← Prog.lift (.load (scv b p u) (Rect.unit (s := S48x256) ![2 * k, 0] S1x256.size
      (inbRow (by omega))).toLoadRect (View.loadsAt_vmem h_S1x256))
    let r1 : Vec F S1x256 .f32 ← Prog.lift (.load (scv b p u) (Rect.unit (s := S48x256) ![2 * k + 1, 0] S1x256.size
      (inbRow (by omega))).toLoadRect (View.loadsAt_vmem h_S1x256))
    pure (wval (fld k) blk r0 r1)
  else do
    let v : Vec F S1x1x8x32x256 .bf16 ← Prog.lift (.load b.bg (Rect.unit (s := S4x2x16x32x512) ![e.sl w, u.val, 8 * ((k - 24) % 2), 0, 256 * p.val]
      S1x1x8x32x256.size (inbBd (e.hsl w) p u (Nat.mod_lt _ (by decide)))).toLoadRect (View.loadsAt_vmem h_S1x1x8x32x256))
    pure (bval v)

/-- The left-hand tile of unit `u` at step `k`. -/
def lhs (b : Bufs) (u : Fin 2) (k : ℕ) : P F (FVec F S80x256 .bf16) :=
  if hk : k < 24 then do
    let v : Vec F S80x256 .bf16 ← Prog.lift (.load b.xp (Rect.unit (s := S256x6144) ![0, 256 * k] S80x256.size
      (inbX hk)).toLoadRect (View.loadsAt_vmem h_S80x256))
    pure v
  else do
    let v : Vec F S1x80x256 .bf16 ← Prog.lift (.load b.md (Rect.unit (s := S2x80x512) ![u.val, 0, 256 * ((k - 24) % 2)] S1x80x256.size
      (inbMd u (Nat.mod_lt _ (by decide)))).toLoadRect (View.loadsAt_vmem h_S1x80x256))
    pure (mval v)

/-- The address of a chunk's sums. -/
def addr : Fin 2 → ℕ
  | 0 => 0
  | 1 => 20

theorem fitsA (p : Fin 2) : Mxu.Fits (addr p) 80 := by fin_cases p <;> decide

/-! ## Instructions -/

/-- What the body is made of. `w` names the slot, `p` the chunk of the pair, `u` the unit, `k` the step, `r` the
    staging register. -/
inductive Instr where
  | push (w p u : Fin 2) (k : ℕ) (r : Fin 2)
  | acc (p u : Fin 2) (k : ℕ) (r : Fin 2)
  | scale (w p u : Fin 2)
  | out (p : Fin 2)

/-- One instruction, on the state of the matrix units. -/
def exec (b : Bufs) (e : Env) (s : Mxu F) : Instr → P F (Mxu F)
  | .push w p u k r => do
    let v ← rhs b e w p u k
    s.pushRhs u r false v
  | .acc p u k r => do
    let v ← lhs b u k
    pure (s.accLhs u r (addr p) (M := 80) v (fitsA p))
  | .scale w p u => do
    let v : Vec F S1x1x48x256 .bf16 ← Prog.lift (.load b.sg (Rect.unit (s := S4x2x48x512) ![e.sl w, u.val, 0, 256 * p.val] S1x1x48x256.size
      (inbSg (e.hsl w) u p)).toLoadRect (View.loadsAt_vmem h_S1x1x48x256))
    let _ : Vec F S1x48x256 .f32 ← Prog.lift (.load (scb b p) (Rect.unit (s := S2x48x256) ![u.val, 0, 0] S1x48x256.size (inbScv u)).toLoadRect
      (View.loadsAt_vmem h_S1x48x256))
    Prog.lift (.store (scb b p) (Rect.unit (s := S2x48x256) ![u.val, 0, 0] S1x48x256.size (inbScv u)) (scval v) Finset.univ
      (View.stores_vmem_bits_univ h_S1x48x256 rfl) (.inl rfl))
    pure s
  | .out p => do
    let y0 := s.read 0 (addr p) (fitsA p)
    let s1 := s.pop 0 (addr p) 80 (fitsA p)
    let y1 := s1.read 1 (addr p) (fitsA p)
    let s2 := s1.pop 1 (addr p) 80 (fitsA p)
    let _ : Vec F S80x256 .bf16 ← Prog.lift (.load b.hs (Rect.unit (s := S80x16384) ![0, e.col p] S80x256.size (e.hcol p)).toLoadRect
      (View.loadsAt_vmem h_S80x256))
    Prog.lift (.store b.hs (Rect.unit (s := S80x16384) ![0, e.col p] S80x256.size (e.hcol p)) (hval y0 y1) Finset.univ
      (View.stores_vmem h_S80x256 (b.hhs.storeExact_slice rfl _ (e.hpk p)) (fun _ => rfl)) (.inl rfl))
    pure s2

/-- A list of instructions, one after the other. -/
def run (b : Bufs) (e : Env) : List Instr → Mxu F → P F (Mxu F)
  | [], s => pure s
  | i :: is, s => do
    let s' ← exec b e s i
    run b e is s'

/-! ## The stream of tiles -/

/-- What the body does: feed tiles to the two units in turn, finish what is staged, widen scales, write a block. -/
inductive Cmd where
  | feed (w p u : Fin 2) (k : ℕ)
  | flush
  | scale (w p u : Fin 2)
  | out (p : Fin 2)

/-- A unit between two tiles: the register to stage in, and the tile staged but not yet accumulated. -/
structure Unit2 where
  r : Fin 2
  pend : Option (Fin 2 × ℕ × Fin 2)

/-- The accumulation that a unit still owes. -/
def owed (u : Fin 2) (x : Unit2) : List Instr :=
  match x.pend with
  | none => []
  | some (p, k, r) => [.acc p u k r]

/-- A unit with the next tile staged. -/
def Unit2.next (x : Unit2) (p : Fin 2) (k : ℕ) : Unit2 := ⟨match x.r with | 0 => 1 | 1 => 0, some (p, k, x.r)⟩

/-- The instructions that commands come to. -/
def stream : List Cmd → Unit2 → Unit2 → List Instr
  | [], _, _ => []
  | .feed w p 0 k :: cs, x, y => .push w p 0 k x.r :: (owed 0 x ++ stream cs (x.next p k) y)
  | .feed w p 1 k :: cs, x, y => .push w p 1 k y.r :: (owed 1 y ++ stream cs x (y.next p k))
  | .flush :: cs, x, y => owed 0 x ++ (owed 1 y ++ stream cs ⟨x.r, none⟩ ⟨y.r, none⟩)
  | .scale w p u :: cs, x, y => .scale w p u :: stream cs x y
  | .out p :: cs, x, y => .out p :: stream cs x y

/-- Both units idle. -/
def idle : Unit2 := ⟨0, none⟩

/-- Steps `n, …, n + m - 1` of a chunk, on both units. -/
def feeds (w p : Fin 2) : ℕ → ℕ → List Cmd
  | _, 0 => []
  | n, m + 1 => .feed w p 0 n :: .feed w p 1 n :: feeds w p (n + 1) m

/-- The first eight steps of a pair's first chunk. -/
def headCmds : List Cmd := .scale 0 0 0 :: .scale 0 0 1 :: (feeds 0 0 0 8 ++ [.flush])
/-- A pair of chunks that another pair follows: its chunks are finished, the next pair's first one begun. -/
def bodyCmds : List Cmd :=
  .scale 0 1 0 :: .scale 0 1 1 :: (feeds 0 0 8 18 ++ (feeds 0 1 0 8 ++ (.out 0 :: (feeds 0 1 8 18 ++
    (.scale 1 0 0 :: .scale 1 0 1 :: (feeds 1 0 0 8 ++ [.out 1, .flush]))))))
/-- The last pair of chunks. -/
def tailCmds : List Cmd :=
  .scale 0 1 0 :: .scale 0 1 1 :: (feeds 0 0 8 18 ++ (feeds 0 1 0 8 ++ (.out 0 :: (feeds 0 1 8 18 ++ [.flush, .out 1]))))

def headI : List Instr := stream headCmds idle idle
def bodyI : List Instr := stream bodyCmds idle idle
def tailI : List Instr := stream tailCmds idle idle

/-! ## The copies into the rings -/

/-- Where the copies of a pair of chunks run: their slot and their first columns. -/
structure Cp where
  sl : ℕ
  /-- the first column of the gate's weights, and of the up projection's -/
  gcol : Fin 2 → ℕ
  col : ℕ
  hsl : sl < 4
  hS : ∀ a, (![sl] : Fin 1 → ℕ) a + S1.size a ≤ S4.size a
  hW : ∀ u : Fin 2, ∀ a, (![sl, u.val, 0, 0] : Fin 4 → ℕ) a + S1x1x3072x512.size a ≤ S4x2x3072x512.size a
  hW' : ∀ u : Fin 2, ∀ a, (![0, gcol u] : Fin 2 → ℕ) a + S3072x512.size a ≤ S3072x32768.size a
  wW : ∀ u : Fin 2, (Rect.unit (s := S4x2x3072x512) ![sl, u.val, 0, 0] S1x1x3072x512.size (hW u)).WholeWords (EltTy.packing .i8)
  wW' : ∀ u : Fin 2, (Rect.unit (s := S3072x32768) ![0, gcol u] S3072x512.size (hW' u)).WholeWords (EltTy.packing .i8)
  hD : ∀ u : Fin 2, ∀ a, (![sl, u.val, 0, 0] : Fin 4 → ℕ) a + S1x1x48x512.size a ≤ S4x2x48x512.size a
  hD' : ∀ u : Fin 2, ∀ a, (![0, gcol u] : Fin 2 → ℕ) a + S48x512.size a ≤ S48x32768.size a
  wD : ∀ u : Fin 2, (Rect.unit (s := S4x2x48x512) ![sl, u.val, 0, 0] S1x1x48x512.size (hD u)).WholeWords (EltTy.packing .bf16)
  wD' : ∀ u : Fin 2, (Rect.unit (s := S48x32768) ![0, gcol u] S48x512.size (hD' u)).WholeWords (EltTy.packing .bf16)
  hB : ∀ u : Fin 2, ∀ a, (![sl, u.val, 0, 0, 0] : Fin 5 → ℕ) a + S1x1x13x32x512.size a ≤ S4x2x16x32x512.size a
  hB' : ∀ u : Fin 2, ∀ a, (![0, u.val, 0, col] : Fin 4 → ℕ) a + S13x1x32x512.size a ≤ S13x2x32x16384.size a
  wB : ∀ u : Fin 2, (Rect.unit (s := S4x2x16x32x512) ![sl, u.val, 0, 0, 0] S1x1x13x32x512.size (hB u)).WholeWords (EltTy.packing .bf16)
  wB' : ∀ u : Fin 2, (Rect.unit (s := S13x2x32x16384) ![0, u.val, 0, col] S13x1x32x512.size (hB' u)).WholeWords (EltTy.packing .bf16)

def cpSem (b : Bufs) (c : Cp) : DmaSem sig := ((b.sem.slice (Rect.unit (s := S4) ![c.sl] S1.size c.hS)).squeeze S_ squeezes_S1_S_).sem
def wSrc (b : Bufs) (c : Cp) (u : Fin 2) : Memref sig .tc .hbm S3072x512 .i8 :=
  b.wgu.slice (Rect.unit (s := S3072x32768) ![0, c.gcol u] S3072x512.size (c.hW' u)) (fun _ => rfl)
def wDst (b : Bufs) (c : Cp) (u : Fin 2) : Memref sig .tc .vmem S3072x512 .i8 :=
  (b.wg.slice (Rect.unit (s := S4x2x3072x512) ![c.sl, u.val, 0, 0] S1x1x3072x512.size (c.hW u)) (fun _ => rfl)).squeeze S3072x512
    squeezes_S1x1x3072x512_S3072x512
def sSrc (b : Bufs) (c : Cp) (u : Fin 2) : Memref sig .tc .hbm S48x512 .bf16 :=
  b.sgu.slice (Rect.unit (s := S48x32768) ![0, c.gcol u] S48x512.size (c.hD' u)) (fun _ => rfl)
def sDst (b : Bufs) (c : Cp) (u : Fin 2) : Memref sig .tc .vmem S48x512 .bf16 :=
  (b.sg.slice (Rect.unit (s := S4x2x48x512) ![c.sl, u.val, 0, 0] S1x1x48x512.size (c.hD u)) (fun _ => rfl)).squeeze S48x512
    squeezes_S1x1x48x512_S48x512
def bSrc (b : Bufs) (c : Cp) (u : Fin 2) : Memref sig .tc .hbm S13x32x512 .bf16 :=
  (b.bgu.slice (Rect.unit (s := S13x2x32x16384) ![0, u.val, 0, c.col] S13x1x32x512.size (c.hB' u)) (fun _ => rfl)).squeeze S13x32x512
    squeezes_S13x1x32x512_S13x32x512
def bDst (b : Bufs) (c : Cp) (u : Fin 2) : Memref sig .tc .vmem S13x32x512 .bf16 :=
  (b.bg.slice (Rect.unit (s := S4x2x16x32x512) ![c.sl, u.val, 0, 0, 0] S1x1x13x32x512.size (c.hB u)) (fun _ => rfl)).squeeze S13x32x512
    squeezes_S1x1x13x32x512_S13x32x512

/-- Start the three copies that one unit's half of a pair takes. -/
def startU (b : Bufs) (c : Cp) (u : Fin 2) : P F PUnit := do
  Prog.lift (.enqueueDma (wSrc b c u) (.here (wDst b c u)) (.dma (cpSem b c)) (b.hwgu.wordExact_slice rfl _ (c.wW' u))
    ((b.hwg.wordExact_slice rfl _ (c.wW u)).reshape _ _) ⟨Or.inl rfl, trivial⟩)
  Prog.lift (.enqueueDma (sSrc b c u) (.here (sDst b c u)) (.dma (cpSem b c)) (b.hsgu.wordExact_slice rfl _ (c.wD' u))
    ((b.hsg.wordExact_slice rfl _ (c.wD u)).reshape _ _) ⟨Or.inl rfl, trivial⟩)
  Prog.lift (.enqueueDma (bSrc b c u) (.here (bDst b c u)) (.dma (cpSem b c)) ((b.hbgu.wordExact_slice rfl _ (c.wB' u)).reshape _ _)
    ((b.hbg.wordExact_slice rfl _ (c.wB u)).reshape _ _) ⟨Or.inl rfl, trivial⟩)

/-- Start the copies of a pair. -/
def startC (b : Bufs) (c : Cp) : P F PUnit := do
  startU b c 0
  startU b c 1

/-- Wait for the three copies of one unit's half of a pair. -/
def waitU (b : Bufs) (c : Cp) (u : Fin 2) : P F PUnit := do
  Prog.lift (.waitDma2 (cpSem b c) (wSrc b c u) (wDst b c u) (b.hwgu.wordExact_slice rfl _ (c.wW' u))
    ((b.hwg.wordExact_slice rfl _ (c.wW u)).reshape _ _))
  Prog.lift (.waitDma2 (cpSem b c) (sSrc b c u) (sDst b c u) (b.hsgu.wordExact_slice rfl _ (c.wD' u))
    ((b.hsg.wordExact_slice rfl _ (c.wD u)).reshape _ _))
  Prog.lift (.waitDma2 (cpSem b c) (bSrc b c u) (bDst b c u) ((b.hbgu.wordExact_slice rfl _ (c.wB' u)).reshape _ _)
    ((b.hbg.wordExact_slice rfl _ (c.wB u)).reshape _ _))

/-- Wait for the copies of a pair. -/
def waitC (b : Bufs) (c : Cp) : P F PUnit := do
  waitU b c 0
  waitU b c 1

/-- Zero the rows of a slot that no adapter fills. -/
def padC (b : Bufs) (s : Fin 4) (h : ∀ a, (![s.val, 0, 13, 0, 0] : Fin 5 → ℕ) a + S1x2x3x32x512.size a ≤ S4x2x16x32x512.size a)
    (hp : (Rect.unit (s := S4x2x16x32x512) ![s.val, 0, 13, 0, 0] S1x2x3x32x512.size h).PackedRows (EltTy.packing .bf16)) :
    P F PUnit := do
  let _ : Vec F S1x2x3x32x512 .bf16 ← Prog.lift (.load b.bg (Rect.unit (s := S4x2x16x32x512) ![s.val, 0, 13, 0, 0] S1x2x3x32x512.size h).toLoadRect
    (View.loadsAt_vmem h_S1x2x3x32x512))
  Prog.lift (.store b.bg (Rect.unit (s := S4x2x16x32x512) ![s.val, 0, 13, 0, 0] S1x2x3x32x512.size h)
    (shapeCast S1x2x3x32x512 (broadcast S2x3x32x512 (Scalar.ofBits (F := F) .bf16 0x0000#16)) shapeCasts_S2x3x32x512_S1x2x3x32x512)
    Finset.univ (View.stores_vmem h_S1x2x3x32x512 (b.hbg.storeExact_slice rfl _ hp) (fun _ => rfl)) (.inl rfl))

/-! ## The copy of the activations -/

/-- The rows of the padded activations that the copy fills. -/
def xDst (b : Bufs) : Memref sig .tc .vmem S72x6144 .bf16 :=
  b.xp.slice (Rect.unit (s := S256x6144) ![0, 0] S72x6144.size inb_S256x6144_S72x6144_0_0) (fun _ => rfl)

/-- Start the copy of the activations. -/
def startX (b : Bufs) : P F PUnit :=
  Prog.lift (.enqueueDma b.x (.here (xDst b)) (.dma b.xsem.sem) b.hx.wordExact
    (b.hxp.wordExact_slice rfl _ wordsbf16_S256x6144_S72x6144_0_0) ⟨Or.inl rfl, trivial⟩)

/-- Wait for it. -/
def waitX (b : Bufs) : P F PUnit :=
  Prog.lift (.waitDma2 b.xsem.sem b.x (xDst b) b.hx.wordExact (b.hxp.wordExact_slice rfl _ wordsbf16_S256x6144_S72x6144_0_0))

/-- Zero the rows that the copy does not fill. -/
def padX (b : Bufs) : P F PUnit := do
  let _ : Vec F S184x6144 .bf16 ← Prog.lift (.load b.xp (Rect.unit (s := S256x6144) ![72, 0] S184x6144.size
    inb_S256x6144_S184x6144_72_0).toLoadRect (View.loadsAt_vmem h_S184x6144))
  Prog.lift (.store b.xp (Rect.unit (s := S256x6144) ![72, 0] S184x6144.size inb_S256x6144_S184x6144_72_0)
    (shapeCast S184x6144 (broadcast S184x6144 (Scalar.ofBits (F := F) .bf16 0x0000#16)) shapeCasts_S184x6144_S184x6144)
    Finset.univ (View.stores_vmem h_S184x6144 (b.hxp.storeExact_slice rfl _ packedbf16_S256x6144_S184x6144_72_0) (fun _ => rfl)) (.inl rfl))

/-! ## The copies of the hidden layer -/

/-- Where the copy of a finished pair of chunks runs: its first column. -/
structure Hp where
  col : ℕ
  hS : ∀ a, (![0, col] : Fin 2 → ℕ) a + S72x512.size a ≤ S80x16384.size a
  hD : ∀ a, (![0, col] : Fin 2 → ℕ) a + S72x512.size a ≤ S72x16384.size a
  wS : (Rect.unit (s := S80x16384) ![0, col] S72x512.size hS).WholeWords (EltTy.packing .bf16)
  wD : (Rect.unit (s := S72x16384) ![0, col] S72x512.size hD).WholeWords (EltTy.packing .bf16)

def hSrc (b : Bufs) (c : Hp) : Memref sig .tc .vmem S72x512 .bf16 :=
  b.hs.slice (Rect.unit (s := S80x16384) ![0, c.col] S72x512.size c.hS) (fun _ => rfl)
def hDst (b : Bufs) (c : Hp) : Memref sig .tc .hbm S72x512 .bf16 :=
  b.ho.slice (Rect.unit (s := S72x16384) ![0, c.col] S72x512.size c.hD) (fun _ => rfl)

/-- Start the copy of a finished pair. -/
def startH (b : Bufs) (c : Hp) : P F PUnit :=
  Prog.lift (.enqueueDma (hSrc b c) (.here (hDst b c)) (.dma b.hsem.sem) (b.hhs.wordExact_slice rfl _ c.wS)
    (b.hho.wordExact_slice rfl _ c.wD) ⟨Or.inl rfl, trivial⟩)

/-- Wait for one such copy. -/
def waitH (b : Bufs) (c : Hp) : P F PUnit :=
  Prog.lift (.waitDma2 b.hsem.sem (hSrc b c) (hDst b c) (b.hhs.wordExact_slice rfl _ c.wS) (b.hho.wordExact_slice rfl _ c.wD))

end Cert.UpIdeal.Up

end
-- ==== Proof.UpBody.lean ====
/-
  The loop's body of the first call, as printed, is the list program.
-/
module

public import proofs.«01_k».proof.Proof.UpStruct
public import Idealize.ShloMosaic.Lib.Tactic.ProgEq

@[expose] public section

set_option maxRecDepth 100000

noncomputable section

namespace Cert.UpIdeal.Up

open Idealize.ShloMosaic Idealize.ShloMosaic.TcCoe
open Idealize.SL Idealize.SL.Sem
open Facts₀ Facts

variable {F : FTy → Type} [FloatOps F]

/-- The trip's number as the kernel counts. -/
abbrev iv (t : Fin k0_t1_loop.trips) : BitVec 32 := Scf.iv 0#32 1#32 t

/-- The copies of the pair after trip `t`'s. -/
def cpL1 (t : Fin k0_t1_loop.trips) : Cp where
  sl := (Scalar.remsi (Scalar.addi (iv t) 1#32) 4#32).toNat
  gcol := fun u => match u with
    | 0 => (Scalar.addi 0#32 (Scalar.muli (Scalar.addi (iv t) 1#32) 512#32)).toNat
    | 1 => (Scalar.addi 16384#32 (Scalar.muli (Scalar.addi (iv t) 1#32) 512#32)).toNat
  col := (Scalar.muli (Scalar.addi (iv t) 1#32) 512#32).toNat
  hsl := by have := k0_off14_inb t 0; change _ + 1 ≤ 4 at this; exact this
  hS := k0_off14_inb t
  hW := fun u => match u with
    | 0 => k0_off15_inb t
    | 1 => k0_off21_inb t
  wW := fun u => match u with
    | 0 => k0_off15_wordsi8 t
    | 1 => k0_off21_wordsi8 t
  hW' := fun u => match u with
    | 0 => k0_off16_inb t 0
    | 1 => k0_off16_inb t 1
  wW' := fun u => match u with
    | 0 => k0_off16_wordsi8 t 0
    | 1 => k0_off16_wordsi8 t 1
  hD := fun u => match u with
    | 0 => k0_off17_inb t
    | 1 => k0_off22_inb t
  wD := fun u => match u with
    | 0 => k0_off17_wordsbf16 t
    | 1 => k0_off22_wordsbf16 t
  hD' := fun u => match u with
    | 0 => k0_off18_inb t 0
    | 1 => k0_off18_inb t 1
  wD' := fun u => match u with
    | 0 => k0_off18_wordsbf16 t 0
    | 1 => k0_off18_wordsbf16 t 1
  hB := fun u => match u with
    | 0 => k0_off19_inb t
    | 1 => k0_off23_inb t
  wB := fun u => match u with
    | 0 => k0_off19_wordsbf16 t
    | 1 => k0_off23_wordsbf16 t
  hB' := fun u => match u with
    | 0 => k0_off20_inb t
    | 1 => k0_off24_inb t
  wB' := fun u => match u with
    | 0 => k0_off20_wordsbf16 t
    | 1 => k0_off24_wordsbf16 t

/-- The copies of the third pair after trip `t`'s. -/
def cpL3 (t : Fin k0_t1_loop.trips) (h : k0_cond1 t = 1#1) : Cp where
  sl := (Scalar.remsi (Scalar.addi (iv t) 3#32) 4#32).toNat
  gcol := fun u => match u with
    | 0 => (Scalar.addi 0#32 (Scalar.muli (Scalar.addi (iv t) 3#32) 512#32)).toNat
    | 1 => (Scalar.addi 16384#32 (Scalar.muli (Scalar.addi (iv t) 3#32) 512#32)).toNat
  col := (Scalar.muli (Scalar.addi (iv t) 3#32) 512#32).toNat
  hsl := by have := k0_off25_inb t h 0; change _ + 1 ≤ 4 at this; exact this
  hS := k0_off25_inb t h
  hW := fun u => match u with
    | 0 => k0_off26_inb t h
    | 1 => k0_off32_inb t h
  wW := fun u => match u with
    | 0 => k0_off26_wordsi8 t h
    | 1 => k0_off32_wordsi8 t h
  hW' := fun u => match u with
    | 0 => k0_off27_inb t h 0
    | 1 => k0_off27_inb t h 1
  wW' := fun u => match u with
    | 0 => k0_off27_wordsi8 t h 0
    | 1 => k0_off27_wordsi8 t h 1
  hD := fun u => match u with
    | 0 => k0_off28_inb t h
    | 1 => k0_off33_inb t h
  wD := fun u => match u with
    | 0 => k0_off28_wordsbf16 t h
    | 1 => k0_off33_wordsbf16 t h
  hD' := fun u => match u with
    | 0 => k0_off29_inb t h 0
    | 1 => k0_off29_inb t h 1
  wD' := fun u => match u with
    | 0 => k0_off29_wordsbf16 t h 0
    | 1 => k0_off29_wordsbf16 t h 1
  hB := fun u => match u with
    | 0 => k0_off30_inb t h
    | 1 => k0_off34_inb t h
  wB := fun u => match u with
    | 0 => k0_off30_wordsbf16 t h
    | 1 => k0_off34_wordsbf16 t h
  hB' := fun u => match u with
    | 0 => k0_off31_inb t h
    | 1 => k0_off35_inb t h
  wB' := fun u => match u with
    | 0 => k0_off31_wordsbf16 t h
    | 1 => k0_off35_wordsbf16 t h

/-- The copy of the pair before trip `t`'s. -/
def hpL (t : Fin k0_t1_loop.trips) (h : k0_cond2 t = 1#1) : Hp where
  col := (Scalar.muli (Scalar.subi (iv t) 1#32) 512#32).toNat
  hS := k0_off37_inb t h
  hD := k0_off36_inb t h
  wS := k0_off37_wordsbf16 t h
  wD := k0_off36_wordsbf16 t h

/-- The pair of trip `t`. -/
def envL (t : Fin k0_t1_loop.trips) : Env where
  sl := fun w => match w with
    | 0 => (Scalar.remsi (iv t) 4#32).toNat
    | 1 => (Scalar.remsi (Scalar.addi (iv t) 1#32) 4#32).toNat
  hsl := by
    intro w
    fin_cases w
    · have := k0_off40_inb t 0; change _ + 1 ≤ 4 at this; exact this
    · have := k0_off14_inb t 0; change _ + 1 ≤ 4 at this; exact this
  col := fun p => (Scalar.addi (Scalar.muli (iv t) 512#32) (BitVec.ofNat 32 (256 * p.val))).toNat
  hcol := k0_off48_inb t
  hpk := k0_off48_packedbf16 t

/-- The first waits of a trip. -/
def waits2 (b : Bufs) (t : Fin k0_t1_loop.trips) : P F PUnit := do
  waitU b (cpL1 t) 0
  Prog.lift (.waitDma2 (cpSem b (cpL1 t)) (wSrc b (cpL1 t) 1) (wDst b (cpL1 t) 1) (b.hwgu.wordExact_slice rfl _ ((cpL1 t).wW' 1))
    ((b.hwg.wordExact_slice rfl _ ((cpL1 t).wW 1)).reshape _ _))

/-- The other waits. -/
def waits3 (b : Bufs) (t : Fin k0_t1_loop.trips) : P F PUnit := do
  Prog.lift (.waitDma2 (cpSem b (cpL1 t)) (sSrc b (cpL1 t) 1) (sDst b (cpL1 t) 1) (b.hsgu.wordExact_slice rfl _ ((cpL1 t).wD' 1))
    ((b.hsg.wordExact_slice rfl _ ((cpL1 t).wD 1)).reshape _ _))
  Prog.lift (.waitDma2 (cpSem b (cpL1 t)) (bSrc b (cpL1 t) 1) (bDst b (cpL1 t) 1) ((b.hbgu.wordExact_slice rfl _ ((cpL1 t).wB' 1)).reshape _ _)
    ((b.hbg.wordExact_slice rfl _ ((cpL1 t).wB 1)).reshape _ _))

/-- The copies that a trip starts into the ring. -/
def tripRing (b : Bufs) (t : Fin k0_t1_loop.trips) : P F PUnit :=
  if h : k0_cond1 t = 1#1 then startC b (cpL3 t h) else pure ⟨⟩

/-- The copy of a finished pair that a trip starts. -/
def tripH (b : Bufs) (t : Fin k0_t1_loop.trips) : P F PUnit :=
  if h : k0_cond2 t = 1#1 then startH b (hpL t h) else pure ⟨⟩

/-- The waits at the start of a trip, and the copies it starts. -/
def tripCopies (b : Bufs) (t : Fin k0_t1_loop.trips) : P F PUnit := do
  waitC b (cpL1 t)
  tripRing b t
  tripH b t

/-- The loop's body, as printed. -/
def bodyP (b : Bufs) (k0_t1 : Fin k0_t1_loop.trips) (k0_mxu34 : Mxu F) : P F (BitVec 32 × Mxu F) := do
  let ⟨arg16_r0, v4419_r0, k0_mxu177, v4978_r0⟩ : Σ' (arg16_r0 : BitVec 32) (v4419_r0 : BitVec 32) (k0_mxu177 : Mxu F), FVec F S256x256 .bf16 ← k0_part87 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem 0#32 1#32 k0_t1 k0_mxu34
  let ⟨k0_mxu247, c0_i32_4175_r0⟩ : Σ' (k0_mxu247 : Mxu F), BitVec 32 ← k0_part88 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_t1 arg16_r0 v4419_r0 k0_mxu177 v4978_r0
  pure (c0_i32_4175_r0, k0_mxu247)

/-- What follows the copies in the window they stand in, as printed. -/
def end3 (b : Bufs) (k0_t1 : Fin k0_t1_loop.trips) (arg16_r0 : BitVec 32) :
    P F (Σ' (v3032_r0 : FVec F S48x256 .f32), FVec F S48x256 .f32) := do
  let c4_i32_2157_r0 : BitVec 32 := 4#32
  let v3019_r0 : BitVec 32 := Scalar.remsi arg16_r0 c4_i32_2157_r0
  let v3020_r0 : Index := Scalar.indexCast v3019_r0
  let c0_2158_r0 : Index := 0#32
  let c0_2159_r0 : Index := 0#32
  let c256_2160_r0 : Index := 256#32
  let v3021_r0 : Vec F S1x1x48x256 .bf16 ← Prog.lift (.load b.sg (Rect.unit (s := S4x2x48x512) (k0_off38 k0_t1) S1x1x48x256.size (k0_off38_inb k0_t1)).toLoadRect (View.loadsAt_vmem h_S1x1x48x256))
  have v3022_r0 : FVec F S48x256 .bf16 := shapeCast S48x256 v3021_r0 shapeCasts_S1x1x48x256_S48x256
  have v3023_r0 : FVec F S48x256 .f32 := extf .f32 v3022_r0 bitsLt_bf16_f32
  have cst_2161_r0 : F .f32 := Scalar.ofBits .f32 0x3D800000#32
  have v3024_r0 : FVec F S48x256 .f32 := broadcast S48x256 cst_2161_r0
  have v3025_r0 : FVec F S48x256 .f32 := mulf v3023_r0 v3024_r0
  let c0_2162_r0 : Index := 0#32
  let c0_2163_r0 : Index := 0#32
  let c0_2164_r0 : Index := 0#32
  let v3026_r0 : Vec F S1x48x256 .f32 ← Prog.lift (.load b.sb (Rect.unit (s := S2x48x256) ![0, 0, 0] S1x48x256.size inb_S2x48x256_S1x48x256_0_0_0).toLoadRect (View.loadsAt_vmem h_S1x48x256))
  have v3027_r0 : FVec F S48x256 .f32 := shapeCast S48x256 v3026_r0 shapeCasts_S1x48x256_S48x256
  have v3028_r0 : FVec F S1x48x256 .f32 := shapeCast S1x48x256 v3025_r0 shapeCasts_S48x256_S1x48x256
  Prog.lift (.store b.sb (Rect.unit (s := S2x48x256) ![0, 0, 0] S1x48x256.size inb_S2x48x256_S1x48x256_0_0_0) v3028_r0 Finset.univ (View.stores_vmem_bits_univ h_S1x48x256 rfl) (.inl rfl))
  let v3029_r0 : Index := Scalar.indexCast v3019_r0
  let c1_2165_r0 : Index := 1#32
  let c0_2166_r0 : Index := 0#32
  let c256_2167_r0 : Index := 256#32
  let v3030_r0 : Vec F S1x1x48x256 .bf16 ← Prog.lift (.load b.sg (Rect.unit (s := S4x2x48x512) (k0_off39 k0_t1) S1x1x48x256.size (k0_off39_inb k0_t1)).toLoadRect (View.loadsAt_vmem h_S1x1x48x256))
  have v3031_r0 : FVec F S48x256 .bf16 := shapeCast S48x256 v3030_r0 shapeCasts_S1x1x48x256_S48x256
  have v3032_r0 : FVec F S48x256 .f32 := extf .f32 v3031_r0 bitsLt_bf16_f32
  have cst_2168_r0 : F .f32 := Scalar.ofBits .f32 0x3D800000#32
  have v3033_r0 : FVec F S48x256 .f32 := broadcast S48x256 cst_2168_r0
  pure ⟨v3032_r0, v3033_r0⟩

theorem part2_eq (b : Bufs) (t : Fin k0_t1_loop.trips) :
    k0_part2 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem 0#32 1#32 t =
      (waits2 (F := F) b t >>= fun _ => pure (iv t)) := by
  chain_rfl

theorem part3_raw (b : Bufs) (t : Fin k0_t1_loop.trips) :
    k0_part3 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem t (iv t) =
      (waits3 (F := F) b t >>= fun _ => dite (k0_cond1 t = 1#1)
        (fun h => startC b (cpL3 t h) >>= fun _ => dite (k0_cond2 t = 1#1)
          (fun h2 => startH b (hpL t h2) >>= fun _ => end3 b t (iv t)) (fun _ => end3 b t (iv t)))
        (fun _ => dite (k0_cond2 t = 1#1)
          (fun h2 => startH b (hpL t h2) >>= fun _ => end3 b t (iv t)) (fun _ => end3 b t (iv t)))) := by
  chain_rfl

theorem assoc1 {α β γ : Type} (w : P F α) (k1 : α → P F β) (k2 : β → P F γ) :
    ((w >>= k1) >>= k2) = (w >>= fun a => k1 a >>= k2) :=
  Idealize.ShloMosaic.ProgEq.bind_assoc _ _ _ _ _ _ _

theorem tripH_bind {α : Type} (b : Bufs) (t : Fin k0_t1_loop.trips) (e : P F α) :
    dite (k0_cond2 t = 1#1) (fun h2 => startH b (hpL t h2) >>= fun _ => e) (fun _ => e) = (tripH b t >>= fun _ => e) := by
  unfold tripH
  by_cases h : k0_cond2 t = 1#1
  · rw [dif_pos h, dif_pos h]
  · rw [dif_neg h, dif_neg h]; rfl

theorem tripRing_bind {α : Type} (b : Bufs) (t : Fin k0_t1_loop.trips) (e : P F α) :
    dite (k0_cond1 t = 1#1) (fun h => startC b (cpL3 t h) >>= fun _ => e) (fun _ => e) = (tripRing b t >>= fun _ => e) := by
  unfold tripRing
  by_cases h : k0_cond1 t = 1#1
  · rw [dif_pos h, dif_pos h]
  · rw [dif_neg h, dif_neg h]; rfl

theorem part3_eq (b : Bufs) (t : Fin k0_t1_loop.trips) :
    k0_part3 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem t (iv t) =
      ((waits3 (F := F) b t >>= fun _ => tripRing b t >>= fun _ => tripH b t) >>= fun _ => end3 b t (iv t)) := by
  rw [part3_raw b t, tripH_bind, tripRing_bind, assoc1]
  refine congrArg _ (funext fun _ => ?_)
  rw [assoc1]

theorem glue {ι β γ δ : Type} (w2 : P F PUnit) (i : ι) (p3 : ι → P F β) (K : ι → β → P F γ) (K2 : γ → P F δ)
    (w3 : P F PUnit) (e3 : P F β) (h : p3 i = (w3 >>= fun _ => e3)) :
    (((w2 >>= fun _ => pure i) >>= fun a => p3 a >>= K a) >>= K2)
      = ((w2 >>= fun _ => w3) >>= fun _ => (e3 >>= K i) >>= K2) := by
  rw [assoc1, assoc1, assoc1]
  refine congrArg _ (funext fun _ => ?_)
  change ((p3 i >>= K i) >>= K2) = _
  rw [h, assoc1, assoc1]
  refine congrArg _ (funext fun _ => ?_)
  rw [assoc1]

theorem copies_eq (b : Bufs) (t : Fin k0_t1_loop.trips) :
    (waits2 (F := F) b t >>= fun _ => waits3 b t >>= fun _ => tripRing b t >>= fun _ => tripH b t) = tripCopies b t := by
  have h : (waits2 (F := F) b t >>= fun _ => waits3 b t) = waitC b (cpL1 t) := by chain_rfl
  unfold tripCopies
  rw [← h, assoc1]

/-- The loop's body is the copies and then the list program. -/
theorem bodyP_eq (b : Bufs) (t : Fin k0_t1_loop.trips) (s : Mxu F) :
    bodyP b t s = (tripCopies (F := F) b t >>= fun _ => run b (envL t) bodyI s >>= fun s' => pure (0#32, s')) := by
  unfold bodyP k0_part87
  rw [part2_eq b t]
  refine (glue _ _ _ _ _ _ _ (part3_eq b t)).trans ?_
  rw [copies_eq]
  refine congrArg _ (funext fun _ => ?_)
  chain_rfl

end Cert.UpIdeal.Up

end
-- ==== Proof.UpWhole.lean ====
/-
  The first call's body, as printed, is: start the activations' copy and three pairs' copies, zero the unused rows, begin the
  first pair, the loop over the pairs, the last pair, and the waits for the hidden layer's copies.
-/
module

public import proofs.«01_k».proof.Proof.UpBody

@[expose] public section

set_option maxRecDepth 100000

noncomputable section

namespace Cert.UpIdeal.Up

open Idealize.ShloMosaic Idealize.ShloMosaic.TcCoe
open Idealize.SL Idealize.SL.Sem
open Facts₀ Facts

variable {F : FTy → Type} [FloatOps F]

/-- The copies of the first pair. -/
def cp0 : Cp where
  sl := 0
  gcol := fun u => match u with
    | 0 => 0
    | 1 => 16384
  col := 0
  hsl := by decide
  hS := k0_off1_inb 0
  hW := fun u => match u with
    | 0 => k0_off2_inb 0
    | 1 => k0_off7_inb 0
  wW := fun u => match u with
    | 0 => k0_off2_wordsi8 0
    | 1 => k0_off7_wordsi8 0
  hW' := fun u => match u with
    | 0 => k0_off3_inb 0 0
    | 1 => k0_off3_inb 1 0
  wW' := fun u => match u with
    | 0 => k0_off3_wordsi8 0 0
    | 1 => k0_off3_wordsi8 1 0
  hD := fun u => match u with
    | 0 => k0_off4_inb 0
    | 1 => k0_off8_inb 0
  wD := fun u => match u with
    | 0 => k0_off4_wordsbf16 0
    | 1 => k0_off8_wordsbf16 0
  hD' := fun u => match u with
    | 0 => k0_off5_inb 0 0
    | 1 => k0_off5_inb 1 0
  wD' := fun u => match u with
    | 0 => k0_off5_wordsbf16 0 0
    | 1 => k0_off5_wordsbf16 1 0
  hB := fun u => match u with
    | 0 => k0_off6_inb 0
    | 1 => k0_off9_inb 0
  wB := fun u => match u with
    | 0 => k0_off6_wordsbf16 0
    | 1 => k0_off9_wordsbf16 0
  hB' := fun u => match u with
    | 0 => inb_S13x2x32x16384_S13x1x32x512_0_0_0_0
    | 1 => inb_S13x2x32x16384_S13x1x32x512_0_1_0_0
  wB' := fun u => match u with
    | 0 => wordsbf16_S13x2x32x16384_S13x1x32x512_0_0_0_0
    | 1 => wordsbf16_S13x2x32x16384_S13x1x32x512_0_1_0_0

/-- The copies of the second pair. -/
def cp1 : Cp where
  sl := 1
  gcol := fun u => match u with
    | 0 => 512
    | 1 => 16896
  col := 512
  hsl := by decide
  hS := k0_off1_inb 1
  hW := fun u => match u with
    | 0 => k0_off2_inb 1
    | 1 => k0_off7_inb 1
  wW := fun u => match u with
    | 0 => k0_off2_wordsi8 1
    | 1 => k0_off7_wordsi8 1
  hW' := fun u => match u with
    | 0 => k0_off3_inb 0 1
    | 1 => k0_off3_inb 1 1
  wW' := fun u => match u with
    | 0 => k0_off3_wordsi8 0 1
    | 1 => k0_off3_wordsi8 1 1
  hD := fun u => match u with
    | 0 => k0_off4_inb 1
    | 1 => k0_off8_inb 1
  wD := fun u => match u with
    | 0 => k0_off4_wordsbf16 1
    | 1 => k0_off8_wordsbf16 1
  hD' := fun u => match u with
    | 0 => k0_off5_inb 0 1
    | 1 => k0_off5_inb 1 1
  wD' := fun u => match u with
    | 0 => k0_off5_wordsbf16 0 1
    | 1 => k0_off5_wordsbf16 1 1
  hB := fun u => match u with
    | 0 => k0_off6_inb 1
    | 1 => k0_off9_inb 1
  wB := fun u => match u with
    | 0 => k0_off6_wordsbf16 1
    | 1 => k0_off9_wordsbf16 1
  hB' := fun u => match u with
    | 0 => inb_S13x2x32x16384_S13x1x32x512_0_0_0_512
    | 1 => inb_S13x2x32x16384_S13x1x32x512_0_1_0_512
  wB' := fun u => match u with
    | 0 => wordsbf16_S13x2x32x16384_S13x1x32x512_0_0_0_512
    | 1 => wordsbf16_S13x2x32x16384_S13x1x32x512_0_1_0_512

/-- The copies of the third pair. -/
def cp2 : Cp where
  sl := 2
  gcol := fun u => match u with
    | 0 => 1024
    | 1 => 17408
  col := 1024
  hsl := by decide
  hS := k0_off1_inb 2
  hW := fun u => match u with
    | 0 => k0_off2_inb 2
    | 1 => k0_off7_inb 2
  wW := fun u => match u with
    | 0 => k0_off2_wordsi8 2
    | 1 => k0_off7_wordsi8 2
  hW' := fun u => match u with
    | 0 => k0_off3_inb 0 2
    | 1 => k0_off3_inb 1 2
  wW' := fun u => match u with
    | 0 => k0_off3_wordsi8 0 2
    | 1 => k0_off3_wordsi8 1 2
  hD := fun u => match u with
    | 0 => k0_off4_inb 2
    | 1 => k0_off8_inb 2
  wD := fun u => match u with
    | 0 => k0_off4_wordsbf16 2
    | 1 => k0_off8_wordsbf16 2
  hD' := fun u => match u with
    | 0 => k0_off5_inb 0 2
    | 1 => k0_off5_inb 1 2
  wD' := fun u => match u with
    | 0 => k0_off5_wordsbf16 0 2
    | 1 => k0_off5_wordsbf16 1 2
  hB := fun u => match u with
    | 0 => k0_off6_inb 2
    | 1 => k0_off9_inb 2
  wB := fun u => match u with
    | 0 => k0_off6_wordsbf16 2
    | 1 => k0_off9_wordsbf16 2
  hB' := fun u => match u with
    | 0 => inb_S13x2x32x16384_S13x1x32x512_0_0_0_1024
    | 1 => inb_S13x2x32x16384_S13x1x32x512_0_1_0_1024
  wB' := fun u => match u with
    | 0 => wordsbf16_S13x2x32x16384_S13x1x32x512_0_0_0_1024
    | 1 => wordsbf16_S13x2x32x16384_S13x1x32x512_0_1_0_1024

/-- The copy of the last pair but one. -/
def hp30 : Hp where
  col := 15360
  hS := inb_S80x16384_S72x512_0_15360
  hD := inb_S72x16384_S72x512_0_15360
  wS := wordsbf16_S80x16384_S72x512_0_15360
  wD := wordsbf16_S72x16384_S72x512_0_15360

/-- The copy of the last pair. -/
def hp31 : Hp where
  col := 15872
  hS := inb_S80x16384_S72x512_0_15872
  hD := inb_S72x16384_S72x512_0_15872
  wS := wordsbf16_S80x16384_S72x512_0_15872
  wD := wordsbf16_S72x16384_S72x512_0_15872

/-- The copy that trip `t` of the last loop waits for. -/
def hpD (t : Fin k0_t2_loop.trips) : Hp where
  col := (Scalar.muli (Scf.iv 0#32 1#32 t) 512#32).toNat
  hS := k0_off70_inb t
  hD := k0_off69_inb t
  wS := k0_off70_wordsbf16 t
  wD := k0_off69_wordsbf16 t

/-- The last pair. -/
def envE : Env where
  sl := fun _ => 3
  hsl := by decide
  col := fun p => 15872 + 256 * p.val
  hcol := fun p => match p with
    | 0 => inb_S80x16384_S80x256_0_15872
    | 1 => inb_S80x16384_S80x256_0_16128
  hpk := fun p => match p with
    | 0 => packedbf16_S80x16384_S80x256_0_15872
    | 1 => packedbf16_S80x16384_S80x256_0_16128

/-- The first pair, before the loop. -/
def env0 : Env where
  sl := fun _ => 0
  hsl := by decide
  col := envE.col
  hcol := envE.hcol
  hpk := envE.hpk

/-- Zero the rows that no adapter fills, in every slot. -/
def pads (b : Bufs) : P F PUnit := do
  padC b 0 inb_S4x2x16x32x512_S1x2x3x32x512_0_0_13_0_0 packedbf16_S4x2x16x32x512_S1x2x3x32x512_0_0_13_0_0
  padC b 1 inb_S4x2x16x32x512_S1x2x3x32x512_1_0_13_0_0 packedbf16_S4x2x16x32x512_S1x2x3x32x512_1_0_13_0_0
  padC b 2 inb_S4x2x16x32x512_S1x2x3x32x512_2_0_13_0_0 packedbf16_S4x2x16x32x512_S1x2x3x32x512_2_0_13_0_0
  padC b 3 inb_S4x2x16x32x512_S1x2x3x32x512_3_0_13_0_0 packedbf16_S4x2x16x32x512_S1x2x3x32x512_3_0_13_0_0

/-- Up to the loop. -/
def head (b : Bufs) : P F (Mxu F) := do
  startX b
  startC b cp0
  startC b cp1
  startC b cp2
  padX b
  pads b
  waitX b
  waitC b cp0
  run b env0 headI Mxu.init

/-- One trip of the loop. -/
def trip (b : Bufs) (t : Fin k0_t1_loop.trips) (s : Mxu F) : P F (BitVec 32 × Mxu F) := do
  tripCopies b t
  let s' ← run b (envL t) bodyI s
  pure (0#32, s')

/-- After the loop. -/
def tail (b : Bufs) (s : Mxu F) : P F PUnit := do
  startH b hp30
  let s' ← run b envE tailI s
  startH b hp31
  Scf.Loop.for k0_t2_loop k0_t2_ok ⟨⟩ fun t _ => do
    waitH b (hpD t)
    pure ⟨⟩
  s'.exit
  pure ⟨⟩

/-- The whole body. -/
def whole (b : Bufs) : P F PUnit := do
  let s ← head b
  let x ← Scf.Loop.for k0_t1_loop k0_t1_ok (0#32, s) fun t x => trip b t x.2
  tail b x.2

/-- From the loop to the end of the window the loop stands in, as printed. -/
def after109 (b : Bufs) : BitVec 32 × Mxu F → P F (Mxu F) := fun (v636_r0, k0_mxu35) => do
  let c31_i32_482_r0 : BitVec 32 := 31#32
  let c15360_i32_r0 : BitVec 32 := 15360#32
  let v637_r0 : BitVec 32 := c15360_i32_r0
  let c0_i32_483_r0 : BitVec 32 := 0#32
  let v638_r0 : Memref sig .tc .hbm S72x512 .bf16 := b.ho.slice (Rect.unit (s := S72x16384) ![0, 15360] S72x512.size inb_S72x16384_S72x512_0_15360) (fun _ => rfl)
  let c0_i32_484_r0 : BitVec 32 := 0#32
  let v639_r0 : Memref sig .tc .vmem S72x512 .bf16 := b.hs.slice (Rect.unit (s := S80x16384) ![0, 15360] S72x512.size inb_S80x16384_S72x512_0_15360) (fun _ => rfl)
  Prog.lift (.enqueueDma v639_r0 (.here v638_r0) (.dma b.hsem.sem) (b.hhs.wordExact_slice rfl _ wordsbf16_S80x16384_S72x512_0_15360) (b.hho.wordExact_slice rfl _ wordsbf16_S72x16384_S72x512_0_15360) ⟨Or.inl rfl, trivial⟩)
  let c31_i32_485_r0 : BitVec 32 := 31#32
  let c4_i32_486_r0 : BitVec 32 := 4#32
  let v640_r0 : BitVec 32 := Scalar.remsi c31_i32_485_r0 c4_i32_486_r0
  let v641_r0 : Index := Scalar.indexCast v640_r0
  let c0_487_r0 : Index := 0#32
  let c0_488_r0 : Index := 0#32
  let c256_489_r0 : Index := 256#32
  let v642_r0 : Vec F S1x1x48x256 .bf16 ← Prog.lift (.load b.sg (Rect.unit (s := S4x2x48x512) k0_off57 S1x1x48x256.size k0_off57_inb).toLoadRect (View.loadsAt_vmem h_S1x1x48x256))
  have v643_r0 : FVec F S48x256 .bf16 := shapeCast S48x256 v642_r0 shapeCasts_S1x1x48x256_S48x256
  have v644_r0 : FVec F S48x256 .f32 := extf .f32 v643_r0 bitsLt_bf16_f32
  have cst_490_r0 : F .f32 := Scalar.ofBits .f32 0x3D800000#32
  have v645_r0 : FVec F S48x256 .f32 := broadcast S48x256 cst_490_r0
  have v646_r0 : FVec F S48x256 .f32 := mulf v644_r0 v645_r0
  let c0_491_r0 : Index := 0#32
  let c0_492_r0 : Index := 0#32
  let c0_493_r0 : Index := 0#32
  let v647_r0 : Vec F S1x48x256 .f32 ← Prog.lift (.load b.sb (Rect.unit (s := S2x48x256) ![0, 0, 0] S1x48x256.size inb_S2x48x256_S1x48x256_0_0_0).toLoadRect (View.loadsAt_vmem h_S1x48x256))
  have v648_r0 : FVec F S48x256 .f32 := shapeCast S48x256 v647_r0 shapeCasts_S1x48x256_S48x256
  have v649_r0 : FVec F S1x48x256 .f32 := shapeCast S1x48x256 v646_r0 shapeCasts_S48x256_S1x48x256
  Prog.lift (.store b.sb (Rect.unit (s := S2x48x256) ![0, 0, 0] S1x48x256.size inb_S2x48x256_S1x48x256_0_0_0) v649_r0 Finset.univ (View.stores_vmem_bits_univ h_S1x48x256 rfl) (.inl rfl))
  let v650_r0 : Index := Scalar.indexCast v640_r0
  let c1_494_r0 : Index := 1#32
  let c0_495_r0 : Index := 0#32
  let c256_496_r0 : Index := 256#32
  let v651_r0 : Vec F S1x1x48x256 .bf16 ← Prog.lift (.load b.sg (Rect.unit (s := S4x2x48x512) k0_off58 S1x1x48x256.size k0_off58_inb).toLoadRect (View.loadsAt_vmem h_S1x1x48x256))
  have v652_r0 : FVec F S48x256 .bf16 := shapeCast S48x256 v651_r0 shapeCasts_S1x1x48x256_S48x256
  have v653_r0 : FVec F S48x256 .f32 := extf .f32 v652_r0 bitsLt_bf16_f32
  have cst_497_r0 : F .f32 := Scalar.ofBits .f32 0x3D800000#32
  have v654_r0 : FVec F S48x256 .f32 := broadcast S48x256 cst_497_r0
  have v655_r0 : FVec F S48x256 .f32 := mulf v653_r0 v654_r0
  let c1_498_r0 : Index := 1#32
  let c0_499_r0 : Index := 0#32
  let c0_500_r0 : Index := 0#32
  let v656_r0 : Vec F S1x48x256 .f32 ← Prog.lift (.load b.sb (Rect.unit (s := S2x48x256) ![1, 0, 0] S1x48x256.size inb_S2x48x256_S1x48x256_1_0_0).toLoadRect (View.loadsAt_vmem h_S1x48x256))
  have v657_r0 : FVec F S48x256 .f32 := shapeCast S48x256 v656_r0 shapeCasts_S1x48x256_S48x256
  have v658_r0 : FVec F S1x48x256 .f32 := shapeCast S1x48x256 v655_r0 shapeCasts_S48x256_S1x48x256
  Prog.lift (.store b.sb (Rect.unit (s := S2x48x256) ![1, 0, 0] S1x48x256.size inb_S2x48x256_S1x48x256_1_0_0) v658_r0 Finset.univ (View.stores_vmem_bits_univ h_S1x48x256 rfl) (.inl rfl))
  pure k0_mxu35

/-- From there to the end of the next window, as printed. -/
def after179 (b : Bufs) : Mxu F → P F (Σ' (k0_mxu343 : Mxu F) (v1955_r0 : FVec F S256x256 .bf16), FVec F S128x256 .bf16) := fun k0_mxu35 => do
  let ⟨v659_r0, k0_mxu248, v690_r0, v691_r0⟩ : Σ' (v659_r0 : BitVec 32) (k0_mxu248 : Mxu F) (v690_r0 : IVec S64x256 32), IVec S64x256 32 ← k0_part110 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu35
  let ⟨k0_mxu249, v726_r0⟩ : Σ' (k0_mxu249 : Mxu F), FVec F S256x256 .bf16 ← k0_part111 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu248 v690_r0 v691_r0
  let ⟨k0_mxu251, v754_r0, v760_r0⟩ : Σ' (k0_mxu251 : Mxu F) (v754_r0 : FVec F S256x256 .bf16), FVec F S128x256 .bf16 ← k0_part112 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu249 v726_r0
  let ⟨k0_mxu253, v796_r0⟩ : Σ' (k0_mxu253 : Mxu F), FVec F S256x256 .bf16 ← k0_part113 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu251 v754_r0 v760_r0
  let k0_mxu257 : Mxu F ← k0_part114 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu253 v796_r0
  let ⟨k0_mxu259, v857_r0, v861_r0⟩ : Σ' (k0_mxu259 : Mxu F) (v857_r0 : IVec S64x256 32), IVec S64x256 32 ← k0_part115 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu257
  let ⟨k0_mxu261, v894_r0⟩ : Σ' (k0_mxu261 : Mxu F), FVec F S256x256 .bf16 ← k0_part116 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu259 v857_r0 v861_r0
  let ⟨k0_mxu263, v922_r0, v928_r0⟩ : Σ' (k0_mxu263 : Mxu F) (v922_r0 : FVec F S256x256 .bf16), FVec F S128x256 .bf16 ← k0_part117 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu261 v894_r0
  let ⟨k0_mxu265, v964_r0⟩ : Σ' (k0_mxu265 : Mxu F), FVec F S256x256 .bf16 ← k0_part118 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu263 v922_r0 v928_r0
  let k0_mxu269 : Mxu F ← k0_part119 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu265 v964_r0
  let ⟨k0_mxu271, v1025_r0, v1029_r0⟩ : Σ' (k0_mxu271 : Mxu F) (v1025_r0 : IVec S64x256 32), IVec S64x256 32 ← k0_part120 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu269
  let ⟨k0_mxu273, v1062_r0⟩ : Σ' (k0_mxu273 : Mxu F), FVec F S256x256 .bf16 ← k0_part121 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu271 v1025_r0 v1029_r0
  let ⟨k0_mxu275, v1090_r0, v1096_r0⟩ : Σ' (k0_mxu275 : Mxu F) (v1090_r0 : FVec F S256x256 .bf16), FVec F S128x256 .bf16 ← k0_part122 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu273 v1062_r0
  let ⟨k0_mxu277, v1132_r0⟩ : Σ' (k0_mxu277 : Mxu F), FVec F S256x256 .bf16 ← k0_part123 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu275 v1090_r0 v1096_r0
  let k0_mxu281 : Mxu F ← k0_part124 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu277 v1132_r0
  let ⟨k0_mxu283, v1193_r0, v1197_r0⟩ : Σ' (k0_mxu283 : Mxu F) (v1193_r0 : IVec S64x256 32), IVec S64x256 32 ← k0_part125 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu281
  let ⟨k0_mxu285, v1230_r0⟩ : Σ' (k0_mxu285 : Mxu F), FVec F S256x256 .bf16 ← k0_part126 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu283 v1193_r0 v1197_r0
  let ⟨k0_mxu287, v1258_r0, v1264_r0⟩ : Σ' (k0_mxu287 : Mxu F) (v1258_r0 : FVec F S256x256 .bf16), FVec F S128x256 .bf16 ← k0_part127 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu285 v1230_r0
  let ⟨k0_mxu289, v1300_r0⟩ : Σ' (k0_mxu289 : Mxu F), FVec F S256x256 .bf16 ← k0_part128 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu287 v1258_r0 v1264_r0
  let k0_mxu293 : Mxu F ← k0_part129 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu289 v1300_r0
  let ⟨k0_mxu295, v1361_r0, v1365_r0⟩ : Σ' (k0_mxu295 : Mxu F) (v1361_r0 : IVec S64x256 32), IVec S64x256 32 ← k0_part130 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu293
  let ⟨k0_mxu297, v1398_r0⟩ : Σ' (k0_mxu297 : Mxu F), FVec F S256x256 .bf16 ← k0_part131 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu295 v1361_r0 v1365_r0
  let ⟨k0_mxu299, v1426_r0, v1432_r0⟩ : Σ' (k0_mxu299 : Mxu F) (v1426_r0 : FVec F S256x256 .bf16), FVec F S128x256 .bf16 ← k0_part132 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu297 v1398_r0
  let ⟨k0_mxu301, v1468_r0⟩ : Σ' (k0_mxu301 : Mxu F), FVec F S256x256 .bf16 ← k0_part133 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu299 v1426_r0 v1432_r0
  let k0_mxu305 : Mxu F ← k0_part134 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu301 v1468_r0
  let ⟨k0_mxu307, v1529_r0, v1533_r0⟩ : Σ' (k0_mxu307 : Mxu F) (v1529_r0 : IVec S64x256 32), IVec S64x256 32 ← k0_part135 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu305
  let ⟨k0_mxu312, v1563_r0⟩ : Σ' (k0_mxu312 : Mxu F), Vec F S80x256 .bf16 ← k0_part136 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem v659_r0 k0_mxu307 v1529_r0 v1533_r0
  let ⟨k0_mxu317, v1589_r0⟩ : Σ' (k0_mxu317 : Mxu F), FVec F S256x256 .bf16 ← k0_part137 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem v659_r0 k0_mxu312 v1563_r0
  let ⟨k0_mxu319, v1618_r0, v1624_r0⟩ : Σ' (k0_mxu319 : Mxu F) (v1618_r0 : FVec F S256x256 .bf16), FVec F S128x256 .bf16 ← k0_part138 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu317 v1589_r0
  let ⟨k0_mxu321, v1647_r0, v1653_r0, v1658_r0⟩ : Σ' (k0_mxu321 : Mxu F) (v1647_r0 : FVec F S256x256 .bf16) (v1653_r0 : FVec F S128x256 .bf16), FVec F S128x256 .f32 ← k0_part139 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu319 v1618_r0 v1624_r0
  let k0_mxu325 : Mxu F ← k0_part140 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu321 v1647_r0 v1653_r0 v1658_r0
  let ⟨k0_mxu327, v1722_r0, v1724_r0⟩ : Σ' (k0_mxu327 : Mxu F) (v1722_r0 : IVec S64x256 32), IVec S64x256 32 ← k0_part141 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu325
  let ⟨k0_mxu329, v1759_r0⟩ : Σ' (k0_mxu329 : Mxu F), FVec F S256x256 .bf16 ← k0_part142 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu327 v1722_r0 v1724_r0
  let ⟨k0_mxu331, v1787_r0, v1793_r0⟩ : Σ' (k0_mxu331 : Mxu F) (v1787_r0 : FVec F S256x256 .bf16), FVec F S128x256 .bf16 ← k0_part143 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu329 v1759_r0
  let ⟨k0_mxu333, v1815_r0, v1821_r0, v1826_r0⟩ : Σ' (k0_mxu333 : Mxu F) (v1815_r0 : FVec F S256x256 .bf16) (v1821_r0 : FVec F S128x256 .bf16), FVec F S128x256 .f32 ← k0_part144 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu331 v1787_r0 v1793_r0
  let k0_mxu337 : Mxu F ← k0_part145 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu333 v1815_r0 v1821_r0 v1826_r0
  let ⟨k0_mxu339, v1890_r0, v1892_r0⟩ : Σ' (k0_mxu339 : Mxu F) (v1890_r0 : IVec S64x256 32), IVec S64x256 32 ← k0_part146 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu337
  let ⟨k0_mxu341, v1927_r0⟩ : Σ' (k0_mxu341 : Mxu F), FVec F S256x256 .bf16 ← k0_part147 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu339 v1890_r0 v1892_r0
  let ⟨k0_mxu343, v1955_r0, v1961_r0⟩ : Σ' (k0_mxu343 : Mxu F) (v1955_r0 : FVec F S256x256 .bf16), FVec F S128x256 .bf16 ← k0_part148 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu341 v1927_r0
  pure ⟨k0_mxu343, v1955_r0, v1961_r0⟩

/-- From there to the end, as printed. -/
def afterEnd (b : Bufs) : (Σ' (k0_mxu343 : Mxu F) (v1955_r0 : FVec F S256x256 .bf16), FVec F S128x256 .bf16) → P F PUnit := fun ⟨k0_mxu343, v1955_r0, v1961_r0⟩ => do
  let ⟨k0_mxu427, c0_i32_122, c32_i32⟩ : Σ' (k0_mxu427 : Mxu F) (c0_i32_122 : BitVec 32), BitVec 32 ← k0_part180 b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem k0_mxu343 v1955_r0 v1961_r0
  let v130 : BitVec 32 := Scalar.addi c0_i32_122 c32_i32
  let c1_i32_123 : BitVec 32 := 1#32
  Scf.Loop.for k0_t2_loop k0_t2_ok ⟨⟩ fun k0_t2 _ => do
    let arg16 : BitVec 32 := Scf.iv c0_i32_122 c1_i32_123 k0_t2
    let c512_i32_125 : BitVec 32 := 512#32
    let v131 : BitVec 32 := Scalar.muli arg16 c512_i32_125
    let v132 : BitVec 32 := v131
    let c0_i32_126 : BitVec 32 := 0#32
    let v133 : Memref sig .tc .hbm S72x512 .bf16 := b.ho.slice (Rect.unit (s := S72x16384) (k0_off69 k0_t2) S72x512.size (k0_off69_inb k0_t2)) (fun _ => rfl)
    let c0_i32_127 : BitVec 32 := 0#32
    let v134 : Memref sig .tc .vmem S72x512 .bf16 := b.hs.slice (Rect.unit (s := S80x16384) (k0_off70 k0_t2) S72x512.size (k0_off70_inb k0_t2)) (fun _ => rfl)
    Prog.lift (.waitDma2 b.hsem.sem v134 v133 (b.hhs.wordExact_slice rfl _ (k0_off70_wordsbf16 k0_t2)) (b.hho.wordExact_slice rfl _ (k0_off69_wordsbf16 k0_t2)))
    pure ⟨⟩
  let c32_i32_124 : BitVec 32 := 32#32
  k0_mxu427.exit
  pure ⟨⟩

theorem cc0_raw (b : Bufs) :
    cc0_swiglu_int4_lora_up (F := F) b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem =
    (head b >>= fun s => ((Scf.Loop.for k0_t1_loop k0_t1_ok (0#32, s) (fun t x => bodyP b t x.2) >>= after109 b) >>=
      after179 b) >>= afterEnd b) := by
  chain_rfl

theorem after_eq (b : Bufs) (x : BitVec 32 × Mxu F) :
    ((after109 b x >>= after179 b) >>= afterEnd b) = tail b x.2 := by
  chain_rfl

/-- The printed body is the list program. -/
theorem cc0_eq (b : Bufs) :
    cc0_swiglu_int4_lora_up (F := F) b.x b.hx b.md b.hmd b.wgu b.hwgu b.sgu b.hsgu b.bgu b.hbgu b.ho b.hho b.xp b.hxp b.wg b.hwg b.sg b.hsg b.bg b.hbg b.sa b.hsa b.sb b.hsb b.hs b.hhs b.xsem b.sem b.hsem = whole b := by
  rw [cc0_raw b]
  refine congrArg _ (funext fun s => ?_)
  rw [assoc1, assoc1]
  have hb : (fun (t : Fin k0_t1_loop.trips) (x : BitVec 32 × Mxu F) => bodyP b t x.2) = fun t x => trip b t x.2 :=
    funext fun t => funext fun x => bodyP_eq b t x.2
  rw [hb]
  refine congrArg _ (funext fun x => ?_)
  rw [← assoc1]
  exact after_eq b x

end Cert.UpIdeal.Up

end
-- ==== Proof.UpMachine.lean ====
/-
  What the instructions do, as mathematics: the staging registers and the sums of the two matrix units are a finite
  table of tiles, and a list of instructions rewrites that table. The lists of a pair of chunks are evaluated here once.
-/
module

public import proofs.«01_k».proof.Proof.UpStruct
public import Idealize.ShloMosaic.Lib.Mxu.Lemmas
public import Idealize.ShloMosaic.Lib.ValueLayout

@[expose] public section

noncomputable section

namespace Cert.UpIdeal.Up

open Idealize.ShloMosaic Idealize.ShloMosaic.TcCoe
open Idealize.SL Idealize.SL.Sem
open Facts₀ Facts

variable {F : FTy → Type} [FloatOps F]

/-- What the buffers hold that a pair of chunks reads: by slot `w`, chunk `p`, unit `u`, tile `k`. -/
structure Reads (F : FTy → Type) [FloatOps F] where
  blk : Fin 2 → Fin 2 → Fin 2 → ℕ → IVec S256x256 8
  st : Fin 2 → Fin 2 → Fin 2 → FVec F S1x1x48x256 .bf16
  bt : Fin 2 → Fin 2 → Fin 2 → ℕ → FVec F S1x1x8x32x256 .bf16
  x : ℕ → FVec F S80x256 .bf16
  md : Fin 2 → ℕ → FVec F S1x80x256 .bf16

/-- A row of scales. -/
def rowOf (sc : FVec F S1x48x256 .f32) (k : ℕ) : FVec F S1x256 .f32 :=
  fun x => sc (ValueIdx.ix3 (⟨0, Nat.one_pos⟩ : Fin 1) ⟨k % 48, Nat.mod_lt _ (by decide)⟩ (x 1))

/-- The tile staged for unit `u` at step `k`. -/
def rt (D : Reads F) (w p u : Fin 2) (k : ℕ) (sc : FVec F S1x48x256 .f32) : FVec F S256x256 .bf16 :=
  if k < 24 then wval (fld k) (D.blk w p u k) (rowOf sc (2 * k)) (rowOf sc (2 * k + 1))
  else bval (D.bt w p u ((k - 24) % 2))

/-- The left-hand tile of unit `u` at step `k`. -/
def lt (D : Reads F) (u : Fin 2) (k : ℕ) : FVec F S80x256 .bf16 :=
  if k < 24 then D.x k else mval (D.md u ((k - 24) % 2))

/-- The product of two tiles. -/
def pass (x : FVec F S80x256 .bf16) (y : FVec F S256x256 .bf16) : FVec F S80x256 .f32 :=
  FloatOps.mxuPass (DotDims.plain 80 256 256) x y

/-- The sum of a chunk's products on unit `u`, up to step `n`. -/
def chain (D : Reads F) (w p u : Fin 2) (sc : FVec F S1x48x256 .f32) : ℕ → FVec F S80x256 .f32
  | 0 => pass (lt D u 0) (rt D w p u 0 sc)
  | n + 1 => addf (chain D w p u sc n) (pass (lt D u (n + 1)) (rt D w p u (n + 1) sc))

/-- The table. -/
structure Tab (F : FTy → Type) [FloatOps F] where
  reg : Fin 2 → Fin 2 → Option (FVec F S256x256 .bf16)
  acc : Fin 2 → Fin 2 → Option (FVec F S80x256 .f32)
  sc : Fin 2 → Fin 2 → FVec F S1x48x256 .f32
  out : Fin 2 → FVec F S80x256 .bf16

/-- One entry replaced. -/
def put {α : Type} (f : Fin 2 → Fin 2 → α) (q r : Fin 2) (v : α) : Fin 2 → Fin 2 → α :=
  fun q' r' => if q' = q ∧ r' = r then v else f q' r'

/-- One instruction. -/
def tstep (D : Reads F) (e : Env) (a : Tab F) : Instr → Option (Tab F)
  | .push w p u k r => match a.reg u r with
    | none => some { a with reg := put a.reg u r (some (rt D w p u k (a.sc p u))) }
    | some _ => none
  | .acc p u k r => match a.reg u r with
    | none => none
    | some t => some { a with
        reg := put a.reg u r none
        acc := put a.acc u p (some (match a.acc u p with
          | none => pass (lt D u k) t
          | some y => addf y (pass (lt D u k) t))) }
  | .scale w p u => some { a with sc := put a.sc p u (scval (D.st w p u)) }
  | .out p => match a.acc 0 p, a.acc 1 p with
    | some y0, some y1 => some { a with
        acc := put (put a.acc 0 p none) 1 p none
        out := fun p' => if p' = p then hval y0 y1 else a.out p' }
    | _, _ => none

/-- A list of instructions. -/
def trun (D : Reads F) (e : Env) : List Instr → Tab F → Option (Tab F)
  | [], a => some a
  | i :: is, a => (tstep D e a i).bind (trun D e is)

/-- The table's entries, one after the other. -/
def Tab.view (a : Tab F) :=
  (a.reg 0 0, a.reg 0 1, a.reg 1 0, a.reg 1 1, a.acc 0 0, a.acc 0 1, a.acc 1 0, a.acc 1 1, a.sc 0 0, a.sc 0 1, a.sc 1 0, a.sc 1 1, a.out 0, a.out 1)

theorem Tab.view_inj {a b : Tab F} (h : a.view = b.view) : a = b := by
  unfold Tab.view at h
  simp only [Prod.mk.injEq] at h
  obtain ⟨h1, h2, h3, h4, h5, h6, h7, h8, h9, h10, h11, h12, h13, h14⟩ := h
  cases a; cases b
  simp only at h1 h2 h3 h4 h5 h6 h7 h8 h9 h10 h11 h12 h13 h14
  congr 1
  · funext q r; fin_cases q <;> fin_cases r <;> assumption
  · funext q r; fin_cases q <;> fin_cases r <;> assumption
  · funext q r; fin_cases q <;> fin_cases r <;> assumption
  · funext q; fin_cases q <;> assumption

theorem eq_of_view {o : Option (Tab F)} {b : Tab F} (h : o.map Tab.view = some b.view) : o = some b := by
  cases o with
  | none => cases h
  | some a => exact congrArg some (Tab.view_inj (Option.some.inj h))

/-- Nothing staged, no sums. -/
def tab0 (sc : Fin 2 → Fin 2 → FVec F S1x48x256 .f32) (out : Fin 2 → FVec F S80x256 .bf16) : Tab F := ⟨fun _ _ => none, fun _ _ => none, sc, out⟩

/-- Between two pairs: the first chunk of the next pair, in slot `w`, is begun. -/
def mid (D : Reads F) (w : Fin 2) (sc : Fin 2 → Fin 2 → FVec F S1x48x256 .f32) (out : Fin 2 → FVec F S80x256 .bf16) : Tab F :=
  ⟨fun _ _ => none, fun u p => match p with | 0 => some (chain D w 0 u (sc 0 u) 7) | 1 => none, sc, out⟩

/-- The block of a chunk. -/
def blockOf (D : Reads F) (w p : Fin 2) : FVec F S80x256 .bf16 :=
  hval (chain D w p 0 (scval (D.st w p 0)) 25) (chain D w p 1 (scval (D.st w p 1)) 25)

/-- The scale buffers of the two chunks. -/
def scs (x y : Fin 2 → FVec F S1x48x256 .f32) : Fin 2 → Fin 2 → FVec F S1x48x256 .f32
  | 0 => x
  | 1 => y

/-- The scales of a chunk. -/
def scOf (D : Reads F) (w p : Fin 2) : Fin 2 → FVec F S1x48x256 .f32 := fun u => scval (D.st w p u)

set_option maxRecDepth 100000 in
/-- The beginning of the first pair. -/
theorem trun_head (D : Reads F) (e : Env) (sc : Fin 2 → Fin 2 → FVec F S1x48x256 .f32) (out : Fin 2 → FVec F S80x256 .bf16) :
    trun D e headI (tab0 sc out) = some (mid D 0 (scs (scOf D 0 0) (sc 1)) out) :=
  eq_of_view (by chain_rfl)

set_option maxRecDepth 100000 in
/-- A pair that another follows. -/
theorem trun_body (D : Reads F) (e : Env) (s1 : Fin 2 → FVec F S1x48x256 .f32) (out : Fin 2 → FVec F S80x256 .bf16) :
    trun D e bodyI (mid D 0 (scs (scOf D 0 0) s1) out)
      = some (mid D 1 (scs (scOf D 1 0) (scOf D 0 1)) (blockOf D 0)) :=
  eq_of_view (by chain_rfl)

set_option maxRecDepth 100000 in
/-- The last pair. -/
theorem trun_tail (D : Reads F) (e : Env) (s1 : Fin 2 → FVec F S1x48x256 .f32) (out : Fin 2 → FVec F S80x256 .bf16) :
    trun D e tailI (mid D 0 (scs (scOf D 0 0) s1) out)
      = some (tab0 (scs (scOf D 0 0) (scOf D 0 1)) (blockOf D 0)) :=
  eq_of_view (by chain_rfl)

/-! ## The matrix units hold the table -/

/-- The units' state is the table's. -/
structure Rep (s : Mxu F) (a : Tab F) : Prop where
  reg : ∀ q r, s.reg q r = (a.reg q r).map fun v => ⟨.bf16, false, v⟩
  none : ∀ q p, a.acc q p = Option.none → ∀ r, s.live q (Mxu.row (fitsA p) r) = false
  some : ∀ q p y, a.acc q p = Option.some y → (∀ r, s.live q (Mxu.row (fitsA p) r) = true) ∧ s.read q (addr p) (fitsA p) = y
  dead : ∀ q R, 160 ≤ R.val → s.live q R = false

theorem addr_ne {p p' : Fin 2} (h : p' ≠ p) : 4 * addr p' + 80 ≤ 4 * addr p ∨ 4 * addr p + 80 ≤ 4 * addr p' := by
  fin_cases p <;> fin_cases p' <;> simp_all [addr]

theorem addr_le (p : Fin 2) : 4 * addr p + 80 ≤ 160 := by fin_cases p <;> simp [addr]

theorem Rep.init (sc : Fin 2 → Fin 2 → FVec F S1x48x256 .f32) (out : Fin 2 → FVec F S80x256 .bf16) : Rep Mxu.init (tab0 sc out) where
  reg q r := by simp [tab0]
  none q p _ r := rfl
  some q p y h := by cases h
  dead q R _ := rfl

theorem Rep.push {s : Mxu F} {a : Tab F} (h : Rep s a) (u r : Fin 2) (v : FVec F S256x256 .bf16) (hn : a.reg u r = Option.none) :
    Rep (s.pushed u r false v) { a with reg := put a.reg u r (Option.some v) } where
  reg q r' := by
    have hs : s.reg u r = Option.none := by rw [h.reg, hn]; rfl
    by_cases hq : q = u ∧ r' = r
    · obtain ⟨rfl, rfl⟩ := hq
      rw [Mxu.reg_pushed_of_none _ _ _ _ _ hs]; simp [put]
    · rw [Mxu.reg_pushed_ne _ _ _ _ _ _ _ hq, h.reg]; simp [put, hq]
  none q p hq r := by rw [Mxu.live_pushed]; exact h.none q p hq r
  some q p y hy := by rw [Mxu.live_pushed, Mxu.read_pushed]; exact h.some q p y hy
  dead q R hR := by rw [Mxu.live_pushed]; exact h.dead q R hR

theorem row_val (p : Fin 2) (r : Fin 80) : (Mxu.row (fitsA p) r).val = 4 * addr p + r.val := rfl

theorem live_ne {s : Mxu F} {u r p : Fin 2} {v : FVec F S80x256 .bf16} {q p' : Fin 2} (hq : ¬ (q = u ∧ p' = p)) (i : Fin 80) :
    (s.accLhs u r (addr p) (M := 80) v (fitsA p)).live q (Mxu.row (fitsA p') i) = s.live q (Mxu.row (fitsA p') i) := by
  rw [Mxu.live_accLhs]
  by_cases hu : q = u
  · have := addr_ne (fun e => hq ⟨hu, e⟩)
    have hi := i.isLt
    rw [if_neg]; rw [row_val]; omega
  · simp [hu]

theorem ne_or {q u p' p : Fin 2} (hq : ¬ (q = u ∧ p' = p)) :
    q ≠ u ∨ 4 * addr p' + 80 ≤ 4 * addr p ∨ 4 * addr p + 80 ≤ 4 * addr p' := by
  by_cases hu : q = u
  · exact .inr (addr_ne fun e => hq ⟨hu, e⟩)
  · exact .inl hu

theorem Rep.accL {s : Mxu F} {a : Tab F} (h : Rep s a) (p u r : Fin 2) (v : FVec F S80x256 .bf16) (t : FVec F S256x256 .bf16)
    (ht : a.reg u r = Option.some t) :
    Rep (s.accLhs u r (addr p) (M := 80) v (fitsA p))
      { a with
        reg := put a.reg u r Option.none
        acc := put a.acc u p (Option.some (match a.acc u p with | Option.none => pass v t | Option.some y => addf y (pass v t))) } where
  reg q r' := by
    by_cases hq : q = u ∧ r' = r
    · obtain ⟨rfl, rfl⟩ := hq
      rw [Mxu.reg_accLhs]; simp [put]
    · rw [Mxu.reg_accLhs_ne _ _ _ _ _ _ _ _ hq, h.reg]; simp [put, hq]
  none q p' hq i := by
    by_cases hu : q = u ∧ p' = p
    · simp [put, hu] at hq
    · rw [live_ne hu]; exact h.none q p' (by simpa [put, hu] using hq) i
  some q p' y hy := by
    by_cases hu : q = u ∧ p' = p
    · obtain ⟨rfl, rfl⟩ := hu
      refine ⟨fun i => Mxu.live_accLhs_row _ _ _ _ _ _ _, ?_⟩
      have hst : s.staged q r = ⟨.bf16, false, t⟩ := by rw [Mxu.staged_eq, h.reg, ht]; rfl
      have hy' : (match a.acc q p' with | Option.none => pass v t | Option.some y => addf y (pass v t)) = y := by
        simpa [put] using hy
      rw [← hy']
      cases ha : a.acc q p' with
      | none => rw [Mxu.read_accLhs_of_not_live _ _ _ _ _ _ (h.none q p' ha), hst]; rfl
      | some z =>
        obtain ⟨hl, hz⟩ := h.some q p' z ha
        rw [Mxu.read_accLhs_of_live _ _ _ _ _ _ hl, hst, hz]; rfl
    · have hy' : a.acc q p' = Option.some y := by simpa [put, hu] using hy
      obtain ⟨hl, hz⟩ := h.some q p' y hy'
      refine ⟨fun i => by rw [live_ne hu]; exact hl i, ?_⟩
      rw [Mxu.read_accLhs_ne _ _ _ _ _ _ _ _ _ (ne_or hu), hz]
  dead q R hR := by
    have := addr_le p
    rw [Mxu.live_accLhs, if_neg (by omega)]; exact h.dead q R hR

theorem Rep.pop {s : Mxu F} {a : Tab F} (h : Rep s a) (u p : Fin 2) :
    Rep (s.pop u (addr p) 80 (fitsA p)) { a with acc := put a.acc u p Option.none } where
  reg q r := by rw [Mxu.reg_pop]; exact h.reg q r
  none q p' hq i := by
    by_cases hu : q = u ∧ p' = p
    · obtain ⟨rfl, rfl⟩ := hu; exact Mxu.live_pop_row _ _ _ _ _
    · have h0 := h.none q p' (by simpa [put, hu] using hq) i
      rw [Mxu.live_pop]; split
      · rfl
      · exact h0
  some q p' y hy := by
    by_cases hu : q = u ∧ p' = p
    · simp [put, hu] at hy
    · obtain ⟨hl, hz⟩ := h.some q p' y (by simpa [put, hu] using hy)
      refine ⟨fun i => ?_, by rw [Mxu.read_pop_ne _ _ _ _ _ _ _ (ne_or hu), hz]⟩
      rw [Mxu.live_pop]
      by_cases hq : q = u
      · have := addr_ne (fun e => hu ⟨hq, e⟩)
        have hi := i.isLt
        rw [if_neg (by rw [row_val]; omega)]; exact hl i
      · simp only [hq, false_and, if_false]; exact hl i
  dead q R hR := by
    rw [Mxu.live_pop]; split
    · rfl
    · exact h.dead q R hR

theorem Rep.drained {s : Mxu F} {sc : Fin 2 → Fin 2 → FVec F S1x48x256 .f32} {out : Fin 2 → FVec F S80x256 .bf16} (h : Rep s (tab0 sc out)) : s.Drained := by
  refine ⟨fun q r => by rw [h.reg]; rfl, fun q R => ?_⟩
  by_cases hR : 160 ≤ R.val
  · exact h.dead q R hR
  · by_cases h8 : R.val < 80
    · have := h.none q 0 rfl ⟨R.val, h8⟩
      rwa [show Mxu.row (fitsA 0) ⟨R.val, h8⟩ = R from Fin.ext (by rw [row_val]; simp [addr])] at this
    · have := h.none q 1 rfl ⟨R.val - 80, by omega⟩
      rwa [show Mxu.row (fitsA 1) ⟨R.val - 80, by omega⟩ = R from Fin.ext (by rw [row_val]; simp [addr]; omega)] at this

end Cert.UpIdeal.Up

end
-- ==== Proof.UpRun.lean ====
/-
  A list of instructions runs as the table says: from ownership of what it reads, of the two scale buffers and of the
  pair's columns of the hidden layer, the program reaches a state of the matrix units that holds the rewritten table.
-/
module

public import proofs.«01_k».proof.Proof.UpMachine
public import Idealize.ShloMosaic.Lib.MixedBatch
public import Idealize.ShloMosaic.Lib.Tactic
public import Idealize.ShloMosaic.Lib.Pipeline.FrameBody

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
abbrev Asrt (F : FTy → Type) [FloatOps F] : Type := sProp (MT nD τ sig Unit (Elt F) ℕ (Pipeline.UD sig nD τ) ℕ)

/-- The weakest precondition of a program of the kernel on core `c`. -/
abbrev wpc (c : Dev nD) {α : Type} (p : P F α) (Q : α → Asrt F) : Asrt F :=
  wp frame (wpE (defs₀ (F := F)) Variants.none (c : Thread nD τ) none) Set.univ p Q

/-- A program that only reads: from `R` it yields `v` and leaves `R`. -/
def Gets (c : Dev nD) (R : Asrt F) {β : Type} (p : P F β) (v : β) : Prop :=
  ∀ (α : Type) (K : β → P F α) (Q : α → Asrt F), iprop(R ∗ (R -∗ wpc c (K v) Q)) ⊢ wpc c (p >>= K) Q

variable {c : Dev nD} {R : Asrt F}

theorem Gets.pure {β : Type} (v : β) : Gets c R (Pure.pure v : P F β) v := by
  intro α K Q
  iintro ⟨HR, Hk⟩
  rw [show ((Pure.pure v : P F β) >>= K) = K v from rfl]
  iapply Hk; iexact HR

theorem Gets.bind {β γ : Type} {p : P F β} {v : β} {k : β → P F γ} {w : γ} (hp : Gets c R p v) (hk : Gets c R (k v) w) :
    Gets c R (p >>= k) w := by
  intro α K Q
  rw [bind_assoc]
  iintro ⟨HR, Hk⟩
  iapply (hp α (fun x => k x >>= K) Q)
  isplitl [HR]; · iexact HR
  iintro HR
  iapply (hk α K Q)
  isplitl [HR]; · iexact HR
  iexact Hk

/-- Reading from a part. -/
theorem Gets.of_acc {β : Type} {p : P F β} {v : β} {S : Asrt F} (h : Gets c S p v) (hR : R ⊢ iprop(S ∗ (S -∗ R))) : Gets c R p v := by
  intro α K Q
  iintro ⟨HR, Hk⟩
  ihave H := hR $$ HR
  icases H with ⟨HS, Hb⟩
  iapply (h α K Q)
  isplitl [HS]; · iexact HS
  iintro HS
  iapply Hk
  iapply Hb; iexact HS

/-- A load through an owned memref, at a rectangle. -/
theorem gets_load {cs : CoreSpace} {s : Shape} {e : EltTy} (m : Memref sig .tc cs s e) (r : Rect s) (hl : m.view.LoadsAt r.toLoadRect)
    (q : PosShare TreeShare) (X : s.Idx → Elt F e) :
    Gets c (owns (c : Thread nD τ) m q X) (Prog.lift (.load m r.toLoadRect hl) : P F (r.shape.Idx → Elt F e)) (fun x => X (r.emb x)) := by
  intro α K Q
  iintro ⟨HX, Hk⟩
  unfold owns
  icases HX with ⟨%f, %hf, H⟩
  subst hf
  rw [show ((Prog.lift (.load m r.toLoadRect hl) : P F (r.shape.Idx → Elt F e)) >>= K) = .op (.load m r.toLoadRect hl) K from rfl]
  iapply (wp_load_rect Variants.none (c : Thread nD τ) none Set.univ (m := m) (r := r) (hl := hl) (S := m.view.set) (q := q) (f := f)
    (View.set_slice_subset _ _)) $$ H
  iintro H
  iapply Hk
  iexists f
  isplitr; · ipureintro; rfl
  iexact H

/-! ## What a pair reads -/

/-- From `R` the loads of a pair of chunks yield what `D` says. -/
structure Provides (c : Dev nD) (b : Bufs) (e : Env) (R : Asrt F) (D : Reads F) : Prop where
  blk : ∀ (w p u : Fin 2) (k : ℕ), Gets c R (Prog.lift (.load (wview b e w p u) (Rect.unit (s := S3072x256) ![256 * (k % 12), 0]
      S256x256.size (inbBlk _)).toLoadRect (View.loadsAt_vmem h_S256x256)) : P F (Vec F S256x256 .i8)) (D.blk w p u k)
  st : ∀ w p u : Fin 2, Gets c R (Prog.lift (.load b.sg (Rect.unit (s := S4x2x48x512) ![e.sl w, u.val, 0, 256 * p.val] S1x1x48x256.size
      (inbSg (e.hsl w) u p)).toLoadRect (View.loadsAt_vmem h_S1x1x48x256)) : P F (Vec F S1x1x48x256 .bf16)) (D.st w p u)
  bt : ∀ (w p u : Fin 2) (j : ℕ) (hj : j < 2), Gets c R (Prog.lift (.load b.bg (Rect.unit (s := S4x2x16x32x512) ![e.sl w, u.val, 8 * j, 0, 256 * p.val]
      S1x1x8x32x256.size (inbBd (e.hsl w) p u hj)).toLoadRect (View.loadsAt_vmem h_S1x1x8x32x256)) : P F (Vec F S1x1x8x32x256 .bf16)) (D.bt w p u j)
  x : ∀ (k : ℕ) (hk : k < 24), Gets c R (Prog.lift (.load b.xp (Rect.unit (s := S256x6144) ![0, 256 * k] S80x256.size
      (inbX hk)).toLoadRect (View.loadsAt_vmem h_S80x256)) : P F (Vec F S80x256 .bf16)) (D.x k)
  md : ∀ (u : Fin 2) (j : ℕ) (hj : j < 2), Gets c R (Prog.lift (.load b.md (Rect.unit (s := S2x80x512) ![u.val, 0, 256 * j] S1x80x256.size
      (inbMd u hj)).toLoadRect (View.loadsAt_vmem h_S1x80x256)) : P F (Vec F S1x80x256 .bf16)) (D.md u j)

/-- A scale buffer from its two halves. -/
def joinSc (f : Fin 2 → FVec F S1x48x256 .f32) : FVec F S2x48x256 .f32 :=
  fun x => f (x 0) (ValueIdx.ix3 (⟨0, Nat.one_pos⟩ : Fin 1) (x 1) (x 2))

/-- The columns of the hidden layer that a chunk's block goes to. -/
def hM (b : Bufs) (e : Env) (p : Fin 2) : Memref sig .tc .vmem S80x256 .bf16 :=
  b.hs.slice (Rect.unit (s := S80x16384) ![0, e.col p] S80x256.size (e.hcol p)) (fun _ => rfl)

/-- What a list of instructions needs: what it reads, the scale buffers, the pair's columns of the hidden layer. -/
def Res (c : Dev nD) (b : Bufs) (e : Env) (R : Asrt F) (a : Tab F) : Asrt F :=
  iprop(R ∗ owns (c : Thread nD τ) b.sa fullShare (joinSc (a.sc 0)) ∗ owns (c : Thread nD τ) b.sb fullShare (joinSc (a.sc 1))
    ∗ owns (c : Thread nD τ) (hM b e 0) fullShare (a.out 0) ∗ owns (c : Thread nD τ) (hM b e 1) fullShare (a.out 1))

variable {b : Bufs} {e : Env} {D : Reads F}

theorem res_R (a : Tab F) : Res c b e R a ⊢ iprop(R ∗ (R -∗ Res c b e R a)) := by
  unfold Res
  iintro ⟨HR, Ha, Hb, Ho, Hp⟩
  isplitl [HR]; · iexact HR
  iintro HR
  isplitl [HR]; · iexact HR
  isplitl [Ha]; · iexact Ha
  isplitl [Hb]; · iexact Hb
  isplitl [Ho]; · iexact Ho
  iexact Hp

theorem put_row {α : Type} (f : Fin 2 → Fin 2 → α) (p u : Fin 2) (v : α) : put f p u v p = fun u' => if u' = u then v else f p u' := by
  funext u'; simp [put]
theorem put_other {α : Type} (f : Fin 2 → Fin 2 → α) {p p' : Fin 2} (h : p' ≠ p) (u : Fin 2) (v : α) : put f p u v p' = f p' := by
  funext u'; simp [put, h]

theorem res_sc (a : Tab F) (p u : Fin 2) : Res c b e R a ⊢ iprop(owns (c : Thread nD τ) (scb b p) fullShare (joinSc (a.sc p))
    ∗ ∀ x, owns (c : Thread nD τ) (scb b p) fullShare (joinSc fun u' => if u' = u then x else a.sc p u')
      -∗ Res c b e R { a with sc := put a.sc p u x }) := by
  match p with
  | 0 =>
    unfold Res scb
    dsimp only
    iintro ⟨HR, Ha, Hb, Ho, Hp⟩
    isplitl [Ha]; · iexact Ha
    iintro %x Ha
    rw [put_row, put_other _ (by decide)]
    isplitl [HR]; · iexact HR
    isplitl [Ha]; · iexact Ha
    isplitl [Hb]; · iexact Hb
    isplitl [Ho]; · iexact Ho
    iexact Hp
  | 1 =>
    unfold Res scb
    dsimp only
    iintro ⟨HR, Ha, Hb, Ho, Hp⟩
    isplitl [Hb]; · iexact Hb
    iintro %x Hb
    rw [put_row, put_other _ (by decide)]
    isplitl [HR]; · iexact HR
    isplitl [Ha]; · iexact Ha
    isplitl [Hb]; · iexact Hb
    isplitl [Ho]; · iexact Ho
    iexact Hp

theorem res_sc' (a : Tab F) (p : Fin 2) : Res c b e R a ⊢ iprop(owns (c : Thread nD τ) (scb b p) fullShare (joinSc (a.sc p))
    ∗ (owns (c : Thread nD τ) (scb b p) fullShare (joinSc (a.sc p)) -∗ Res c b e R a)) := by
  match p with
  | 0 =>
    unfold Res scb
    iintro ⟨HR, Ha, Hb, Ho, Hp⟩
    isplitl [Ha]; · iexact Ha
    iintro Ha
    isplitl [HR]; · iexact HR
    isplitl [Ha]; · iexact Ha
    isplitl [Hb]; · iexact Hb
    isplitl [Ho]; · iexact Ho
    iexact Hp
  | 1 =>
    unfold Res scb
    iintro ⟨HR, Ha, Hb, Ho, Hp⟩
    isplitl [Hb]; · iexact Hb
    iintro Hb
    isplitl [HR]; · iexact HR
    isplitl [Ha]; · iexact Ha
    isplitl [Hb]; · iexact Hb
    isplitl [Ho]; · iexact Ho
    iexact Hp

theorem res_out (a : Tab F) (p : Fin 2) : Res c b e R a ⊢ iprop(owns (c : Thread nD τ) (hM b e p) fullShare (a.out p)
    ∗ ∀ x, owns (c : Thread nD τ) (hM b e p) fullShare x -∗ Res c b e R { a with out := fun p' => if p' = p then x else a.out p' }) := by
  match p with
  | 0 =>
    unfold Res
    iintro ⟨HR, Ha, Hb, Ho, Hp⟩
    isplitl [Ho]; · iexact Ho
    iintro %x Ho
    isplitl [HR]; · iexact HR
    isplitl [Ha]; · iexact Ha
    isplitl [Hb]; · iexact Hb
    isplitl [Ho]; · iexact Ho
    iexact Hp
  | 1 =>
    unfold Res
    iintro ⟨HR, Ha, Hb, Ho, Hp⟩
    isplitl [Hp]; · iexact Hp
    iintro %x Hp
    isplitl [HR]; · iexact HR
    isplitl [Ha]; · iexact Ha
    isplitl [Hb]; · iexact Hb
    isplitl [Ho]; · iexact Ho
    iexact Hp

/-! ## Loads from a part of a buffer -/

/-- A load through `m` at a rectangle, from ownership of the elements `S` of its buffer. -/
theorem gets_load_sub {cs : CoreSpace} {s : Shape} {e : EltTy} (m : Memref sig .tc cs s e) (r : Rect s) (hl : m.view.LoadsAt r.toLoadRect)
    (S : Finset (Idx (m.view.loc (c : Thread nD τ)))) (q : PosShare TreeShare) (f : Buf (Elt F) (m.view.loc (c : Thread nD τ)))
    (Y : r.shape.Idx → Elt F e) (hS : (m.access r).set ⊆ S) (hY : (m.access r).read (Elt F) f = Y) :
    Gets c (iprop(m.view.loc (c : Thread nD τ) ↦[S]{q} f) : Asrt F) (Prog.lift (.load m r.toLoadRect hl) : P F (r.shape.Idx → Elt F e)) Y := by
  subst hY
  intro α K Q
  iintro ⟨H, Hk⟩
  rw [show ((Prog.lift (.load m r.toLoadRect hl) : P F (r.shape.Idx → Elt F e)) >>= K) = .op (.load m r.toLoadRect hl) K from rfl]
  iapply (wp_load_rect Variants.none (c : Thread nD τ) none Set.univ (m := m) (r := r) (hl := hl) (S := S) (q := q) (f := f) hS) $$ H
  iintro H
  iapply Hk
  iexact H

/-- A load in terms of owned contents: whatever contents the memref has at that reading. -/
theorem Gets.of_owns {sp : Space} {s : Shape} {e : EltTy} {m : Memref sig .tc sp s e} {q : PosShare TreeShare} {Y : s.Idx → Elt F e}
    {β : Type} {p : P F β} {v : β}
    (h : ∀ f : Buf (Elt F) (m.view.loc (c : Thread nD τ)), m.view.read (Elt F) f = Y →
      Gets c (iprop(m.view.loc (c : Thread nD τ) ↦[m.view.set]{q} f) : Asrt F) p v) :
    Gets c (owns (c : Thread nD τ) m q Y : Asrt F) p v := by
  intro α K Q
  unfold owns
  iintro ⟨⟨%f, %hf, H⟩, Hk⟩
  iapply (h f hf α K Q)
  isplitl [H]; · iexact H
  iintro H
  iapply Hk
  iexists f
  isplitr; · ipureintro; exact hf
  iexact H

theorem emb_row (p u : Fin 2) {k : ℕ} (hk : k < 48) (x : S1x256.Idx) :
    ((scv b p u).access (Rect.unit (s := S48x256) ![k, 0] S1x256.size (inbRow hk))).emb x
      = (scb b p).view.emb (ValueIdx.ix3 u (⟨k, hk⟩ : Fin 48) (x 1)) := by
  have hx1 : (x 1).val < 256 := (x 1).isLt
  have e1 : (Rect.unit (s := S48x256) ![k, 0] S1x256.size (inbRow hk)).emb x = ValueIdx.ix2 (⟨k, hk⟩ : Fin 48) (⟨(x 1).val, hx1⟩ : Fin 256) := by
    funext a; apply Fin.ext
    match a with
    | ⟨0, _⟩ => show k + 1 * (x 0).val = k; have : (x 0).val < 1 := (x 0).isLt; omega
    | ⟨1, _⟩ => show 0 + 1 * (x 1).val = (x 1).val; omega
  show (scb b p).view.emb ((Rect.unit (s := S2x48x256) ![u.val, 0, 0] S1x48x256.size (inbScv u)).emb
    (Shape.reshapeEquiv squeezes_S1x48x256_S48x256.numel_eq ((Rect.unit (s := S48x256) ![k, 0] S1x256.size (inbRow hk)).emb x))) = _
  rw [e1, ValueIdx.reshapeEquiv_ix2_1ab]
  congr 1
  funext a; apply Fin.ext
  match a with
  | ⟨0, _⟩ => show u.val + 1 * 0 = u.val; omega
  | ⟨1, _⟩ => show 0 + 1 * k = k; omega
  | ⟨2, _⟩ => show 0 + 1 * (x 1).val = (x 1).val; omega

/-- A row of scales. -/
theorem gets_row (p u : Fin 2) {k : ℕ} (hk : k < 48) (f : Fin 2 → FVec F S1x48x256 .f32) :
    Gets c (owns (c : Thread nD τ) (scb b p) fullShare (joinSc f)) (Prog.lift (.load (scv b p u) (Rect.unit (s := S48x256) ![k, 0] S1x256.size
      (inbRow hk)).toLoadRect (View.loadsAt_vmem h_S1x256)) : P F (Vec F S1x256 .f32)) (rowOf (f u) k) := by
  refine Gets.of_owns fun g hg => ?_
  refine gets_load_sub (scv b p u) _ _ (scb b p).view.set fullShare g _ ?_ ?_
  · intro y hy
    obtain ⟨x, -, rfl⟩ := Finset.mem_map.mp hy
    exact Finset.mem_map.mpr ⟨_, Finset.mem_univ _, (emb_row p u hk x).symm⟩
  · funext x
    refine Eq.trans ?_ ((congrFun hg (ValueIdx.ix3 u (⟨k, hk⟩ : Fin 48) (x 1))).trans ?_)
    · exact congrArg (fun z => _root_.cast _ (g z)) (emb_row p u hk x)
    · unfold joinSc rowOf
      show f u _ = f u _
      congr 1
      funext a; apply Fin.ext
      match a with
      | ⟨0, _⟩ => rfl
      | ⟨1, _⟩ => show k = k % 48; omega
      | ⟨2, _⟩ => rfl

/-- The right-hand tile. -/
theorem gets_rhs (hD : Provides c b e R D) (a : Tab F) (w p u : Fin 2) (k : ℕ) :
    Gets c (Res c b e R a) (rhs b e w p u k) (rt D w p u k (a.sc p u)) := by
  unfold rhs rt
  by_cases hk : k < 24
  · rw [dif_pos hk, if_pos hk]
    refine Gets.bind ((hD.blk w p u _).of_acc (res_R a)) (Gets.bind ((gets_row (c := c) p u (k := 2 * k) (by omega) _).of_acc (res_sc' a p))
      (Gets.bind ((gets_row (c := c) p u (k := 2 * k + 1) (by omega) _).of_acc (res_sc' a p)) ?_))
    exact Gets.pure _
  · rw [dif_neg hk, if_neg hk]
    exact Gets.bind ((hD.bt w p u _ (Nat.mod_lt _ (by decide))).of_acc (res_R a)) (Gets.pure _)

/-- The left-hand tile. -/
theorem gets_lhs (hD : Provides c b e R D) (a : Tab F) (u : Fin 2) (k : ℕ) :
    Gets c (Res c b e R a) (lhs b u k) (lt D u k) := by
  unfold lhs lt
  by_cases hk : k < 24
  · rw [dif_pos hk, if_pos hk]
    exact Gets.bind ((hD.x _ hk).of_acc (res_R a)) (Gets.pure _)
  · rw [dif_neg hk, if_neg hk]
    exact Gets.bind ((hD.md u _ (Nat.mod_lt _ (by decide))).of_acc (res_R a)) (Gets.pure _)

/-! ## Stores -/

/-- A store through an owned memref, at a rectangle. -/
theorem wp_put {cs : CoreSpace} {s : Shape} {e : EltTy} (m : Memref sig .tc cs s e) (r : Rect s) (v : r.shape.Idx → Elt F e)
    (hx : (m.access r).Stores Finset.univ) (hm) (X Y : s.Idx → Elt F e)
    (hin : ∀ x, Y (r.emb x) = v x) (hout : ∀ y, y ∉ r.set → Y y = X y) {α : Type} (K : PUnit → P F α) (Q : α → Asrt F) :
    iprop(owns (c : Thread nD τ) m fullShare X ∗ (owns (c : Thread nD τ) m fullShare Y -∗ wpc c (K ⟨⟩) Q))
      ⊢ wpc c ((Prog.lift (.store m r v Finset.univ hx hm) : P F PUnit) >>= K) Q := by
  iintro ⟨HX, Hk⟩
  unfold owns
  icases HX with ⟨%f, %hf, H⟩
  subst hf
  rw [show ((Prog.lift (.store m r v Finset.univ hx hm) : P F PUnit) >>= K) = .op (.store m r v Finset.univ hx hm) K from rfl]
  iapply (wp_store Variants.none (c : Thread nD τ) none Set.univ (m := m) (r := r) (w := v) (Mk := Finset.univ) (hx := hx) (hm := hm)
    (S := m.view.set) (f := f) (View.set_slice_subset _ _)) $$ H
  iintro H
  iapply Hk
  iexists _
  isplitr; swap
  · iexact H
  ipureintro
  funext y
  by_cases hy : y ∈ r.set
  · rw [← Rect.map_emb_univ] at hy
    obtain ⟨x, -, rfl⟩ := Finset.mem_map.mp hy
    rw [hin]
    exact View.read_slice_write_emb r f v (Finset.mem_univ x)
  · rw [hout y hy]
    exact View.read_slice_write_of_not_mem r f v Finset.univ (by rwa [Rect.map_emb_univ])

theorem emb_sc (u : Fin 2) (x : S1x48x256.Idx) :
    (Rect.unit (s := S2x48x256) ![u.val, 0, 0] S1x48x256.size (inbScv u)).emb x = ValueIdx.ix3 u (x 1) (x 2) := by
  funext a
  apply Fin.ext
  match a with
  | ⟨0, _⟩ => show u.val + 1 * (x 0).val = u.val; have : (x 0).val < 1 := (x 0).isLt; omega
  | ⟨1, _⟩ => show 0 + 1 * (x 1).val = (x 1).val; omega
  | ⟨2, _⟩ => show 0 + 1 * (x 2).val = (x 2).val; omega

theorem joinSc_in (f : Fin 2 → FVec F S1x48x256 .f32) (u : Fin 2) (v : FVec F S1x48x256 .f32) (x : S1x48x256.Idx) :
    joinSc (fun u' => if u' = u then v else f u') ((Rect.unit (s := S2x48x256) ![u.val, 0, 0] S1x48x256.size (inbScv u)).emb x) = v x := by
  rw [emb_sc]
  unfold joinSc
  show (if u = u then v else f u) _ = v x
  rw [if_pos rfl]
  congr 1
  funext a
  apply Fin.ext
  match a with
  | ⟨0, _⟩ => show 0 = (x 0).val; have : (x 0).val < 1 := (x 0).isLt; omega
  | ⟨1, _⟩ => rfl
  | ⟨2, _⟩ => rfl

theorem joinSc_out (f : Fin 2 → FVec F S1x48x256 .f32) (u : Fin 2) (v : FVec F S1x48x256 .f32) (y : S2x48x256.Idx)
    (hy : y ∉ (Rect.unit (s := S2x48x256) ![u.val, 0, 0] S1x48x256.size (inbScv u)).set) :
    joinSc (fun u' => if u' = u then v else f u') y = joinSc f y := by
  unfold joinSc
  have key : ∀ q : Fin 2, q ≠ u → (if q = u then v else f q) = f q := fun q h => if_neg h
  refine congrFun (key (y 0) fun h => ?_) _
  refine hy ?_
  rw [← Rect.map_emb_univ]
  refine Finset.mem_map.mpr ⟨ValueIdx.ix3 (⟨0, Nat.one_pos⟩ : Fin 1) (y 1) (y 2), Finset.mem_univ _, ?_⟩
  refine (emb_sc u _).trans ?_
  funext a
  match a with
  | ⟨0, _⟩ => exact h.symm
  | ⟨1, _⟩ => rfl
  | ⟨2, _⟩ => rfl

/-- A block's columns are read, then written. -/
theorem out_wp (p : Fin 2) (X v : FVec F S80x256 .bf16) {hl hx hm} {α : Type} (K : PUnit → P F α) (Q : α → Asrt F) :
    iprop(owns (c : Thread nD τ) (hM b e p) fullShare X ∗ (owns (c : Thread nD τ) (hM b e p) fullShare v -∗ wpc c (K ⟨⟩) Q))
      ⊢ wpc c ((Prog.lift (.load b.hs (Rect.unit (s := S80x16384) ![0, e.col p] S80x256.size (e.hcol p)).toLoadRect hl) : P F (Vec F S80x256 .bf16)) >>= fun _ =>
          (Prog.lift (.store b.hs (Rect.unit (s := S80x16384) ![0, e.col p] S80x256.size (e.hcol p)) v Finset.univ hx hm) : P F PUnit) >>= K) Q := by
  unfold owns
  iintro ⟨⟨%f, %hf, H⟩, Hk⟩
  rw [show ∀ K' : Vec F S80x256 .bf16 → P F α, ((Prog.lift (.load b.hs (Rect.unit (s := S80x16384) ![0, e.col p] S80x256.size (e.hcol p)).toLoadRect
    hl) : P F (Vec F S80x256 .bf16)) >>= K') = .op (.load b.hs (Rect.unit (s := S80x16384) ![0, e.col p] S80x256.size (e.hcol p)).toLoadRect
    hl) K' from fun _ => rfl]
  ihave H := (show iprop((hM b e p).view.loc (c : Thread nD τ) ↦[(hM b e p).view.set]{fullShare} f)
    ⊢ (iprop((b.hs.access (Rect.unit (s := S80x16384) ![0, e.col p] S80x256.size (e.hcol p))).loc (c : Thread nD τ)
      ↦[(hM b e p).view.set]{fullShare} f) : Asrt F) from .rfl) $$ H
  iapply (wp_load_rect (defs := defs₀) (α := α) Variants.none (c : Thread nD τ) none Set.univ (m := b.hs)
    (r := Rect.unit (s := S80x16384) ![0, e.col p] S80x256.size (e.hcol p)) (S := (hM b e p).view.set) (q := fullShare) (f := f)
    (Finset.Subset.refl _)) $$ H
  iintro H
  iapply (wp_store (defs := defs₀) (α := α) Variants.none (c : Thread nD τ) none Set.univ (m := b.hs)
    (r := Rect.unit (s := S80x16384) ![0, e.col p] S80x256.size (e.hcol p)) (S := (hM b e p).view.set) (f := f)
    (Finset.Subset.refl _)) $$ H
  iintro H
  iapply Hk
  iexists _
  isplitr; swap
  · iexact H
  ipureintro
  exact (View.read_write_univ (Val := Elt F) (v := (hM b e p).view) f _).trans rfl

/-! ## One instruction, and a list of them -/

theorem exec_wp (hD : Provides c b e R D) {s : Mxu F} {a a' : Tab F} (h : Rep s a) (i : Instr) (hi : tstep D e a i = some a') :
    ∃ s', Rep s' a' ∧ ∀ (α : Type) (K : Mxu F → P F α) (Q : α → Asrt F),
      iprop(Res c b e R a ∗ (Res c b e R a' -∗ wpc c (K s') Q)) ⊢ wpc c (exec b e s i >>= K) Q := by
  cases i with
  | push w p u k r =>
    simp only [tstep] at hi
    split at hi
    next hn =>
      obtain rfl := Option.some.inj hi
      refine ⟨_, h.push u r _ hn, fun α K Q => ?_⟩
      unfold exec
      rw [bind_assoc]
      iintro ⟨HR, Hk⟩
      iapply (gets_rhs hD a w p u k α _ Q)
      isplitl [HR]; · iexact HR
      iintro HR
      iapply (Mxu.wp_pushRhs (c := (c : Thread nD τ)) (rt D w p u k (a.sc p u)) (Mxu.pushOk_of_none s u r false (by rw [h.reg, hn]; rfl)))
      iapply Hk
      iexact HR
    next => cases hi
  | acc p u k r =>
    simp only [tstep] at hi
    split at hi
    next => cases hi
    next t ht =>
      obtain rfl := Option.some.inj hi
      refine ⟨_, h.accL p u r (lt D u k) t ht, fun α K Q => ?_⟩
      unfold exec
      rw [bind_assoc]
      iintro ⟨HR, Hk⟩
      iapply (gets_lhs hD a u k α _ Q)
      isplitl [HR]; · iexact HR
      iintro HR
      iapply Hk
      iexact HR
  | scale w p u =>
    obtain rfl := Option.some.inj hi
    refine ⟨s, ⟨h.reg, h.none, h.some, h.dead⟩, fun α K Q => ?_⟩
    unfold exec
    rw [bind_assoc]
    iintro ⟨HR, Hk⟩
    iapply (((hD.st w p u).of_acc (res_R a)) α _ Q)
    isplitl [HR]; · iexact HR
    iintro HR
    rw [bind_assoc]
    iapply (((gets_load (c := c) (scb b p) _ _ _ _).of_acc (res_sc' a p)) α _ Q)
    isplitl [HR]; · iexact HR
    iintro HR
    rw [bind_assoc]
    ihave HR := res_sc a p u $$ HR
    icases HR with ⟨Hs, Hb⟩
    iapply (wp_put (c := c) (scb b p) _ (scval (D.st w p u)) _ _ (joinSc (a.sc p)) (joinSc fun u' => if u' = u then scval (D.st w p u) else a.sc p u')
      (joinSc_in _ _ _) (joinSc_out _ _ _))
    isplitl [Hs]; · iexact Hs
    iintro Hs
    iapply Hk
    iapply Hb
    iexact Hs
  | out p =>
    simp only [tstep] at hi
    split at hi
    next y0 y1 h0 h1 =>
      obtain rfl := Option.some.inj hi
      have hr1 : ((s.pop 0 (addr p) 80 (fitsA p)).read 1 (addr p) (fitsA p) : FVec F S80x256 .f32) = y1 := by
        rw [Mxu.read_pop_ne _ _ _ _ _ _ _ (.inl (by decide))]; exact (h.some 1 p y1 h1).2
      have hr0 := (h.some 0 p y0 h0).2
      refine ⟨(s.pop 0 (addr p) 80 (fitsA p)).pop 1 (addr p) 80 (fitsA p), ?_, fun α K Q => ?_⟩
      · have h2 := (h.pop 0 p).pop 1 p
        exact ⟨h2.reg, h2.none, h2.some, h2.dead⟩
      unfold exec
      simp only [hr0, hr1]
      rw [bind_assoc]
      iintro ⟨HR, Hk⟩
      ihave HR := res_out a p $$ HR
      icases HR with ⟨Ho, Hb⟩
      rw [bind_assoc]
      iapply (out_wp (c := c) (b := b) (e := e) p (a.out p) (hval y0 y1))
      isplitl [Ho]; · iexact Ho
      iintro Ho
      iapply Hk
      iapply Hb $$ %(hval y0 y1)
      iexact Ho
    next => cases hi

theorem run_wp (hD : Provides c b e R D) (l : List Instr) : ∀ {s : Mxu F} {a a' : Tab F}, Rep s a → trun D e l a = some a' →
    ∃ s', Rep s' a' ∧ ∀ (α : Type) (K : Mxu F → P F α) (Q : α → Asrt F),
      iprop(Res c b e R a ∗ (Res c b e R a' -∗ wpc c (K s') Q)) ⊢ wpc c (run b e l s >>= K) Q := by
  induction l with
  | nil =>
    intro s a a' h hr
    obtain rfl := Option.some.inj hr
    refine ⟨s, h, fun α K Q => ?_⟩
    iintro ⟨HR, Hk⟩
    unfold run
    rw [show ((Pure.pure s : P F (Mxu F)) >>= K) = K s from rfl]
    iapply Hk; iexact HR
  | cons i l ih =>
    intro s a a' h hr
    unfold trun at hr
    cases ha : tstep D e a i with
    | none => rw [ha] at hr; cases hr
    | some a1 =>
      rw [ha] at hr
      obtain ⟨s1, h1, w1⟩ := exec_wp hD h i ha
      obtain ⟨s2, h2, w2⟩ := ih h1 hr
      refine ⟨s2, h2, fun α K Q => ?_⟩
      unfold run
      rw [bind_assoc]
      iintro ⟨HR, Hk⟩
      iapply (w1 α _ Q)
      isplitl [HR]; · iexact HR
      iintro HR
      iapply (w2 α K Q)
      isplitl [HR]; · iexact HR
      iexact Hk

end Cert.UpIdeal.Up

end
-- ==== Proof.UpRing.lean ====
/-
  The copies. A pair of chunks has six of them, on its slot's semaphore: the codes, the scales and the adapters' factors
  of its columns, for the gate and for the up projection. Started, they are in flight; waited for, the slot holds the columns and the sources are back.
-/
module

public import proofs.«01_k».proof.Proof.UpWhole
public import proofs.«01_k».proof.Proof.UpRun

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The contents of the arrays the kernel reads. -/
structure Data (F : FTy → Type) [FloatOps F] where
  X : FVec F S72x6144 .bf16
  M : FVec F S2x80x512 .bf16
  W : IVec S3072x32768 8
  Sd : FVec F S48x32768 .bf16
  Bd : FVec F S13x2x32x16384 .bf16

/-- The columns of a pair, on one unit. -/
def cutW (X : Data F) (p : Cp) (u : Fin 2) : S3072x512.Idx → Elt F .i8 := fun x => X.W ((Rect.unit (s := S3072x32768) ![0, p.gcol u] S3072x512.size (p.hW' u)).emb x)
def cutS (X : Data F) (p : Cp) (u : Fin 2) : S48x512.Idx → Elt F .bf16 := fun x => X.Sd ((Rect.unit (s := S48x32768) ![0, p.gcol u] S48x512.size (p.hD' u)).emb x)
def cutB (X : Data F) (p : Cp) (u : Fin 2) : S13x32x512.Idx → Elt F .bf16 := fun x => X.Bd ((Rect.unit (s := S13x2x32x16384) ![0, u.val, 0, p.col] S13x1x32x512.size (p.hB' u)).emb
  (ValueIdx.ix4 (x 0) (⟨0, Nat.one_pos⟩ : Fin 1) (x 1) (x 2)))

/-- Dropping the axis of length one. -/
theorem reshape_a1bc (h : S13x32x512.numel = S13x1x32x512.numel) (x : S13x32x512.Idx) :
    Shape.reshapeEquiv h x = (ValueIdx.ix4 (x 0) (⟨0, Nat.one_pos⟩ : Fin 1) (x 1) (x 2) : S13x1x32x512.Idx) := by
  refine Shape.reshapeEquiv_eq_of_rowMajor h ?_
  rw [Shape.rowMajor_val_four, Shape.rowMajor_val_three]
  show (((x 0).val * 1 + 0) * 32 + (x 1).val) * 512 + (x 2).val = ((x 0).val * 32 + (x 1).val) * 512 + (x 2).val
  simp only [Nat.mul_one, Nat.add_zero]

variable (c : Dev nD) (b : Bufs) (X : Data F)

/-- The columns of a pair in the arrays, on one unit. -/
def srcU (p : Cp) (u : Fin 2) : Asrt F :=
  iprop(owns (c : Thread nD τ) (wSrc b p u) fullShare (cutW X p u) ∗ owns (c : Thread nD τ) (sSrc b p u) fullShare (cutS X p u)
    ∗ owns (c : Thread nD τ) (bSrc b p u) fullShare (cutB X p u))
/-- The columns of a pair in the arrays. -/
def src (p : Cp) : Asrt F := iprop(srcU c b X p 0 ∗ srcU c b X p 1)

/-- Half a slot that holds a pair's columns. -/
def fullU (p : Cp) (u : Fin 2) : Asrt F :=
  iprop(owns (c : Thread nD τ) (wDst b p u) fullShare (cutW X p u) ∗ owns (c : Thread nD τ) (sDst b p u) fullShare (cutS X p u)
    ∗ owns (c : Thread nD τ) (bDst b p u) fullShare (cutB X p u))
/-- A slot that holds a pair's columns. -/
def full (p : Cp) : Asrt F := iprop(fullU c b X p 0 ∗ fullU c b X p 1)

/-- Half a slot that holds anything. -/
def freeU (p : Cp) (u : Fin 2) : Asrt F :=
  iprop((∃ d, owns (c : Thread nD τ) (wDst b p u) fullShare d)
    ∗ (∃ d, owns (c : Thread nD τ) (sDst b p u) fullShare d) ∗ (∃ d, owns (c : Thread nD τ) (bDst b p u) fullShare d))
/-- A slot that holds anything, nothing in flight to it. -/
def free (p : Cp) : Asrt F :=
  iprop(semVal ((c : Thread nD τ), SemLoc.dma (cpSem b p)) 0 ∗ freeU c b p 0 ∗ freeU c b p 1)

/-- The copies' amounts. -/
def amt (p : Cp) : Fin 6 → ℕ
  | 0 => (wDst b p 0).view.dmaCredit
  | 1 => (sDst b p 0).view.dmaCredit
  | 2 => (bDst b p 0).view.dmaCredit
  | 3 => (wDst b p 1).view.dmaCredit
  | 4 => (sDst b p 1).view.dmaCredit
  | 5 => (bDst b p 1).view.dmaCredit

/-- What a copy brings: its target filled, its source back. -/
def bring {sp sp' : Space} {s : Shape} {e : EltTy} (ds : Memref sig .tc sp' s e) (sr : Memref sig .tc sp s e) (Y : s.Idx → Elt F e) : Asrt F :=
  iprop(owns (c : Thread nD τ) ds fullShare Y ∗ owns (c : Thread nD τ) sr fullShare Y)

instance {sp sp' : Space} {s : Shape} {e : EltTy} (ds : Memref sig .tc sp' s e) (sr : Memref sig .tc sp s e) (Y : s.Idx → Elt F e) :
    Storable (upEmb : UEmb _ (MT nD τ sig Unit (Elt F) ℕ (Pipeline.UD sig nD τ) ℕ)) (bring c ds sr Y) := by
  unfold bring; infer_instance

/-- What the copies bring. -/
def deliv (p : Cp) : Fin 6 → Asrt F
  | 0 => bring c (wDst b p 0) (wSrc b p 0) (cutW X p 0)
  | 1 => bring c (sDst b p 0) (sSrc b p 0) (cutS X p 0)
  | 2 => bring c (bDst b p 0) (bSrc b p 0) (cutB X p 0)
  | 3 => bring c (wDst b p 1) (wSrc b p 1) (cutW X p 1)
  | 4 => bring c (sDst b p 1) (sSrc b p 1) (cutS X p 1)
  | 5 => bring c (bDst b p 1) (bSrc b p 1) (cutB X p 1)

instance (p : Cp) (t : Fin 6) : Storable (upEmb : UEmb _ (MT nD τ sig Unit (Elt F) ℕ (Pipeline.UD sig nD τ) ℕ)) (deliv c b X p t) := by
  match t with
  | 0 => unfold deliv; infer_instance
  | 1 => unfold deliv; infer_instance
  | 2 => unfold deliv; infer_instance
  | 3 => unfold deliv; infer_instance
  | 4 => unfold deliv; infer_instance
  | 5 => unfold deliv; infer_instance

/-- The state of a batch of copies on a semaphore: `j` started, `u` units waited for. -/
abbrev batchOf {n : ℕ} (c : Dev nD) (sem : DmaSem sig) (A : Fin n → ℕ) (D : Fin n → Asrt F)
    [∀ t, Storable (upEmb : UEmb _ (MT nD τ sig Unit (Elt F) ℕ (Pipeline.UD sig nD τ) ℕ)) (D t)] (j u : ℕ) : Asrt F :=
  Transfers.MixedBatch (countersEmb (U := Pipeline.UD sig nD τ)) (c : Thread nD τ) (SemLoc.dma sem) () A D j u

/-- The state of a pair's copies. -/
abbrev batch (p : Cp) (j u : ℕ) : Asrt F := batchOf c (cpSem b p) (amt b p) (deliv c b X p) j u

/-- A pair's copies are in flight. -/
def fly (p : Cp) : Asrt F := batch c b X p 6 0

theorem amt_pos (p : Cp) (t : Fin 6) : 0 < amt b p t := by
  match t with
  | 0 => exact View.dmaCredit_pos _ (by decide)
  | 1 => exact View.dmaCredit_pos _ (by decide)
  | 2 => exact View.dmaCredit_pos _ (by decide)
  | 3 => exact View.dmaCredit_pos _ (by decide)
  | 4 => exact View.dmaCredit_pos _ (by decide)
  | 5 => exact View.dmaCredit_pos _ (by decide)

theorem sum1 (p : Cp) : Transfers.sumTo (amt b p) 1 = 0 + (wDst b p 0).view.dmaCredit := by
  rw [Transfers.sumTo_succ _ (by decide), Transfers.sumTo_zero]; rfl
theorem sum2 (p : Cp) : Transfers.sumTo (amt b p) 2 = 0 + (wDst b p 0).view.dmaCredit + (sDst b p 0).view.dmaCredit := by
  rw [Transfers.sumTo_succ _ (by decide), sum1]; rfl
theorem sum3 (p : Cp) : Transfers.sumTo (amt b p) 3 = 0 + (wDst b p 0).view.dmaCredit + (sDst b p 0).view.dmaCredit + (bDst b p 0).view.dmaCredit := by
  rw [Transfers.sumTo_succ _ (by decide), sum2]; rfl
theorem sum4 (p : Cp) : Transfers.sumTo (amt b p) 4 = 0 + (wDst b p 0).view.dmaCredit + (sDst b p 0).view.dmaCredit + (bDst b p 0).view.dmaCredit
    + (wDst b p 1).view.dmaCredit := by
  rw [Transfers.sumTo_succ _ (by decide), sum3]; rfl
theorem sum5 (p : Cp) : Transfers.sumTo (amt b p) 5 = 0 + (wDst b p 0).view.dmaCredit + (sDst b p 0).view.dmaCredit + (bDst b p 0).view.dmaCredit
    + (wDst b p 1).view.dmaCredit + (sDst b p 1).view.dmaCredit := by
  rw [Transfers.sumTo_succ _ (by decide), sum4]; rfl
theorem sum6 (p : Cp) : Transfers.sumTo (amt b p) 6 = 0 + (wDst b p 0).view.dmaCredit + (sDst b p 0).view.dmaCredit + (bDst b p 0).view.dmaCredit
    + (wDst b p 1).view.dmaCredit + (sDst b p 1).view.dmaCredit + (bDst b p 1).view.dmaCredit := by
  rw [Transfers.sumTo_succ _ (by decide), sum5]; rfl

section
variable {n : ℕ} {sem : DmaSem sig} {A : Fin n → ℕ} {D : Fin n → Asrt F}
  [∀ t, Storable (upEmb : UEmb _ (MT nD τ sig Unit (Elt F) ℕ (Pipeline.UD sig nD τ) ℕ)) (D t)]
variable {c}

/-- One copy of a batch. -/
theorem copy_gen {j u : ℕ} (hj : j < n) {sp sp' : Space} {s : Shape} {e : EltTy} (sr : Memref sig .tc sp s e) (ds : Memref sig .tc sp' s e)
    (Y d : s.Idx → Elt F e) {h1 h2 h3} (hA : ds.view.dmaCredit = A ⟨j, hj⟩)
    (hD : bring c ds sr Y ⊢ D ⟨j, hj⟩) (hu : u ≤ Transfers.sumTo A j)
    {α : Type} (K : PUnit → P F α) (Q : α → Asrt F) :
    iprop(owns (c : Thread nD τ) sr fullShare Y ∗ owns (c : Thread nD τ) ds fullShare d ∗ batchOf c sem A D j u
        ∗ (batchOf c sem A D (j + 1) u -∗ wpc c (K ⟨⟩) Q))
      ⊢ wpc c ((Prog.lift (.enqueueDma sr (.here ds) (.dma sem) h1 h2 h3) : P F PUnit) >>= K) Q := by
  rw [show ((Prog.lift (.enqueueDma sr (.here ds) (.dma sem) h1 h2 h3) : P F PUnit) >>= K)
    = .op (.enqueueDmaAs sr (.here ds) .same (.dma sem) h1 h2 h3) K from rfl]
  unfold owns
  iintro ⟨⟨%fs, %hfs, Hs⟩, ⟨%fd, %hfd, Hd⟩, HB, Hk⟩
  have hd : iprop((ds.view.loc (c : Thread nD τ) ↦[ds.view.set]{fullShare} (ds.view.write (Elt F) fd (ReadAs.same.apply (sr.view.read (Elt F) fs)) Finset.univ))
      ∗ (sr.view.loc (c : Thread nD τ) ↦[sr.view.set]{fullShare} fs)) ⊢ D ⟨j, hj⟩ := by
    refine .trans ?_ hD
    unfold bring owns
    iintro ⟨H1, H2⟩
    isplitl [H1]
    · iexists _
      isplitr; swap
      · iexact H1
      ipureintro
      rw [View.read_write_univ]
      exact hfs
    · iexists fs
      isplitr; · ipureintro; exact hfs
      iexact H2
  have hA' : ds.view.amount (SemLoc.dma sem) = A ⟨j, hj⟩ := hA
  iapply (Transfers.wp_dmaMixedBatch (countersEmb (U := Pipeline.UD sig nD τ)) Variants.none (c : Thread nD τ) none () A
    (Finset.Subset.refl _) hj hA' hu hd) $$ [Hs Hd HB]
  · isplitl [Hs]; · iexact Hs
    isplitl [Hd]; · iexact Hd
    iexact HB
  · iexact Hk

/-- One wait of a batch, not the last. -/
theorem wait_gen {u : ℕ} {sp sp' : Space} {s : Shape} {e : EltTy} (sr : Memref sig .tc sp s e) (ds : Memref sig .tc sp' s e)
    (h1 : sr.view.WordExact) (h2 : ds.view.WordExact) (hu : u + ds.view.dmaCredit ≤ Transfers.sumTo A n)
    {α : Type} (K : PUnit → P F α) (Q : α → Asrt F) :
    iprop(batchOf c sem A D n u ∗ (∃ W, owes (c : Thread nD τ) 0 W)
        ∗ (batchOf c sem A D n (u + ds.view.dmaCredit) -∗ (∃ W', owes (c : Thread nD τ) 0 W') -∗ wpc c (K ⟨⟩) Q))
      ⊢ wpc c ((Prog.lift (.waitDma2 sem sr ds h1 h2) : P F PUnit) >>= K) Q := by
  rw [show ((Prog.lift (.waitDma2 sem sr ds h1 h2) : P F PUnit) >>= K) = .op (.waitDma2 sem sr ds h1 h2) K from rfl]
  iintro ⟨HB, ⟨%W, HO⟩, Hk⟩
  iapply (Transfers.wp_waitMixedBatch (countersEmb (U := Pipeline.UD sig nD τ)) Variants.none (c : Thread nD τ) none () (A := A)
    (D := D) rfl hu (W := W)) $$ [HB HO]
  · isplitl [HB]; · iexact HB
    iexact HO
  iintro ⟨HB, HO⟩
  iapply Hk $$ [HB] [HO]
  · iexact HB
  · iexists _; iexact HO

/-- The last wait of a batch. -/
theorem wait_all {u : ℕ} {sp sp' : Space} {s : Shape} {e : EltTy} (sr : Memref sig .tc sp s e) (ds : Memref sig .tc sp' s e)
    (h1 : sr.view.WordExact) (h2 : ds.view.WordExact) (hp : ∀ t, 0 < A t) (hu : u + ds.view.dmaCredit = Transfers.sumTo A n)
    {α : Type} (K : PUnit → P F α) (Q : α → Asrt F) :
    iprop(batchOf c sem A D n u ∗ (∃ W, owes (c : Thread nD τ) 0 W)
        ∗ (bigSep Finset.univ D -∗ semVal ((c : Thread nD τ), SemLoc.dma sem) 0
            -∗ (∃ W', owes (c : Thread nD τ) 0 W') -∗ wpc c (K ⟨⟩) Q))
      ⊢ wpc c ((Prog.lift (.waitDma2 sem sr ds h1 h2) : P F PUnit) >>= K) Q := by
  rw [show ((Prog.lift (.waitDma2 sem sr ds h1 h2) : P F PUnit) >>= K) = .op (.waitDma2 sem sr ds h1 h2) K from rfl]
  iintro ⟨HB, ⟨%W, HO⟩, Hk⟩
  iapply (Transfers.wp_waitMixedBatchAll (countersEmb (U := Pipeline.UD sig nD τ)) Variants.none (c : Thread nD τ) none () (A := A)
    (D := D) rfl hp hu (W := W)) $$ [HB HO]
  · isplitl [HB]; · iexact HB
    iexact HO
  iintro ⟨HD, Hv, HO⟩
  iapply Hk $$ [HD] [Hv] [HO]
  · iexact HD
  · iexact Hv
  · iexists _; iexact HO

end

variable {c b X}

/-- Starting the copies of a pair. -/
theorem start_wp (p : Cp) {α : Type} (K : PUnit → P F α) (Q : α → Asrt F) :
    iprop(src c b X p ∗ free c b p ∗ (fly c b X p -∗ wpc c (K ⟨⟩) Q)) ⊢ wpc c (startC b p >>= K) Q := by
  unfold startC startU src srcU free freeU
  simp only [bind_assoc]
  iintro ⟨⟨⟨H1, H2, H3⟩, ⟨H4, H5, H6⟩⟩, ⟨Hq, ⟨⟨%d1, G1⟩, ⟨%d2, G2⟩, ⟨%d3, G3⟩⟩, ⟨⟨%d4, G4⟩, ⟨%d5, G5⟩, ⟨%d6, G6⟩⟩⟩, Hk⟩
  imod (Transfers.mixedBatch_alloc' (Lvl := ℕ) (countersEmb (U := Pipeline.UD sig nD τ)) (c : Thread nD τ) () (amt b p)
    (deliv c b X p) (sm := SemLoc.dma (cpSem b p)) (E := Set.univ)) $$ Hq with HB
  iapply (copy_gen (A := amt b p) (D := deliv c b X p) (j := 0) (u := 0) (by decide) (wSrc b p 0) (wDst b p 0) (cutW X p 0) d1 rfl .rfl (Nat.zero_le _))
  isplitl [H1]; · iexact H1
  isplitl [G1]; · iexact G1
  isplitl [HB]; · iexact HB
  iintro HB
  iapply (copy_gen (A := amt b p) (D := deliv c b X p) (j := 1) (u := 0) (by decide) (sSrc b p 0) (sDst b p 0) (cutS X p 0) d2 rfl .rfl (Nat.zero_le _))
  isplitl [H2]; · iexact H2
  isplitl [G2]; · iexact G2
  isplitl [HB]; · iexact HB
  iintro HB
  iapply (copy_gen (A := amt b p) (D := deliv c b X p) (j := 2) (u := 0) (by decide) (bSrc b p 0) (bDst b p 0) (cutB X p 0) d3 rfl .rfl (Nat.zero_le _))
  isplitl [H3]; · iexact H3
  isplitl [G3]; · iexact G3
  isplitl [HB]; · iexact HB
  iintro HB
  iapply (copy_gen (A := amt b p) (D := deliv c b X p) (j := 3) (u := 0) (by decide) (wSrc b p 1) (wDst b p 1) (cutW X p 1) d4 rfl .rfl (Nat.zero_le _))
  isplitl [H4]; · iexact H4
  isplitl [G4]; · iexact G4
  isplitl [HB]; · iexact HB
  iintro HB
  iapply (copy_gen (A := amt b p) (D := deliv c b X p) (j := 4) (u := 0) (by decide) (sSrc b p 1) (sDst b p 1) (cutS X p 1) d5 rfl .rfl (Nat.zero_le _))
  isplitl [H5]; · iexact H5
  isplitl [G5]; · iexact G5
  isplitl [HB]; · iexact HB
  iintro HB
  iapply (copy_gen (A := amt b p) (D := deliv c b X p) (j := 5) (u := 0) (by decide) (bSrc b p 1) (bDst b p 1) (cutB X p 1) d6 rfl .rfl (Nat.zero_le _))
  isplitl [H6]; · iexact H6
  isplitl [G6]; · iexact G6
  isplitl [HB]; · iexact HB
  iexact Hk

/-- Waiting for the copies of a pair. -/
theorem wait_wp (p : Cp) {α : Type} (K : PUnit → P F α) (Q : α → Asrt F) :
    iprop(fly c b X p ∗ (∃ W, owes (c : Thread nD τ) 0 W)
        ∗ (full c b X p -∗ src c b X p -∗ semVal ((c : Thread nD τ), SemLoc.dma (cpSem b p)) 0
            -∗ (∃ W', owes (c : Thread nD τ) 0 W') -∗ wpc c (K ⟨⟩) Q))
      ⊢ wpc c (waitC b p >>= K) Q := by
  unfold waitC waitU fly
  simp only [bind_assoc]
  iintro ⟨HB, HO, Hk⟩
  iapply (wait_gen (A := amt b p) (D := deliv c b X p) (u := 0) (wSrc b p 0) (wDst b p 0) (b.hwgu.wordExact_slice rfl _ (p.wW' 0)) ((b.hwg.wordExact_slice rfl _ (p.wW 0)).reshape _ _)
    (by rw [sum6]; omega))
  isplitl [HB]; · iexact HB
  isplitl [HO]; · iexact HO
  iintro HB HO
  iapply (wait_gen (A := amt b p) (D := deliv c b X p) (u := 0 + (wDst b p 0).view.dmaCredit) (sSrc b p 0) (sDst b p 0) (b.hsgu.wordExact_slice rfl _ (p.wD' 0)) ((b.hsg.wordExact_slice rfl _ (p.wD 0)).reshape _ _)
    (by rw [sum6]; omega))
  isplitl [HB]; · iexact HB
  isplitl [HO]; · iexact HO
  iintro HB HO
  iapply (wait_gen (A := amt b p) (D := deliv c b X p) (u := 0 + (wDst b p 0).view.dmaCredit + (sDst b p 0).view.dmaCredit) (bSrc b p 0) (bDst b p 0) ((b.hbgu.wordExact_slice rfl _ (p.wB' 0)).reshape _ _) ((b.hbg.wordExact_slice rfl _ (p.wB 0)).reshape _ _)
    (by rw [sum6]; omega))
  isplitl [HB]; · iexact HB
  isplitl [HO]; · iexact HO
  iintro HB HO
  iapply (wait_gen (A := amt b p) (D := deliv c b X p) (u := 0 + (wDst b p 0).view.dmaCredit + (sDst b p 0).view.dmaCredit + (bDst b p 0).view.dmaCredit) (wSrc b p 1) (wDst b p 1) (b.hwgu.wordExact_slice rfl _ (p.wW' 1)) ((b.hwg.wordExact_slice rfl _ (p.wW 1)).reshape _ _)
    (by rw [sum6]; omega))
  isplitl [HB]; · iexact HB
  isplitl [HO]; · iexact HO
  iintro HB HO
  iapply (wait_gen (A := amt b p) (D := deliv c b X p) (u := 0 + (wDst b p 0).view.dmaCredit + (sDst b p 0).view.dmaCredit + (bDst b p 0).view.dmaCredit + (wDst b p 1).view.dmaCredit) (sSrc b p 1) (sDst b p 1) (b.hsgu.wordExact_slice rfl _ (p.wD' 1)) ((b.hsg.wordExact_slice rfl _ (p.wD 1)).reshape _ _)
    (by rw [sum6]; omega))
  isplitl [HB]; · iexact HB
  isplitl [HO]; · iexact HO
  iintro HB HO
  iapply (wait_all (A := amt b p) (D := deliv c b X p) (u := 0 + (wDst b p 0).view.dmaCredit + (sDst b p 0).view.dmaCredit + (bDst b p 0).view.dmaCredit + (wDst b p 1).view.dmaCredit + (sDst b p 1).view.dmaCredit) (bSrc b p 1) (bDst b p 1) ((b.hbgu.wordExact_slice rfl _ (p.wB' 1)).reshape _ _) ((b.hbg.wordExact_slice rfl _ (p.wB 1)).reshape _ _)
    (amt_pos b p) (by rw [sum6]))
  isplitl [HB]; · iexact HB
  isplitl [HO]; · iexact HO
  iintro HD Hv HO
  ihave HD := (Entails.of_eq (show bigSep Finset.univ (deliv c b X p) = iprop(deliv c b X p 0 ∗ deliv c b X p 1 ∗ deliv c b X p 2 ∗ deliv c b X p 3 ∗ deliv c b X p 4 ∗ deliv c b X p 5) from
    bigSep_univ_eq_bigSepL [(0 : Fin 6), (1 : Fin 6), (2 : Fin 6), (3 : Fin 6), (4 : Fin 6), (5 : Fin 6)] (by decide) (by decide) _)) $$ HD
  unfold deliv bring
  icases HD with ⟨⟨A1, B1⟩, ⟨A2, B2⟩, ⟨A3, B3⟩, ⟨A4, B4⟩, ⟨A5, B5⟩, ⟨A6, B6⟩⟩
  iapply Hk $$ [A1 A2 A3 A4 A5 A6] [B1 B2 B3 B4 B5 B6] [Hv] [HO]
  · unfold full fullU
    isplitl [A1 A2 A3]
    · isplitl [A1]; · iexact A1
      isplitl [A2]; · iexact A2
      iexact A3
    · isplitl [A4]; · iexact A4
      isplitl [A5]; · iexact A5
      iexact A6
  · unfold src srcU
    isplitl [B1 B2 B3]
    · isplitl [B1]; · iexact B1
      isplitl [B2]; · iexact B2
      iexact B3
    · isplitl [B4]; · iexact B4
      isplitl [B5]; · iexact B5
      iexact B6
  · iexact Hv
  · iexact HO

/-! ## The pairs' copies by number -/

theorem Cp.ext' {p q : Cp} (h1 : p.sl = q.sl) (h2 : p.col = q.col) (h3 : p.gcol = q.gcol) : p = q := by
  cases p; cases q; cases h1; cases h2; cases h3; rfl

theorem trips_eq : k0_t1_loop.trips = 31 := by decide

/-- The copies of pair `i` (of pair `i - 32` past the last). -/
def cpN (i : ℕ) : Cp := if h : i % 32 = 0 then cp0 else cpL1 ⟨i % 32 - 1, by have := trips_eq; omega⟩

/-- The first column of a unit's half of the weights. -/
def base (u : Fin 2) : ℕ := 16384 * u.val

theorem cpL1_sl : ∀ t : Fin k0_t1_loop.trips, (cpL1 t).sl = (t.val + 1) % 4 := by decide +kernel
theorem cpL1_col : ∀ t : Fin k0_t1_loop.trips, (cpL1 t).col = 512 * (t.val + 1) := by decide +kernel
theorem cpL1_gcol : ∀ (t : Fin k0_t1_loop.trips) (u : Fin 2), (cpL1 t).gcol u = base u + 512 * (t.val + 1) := by decide +kernel
theorem cpL3_sl : ∀ (t : Fin k0_t1_loop.trips) (h : k0_cond1 t = 1#1), (cpL3 t h).sl = (t.val + 3) % 4 := by decide +kernel
theorem cpL3_col : ∀ (t : Fin k0_t1_loop.trips) (h : k0_cond1 t = 1#1), (cpL3 t h).col = 512 * (t.val + 3) := by decide +kernel
theorem cpL3_gcol : ∀ (t : Fin k0_t1_loop.trips) (h : k0_cond1 t = 1#1) (u : Fin 2), (cpL3 t h).gcol u = base u + 512 * (t.val + 3) := by decide +kernel
theorem cond_iff : ∀ t : Fin k0_t1_loop.trips, k0_cond1 t = 1#1 ↔ t.val < 29 := by decide +kernel

theorem cpN_sl (i : ℕ) : (cpN i).sl = i % 4 := by
  unfold cpN
  split
  next h => show 0 = i % 4; omega
  next h => rw [cpL1_sl]; show (i % 32 - 1 + 1) % 4 = i % 4; omega
theorem cpN_col (i : ℕ) : (cpN i).col = 512 * (i % 32) := by
  unfold cpN
  split
  next h => show 0 = 512 * (i % 32); omega
  next h => rw [cpL1_col]; show 512 * (i % 32 - 1 + 1) = 512 * (i % 32); omega
theorem cp0_gcol : ∀ u : Fin 2, cp0.gcol u = base u + 512 * 0 := by decide +kernel
theorem cp1_gcol : ∀ u : Fin 2, cp1.gcol u = base u + 512 * 1 := by decide +kernel
theorem cp2_gcol : ∀ u : Fin 2, cp2.gcol u = base u + 512 * 2 := by decide +kernel
theorem cpN_gcol (i : ℕ) (u : Fin 2) : (cpN i).gcol u = base u + 512 * (i % 32) := by
  unfold cpN
  split
  next h => rw [cp0_gcol, h]
  next h => rw [cpL1_gcol]; show base u + 512 * (i % 32 - 1 + 1) = base u + 512 * (i % 32); omega

theorem cpN_of {p : Cp} {i : ℕ} (h1 : p.sl = i % 4) (h2 : p.col = 512 * (i % 32)) (h3 : ∀ u, p.gcol u = base u + 512 * (i % 32)) : p = cpN i :=
  Cp.ext' (h1.trans (cpN_sl i).symm) (h2.trans (cpN_col i).symm) (funext fun u => (h3 u).trans (cpN_gcol i u).symm)

theorem cp0_eq : cp0 = cpN 0 := cpN_of rfl rfl cp0_gcol
theorem cp1_eq : cp1 = cpN 1 := cpN_of rfl rfl cp1_gcol
theorem cp2_eq : cp2 = cpN 2 := cpN_of rfl rfl cp2_gcol
theorem cpL1_eq (t : Fin k0_t1_loop.trips) : cpL1 t = cpN (t.val + 1) := by
  have h := t.isLt
  have h' := trips_eq
  refine cpN_of (cpL1_sl t) ?_ fun u => ?_
  · rw [cpL1_col]; omega
  · rw [cpL1_gcol]; omega
theorem cpL3_eq (t : Fin k0_t1_loop.trips) (h : k0_cond1 t = 1#1) : cpL3 t h = cpN (t.val + 3) := by
  have h' := (cond_iff t).mp h
  refine cpN_of (cpL3_sl t h) ?_ fun u => ?_
  · rw [cpL3_col]; omega
  · rw [cpL3_gcol]; omega

/-- A free slot is the same slot for every pair it serves. -/
theorem free_congr {p q : Cp} (h : p.sl = q.sl) : (free c b p : Asrt F) = free c b q := by
  cases p; cases q; cases h; rfl

theorem free_N {i j : ℕ} (h : i % 4 = j % 4) : (free c b (cpN i) : Asrt F) = free c b (cpN j) :=
  free_congr (by rw [cpN_sl, cpN_sl, h])

/-- A slot whose columns are no longer wanted. -/
theorem free_of_full (p : Cp) : iprop(full c b X p ∗ semVal ((c : Thread nD τ), SemLoc.dma (cpSem b p)) 0) ⊢ free c b p := by
  unfold full fullU free freeU
  iintro ⟨⟨⟨H1, H2, H3⟩, ⟨H4, H5, H6⟩⟩, Hv⟩
  isplitl [Hv]; · iexact Hv
  isplitl [H1 H2 H3]
  · isplitl [H1]; · iexists _; iexact H1
    isplitl [H2]; · iexists _; iexact H2
    iexists _; iexact H3
  · isplitl [H4]; · iexists _; iexact H4
    isplitl [H5]; · iexists _; iexact H5
    iexists _; iexact H6

end Cert.UpIdeal.Up

end
-- ==== Proof.UpSlot.lean ====
/-
  What a slot that holds a pair's columns yields to the loads of its tiles. The rows that no adapter fills are kept beside
  the slot, at zero.
-/
module

public import proofs.«01_k».proof.Proof.UpRing

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The rows no adapter fills -/

theorem inbPad {sl : ℕ} (h : sl < 4) : ∀ a, (![sl, 0, 13, 0, 0] : Fin 5 → ℕ) a + S1x2x3x32x512.size a ≤ S4x2x16x32x512.size a := by
  intro a; fin_cases a <;> simp <;> omega

/-- The zero of the adapters' element type. -/
def zb : Elt F .bf16 := Scalar.ofBits .bf16 0x0000#16

/-- The rows of a slot that no adapter fills. -/
def padM (b : Bufs) {sl : ℕ} (h : sl < 4) : Memref sig .tc .vmem S1x2x3x32x512 .bf16 :=
  b.bg.slice (Rect.unit (s := S4x2x16x32x512) ![sl, 0, 13, 0, 0] S1x2x3x32x512.size (inbPad h)) (fun _ => rfl)

/-- They are zero. -/
def pad (c : Dev nD) (b : Bufs) {sl : ℕ} (h : sl < 4) : Asrt F := owns (c : Thread nD τ) (padM b h) fullShare (fun _ => zb)
/-- They are anything. -/
def padAny (c : Dev nD) (b : Bufs) {sl : ℕ} (h : sl < 4) : Asrt F := iprop(∃ d, owns (c : Thread nD τ) (padM b h) fullShare d)

variable {c : Dev nD} {b : Bufs} {X : Data F}

/-- Zeroing them. -/
theorem padC_wp (s : Fin 4) (h hp) {α : Type} (K : PUnit → P F α) (Q : α → Asrt F) :
    iprop(padAny c b s.isLt ∗ (pad c b s.isLt -∗ wpc c (K ⟨⟩) Q)) ⊢ wpc c (padC b s h hp >>= K) Q := by
  unfold padAny pad padC owns
  iintro ⟨⟨%d, %f, %hf, H⟩, Hk⟩
  rw [bind_assoc]
  rw [show ∀ K' : Vec F S1x2x3x32x512 .bf16 → P F α, ((Prog.lift (.load b.bg (Rect.unit (s := S4x2x16x32x512) ![s.val, 0, 13, 0, 0] S1x2x3x32x512.size h).toLoadRect
    (View.loadsAt_vmem h_S1x2x3x32x512)) : P F (Vec F S1x2x3x32x512 .bf16)) >>= K') = .op (.load b.bg (Rect.unit (s := S4x2x16x32x512) ![s.val, 0, 13, 0, 0] S1x2x3x32x512.size h).toLoadRect
    (View.loadsAt_vmem h_S1x2x3x32x512)) K' from fun _ => rfl]
  ihave H := (show iprop((padM b s.isLt).view.loc (c : Thread nD τ) ↦[(padM b s.isLt).view.set]{fullShare} f)
    ⊢ (iprop((b.bg.access (Rect.unit (s := S4x2x16x32x512) ![s.val, 0, 13, 0, 0] S1x2x3x32x512.size h)).loc (c : Thread nD τ)
      ↦[(padM b s.isLt).view.set]{fullShare} f) : Asrt F) from .rfl) $$ H
  iapply (wp_load_rect (defs := defs₀) (α := α) Variants.none (c : Thread nD τ) none Set.univ (m := b.bg)
    (r := Rect.unit (s := S4x2x16x32x512) ![s.val, 0, 13, 0, 0] S1x2x3x32x512.size h) (S := (padM b s.isLt).view.set) (q := fullShare) (f := f)
    (Finset.Subset.refl _)) $$ H
  iintro H
  iapply (wp_store (defs := defs₀) (α := α) Variants.none (c : Thread nD τ) none Set.univ (m := b.bg)
    (r := Rect.unit (s := S4x2x16x32x512) ![s.val, 0, 13, 0, 0] S1x2x3x32x512.size h) (S := (padM b s.isLt).view.set) (f := f)
    (Finset.Subset.refl _)) $$ H
  iintro H
  iapply Hk
  iexists _
  isplitr; swap
  · iexact H
  ipureintro
  exact (View.read_write_univ (Val := Elt F) (v := (padM b s.isLt).view) f _).trans rfl

/-- The activations, with rows of zeros below. -/
def XP (X : Data F) : FVec F S256x6144 .bf16 := fun x =>
  if h : (x 0).val < 72 then X.X (ValueIdx.ix2 ⟨(x 0).val, h⟩ (x 1)) else zb

/-- The tiles' contents for a pair `pr 0` and the pair `pr 1` after it. -/
def readsOf (X : Data F) (pr : Fin 2 → ℕ) : Reads F where
  blk w p u k := fun x => X.W (ValueIdx.ix2 ⟨256 * (k % 12) + (x 0).val, by have : (x 0).val < 256 := (x 0).isLt; omega⟩
    ⟨16384 * u.val + (512 * (pr w % 32) + (256 * p.val + (x 1).val)), by have : (x 1).val < 256 := (x 1).isLt; omega⟩)
  st w p u := fun x => X.Sd (ValueIdx.ix2 (x 2) ⟨16384 * u.val + (512 * (pr w % 32) + (256 * p.val + (x 3).val)), by have : (x 3).val < 256 := (x 3).isLt; omega⟩)
  bt w p u j := fun x => if h : 8 * j + (x 2).val < 13 then X.Bd (ValueIdx.ix4 ⟨8 * j + (x 2).val, h⟩ u (x 3)
    ⟨512 * (pr w % 32) + (256 * p.val + (x 4).val), by have : (x 4).val < 256 := (x 4).isLt; omega⟩) else zb
  x k := fun x => XP X (ValueIdx.ix2 ⟨(x 0).val, by have : (x 0).val < 80 := (x 0).isLt; omega⟩ ⟨256 * (k % 24) + (x 1).val, by have : (x 1).val < 256 := (x 1).isLt; omega⟩)
  md u j := fun x => X.M (ValueIdx.ix3 u (x 1) ⟨256 * (j % 2) + (x 2).val, by have : (x 2).val < 256 := (x 2).isLt; omega⟩)

variable {e : Env} {pr : Fin 2 → ℕ}

/-! ## Places in the rings -/

theorem lt2 {n : ℕ} {s : Shape} {a : Fin s.rank} (h : s.size a = n) (x : s.Idx) : (x a).val < n := h ▸ (x a).isLt

theorem emb_wDst (q : Cp) (u : Fin 2) (i : Fin 3072) (j : Fin 512) :
    (wDst b q u).view.emb (ValueIdx.ix2 i j) = b.wg.view.emb (ValueIdx.ix4 (⟨q.sl, q.hsl⟩ : Fin 4) u i j) := by
  show b.wg.view.emb ((Rect.unit (s := S4x2x3072x512) ![q.sl, u.val, 0, 0] S1x1x3072x512.size (q.hW u)).emb (Shape.reshapeEquiv _ (ValueIdx.ix2 i j))) = _
  rw [ValueIdx.reshapeEquiv_ix2_11ab]
  congr 1
  funext a; apply Fin.ext
  match a with
  | ⟨0, _⟩ => show q.sl + 1 * 0 = q.sl; omega
  | ⟨1, _⟩ => show u.val + 1 * 0 = u.val; omega
  | ⟨2, _⟩ => show 0 + 1 * i.val = i.val; omega
  | ⟨3, _⟩ => show 0 + 1 * j.val = j.val; omega

theorem emb_sDst (q : Cp) (u : Fin 2) (i : Fin 48) (j : Fin 512) :
    (sDst b q u).view.emb (ValueIdx.ix2 i j) = b.sg.view.emb (ValueIdx.ix4 (⟨q.sl, q.hsl⟩ : Fin 4) u i j) := by
  show b.sg.view.emb ((Rect.unit (s := S4x2x48x512) ![q.sl, u.val, 0, 0] S1x1x48x512.size (q.hD u)).emb (Shape.reshapeEquiv _ (ValueIdx.ix2 i j))) = _
  rw [ValueIdx.reshapeEquiv_ix2_11ab]
  congr 1
  funext a; apply Fin.ext
  match a with
  | ⟨0, _⟩ => show q.sl + 1 * 0 = q.sl; omega
  | ⟨1, _⟩ => show u.val + 1 * 0 = u.val; omega
  | ⟨2, _⟩ => show 0 + 1 * i.val = i.val; omega
  | ⟨3, _⟩ => show 0 + 1 * j.val = j.val; omega

theorem emb_bDst (q : Cp) (u : Fin 2) (n : Fin 13) (i : Fin 32) (j : Fin 512) :
    (bDst b q u).view.emb (ValueIdx.ix3 n i j) = b.bg.view.emb (ValueIdx.ix5 (⟨q.sl, q.hsl⟩ : Fin 4) u ⟨n.val, by omega⟩ i j) := by
  show b.bg.view.emb ((Rect.unit (s := S4x2x16x32x512) ![q.sl, u.val, 0, 0, 0] S1x1x13x32x512.size (q.hB u)).emb (Shape.reshapeEquiv _ (ValueIdx.ix3 n i j))) = _
  rw [ValueIdx.reshapeEquiv_ix3_11abc]
  congr 1
  funext a; apply Fin.ext
  match a with
  | ⟨0, _⟩ => show q.sl + 1 * 0 = q.sl; omega
  | ⟨1, _⟩ => show u.val + 1 * 0 = u.val; omega
  | ⟨2, _⟩ => show 0 + 1 * n.val = n.val; omega
  | ⟨3, _⟩ => show 0 + 1 * i.val = i.val; omega
  | ⟨4, _⟩ => show 0 + 1 * j.val = j.val; omega

theorem emb_padM {sl : ℕ} (h : sl < 4) (x : S1x2x3x32x512.Idx) :
    (padM b h).view.emb x = b.bg.view.emb (ValueIdx.ix5 (⟨sl, h⟩ : Fin 4) (x 1) ⟨13 + (x 2).val, by have := lt2 (a := 2) (n := 3) rfl x; omega⟩ (x 3) (x 4)) := by
  show b.bg.view.emb ((Rect.unit (s := S4x2x16x32x512) ![sl, 0, 13, 0, 0] S1x2x3x32x512.size (inbPad h)).emb x) = _
  congr 1
  funext a; apply Fin.ext
  match a with
  | ⟨0, _⟩ => show sl + 1 * (x 0).val = sl; have := lt2 (a := 0) (n := 1) rfl x; omega
  | ⟨1, _⟩ => show 0 + 1 * (x 1).val = (x 1).val; omega
  | ⟨2, _⟩ => show 13 + 1 * (x 2).val = 13 + (x 2).val; omega
  | ⟨3, _⟩ => show 0 + 1 * (x 3).val = (x 3).val; omega
  | ⟨4, _⟩ => show 0 + 1 * (x 4).val = (x 4).val; omega

/-- The place of an element of a block of codes. -/
theorem emb_blk (w p u : Fin 2) (k : ℕ) (x : S256x256.Idx) :
    ((wview b e w p u).access (Rect.unit (s := S3072x256) ![256 * (k % 12), 0] S256x256.size (inbBlk _))).emb x
      = b.wg.view.emb (ValueIdx.ix4 (⟨e.sl w, e.hsl w⟩ : Fin 4) u ⟨256 * (k % 12) + (x 0).val, by have := lt2 (a := 0) (n := 256) rfl x; omega⟩
        ⟨256 * p.val + (x 1).val, by have := lt2 (a := 1) (n := 256) rfl x; omega⟩) := by
  have hx0 : (x 0).val < 256 := (x 0).isLt
  have hx1 : (x 1).val < 256 := (x 1).isLt
  have e1 : (Rect.unit (s := S3072x256) ![256 * (k % 12), 0] S256x256.size (inbBlk _)).emb x
      = ValueIdx.ix2 (⟨256 * (k % 12) + (x 0).val, by omega⟩ : Fin 3072) (⟨(x 1).val, hx1⟩ : Fin 256) := by
    funext a; apply Fin.ext
    match a with
    | ⟨0, _⟩ => show 256 * (k % 12) + 1 * (x 0).val = 256 * (k % 12) + (x 0).val; omega
    | ⟨1, _⟩ => show 0 + 1 * (x 1).val = (x 1).val; omega
  show b.wg.view.emb ((Rect.unit (s := S4x2x3072x512) ![e.sl w, u.val, 0, 256 * p.val] S1x1x3072x256.size (inbW (e.hsl w) u p)).emb
    (Shape.reshapeEquiv squeezes_S1x1x3072x256_S3072x256.numel_eq ((Rect.unit (s := S3072x256) ![256 * (k % 12), 0] S256x256.size (inbBlk _)).emb x))) = _
  rw [e1, ValueIdx.reshapeEquiv_ix2_11ab]
  congr 1
  funext a; apply Fin.ext
  match a with
  | ⟨0, _⟩ => show e.sl w + 1 * 0 = e.sl w; omega
  | ⟨1, _⟩ => show u.val + 1 * 0 = u.val; omega
  | ⟨2, _⟩ => show 0 + 1 * (256 * (k % 12) + (x 0).val) = 256 * (k % 12) + (x 0).val; omega
  | ⟨3, _⟩ => show 256 * p.val + 1 * (x 1).val = 256 * p.val + (x 1).val; omega

/-- The place of an element of a block of scales. -/
theorem emb_st (w p u : Fin 2) (x : S1x1x48x256.Idx) :
    (b.sg.access (Rect.unit (s := S4x2x48x512) ![e.sl w, u.val, 0, 256 * p.val] S1x1x48x256.size (inbSg (e.hsl w) u p))).emb x
      = b.sg.view.emb (ValueIdx.ix4 (⟨e.sl w, e.hsl w⟩ : Fin 4) u (x 2) ⟨256 * p.val + (x 3).val, by have := lt2 (a := 3) (n := 256) rfl x; omega⟩) := by
  show b.sg.view.emb ((Rect.unit (s := S4x2x48x512) ![e.sl w, u.val, 0, 256 * p.val] S1x1x48x256.size (inbSg (e.hsl w) u p)).emb x) = _
  congr 1
  funext a; apply Fin.ext
  match a with
  | ⟨0, _⟩ => show e.sl w + 1 * (x 0).val = e.sl w; have := lt2 (a := 0) (n := 1) rfl x; omega
  | ⟨1, _⟩ => show u.val + 1 * (x 1).val = u.val; have := lt2 (a := 1) (n := 1) rfl x; omega
  | ⟨2, _⟩ => show 0 + 1 * (x 2).val = (x 2).val; omega
  | ⟨3, _⟩ => show 256 * p.val + 1 * (x 3).val = 256 * p.val + (x 3).val; omega

/-- The place of an element of a block of the adapters' factors. -/
theorem emb_bt (w p u : Fin 2) {j : ℕ} (hj : j < 2) (x : S1x1x8x32x256.Idx) :
    (b.bg.access (Rect.unit (s := S4x2x16x32x512) ![e.sl w, u.val, 8 * j, 0, 256 * p.val] S1x1x8x32x256.size (inbBd (e.hsl w) p u hj))).emb x
      = b.bg.view.emb (ValueIdx.ix5 (⟨e.sl w, e.hsl w⟩ : Fin 4) u ⟨8 * j + (x 2).val, by have := lt2 (a := 2) (n := 8) rfl x; omega⟩ (x 3)
        ⟨256 * p.val + (x 4).val, by have := lt2 (a := 4) (n := 256) rfl x; omega⟩) := by
  show b.bg.view.emb ((Rect.unit (s := S4x2x16x32x512) ![e.sl w, u.val, 8 * j, 0, 256 * p.val] S1x1x8x32x256.size (inbBd (e.hsl w) p u hj)).emb x) = _
  congr 1
  funext a; apply Fin.ext
  match a with
  | ⟨0, _⟩ => show e.sl w + 1 * (x 0).val = e.sl w; have := lt2 (a := 0) (n := 1) rfl x; omega
  | ⟨1, _⟩ => show u.val + 1 * (x 1).val = u.val; have := lt2 (a := 1) (n := 1) rfl x; omega
  | ⟨2, _⟩ => show 8 * j + 1 * (x 2).val = 8 * j + (x 2).val; omega
  | ⟨3, _⟩ => show 0 + 1 * (x 3).val = (x 3).val; omega
  | ⟨4, _⟩ => show 256 * p.val + 1 * (x 4).val = 256 * p.val + (x 4).val; omega

/-! ## The loads of a slot -/

theorem owns_get {sp : Space} {s : Shape} {e : EltTy} {m : Memref sig .tc sp s e} {Y : s.Idx → Elt F e} {f : Buf (Elt F) (m.view.loc (c : Thread nD τ))}
    (hf : m.view.read (Elt F) f = Y) (q : PosShare TreeShare) :
    iprop(m.view.loc (c : Thread nD τ) ↦[m.view.set]{q} f) ⊢ (owns (c : Thread nD τ) m q Y : Asrt F) := by
  unfold owns
  iintro H
  iexists f
  isplitr; · ipureintro; exact hf
  iexact H

theorem gets_blk (w p u : Fin 2) (k : ℕ) (i : ℕ) (hsl : e.sl w = i % 4) (hpr : pr w = i) :
    Gets c (owns (c : Thread nD τ) (wDst b (cpN i) u) fullShare (cutW X (cpN i) u))
      (Prog.lift (.load (wview b e w p u) (Rect.unit (s := S3072x256) ![256 * (k % 12), 0]
      S256x256.size (inbBlk _)).toLoadRect (View.loadsAt_vmem h_S256x256)) : P F (Vec F S256x256 .i8)) ((readsOf X pr).blk w p u k) := by
  refine Gets.of_owns fun f hf => ?_
  have key : ∀ x : S256x256.Idx, ((wview b e w p u).access (Rect.unit (s := S3072x256) ![256 * (k % 12), 0] S256x256.size (inbBlk _))).emb x
      = (wDst b (cpN i) u).view.emb (ValueIdx.ix2 (⟨256 * (k % 12) + (x 0).val, by have := lt2 (a := 0) (n := 256) rfl x; omega⟩ : Fin 3072)
        (⟨256 * p.val + (x 1).val, by have := lt2 (a := 1) (n := 256) rfl x; omega⟩ : Fin 512)) := by
    intro x
    refine (emb_blk w p u k x).trans (Eq.trans ?_ (emb_wDst _ _ _ _).symm)
    congr 2
    exact Fin.ext (hsl.trans (cpN_sl i).symm)
  refine gets_load_sub (wview b e w p u) _ _ (wDst b (cpN i) u).view.set fullShare f _ ?_ ?_
  · intro y hy
    obtain ⟨x, -, rfl⟩ := Finset.mem_map.mp hy
    exact Finset.mem_map.mpr ⟨_, Finset.mem_univ _, (key x).symm⟩
  · funext x
    have h1 := congrFun hf (ValueIdx.ix2 (⟨256 * (k % 12) + (x 0).val, by have := lt2 (a := 0) (n := 256) rfl x; omega⟩ : Fin 3072)
        (⟨256 * p.val + (x 1).val, by have := lt2 (a := 1) (n := 256) rfl x; omega⟩ : Fin 512))
    refine Eq.trans ?_ (h1.trans ?_)
    · exact congrArg (fun z => _root_.cast _ (f z)) (key x)
    · unfold cutW readsOf
      dsimp only
      congr 1
      funext a; apply Fin.ext
      match a with
      | ⟨0, _⟩ => show 0 + 1 * (256 * (k % 12) + (x 0).val) = 256 * (k % 12) + (x 0).val; omega
      | ⟨1, _⟩ =>
        show (cpN i).gcol u + 1 * (256 * p.val + (x 1).val) = 16384 * u.val + (512 * (pr w % 32) + (256 * p.val + (x 1).val))
        rw [cpN_gcol, hpr]; unfold base; omega

theorem gets_st (w p u : Fin 2) (i : ℕ) (hsl : e.sl w = i % 4) (hpr : pr w = i) :
    Gets c (owns (c : Thread nD τ) (sDst b (cpN i) u) fullShare (cutS X (cpN i) u))
      (Prog.lift (.load b.sg (Rect.unit (s := S4x2x48x512) ![e.sl w, u.val, 0, 256 * p.val] S1x1x48x256.size
      (inbSg (e.hsl w) u p)).toLoadRect (View.loadsAt_vmem h_S1x1x48x256)) : P F (Vec F S1x1x48x256 .bf16)) ((readsOf X pr).st w p u) := by
  refine Gets.of_owns fun f hf => ?_
  have key : ∀ x : S1x1x48x256.Idx, (b.sg.access (Rect.unit (s := S4x2x48x512) ![e.sl w, u.val, 0, 256 * p.val] S1x1x48x256.size (inbSg (e.hsl w) u p))).emb x
      = (sDst b (cpN i) u).view.emb (ValueIdx.ix2 (x 2) (⟨256 * p.val + (x 3).val, by have := lt2 (a := 3) (n := 256) rfl x; omega⟩ : Fin 512)) := by
    intro x
    refine (emb_st w p u x).trans (Eq.trans ?_ (emb_sDst _ _ _ _).symm)
    congr 2
    exact Fin.ext (hsl.trans (cpN_sl i).symm)
  refine gets_load_sub b.sg _ _ (sDst b (cpN i) u).view.set fullShare f _ ?_ ?_
  · intro y hy
    obtain ⟨x, -, rfl⟩ := Finset.mem_map.mp hy
    exact Finset.mem_map.mpr ⟨_, Finset.mem_univ _, (key x).symm⟩
  · funext x
    have h1 := congrFun hf (ValueIdx.ix2 (x 2) (⟨256 * p.val + (x 3).val, by have := lt2 (a := 3) (n := 256) rfl x; omega⟩ : Fin 512))
    refine Eq.trans ?_ (h1.trans ?_)
    · exact congrArg (fun z => _root_.cast _ (f z)) (key x)
    · unfold cutS readsOf
      dsimp only
      congr 1
      funext a; apply Fin.ext
      match a with
      | ⟨0, _⟩ => show 0 + 1 * (x 2).val = (x 2).val; omega
      | ⟨1, _⟩ =>
        show (cpN i).gcol u + 1 * (256 * p.val + (x 3).val) = 16384 * u.val + (512 * (pr w % 32) + (256 * p.val + (x 3).val))
        rw [cpN_gcol, hpr]; unfold base; omega

/-- The adapters' rows and the rows no adapter fills are different elements of the ring. -/
theorem disj_pad (q : Cp) (u : Fin 2) : Disjoint (bDst b q u).view.set (padM b q.hsl).view.set := by
  refine Finset.disjoint_left.mpr fun y h1 h2 => ?_
  obtain ⟨x, -, rfl⟩ := Finset.mem_map.mp h1
  obtain ⟨z, -, hz⟩ := Finset.mem_map.mp h2
  have hx : x = ValueIdx.ix3 (x 0) (x 1) (x 2) := by funext a; match a with | ⟨0, _⟩ => rfl | ⟨1, _⟩ => rfl | ⟨2, _⟩ => rfl
  have h3 := (emb_padM (b := b) q.hsl z).symm.trans (hz.trans ((congrArg _ hx).trans (emb_bDst (b := b) q u (x 0) (x 1) (x 2))))
  have h4 := congrArg Fin.val (congrFun (b.bg.view.emb.injective h3) 2)
  have h5 : 13 + (z 2).val = (x 0).val := h4
  have h6 : (x 0).val < 13 := (x 0).isLt
  omega

theorem gets_bt (w p u : Fin 2) {j : ℕ} (hj : j < 2) (i : ℕ) (hsl : e.sl w = i % 4) (hpr : pr w = i) :
    Gets c (iprop(owns (c : Thread nD τ) (bDst b (cpN i) u) fullShare (cutB X (cpN i) u) ∗ pad c b (cpN i).hsl) : Asrt F)
      (Prog.lift (.load b.bg (Rect.unit (s := S4x2x16x32x512) ![e.sl w, u.val, 8 * j, 0, 256 * p.val] S1x1x8x32x256.size
      (inbBd (e.hsl w) p u hj)).toLoadRect (View.loadsAt_vmem h_S1x1x8x32x256)) : P F (Vec F S1x1x8x32x256 .bf16)) ((readsOf X pr).bt w p u j) := by
  intro α K Q
  unfold pad owns
  iintro ⟨⟨⟨%f, %hf, H⟩, ⟨%g, %hg, G⟩⟩, Hk⟩
  have hdis := disj_pad (b := b) (cpN i) u
  let S : Finset (Idx (b.bg.view.loc (c : Thread nD τ))) := (bDst b (cpN i) u).view.set
  let T : Finset (Idx (b.bg.view.loc (c : Thread nD τ))) := (padM b (cpN i).hsl).view.set
  have hST : Disjoint S T := hdis
  let J : Buf (Elt F) (b.bg.view.loc (c : Thread nD τ)) := T.piecewise g f
  have hJf : ∀ y ∈ S, J y = f y := fun y hy => Finset.piecewise_eq_of_notMem T g f (Finset.disjoint_left.mp hST hy)
  have hJg : ∀ y ∈ T, J y = g y := fun y hy => Finset.piecewise_eq_of_mem T g f hy
  ihave HJ := (show iprop((b.bg.view.loc (c : Thread nD τ) ↦[S]{fullShare} f) ∗ (b.bg.view.loc (c : Thread nD τ) ↦[T]{fullShare} g))
    ⊢ (iprop(b.bg.view.loc (c : Thread nD τ) ↦[S ∪ T]{fullShare} J) : Asrt F) from pointsTo_join hST) $$ [H G]
  · isplitl [H]; · iexact H
    iexact G
  have key : ∀ x : S1x1x8x32x256.Idx, (h : 8 * j + (x 2).val < 13) →
      (b.bg.access (Rect.unit (s := S4x2x16x32x512) ![e.sl w, u.val, 8 * j, 0, 256 * p.val] S1x1x8x32x256.size (inbBd (e.hsl w) p u hj))).emb x
      = (bDst b (cpN i) u).view.emb (ValueIdx.ix3 (⟨8 * j + (x 2).val, h⟩ : Fin 13) (x 3)
        (⟨256 * p.val + (x 4).val, by have := lt2 (a := 4) (n := 256) rfl x; omega⟩ : Fin 512)) := by
    intro x h
    refine (emb_bt w p u hj x).trans (Eq.trans ?_ (emb_bDst _ _ _ _ _).symm)
    congr 2
    exact Fin.ext (hsl.trans (cpN_sl i).symm)
  have keyp : ∀ x : S1x1x8x32x256.Idx, (h : ¬ 8 * j + (x 2).val < 13) →
      (b.bg.access (Rect.unit (s := S4x2x16x32x512) ![e.sl w, u.val, 8 * j, 0, 256 * p.val] S1x1x8x32x256.size (inbBd (e.hsl w) p u hj))).emb x
      = (padM b (cpN i).hsl).view.emb (ValueIdx.ix5 (⟨0, Nat.one_pos⟩ : Fin 1) u (⟨8 * j + (x 2).val - 13, by have := lt2 (a := 2) (n := 8) rfl x; omega⟩ : Fin 3) (x 3)
        (⟨256 * p.val + (x 4).val, by have := lt2 (a := 4) (n := 256) rfl x; omega⟩ : Fin 512)) := by
    intro x h
    refine (emb_bt w p u hj x).trans (Eq.trans ?_ (emb_padM _ _).symm)
    congr 1
    funext a; apply Fin.ext
    match a with
    | ⟨0, _⟩ => exact hsl.trans (cpN_sl i).symm
    | ⟨1, _⟩ => rfl
    | ⟨2, _⟩ => show 8 * j + (x 2).val = 13 + (8 * j + (x 2).val - 13); omega
    | ⟨3, _⟩ => rfl
    | ⟨4, _⟩ => rfl
  iapply (gets_load_sub b.bg _ (View.loadsAt_vmem h_S1x1x8x32x256) (S ∪ T) fullShare J ((readsOf X pr).bt w p u j) ?_ ?_ α K Q)
  · intro y hy
    obtain ⟨x, -, rfl⟩ := Finset.mem_map.mp hy
    by_cases h : 8 * j + (x 2).val < 13
    · exact Finset.mem_union_left _ (Finset.mem_map.mpr ⟨_, Finset.mem_univ _, (key x h).symm⟩)
    · exact Finset.mem_union_right _ (Finset.mem_map.mpr ⟨_, Finset.mem_univ _, (keyp x h).symm⟩)
  · funext x
    by_cases h : 8 * j + (x 2).val < 13
    · have h1 := congrFun hf (ValueIdx.ix3 (⟨8 * j + (x 2).val, h⟩ : Fin 13) (x 3)
        (⟨256 * p.val + (x 4).val, by have := lt2 (a := 4) (n := 256) rfl x; omega⟩ : Fin 512))
      refine Eq.trans ?_ (h1.trans ?_)
      · refine congrArg (fun z => _root_.cast _ z) ((congrArg J (key x h)).trans (hJf _ (View.emb_mem_set _ _)))
      · unfold cutB readsOf
        dsimp only
        rw [dif_pos h]
        congr 1
        funext a; apply Fin.ext
        match a with
        | ⟨0, _⟩ => show 0 + 1 * (8 * j + (x 2).val) = 8 * j + (x 2).val; omega
        | ⟨1, _⟩ => show u.val + 1 * 0 = u.val; omega
        | ⟨2, _⟩ => show 0 + 1 * (x 3).val = (x 3).val; omega
        | ⟨3, _⟩ => show (cpN i).col + 1 * (256 * p.val + (x 4).val) = 512 * (pr w % 32) + (256 * p.val + (x 4).val); rw [cpN_col, hpr]; omega
    · have h1 := congrFun hg (ValueIdx.ix5 (⟨0, Nat.one_pos⟩ : Fin 1) u (⟨8 * j + (x 2).val - 13, by have := lt2 (a := 2) (n := 8) rfl x; omega⟩ : Fin 3) (x 3)
        (⟨256 * p.val + (x 4).val, by have := lt2 (a := 4) (n := 256) rfl x; omega⟩ : Fin 512))
      refine Eq.trans ?_ (h1.trans ?_)
      · refine congrArg (fun z => _root_.cast _ z) ((congrArg J (keyp x h)).trans (hJg _ (View.emb_mem_set _ _)))
      · unfold readsOf
        dsimp only
        rw [dif_neg h]
  · isplitl [HJ]; · iexact HJ
    iintro HJ
    iapply Hk
    ihave HJ := (show (iprop(b.bg.view.loc (c : Thread nD τ) ↦[S ∪ T]{fullShare} J) : Asrt F)
      ⊢ iprop((b.bg.view.loc (c : Thread nD τ) ↦[S]{fullShare} f) ∗ (b.bg.view.loc (c : Thread nD τ) ↦[T]{fullShare} g)) from
      ((pointsTo_union hST).1.trans (by rw [pointsTo_congr hJf, pointsTo_congr hJg]))) $$ HJ
    icases HJ with ⟨H, G⟩
    isplitl [H]
    · iexists f
      isplitr; · ipureintro; exact hf
      iexact H
    · iexists g
      isplitr; · ipureintro; exact hg
      iexact G

/-- What a slot that holds pair `i` gives the loads: its columns and the rows no adapter fills. -/
def slot (c : Dev nD) (b : Bufs) (X : Data F) (i : ℕ) : Asrt F := iprop(full c b X (cpN i) ∗ pad c b (cpN i).hsl)

/-- One unit's half of a slot. -/
theorem slot_unit (i : ℕ) (u : Fin 2) : slot c b X i ⊢ iprop((fullU c b X (cpN i) u ∗ pad c b (cpN i).hsl)
    ∗ ((fullU c b X (cpN i) u ∗ pad c b (cpN i).hsl) -∗ slot c b X i)) := by
  match u with
  | 0 =>
    unfold slot full
    iintro ⟨⟨H1, H2⟩, H3⟩
    isplitl [H1 H3]
    · isplitl [H1]; · iexact H1
      iexact H3
    iintro ⟨H1, H3⟩
    isplitl [H1 H2]
    · isplitl [H1]; · iexact H1
      iexact H2
    iexact H3
  | 1 =>
    unfold slot full
    iintro ⟨⟨H1, H2⟩, H3⟩
    isplitl [H2 H3]
    · isplitl [H2]; · iexact H2
      iexact H3
    iintro ⟨H2, H3⟩
    isplitl [H1 H2]
    · isplitl [H1]; · iexact H1
      iexact H2
    iexact H3

theorem gets_x (k : ℕ) (hk : k < 24) :
    Gets c (owns (c : Thread nD τ) b.xp fullShare (XP X)) (Prog.lift (.load b.xp (Rect.unit (s := S256x6144) ![0, 256 * k] S80x256.size
      (inbX hk)).toLoadRect (View.loadsAt_vmem h_S80x256)) : P F (Vec F S80x256 .bf16)) ((readsOf X pr).x k) := by
  have h := gets_load (c := c) b.xp (Rect.unit (s := S256x6144) ![0, 256 * k] S80x256.size (inbX hk)) (View.loadsAt_vmem h_S80x256) fullShare (XP X)
  have e : (readsOf X pr).x k = fun x => XP X ((Rect.unit (s := S256x6144) ![0, 256 * k] S80x256.size (inbX hk)).emb x) := by
    funext x
    show XP X _ = XP X _
    congr 1
    funext a; apply Fin.ext
    match a with
    | ⟨0, _⟩ => show (x 0).val = 0 + 1 * (x 0).val; omega
    | ⟨1, _⟩ => show 256 * (k % 24) + (x 1).val = 256 * k + 1 * (x 1).val; omega
  rw [e]
  exact h

theorem gets_md (u : Fin 2) (j : ℕ) (hj : j < 2) :
    Gets c (owns (c : Thread nD τ) b.md fullShare X.M) (Prog.lift (.load b.md (Rect.unit (s := S2x80x512) ![u.val, 0, 256 * j] S1x80x256.size
      (inbMd u hj)).toLoadRect (View.loadsAt_vmem h_S1x80x256)) : P F (Vec F S1x80x256 .bf16)) ((readsOf X pr).md u j) := by
  have h := gets_load (c := c) b.md (Rect.unit (s := S2x80x512) ![u.val, 0, 256 * j] S1x80x256.size (inbMd u hj)) (View.loadsAt_vmem h_S1x80x256) fullShare X.M
  have e : (readsOf X pr).md u j = fun x => X.M ((Rect.unit (s := S2x80x512) ![u.val, 0, 256 * j] S1x80x256.size (inbMd u hj)).emb x) := by
    funext x
    show X.M _ = X.M _
    congr 1
    funext a; apply Fin.ext
    match a with
    | ⟨0, _⟩ => show u.val = u.val + 1 * (x 0).val; have := lt2 (a := 0) (n := 1) rfl x; omega
    | ⟨1, _⟩ => show (x 1).val = 0 + 1 * (x 1).val; omega
    | ⟨2, _⟩ => show 256 * (j % 2) + (x 2).val = 256 * j + 1 * (x 2).val; omega
  rw [e]
  exact h

/-- The loads of a pair, from anything that holds its slots and the two left-hand sides. -/
theorem provides {R : Asrt F} (hsl : ∀ w, e.sl w = pr w % 4) (hS : ∀ w, R ⊢ iprop(slot c b X (pr w) ∗ (slot c b X (pr w) -∗ R)))
    (hH : R ⊢ iprop(owns (c : Thread nD τ) b.xp fullShare (XP X) ∗ (owns (c : Thread nD τ) b.xp fullShare (XP X) -∗ R)))
    (hM : R ⊢ iprop(owns (c : Thread nD τ) b.md fullShare X.M ∗ (owns (c : Thread nD τ) b.md fullShare X.M -∗ R))) :
    Provides c b e R (readsOf X pr) where
  blk w p u k := by
    refine (((gets_blk w p u k (pr w) (hsl w) rfl).of_acc (S := owns (c : Thread nD τ) (wDst b (cpN (pr w)) u) fullShare (cutW X (cpN (pr w)) u))
      (R := iprop(fullU c b X (cpN (pr w)) u ∗ pad c b (cpN (pr w)).hsl)) ?_).of_acc (slot_unit (pr w) u)).of_acc (hS w)
    unfold fullU
    iintro ⟨⟨H1, H2, H3⟩, H4⟩
    isplitl [H1]; · iexact H1
    iintro H1
    isplitr [H4]; swap
    · iexact H4
    isplitl [H1]; · iexact H1
    isplitl [H2]; · iexact H2
    iexact H3
  st w p u := by
    refine (((gets_st w p u (pr w) (hsl w) rfl).of_acc (S := owns (c : Thread nD τ) (sDst b (cpN (pr w)) u) fullShare (cutS X (cpN (pr w)) u))
      (R := iprop(fullU c b X (cpN (pr w)) u ∗ pad c b (cpN (pr w)).hsl)) ?_).of_acc (slot_unit (pr w) u)).of_acc (hS w)
    unfold fullU
    iintro ⟨⟨H1, H2, H3⟩, H4⟩
    isplitl [H2]; · iexact H2
    iintro H2
    isplitr [H4]; swap
    · iexact H4
    isplitl [H1]; · iexact H1
    isplitl [H2]; · iexact H2
    iexact H3
  bt w p u j hj := by
    refine (((gets_bt w p u hj (pr w) (hsl w) rfl).of_acc
      (S := iprop(owns (c : Thread nD τ) (bDst b (cpN (pr w)) u) fullShare (cutB X (cpN (pr w)) u) ∗ pad c b (cpN (pr w)).hsl))
      (R := iprop(fullU c b X (cpN (pr w)) u ∗ pad c b (cpN (pr w)).hsl)) ?_).of_acc (slot_unit (pr w) u)).of_acc (hS w)
    unfold fullU
    iintro ⟨⟨H1, H2, H3⟩, H4⟩
    isplitl [H3 H4]
    · isplitl [H3]; · iexact H3
      iexact H4
    iintro ⟨H3, H4⟩
    isplitr [H4]; swap
    · iexact H4
    isplitl [H1]; · iexact H1
    isplitl [H2]; · iexact H2
    iexact H3
  x k hk := (gets_x k hk).of_acc hH
  md u j hj := (gets_md u j hj).of_acc hM

end Cert.UpIdeal.Up

end
-- ==== Proof.UpParts.lean ====
/-
  Buffers in parts, and the part of the run that moves the finished hidden layer: the columns of a pair of chunks are
  written as two blocks, copied out as the rows in use, and the rows below them are left over.
-/
module

public import proofs.«01_k».proof.Proof.UpSlot
public import Idealize.SL.BI.BigOpNat

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- Parts told apart by a number are disjoint and cover. -/
theorem family {I Y : Type} [DecidableEq Y] (emb : I ↪ Y) (k : I → ℕ) (n : ℕ) (S : ℕ → Finset Y) (U : Finset Y)
    (hS : ∀ j < n, ∀ y, y ∈ S j ↔ ∃ x, emb x = y ∧ k x = j) (hU : ∀ y, y ∈ U ↔ ∃ x, emb x = y) (hk : ∀ x, k x < n) :
    (∀ i ∈ Finset.range n, ∀ j ∈ Finset.range n, i ≠ j → Disjoint (S i) (S j)) ∧ U = (Finset.range n).biUnion S := by
  constructor
  · intro i hi j hj hij
    refine Finset.disjoint_left.mpr fun y h1 h2 => ?_
    obtain ⟨x, hx, h3⟩ := (hS i (Finset.mem_range.mp hi) y).mp h1
    obtain ⟨z, hz, h4⟩ := (hS j (Finset.mem_range.mp hj) y).mp h2
    have := emb.injective (hx.trans hz.symm)
    subst this
    exact hij (h3.symm.trans h4)
  · ext y
    rw [hU, Finset.mem_biUnion]
    constructor
    · rintro ⟨x, hx⟩
      exact ⟨k x, Finset.mem_range.mpr (hk x), (hS _ (hk x) y).mpr ⟨x, hx, rfl⟩⟩
    · rintro ⟨j, hj, h⟩
      obtain ⟨x, hx, -⟩ := (hS j (Finset.mem_range.mp hj) y).mp h
      exact ⟨x, hx⟩

section
variable {ℓ : Loc nD τ sig} (S : ℕ → Finset (Idx ℓ))

/-- Elements held at some contents. -/
def anyAt (ℓ : Loc nD τ sig) (A : Finset (Idx ℓ)) : Asrt F := iprop(∃ g : Buf (Elt F) ℓ, ℓ ↦[A]{fullShare} g)

theorem any_intro {A : Finset (Idx ℓ)} (g : Buf (Elt F) ℓ) : (iprop(ℓ ↦[A]{fullShare} g) : Asrt F) ⊢ anyAt ℓ A := by
  unfold anyAt
  iintro H
  iexists g
  iexact H

theorem split_any (n : ℕ) (h : ∀ i ∈ Finset.range n, ∀ j ∈ Finset.range n, i ≠ j → Disjoint (S i) (S j)) :
    (anyAt ℓ ((Finset.range n).biUnion S) : Asrt F) ⊢ bigSep (Finset.range n) fun j => anyAt ℓ (S j) := by
  conv_lhs => unfold anyAt
  iintro ⟨%g, H⟩
  ihave H := (Entails.of_eq (pointsTo_biUnion (Finset.range n) S h)) $$ H
  iapply (show (bigSep (Finset.range n) fun j => ℓ ↦[S j]{fullShare} g : Asrt F) ⊢ bigSep (Finset.range n) fun j => anyAt ℓ (S j) from
    bigSep_mono fun j _ => any_intro g)
  iexact H

theorem join_any (n : ℕ) (h : ∀ i ∈ Finset.range (n + 1), ∀ j ∈ Finset.range (n + 1), i ≠ j → Disjoint (S i) (S j)) :
    (bigSep (Finset.range (n + 1)) fun j => anyAt ℓ (S j)) ⊢ (anyAt ℓ ((Finset.range (n + 1)).biUnion S) : Asrt F) := by
  classical
  induction n with
  | zero =>
    rw [show Finset.range (0 + 1) = {0} from rfl, bigSep_singleton, Finset.singleton_biUnion]
  | succ n ih =>
    have hd : Disjoint (S (n + 1)) ((Finset.range (n + 1)).biUnion S) :=
      (Finset.disjoint_biUnion_right _ _ _).mpr fun t ht => h _ (Finset.mem_range.mpr (by omega)) _
        (Finset.mem_range.mpr (by have := Finset.mem_range.mp ht; omega)) (by have := Finset.mem_range.mp ht; omega)
    rw [bigSep_range_succ, show (Finset.range (n + 1 + 1)).biUnion S = S (n + 1) ∪ (Finset.range (n + 1)).biUnion S by
      rw [Finset.range_add_one (n := n + 1), Finset.biUnion_insert]]
    have ih' := ih fun i hi j hj => h i (Finset.mem_range.mpr (by have := Finset.mem_range.mp hi; omega)) j (Finset.mem_range.mpr (by have := Finset.mem_range.mp hj; omega))
    iintro ⟨H, HR⟩
    ihave HR := ih' $$ HR
    unfold anyAt
    icases H with ⟨%f, H⟩
    icases HR with ⟨%g, HR⟩
    iexists _
    iapply (pointsTo_join hd)
    isplitl [H]; · iexact H
    iexact HR

end

/-- A memref held at some contents is its elements at some contents. -/
theorem any_owns (c : Dev nD) {sp : Space} {s : Shape} {e : EltTy} (m : Memref sig .tc sp s e) :
    (iprop(∃ d, owns (c : Thread nD τ) m fullShare d) : Asrt F) ⊢ anyAt (m.view.loc (c : Thread nD τ)) m.view.set := by
  unfold owns anyAt
  iintro ⟨%d, %f, -, H⟩
  iexists f
  iexact H
theorem owns_any (c : Dev nD) {sp : Space} {s : Shape} {e : EltTy} (m : Memref sig .tc sp s e) :
    (anyAt (m.view.loc (c : Thread nD τ)) m.view.set : Asrt F) ⊢ iprop(∃ d, owns (c : Thread nD τ) m fullShare d) := by
  unfold owns anyAt
  iintro ⟨%f, H⟩
  iexists _
  iexists f
  isplitr; · ipureintro; rfl
  iexact H

/-- Contents that read as owned are the contents. -/
theorem owns_eq (c : Dev nD) {sp : Space} {s : Shape} {e : EltTy} (m : Memref sig .tc sp s e) (q) (Y : s.Idx → Elt F e)
    (f : Buf (Elt F) (m.view.loc (c : Thread nD τ))) (hf : m.view.read (Elt F) f = Y) :
    (owns (c : Thread nD τ) m q Y : Asrt F) = iprop(m.view.loc (c : Thread nD τ) ↦[m.view.set]{q} f) := by
  refine BI.equiv_iff.mp ⟨show (owns (c : Thread nD τ) m q Y : Asrt F) ⊢ _ from ?_, owns_get hf q⟩
  unfold owns
  iintro ⟨%g, %hg, H⟩
  have : ∀ i ∈ m.view.set, g i = f i := by
    intro i hi
    obtain ⟨x, -, rfl⟩ := Finset.mem_map.mp hi
    have h := congrFun (hg.trans hf.symm) x
    unfold View.read at h
    exact (cast_bijective _).1 h
  iapply (Entails.of_eq (pointsTo_congr this))
  iexact H

theorem mem_set {sp : Space} {s : Shape} {e : EltTy} (m : Memref sig .tc sp s e) (y) : y ∈ m.view.set ↔ ∃ x, m.view.emb x = y := by
  unfold View.set
  simp

/-! ## Parts of one memref -/

section
variable {c : Dev nD} {sp : Space} {s : Shape} {e : EltTy} (m : Memref sig .tc sp s e)

/-- The elements of a memref that a property picks. -/
def pset (c : Dev nD) (q : s.Idx → Prop) : Finset (Idx (m.view.loc (c : Thread nD τ))) := by
  classical exact (Finset.univ.filter q).map m.view.emb

theorem mem_pset {q : s.Idx → Prop} (y) : y ∈ pset m c q ↔ ∃ x, m.view.emb x = y ∧ q x := by
  classical
  unfold pset
  rw [Finset.mem_map]
  simp only [Finset.mem_filter, Finset.mem_univ, true_and]
  exact ⟨fun ⟨x, h, h'⟩ => ⟨x, h', h⟩, fun ⟨x, h, h'⟩ => ⟨x, h', h⟩⟩

theorem pset_congr {q q' : s.Idx → Prop} (h : ∀ x, q x ↔ q' x) : pset m c q = pset m c q' := by
  rw [show q = q' from funext fun x => propext (h x)]

theorem pset_union {q q' : s.Idx → Prop} : pset m c q ∪ pset m c q' = pset m c fun x => q x ∨ q' x := by
  ext y
  rw [Finset.mem_union, mem_pset, mem_pset, mem_pset]
  constructor
  · rintro (⟨x, h, h'⟩ | ⟨x, h, h'⟩)
    · exact ⟨x, h, Or.inl h'⟩
    · exact ⟨x, h, Or.inr h'⟩
  · rintro ⟨x, h, h' | h'⟩
    · exact Or.inl ⟨x, h, h'⟩
    · exact Or.inr ⟨x, h, h'⟩

theorem pset_disjoint {q q' : s.Idx → Prop} (h : ∀ x, q x → q' x → False) : Disjoint (pset m c q) (pset m c q') := by
  refine Finset.disjoint_left.mpr fun y h1 h2 => ?_
  obtain ⟨x, hx, h3⟩ := (mem_pset m y).mp h1
  obtain ⟨z, hz, h4⟩ := (mem_pset m y).mp h2
  have := m.view.emb.injective (hx.trans hz.symm)
  subst this
  exact h x h3 h4

theorem pset_univ : pset m c (fun _ => True) = m.view.set := by
  ext y
  rw [mem_pset, mem_set]
  exact ⟨fun ⟨x, h, _⟩ => ⟨x, h⟩, fun ⟨x, h⟩ => ⟨x, h, trivial⟩⟩

/-- A slice's elements. -/
theorem slice_set (r : Rect s) (h : ∀ a, r.stride a = 1) {q : s.Idx → Prop} (hq : ∀ x, x ∈ r.set ↔ q x) :
    ((m.slice r h).view.set : Finset (Idx (m.view.loc (c : Thread nD τ)))) = pset m c q := by
  ext y
  refine (mem_set (m.slice r h) y).trans (Iff.trans ?_ (mem_pset m y).symm)
  constructor
  · rintro ⟨z, hz⟩
    refine ⟨r.emb z, hz, (hq _).mp ?_⟩
    rw [← Rect.map_emb_univ]
    exact Finset.mem_map.mpr ⟨z, Finset.mem_univ _, rfl⟩
  · rintro ⟨x, hx, h'⟩
    have h2 := (hq x).mpr h'
    rw [← Rect.map_emb_univ] at h2
    obtain ⟨z, -, rfl⟩ := Finset.mem_map.mp h2
    exact ⟨z, hx⟩

variable {m}

/-- Two parts of one memref, at contents that agree with `Y`, are their union at contents that read as `Y`. -/
theorem gather (r1 r2 : Rect s) (h1 : ∀ a, r1.stride a = 1) (h2 : ∀ a, r2.stride a = 1) {q1 q2 : s.Idx → Prop}
    (hq1 : ∀ x, x ∈ r1.set ↔ q1 x) (hq2 : ∀ x, x ∈ r2.set ↔ q2 x) (hd : ∀ x, q1 x → q2 x → False) (Y : s.Idx → Elt F e) :
    iprop(owns (c : Thread nD τ) (m.slice r1 h1) fullShare (fun z => Y (r1.emb z)) ∗ owns (c : Thread nD τ) (m.slice r2 h2) fullShare (fun z => Y (r2.emb z)))
      ⊢ (iprop(∃ f : Buf (Elt F) (m.view.loc (c : Thread nD τ)), ⌜m.view.read (Elt F) f = Y⌝
        ∗ (m.view.loc (c : Thread nD τ) ↦[pset m c fun x => q1 x ∨ q2 x]{fullShare} f)) : Asrt F) := by
  refine (show iprop(owns (c : Thread nD τ) (m.slice r1 h1) fullShare (fun z => Y (r1.emb z)) ∗ owns (c : Thread nD τ) (m.slice r2 h2) fullShare (fun z => Y (r2.emb z)))
    ⊢ (iprop(∃ g : Buf (Elt F) (m.view.loc (c : Thread nD τ)), owns (c : Thread nD τ) (m.slice r1 h1) fullShare (fun z => Y (r1.emb z)) ∗ owns (c : Thread nD τ) (m.slice r2 h2) fullShare (fun z => Y (r2.emb z))) : Asrt F) from by
      conv_lhs => unfold owns
      iintro ⟨⟨%g, %hg, H⟩, H2⟩
      iexists g
      isplitl [H]
      · unfold owns
        iexists g
        isplitr; · ipureintro; exact hg
        iexact H
      unfold owns
      iexact H2).trans ?_
  iintro ⟨%g, H⟩
  have hf : m.view.read (Elt F) (m.view.write (Elt F) g Y Finset.univ) = Y := View.read_write_univ _ _
  iexists (m.view.write (Elt F) g Y Finset.univ)
  isplitr; · ipureintro; exact hf
  rw [owns_eq c (m.slice r1 h1) fullShare _ (m.view.write (Elt F) g Y Finset.univ) (by funext z; exact congrFun hf (r1.emb z)),
    owns_eq c (m.slice r2 h2) fullShare _ (m.view.write (Elt F) g Y Finset.univ) (by funext z; exact congrFun hf (r2.emb z))]
  rw [← pset_union]
  iapply (pointsTo_union (pset_disjoint m hd)).2
  icases H with ⟨H1, H2⟩
  isplitl [H1]
  · iapply (Entails.of_eq (congrArg (fun S => (iprop(m.view.loc (c : Thread nD τ) ↦[S]{fullShare} (m.view.write (Elt F) g Y Finset.univ)) : Asrt F)) (slice_set m r1 h1 hq1)))
    iexact H1
  · iapply (Entails.of_eq (congrArg (fun S => (iprop(m.view.loc (c : Thread nD τ) ↦[S]{fullShare} (m.view.write (Elt F) g Y Finset.univ)) : Asrt F)) (slice_set m r2 h2 hq2)))
    iexact H2

/-- And back, into other two parts. -/
theorem spread (r1 r2 : Rect s) (h1 : ∀ a, r1.stride a = 1) (h2 : ∀ a, r2.stride a = 1) {q q1 q2 : s.Idx → Prop}
    (hq1 : ∀ x, x ∈ r1.set ↔ q1 x) (hq2 : ∀ x, x ∈ r2.set ↔ q2 x) (hd : ∀ x, q1 x → q2 x → False) (hq : ∀ x, q x ↔ q1 x ∨ q2 x) (Y : s.Idx → Elt F e) :
    iprop(∃ f : Buf (Elt F) (m.view.loc (c : Thread nD τ)), ⌜m.view.read (Elt F) f = Y⌝ ∗ (m.view.loc (c : Thread nD τ) ↦[pset m c q]{fullShare} f))
      ⊢ (iprop(owns (c : Thread nD τ) (m.slice r1 h1) fullShare (fun z => Y (r1.emb z)) ∗ owns (c : Thread nD τ) (m.slice r2 h2) fullShare (fun z => Y (r2.emb z))) : Asrt F) := by
  rw [pset_congr m hq, ← pset_union]
  iintro ⟨%f, %hf, H⟩
  ihave H := (pointsTo_union (pset_disjoint m hd)).1 $$ H
  icases H with ⟨H1, H2⟩
  isplitl [H1]
  · iapply (Entails.of_eq (owns_eq c (m.slice r1 h1) fullShare _ f (by funext z; exact congrFun hf (r1.emb z))).symm)
    iapply (Entails.of_eq (congrArg (fun S => (iprop(m.view.loc (c : Thread nD τ) ↦[S]{fullShare} f) : Asrt F)) (slice_set m r1 h1 hq1).symm))
    iexact H1
  · iapply (Entails.of_eq (owns_eq c (m.slice r2 h2) fullShare _ f (by funext z; exact congrFun hf (r2.emb z))).symm)
    iapply (Entails.of_eq (congrArg (fun S => (iprop(m.view.loc (c : Thread nD τ) ↦[S]{fullShare} f) : Asrt F)) (slice_set m r2 h2 hq2).symm))
    iexact H2

/-- Two parts at anything. -/
theorem any_parts (r1 r2 : Rect s) (h1 : ∀ a, r1.stride a = 1) (h2 : ∀ a, r2.stride a = 1) {q q1 q2 : s.Idx → Prop}
    (hq1 : ∀ x, x ∈ r1.set ↔ q1 x) (hq2 : ∀ x, x ∈ r2.set ↔ q2 x) (hd : ∀ x, q1 x → q2 x → False) (hq : ∀ x, q x ↔ q1 x ∨ q2 x) :
    (anyAt (m.view.loc (c : Thread nD τ)) (pset m c q) : Asrt F)
      ⊢ iprop((∃ d, owns (c : Thread nD τ) (m.slice r1 h1) fullShare d) ∗ ∃ d, owns (c : Thread nD τ) (m.slice r2 h2) fullShare d) := by
  unfold anyAt
  iintro ⟨%f, H⟩
  ihave H := (spread r1 r2 h1 h2 hq1 hq2 hd hq (m.view.read (Elt F) f)) $$ [H]
  · iexists f
    isplitr; · ipureintro; rfl
    iexact H
  icases H with ⟨H1, H2⟩
  isplitl [H1]
  · iexists _; iexact H1
  · iexists _; iexact H2

theorem parts_any (r1 r2 : Rect s) (h1 : ∀ a, r1.stride a = 1) (h2 : ∀ a, r2.stride a = 1) {q q1 q2 : s.Idx → Prop}
    (hq1 : ∀ x, x ∈ r1.set ↔ q1 x) (hq2 : ∀ x, x ∈ r2.set ↔ q2 x) (hd : ∀ x, q1 x → q2 x → False) (hq : ∀ x, q x ↔ q1 x ∨ q2 x) :
    iprop((∃ d, owns (c : Thread nD τ) (m.slice r1 h1) fullShare d) ∗ ∃ d, owns (c : Thread nD τ) (m.slice r2 h2) fullShare d)
      ⊢ (anyAt (m.view.loc (c : Thread nD τ)) (pset m c q) : Asrt F) := by
  rw [pset_congr m hq, ← pset_union]
  refine (BIClass.sep_mono (any_owns c (m.slice r1 h1)) (any_owns c (m.slice r2 h2))).trans ?_
  refine (BIClass.sep_mono (Entails.of_eq (congrArg (fun S => (anyAt (m.view.loc (c : Thread nD τ)) S : Asrt F)) (slice_set m r1 h1 hq1)))
    (Entails.of_eq (congrArg (fun S => (anyAt (m.view.loc (c : Thread nD τ)) S : Asrt F)) (slice_set m r2 h2 hq2)))).trans ?_
  unfold anyAt
  iintro ⟨⟨%f, H⟩, ⟨%g, G⟩⟩
  iexists _
  iapply (pointsTo_join (pset_disjoint m hd))
  isplitl [H]; · iexact H
  iexact G

end

/-! ## The padded activations -/

variable (c : Dev nD) (b : Bufs) (X : Data F)

/-- The rows below the activations. -/
def xPad : Memref sig .tc .vmem S184x6144 .bf16 :=
  b.xp.slice (Rect.unit (s := S256x6144) ![72, 0] S184x6144.size inb_S256x6144_S184x6144_72_0) (fun _ => rfl)

theorem rect_x (x : S256x6144.Idx) : x ∈ (Rect.unit (s := S256x6144) ![0, 0] S72x6144.size inb_S256x6144_S72x6144_0_0).set ↔ (x 0).val < 72 := by
  have h1 : (x 1).val < 6144 := (x 1).isLt
  rw [Rect.mem_set_unit]
  constructor
  · intro h; have := (h 0).2; change (x 0).val < 0 + 72 at this; omega
  · intro h a
    match a with
    | ⟨0, _⟩ => exact ⟨Nat.zero_le _, show (x 0).val < 0 + 72 by omega⟩
    | ⟨1, _⟩ => exact ⟨Nat.zero_le _, show (x 1).val < 0 + 6144 by omega⟩

theorem rect_xPad (x : S256x6144.Idx) : x ∈ (Rect.unit (s := S256x6144) ![72, 0] S184x6144.size inb_S256x6144_S184x6144_72_0).set ↔ 72 ≤ (x 0).val := by
  have h0 : (x 0).val < 256 := (x 0).isLt
  have h1 : (x 1).val < 6144 := (x 1).isLt
  rw [Rect.mem_set_unit]
  constructor
  · intro h; exact (h 0).1
  · intro h a
    match a with
    | ⟨0, _⟩ => exact ⟨h, show (x 0).val < 72 + 184 by omega⟩
    | ⟨1, _⟩ => exact ⟨Nat.zero_le _, show (x 1).val < 0 + 6144 by omega⟩

theorem xp_split : (anyAt (b.xp.view.loc (c : Thread nD τ)) b.xp.view.set : Asrt F)
    ⊢ iprop((∃ d, owns (c : Thread nD τ) (xDst b) fullShare d) ∗ ∃ d, owns (c : Thread nD τ) (xPad b) fullShare d) := by
  rw [← pset_univ]
  exact any_parts (m := b.xp) _ _ (fun _ => rfl) (fun _ => rfl) rect_x rect_xPad (by intro x h h'; omega) (by intro x; simp; omega)

theorem xp_join : iprop(owns (c : Thread nD τ) (xDst b) fullShare X.X ∗ owns (c : Thread nD τ) (xPad b) fullShare (fun _ => zb))
    ⊢ (owns (c : Thread nD τ) b.xp fullShare (XP X) : Asrt F) := by
  have e1 : X.X = fun z => XP X ((Rect.unit (s := S256x6144) ![0, 0] S72x6144.size inb_S256x6144_S72x6144_0_0).emb z) := by
    funext z
    have hz : (z 0).val < 72 := (z 0).isLt
    unfold XP
    refine Eq.trans ?_ (dif_pos (show 0 + 1 * (z 0).val < 72 by omega)).symm
    congr 1
    funext a; apply Fin.ext
    match a with
    | ⟨0, _⟩ => show (z 0).val = 0 + 1 * (z 0).val; omega
    | ⟨1, _⟩ => show (z 1).val = 0 + 1 * (z 1).val; omega
  have e2 : (fun _ => zb : S184x6144.Idx → Elt F .bf16) = fun z => XP X ((Rect.unit (s := S256x6144) ![72, 0] S184x6144.size inb_S256x6144_S184x6144_72_0).emb z) := by
    funext z
    unfold XP
    refine Eq.trans ?_ (dif_neg (show ¬ 72 + 1 * (z 0).val < 72 by omega)).symm
    rfl
  rw [e1, e2]
  refine (gather (m := b.xp) _ _ (fun _ => rfl) (fun _ => rfl) rect_x rect_xPad (by intro x h h'; omega) (XP X)).trans ?_
  rw [pset_congr b.xp (q' := fun _ => True) (by intro x; simp; omega), pset_univ]
  iintro ⟨%f, %hf, H⟩
  unfold owns
  iexists f
  isplitr; · ipureintro; exact hf
  iexact H

/-- Zeroing the rows below. -/
theorem padX_wp {c : Dev nD} {b : Bufs} {α : Type} (K : PUnit → P F α) (Q : α → Asrt F) :
    iprop((∃ d, owns (c : Thread nD τ) (xPad b) fullShare d) ∗ (owns (c : Thread nD τ) (xPad b) fullShare (fun _ => zb) -∗ wpc c (K ⟨⟩) Q)) ⊢ wpc c (padX b >>= K) Q := by
  unfold padX owns
  iintro ⟨⟨%d, %f, %hf, H⟩, Hk⟩
  rw [bind_assoc]
  rw [show ∀ K' : Vec F S184x6144 .bf16 → P F α, ((Prog.lift (.load b.xp (Rect.unit (s := S256x6144) ![72, 0] S184x6144.size inb_S256x6144_S184x6144_72_0).toLoadRect
    (View.loadsAt_vmem h_S184x6144)) : P F (Vec F S184x6144 .bf16)) >>= K') = .op (.load b.xp (Rect.unit (s := S256x6144) ![72, 0] S184x6144.size inb_S256x6144_S184x6144_72_0).toLoadRect
    (View.loadsAt_vmem h_S184x6144)) K' from fun _ => rfl]
  ihave H := (show iprop((xPad b).view.loc (c : Thread nD τ) ↦[(xPad b).view.set]{fullShare} f)
    ⊢ (iprop((b.xp.access (Rect.unit (s := S256x6144) ![72, 0] S184x6144.size inb_S256x6144_S184x6144_72_0)).loc (c : Thread nD τ)
      ↦[(xPad b).view.set]{fullShare} f) : Asrt F) from .rfl) $$ H
  iapply (wp_load_rect (defs := defs₀) (α := α) Variants.none (c : Thread nD τ) none Set.univ (m := b.xp)
    (r := Rect.unit (s := S256x6144) ![72, 0] S184x6144.size inb_S256x6144_S184x6144_72_0) (S := (xPad b).view.set) (q := fullShare) (f := f)
    (Finset.Subset.refl _)) $$ H
  iintro H
  iapply (wp_store (defs := defs₀) (α := α) Variants.none (c : Thread nD τ) none Set.univ (m := b.xp)
    (r := Rect.unit (s := S256x6144) ![72, 0] S184x6144.size inb_S256x6144_S184x6144_72_0) (S := (xPad b).view.set) (f := f)
    (Finset.Subset.refl _)) $$ H
  iintro H
  iapply Hk
  iexists _
  isplitr; swap
  · iexact H
  ipureintro
  exact (View.read_write_univ (Val := Elt F) (v := (xPad b).view) f _).trans rfl

/-- The copy of the activations in flight. -/
def flyX : Asrt F := batchOf c b.xsem.sem (fun _ : Fin 1 => (xDst b).view.dmaCredit) (fun _ => bring c (xDst b) b.x X.X) 1 0

theorem startX_wp {c : Dev nD} {b : Bufs} {X : Data F} {α : Type} (K : PUnit → P F α) (Q : α → Asrt F) :
    iprop(semVal ((c : Thread nD τ), SemLoc.dma b.xsem.sem) 0 ∗ owns (c : Thread nD τ) b.x fullShare X.X ∗ (∃ d, owns (c : Thread nD τ) (xDst b) fullShare d)
      ∗ (flyX c b X -∗ wpc c (K ⟨⟩) Q)) ⊢ wpc c (startX b >>= K) Q := by
  unfold startX flyX
  iintro ⟨Hq, Hx, ⟨%d, Hd⟩, Hk⟩
  imod (Transfers.mixedBatch_alloc' (Lvl := ℕ) (countersEmb (U := Pipeline.UD sig nD τ)) (c : Thread nD τ) () (fun _ : Fin 1 => (xDst b).view.dmaCredit)
    (fun _ => bring c (xDst b) b.x X.X) (sm := SemLoc.dma b.xsem.sem) (E := Set.univ)) $$ Hq with HB
  iapply (copy_gen (A := fun _ : Fin 1 => (xDst b).view.dmaCredit) (D := fun _ => bring c (xDst b) b.x X.X) (j := 0) (u := 0) (by decide) b.x (xDst b) X.X d rfl .rfl (Nat.zero_le _))
  isplitl [Hx]; · iexact Hx
  isplitl [Hd]; · iexact Hd
  isplitl [HB]; · iexact HB
  iexact Hk

theorem waitX_wp {c : Dev nD} {b : Bufs} {X : Data F} {α : Type} (K : PUnit → P F α) (Q : α → Asrt F) :
    iprop(flyX c b X ∗ (∃ W, owes (c : Thread nD τ) 0 W)
      ∗ (owns (c : Thread nD τ) (xDst b) fullShare X.X -∗ owns (c : Thread nD τ) b.x fullShare X.X -∗ semVal ((c : Thread nD τ), SemLoc.dma b.xsem.sem) 0
        -∗ (∃ W, owes (c : Thread nD τ) 0 W) -∗ wpc c (K ⟨⟩) Q)) ⊢ wpc c (waitX b >>= K) Q := by
  unfold waitX flyX
  iintro ⟨HB, HO, Hk⟩
  iapply (wait_all (A := fun _ : Fin 1 => (xDst b).view.dmaCredit) (D := fun _ => bring c (xDst b) b.x X.X) (u := 0) b.x (xDst b) b.hx.wordExact
    (b.hxp.wordExact_slice rfl _ wordsbf16_S256x6144_S72x6144_0_0) (fun _ => View.dmaCredit_pos _ (by decide))
    (by rw [Transfers.sumTo_succ _ (by decide), Transfers.sumTo_zero]))
  isplitl [HB]; · iexact HB
  isplitl [HO]; · iexact HO
  iintro HD Hv HO
  ihave HD := (Entails.of_eq (show bigSep (Finset.univ : Finset (Fin 1)) (fun _ => bring c (xDst b) b.x X.X) = bring c (xDst b) b.x X.X from
    (congrArg (fun S => bigSep S fun _ : Fin 1 => bring c (xDst b) b.x X.X) (show (Finset.univ : Finset (Fin 1)) = {0} from rfl)).trans (bigSep_singleton (i := (0 : Fin 1)) ..))) $$ HD
  unfold bring
  icases HD with ⟨H1, H2⟩
  iapply Hk $$ [H1] [H2] [Hv] [HO]
  · iexact H1
  · iexact H2
  · iexact Hv
  · iexact HO

/-! ## The hidden layer -/

/-- The block of chunk `p` of pair `i`. -/
def blockN (X : Data F) (i : ℕ) (p : Fin 2) : FVec F S80x256 .bf16 := blockOf (readsOf X fun _ => i) 0 p

/-- The hidden layer, block by block, with the rows below those in use. -/
def resH80 : FVec F S80x16384 .bf16 := fun x =>
  blockN X ((x 1).val / 512) ⟨(x 1).val / 256 % 2, Nat.mod_lt _ (by decide)⟩ (ValueIdx.ix2 (x 0) ⟨(x 1).val % 256, Nat.mod_lt _ (by decide)⟩)

/-- The hidden layer. -/
def resH : FVec F S72x16384 .bf16 := fun x =>
  resH80 X (ValueIdx.ix2 ⟨(x 0).val, by have : (x 0).val < 72 := (x 0).isLt; omega⟩ (x 1))

theorem trips2_eq : k0_t2_loop.trips = 32 := by decide

/-- The copy of pair `i`. -/
def hpN (i : ℕ) : Hp := hpD ⟨i % 32, by have := trips2_eq; omega⟩

theorem Hp.ext' {p q : Hp} (h : p.col = q.col) : p = q := by
  cases p; cases q; cases h; rfl

theorem hpD_col : ∀ t : Fin k0_t2_loop.trips, (hpD t).col = 512 * t.val := by decide +kernel
theorem hpL_col : ∀ (t : Fin k0_t1_loop.trips) (h : k0_cond2 t = 1#1), (hpL t h).col = 512 * (t.val - 1) := by decide +kernel
theorem cond2_iff : ∀ t : Fin k0_t1_loop.trips, k0_cond2 t = 1#1 ↔ 0 < t.val := by decide +kernel
theorem hpN_col {i : ℕ} (h : i < 32) : (hpN i).col = 512 * i := by
  unfold hpN
  rw [hpD_col]
  show 512 * (i % 32) = 512 * i
  omega
theorem hpD_eq (t : Fin k0_t2_loop.trips) : hpD t = hpN t.val :=
  Hp.ext' (by rw [hpD_col, hpN_col (by have := t.isLt; have := trips2_eq; omega)])

theorem inbM (i : ℕ) (p : Fin 2) : ∀ a, (![0, 512 * (i % 32) + 256 * p.val] : Fin 2 → ℕ) a + S80x256.size a ≤ S80x16384.size a := by
  intro a; fin_cases a <;> simp <;> omega
theorem inbLow (i : ℕ) : ∀ a, (![72, 512 * (i % 32)] : Fin 2 → ℕ) a + (![8, 512] : Fin 2 → ℕ) a ≤ S80x16384.size a := by
  intro a; fin_cases a <;> simp <;> omega

/-- The columns that chunk `p` of pair `i` writes. -/
def hMN (i : ℕ) (p : Fin 2) : Memref sig .tc .vmem S80x256 .bf16 :=
  b.hs.slice (Rect.unit (s := S80x16384) ![0, 512 * (i % 32) + 256 * p.val] S80x256.size (inbM i p)) (fun _ => rfl)
/-- The rows below those in use. -/
def lowM (i : ℕ) : Memref sig .tc .vmem ⟨2, ![8, 512]⟩ .bf16 :=
  b.hs.slice (Rect.unit (s := S80x16384) ![72, 512 * (i % 32)] (![8, 512] : Fin 2 → ℕ) (inbLow i)) (fun _ => rfl)

theorem hM_eq {e : Env} {i : ℕ} (h : ∀ p, e.col p = 512 * i + 256 * p.val) (hi : i < 32) (p : Fin 2) : hM b e p = hMN b i p := by
  have key : ∀ (n k : ℕ) (hn : ∀ a, (![0, n] : Fin 2 → ℕ) a + S80x256.size a ≤ S80x16384.size a)
      (hk : ∀ a, (![0, k] : Fin 2 → ℕ) a + S80x256.size a ≤ S80x16384.size a), n = k →
      (b.hs.slice (Rect.unit (s := S80x16384) ![0, n] S80x256.size hn) (fun _ => rfl) : Memref sig .tc .vmem S80x256 .bf16)
        = b.hs.slice (Rect.unit (s := S80x16384) ![0, k] S80x256.size hk) (fun _ => rfl) := by
    intro n k hn hk hnk; subst hnk; rfl
  exact key _ _ _ _ (by rw [h, Nat.mod_eq_of_lt hi])

theorem rect_M {i : ℕ} (hi : i < 32) (p : Fin 2) (x : S80x16384.Idx) :
    x ∈ (Rect.unit (s := S80x16384) ![0, 512 * (i % 32) + 256 * p.val] S80x256.size (inbM i p)).set ↔ (x 1).val / 256 = 2 * i + p.val := by
  have h0 : (x 0).val < 80 := (x 0).isLt
  have hp : p.val < 2 := p.isLt
  rw [Rect.mem_set_unit]
  constructor
  · intro h
    have h1 : 512 * (i % 32) + 256 * p.val ≤ (x 1).val := (h 1).1
    have h2 : (x 1).val < 512 * (i % 32) + 256 * p.val + 256 := (h 1).2
    omega
  · intro h a
    match a with
    | ⟨0, _⟩ => exact ⟨Nat.zero_le _, show (x 0).val < 0 + 80 by omega⟩
    | ⟨1, _⟩ => exact ⟨show 512 * (i % 32) + 256 * p.val ≤ (x 1).val by omega, show (x 1).val < 512 * (i % 32) + 256 * p.val + 256 by omega⟩

theorem rect_src {i : ℕ} (hi : i < 32) (x : S80x16384.Idx) :
    x ∈ (Rect.unit (s := S80x16384) ![0, (hpN i).col] S72x512.size (hpN i).hS).set ↔ (x 0).val < 72 ∧ (x 1).val / 512 = i := by
  rw [Rect.mem_set_unit]
  have hc := hpN_col hi
  constructor
  · intro h
    have h0 : (x 0).val < 0 + 72 := (h 0).2
    have h1 : (hpN i).col ≤ (x 1).val := (h 1).1
    have h2 : (x 1).val < (hpN i).col + 512 := (h 1).2
    omega
  · intro h a
    match a with
    | ⟨0, _⟩ => exact ⟨Nat.zero_le _, show (x 0).val < 0 + 72 by omega⟩
    | ⟨1, _⟩ => exact ⟨show (hpN i).col ≤ (x 1).val by omega, show (x 1).val < (hpN i).col + 512 by omega⟩

theorem rect_low {i : ℕ} (hi : i < 32) (x : S80x16384.Idx) :
    x ∈ (Rect.unit (s := S80x16384) ![72, 512 * (i % 32)] (![8, 512] : Fin 2 → ℕ) (inbLow i)).set ↔ 72 ≤ (x 0).val ∧ (x 1).val / 512 = i := by
  have h0 : (x 0).val < 80 := (x 0).isLt
  rw [Rect.mem_set_unit]
  constructor
  · intro h
    have h0 : 72 ≤ (x 0).val := (h 0).1
    have h1 : 512 * (i % 32) ≤ (x 1).val := (h 1).1
    have h2 : (x 1).val < 512 * (i % 32) + 512 := (h 1).2
    omega
  · intro h a
    match a with
    | ⟨0, _⟩ => exact ⟨h.1, show (x 0).val < 72 + 8 by omega⟩
    | ⟨1, _⟩ => exact ⟨show 512 * (i % 32) ≤ (x 1).val by omega, show (x 1).val < 512 * (i % 32) + 512 by omega⟩

theorem rect_dst {i : ℕ} (hi : i < 32) (x : S72x16384.Idx) :
    x ∈ (Rect.unit (s := S72x16384) ![0, (hpN i).col] S72x512.size (hpN i).hD).set ↔ (x 1).val / 512 = i := by
  have h0 : (x 0).val < 72 := (x 0).isLt
  rw [Rect.mem_set_unit]
  have hc := hpN_col hi
  constructor
  · intro h
    have h1 : (hpN i).col ≤ (x 1).val := (h 1).1
    have h2 : (x 1).val < (hpN i).col + 512 := (h 1).2
    omega
  · intro h a
    match a with
    | ⟨0, _⟩ => exact ⟨Nat.zero_le _, show (x 0).val < 0 + 72 by omega⟩
    | ⟨1, _⟩ => exact ⟨show (hpN i).col ≤ (x 1).val by omega, show (x 1).val < (hpN i).col + 512 by omega⟩

/-- A pair's columns of the hidden layer, in the rows in use. -/
def cutH (i : ℕ) : S72x512.Idx → Elt F .bf16 := fun z => resH80 X ((Rect.unit (s := S80x16384) ![0, (hpN i).col] S72x512.size (hpN i).hS).emb z)

/-- A pair's rows below those in use. -/
def low (i : ℕ) : Asrt F := iprop(∃ d, owns (c : Thread nD τ) (lowM b i) fullShare d)
/-- A pair's columns, at anything. -/
def cols (i : ℕ) : Asrt F := iprop((∃ d, owns (c : Thread nD τ) (hMN b i 0) fullShare d) ∗ ∃ d, owns (c : Thread nD τ) (hMN b i 1) fullShare d)
/-- A pair's columns, with its blocks. -/
def fin (i : ℕ) : Asrt F := iprop(owns (c : Thread nD τ) (hMN b i 0) fullShare (blockN X i 0) ∗ owns (c : Thread nD τ) (hMN b i 1) fullShare (blockN X i 1))

theorem blockN_cut {i : ℕ} (hi : i < 32) (p : Fin 2) :
    blockN X i p = fun z => resH80 X ((Rect.unit (s := S80x16384) ![0, 512 * (i % 32) + 256 * p.val] S80x256.size (inbM i p)).emb z) := by
  funext z
  have hz : (z 1).val < 256 := (z 1).isLt
  have hp : p.val < 2 := p.isLt
  unfold resH80
  have e0 : ((Rect.unit (s := S80x16384) ![0, 512 * (i % 32) + 256 * p.val] S80x256.size (inbM i p)).emb z 1).val = 512 * (i % 32) + 256 * p.val + 1 * (z 1).val := rfl
  have e1 : ((Rect.unit (s := S80x16384) ![0, 512 * (i % 32) + 256 * p.val] S80x256.size (inbM i p)).emb z 1).val / 512 = i := by rw [e0]; omega
  have e2 : (⟨((Rect.unit (s := S80x16384) ![0, 512 * (i % 32) + 256 * p.val] S80x256.size (inbM i p)).emb z 1).val / 256 % 2, Nat.mod_lt _ (by decide)⟩ : Fin 2) = p :=
    Fin.ext (by show _ / 256 % 2 = p.val; rw [e0]; omega)
  rw [e1, e2]
  congr 1
  funext a; apply Fin.ext
  match a with
  | ⟨0, _⟩ => show (z 0).val = 0 + 1 * (z 0).val; omega
  | ⟨1, _⟩ => show (z 1).val = (512 * (i % 32) + 256 * p.val + 1 * (z 1).val) % 256; omega

/-- The blocks of a pair are the columns that are copied out, and rows below. -/
theorem fin_src {i : ℕ} (hi : i < 32) : fin c b X i ⊢ iprop(owns (c : Thread nD τ) (hSrc b (hpN i)) fullShare (cutH X i) ∗ low c b i) := by
  unfold fin low
  rw [blockN_cut X hi 0, blockN_cut X hi 1]
  refine (gather (m := b.hs) _ _ (fun _ => rfl) (fun _ => rfl) (rect_M hi 0) (rect_M hi 1) (by intro x h h'; simp at h h'; omega) (resH80 X)).trans ?_
  refine (spread (m := b.hs) _ _ (fun _ => rfl) (fun _ => rfl) (rect_src hi) (rect_low hi) (by intro x h h'; omega)
    (by intro x; have : (x 0).val < 80 := (x 0).isLt; simp; omega) (resH80 X)).trans ?_
  iintro ⟨H1, H2⟩
  isplitl [H1]; · iexact H1
  iexists _
  iexact H2

/-- The elements of a pair's columns. -/
def colset (i : ℕ) : Finset (Idx (b.hs.view.loc (c : Thread nD τ))) := pset b.hs c fun x => (x 1).val / 512 = i

theorem cols_of_any {i : ℕ} (hi : i < 32) : (anyAt (b.hs.view.loc (c : Thread nD τ)) (colset c b i) : Asrt F) ⊢ cols c b i :=
  any_parts (m := b.hs) _ _ (fun _ => rfl) (fun _ => rfl) (rect_M hi 0) (rect_M hi 1) (by intro x h h'; simp at h h'; omega) (by intro x; simp; omega)

theorem any_of_src {i : ℕ} (hi : i < 32) : iprop(owns (c : Thread nD τ) (hSrc b (hpN i)) fullShare (cutH X i) ∗ low c b i)
    ⊢ (anyAt (b.hs.view.loc (c : Thread nD τ)) (colset c b i) : Asrt F) := by
  refine .trans ?_ (parts_any (m := b.hs) _ _ (fun _ => rfl) (fun _ => rfl) (rect_src hi) (rect_low hi) (by intro x h h'; omega)
    (by intro x; have : (x 0).val < 80 := (x 0).isLt; omega))
  unfold low
  iintro ⟨H1, H2⟩
  isplitl [H1]
  · iexists _; iexact H1
  iexact H2

theorem famH : (∀ i ∈ Finset.range 32, ∀ j ∈ Finset.range 32, i ≠ j → Disjoint (colset c b i) (colset c b j))
    ∧ (b.hs.view.set : Finset (Idx (b.hs.view.loc (c : Thread nD τ)))) = (Finset.range 32).biUnion (colset c b) :=
  family (b.hs.view.emb) (fun x => (x 1).val / 512) 32 (colset c b) b.hs.view.set (fun j _ y => mem_pset b.hs y) (fun y => mem_set b.hs y)
    (fun x => by have : (x 1).val < 16384 := (x 1).isLt; show (x 1).val / 512 < 32; omega)

/-- The target columns of pair `i`. -/
def dstset (i : ℕ) : Finset (Idx (b.ho.view.loc (c : Thread nD τ))) := (hDst b (hpN i)).view.set

theorem famD : (∀ i ∈ Finset.range 32, ∀ j ∈ Finset.range 32, i ≠ j → Disjoint (dstset c b i) (dstset c b j))
    ∧ (b.ho.view.set : Finset (Idx (b.ho.view.loc (c : Thread nD τ)))) = (Finset.range 32).biUnion (dstset c b) :=
  family (b.ho.view.emb) (fun x => (x 1).val / 512) 32 (dstset c b) b.ho.view.set
    (fun j hj y => by unfold dstset; rw [show ((hDst b (hpN j)).view.set : Finset (Idx (b.ho.view.loc (c : Thread nD τ)))) = pset b.ho c _ from slice_set b.ho _ (fun _ => rfl) (rect_dst hj)]; exact mem_pset b.ho y)
    (fun y => mem_set b.ho y)
    (fun x => by have : (x 1).val < 16384 := (x 1).isLt; show (x 1).val / 512 < 32; omega)

/-- A pair's target, at anything. -/
def dsts (i : ℕ) : Asrt F := iprop(∃ d, owns (c : Thread nD τ) (hDst b (hpN i)) fullShare d)

theorem dsts_of_any : (anyAt (b.ho.view.loc (c : Thread nD τ)) b.ho.view.set : Asrt F) ⊢ bigSep (Finset.range 32) (dsts c b) := by
  rw [(famD c b).2]
  exact (split_any _ 32 (famD c b).1).trans (bigSep_mono fun j _ => owns_any c (hDst b (hpN j)))

theorem cols_of_whole : (anyAt (b.hs.view.loc (c : Thread nD τ)) b.hs.view.set : Asrt F) ⊢ bigSep (Finset.range 32) (cols c b) := by
  rw [(famH c b).2]
  exact (split_any _ 32 (famH c b).1).trans (bigSep_mono fun j hj => cols_of_any c b (Finset.mem_range.mp hj))

/-- The copied columns are the hidden layer. -/
theorem res_of_dsts (f : Buf (Elt F) (b.ho.view.loc (c : Thread nD τ))) (hf : b.ho.view.read (Elt F) f = resH X) :
    (bigSep (Finset.range 32) fun i => owns (c : Thread nD τ) (hDst b (hpN i)) fullShare (cutH X i)) ⊢ (iprop(b.ho.view.loc (c : Thread nD τ) ↦[b.ho.view.set]{fullShare} f) : Asrt F) := by
  have e : ∀ i, (owns (c : Thread nD τ) (hDst b (hpN i)) fullShare (cutH X i) : Asrt F) = iprop(b.ho.view.loc (c : Thread nD τ) ↦[dstset c b i]{fullShare} f) := by
    intro i
    refine owns_eq c (hDst b (hpN i)) fullShare (cutH X i) f ?_
    funext z
    refine (congrFun hf _).trans ?_
    unfold resH cutH
    refine congrArg (resH80 X) ?_
    funext a; apply Fin.ext
    match a with
    | ⟨0, _⟩ => rfl
    | ⟨1, _⟩ => rfl
  rw [bigSep_congr fun i _ => e i, (famD c b).2]
  exact Entails.of_eq (pointsTo_biUnion _ _ (famD c b).1).symm

theorem whole_of_src : (bigSep (Finset.range 32) fun i => iprop(owns (c : Thread nD τ) (hSrc b (hpN i)) fullShare (cutH X i) ∗ low c b i))
    ⊢ (anyAt (b.hs.view.loc (c : Thread nD τ)) b.hs.view.set : Asrt F) := by
  refine (bigSep_mono fun i hi => any_of_src c b X (Finset.mem_range.mp hi)).trans ?_
  rw [(famH c b).2]
  exact join_any _ 31 (famH c b).1

end Cert.UpIdeal.Up

end
-- ==== Proof.UpHid.lean ====
/-
  The copies of the hidden layer: at the start of trip `t` the columns of the pairs before `t - 1` are on their way out,
  those of pair `t - 1` hold its blocks, and those from `t` on hold anything.
-/
module

public import proofs.«01_k».proof.Proof.UpParts

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]
variable (c : Dev nD) (b : Bufs) (X : Data F)

/-- What one copy of the hidden layer counts. -/
def amtH : ℕ := (hDst b (hpN 0)).view.dmaCredit

theorem amtH_eq (p : Hp) : (hDst b p).view.dmaCredit = amtH b := rfl

/-- What the copy of pair `j` brings. -/
abbrev delivH (j : Fin 32) : Asrt F := bring c (hDst b (hpN j.val)) (hSrc b (hpN j.val)) (cutH X j.val)

/-- `j` copies started, `u` units waited for. -/
abbrev batchH (j u : ℕ) : Asrt F := batchOf c b.hsem.sem (fun _ : Fin 32 => amtH b) (delivH c b X) j u

/-- A pair's parts when `t` copies have started. -/
def hset (t i : ℕ) : Asrt F := if i < t then low c b i else iprop(cols c b i ∗ dsts c b i)

/-- `t` copies have started. -/
def HA (t : ℕ) : Asrt F := iprop(batchH c b X t 0 ∗ bigSep (Finset.range 32) (hset c b t))
/-- `t` copies have started, and pair `t`'s columns are elsewhere. -/
def HB (t : ℕ) : Asrt F := iprop(batchH c b X t 0 ∗ dsts c b t ∗ bigSep ((Finset.range 32).erase t) (hset c b t))

/-- At the start of trip `t`. -/
def hst : ℕ → Asrt F
  | 0 => HA c b X 0
  | t + 1 => iprop(HB c b X t ∗ fin c b X t)

theorem big_take {n i : ℕ} (h : i < n) (Φ : ℕ → Asrt F) : bigSep (Finset.range n) Φ = iprop(Φ i ∗ bigSep ((Finset.range n).erase i) Φ) :=
  bigSep_erase (Finset.mem_range.mpr h)

variable {c b X}

theorem HA_open {t : ℕ} (h : t < 32) : HA c b X t ⊢ iprop(HB c b X t ∗ cols c b t) := by
  unfold HA HB
  rw [big_take h, show (hset c b t t : Asrt F) = iprop(cols c b t ∗ dsts c b t) from if_neg (by omega)]
  iintro ⟨HB, ⟨Hc, Hd⟩, HS⟩
  isplitr [Hc]; swap
  · iexact Hc
  isplitl [HB]; · iexact HB
  isplitl [Hd]; · iexact Hd
  iexact HS

theorem HA_take {i : ℕ} (h : i < 32) : HA c b X 0 ⊢ iprop(cols c b i ∗ (cols c b i -∗ HA c b X 0)) := by
  unfold HA
  rw [big_take h, show (hset c b 0 i : Asrt F) = iprop(cols c b i ∗ dsts c b i) from if_neg (by omega)]
  iintro ⟨HB, ⟨Hc, Hd⟩, HS⟩
  isplitl [Hc]; · iexact Hc
  iintro Hc
  isplitl [HB]; · iexact HB
  isplitr [HS]; swap
  · iexact HS
  isplitl [Hc]; · iexact Hc
  iexact Hd

/-- Starting a pair's copy. -/
theorem startH_wp {t : ℕ} (h : t < 32) {α : Type} (K : PUnit → P F α) (Q : α → Asrt F) :
    iprop(HB c b X t ∗ fin c b X t ∗ (HA c b X (t + 1) -∗ wpc c (K ⟨⟩) Q)) ⊢ wpc c (startH b (hpN t) >>= K) Q := by
  unfold HB startH dsts
  iintro ⟨⟨HB, ⟨%d, Hd⟩, HS⟩, Hf, Hk⟩
  ihave Hf := (fin_src c b X h) $$ Hf
  icases Hf with ⟨Hs, Hl⟩
  iapply (copy_gen (A := fun _ : Fin 32 => amtH b) (D := delivH c b X) (j := t) (u := 0) h (hSrc b (hpN t)) (hDst b (hpN t)) (cutH X t) d (amtH_eq b _) .rfl (Nat.zero_le _))
  isplitl [Hs]; · iexact Hs
  isplitl [Hd]; · iexact Hd
  isplitl [HB]; · iexact HB
  iintro HB
  iapply Hk
  unfold HA
  isplitl [HB]; · iexact HB
  rw [big_take h, show (hset c b (t + 1) t : Asrt F) = low c b t from if_pos (by omega)]
  isplitl [Hl]; · iexact Hl
  iapply (Entails.of_eq (bigSep_congr (Φ := hset c b t) (Ψ := hset c b (t + 1)) fun i hi => by
    have hne := (Finset.mem_erase.mp hi).1
    unfold hset
    by_cases h1 : i < t
    · rw [if_pos h1, if_pos (by omega)]
    · rw [if_neg h1, if_neg (by omega)]))
  iexact HS

/-- The copy of a trip. -/
theorem tripH_wp (t : Fin k0_t1_loop.trips) (ht : t.val < 31) {α : Type} (K : PUnit → P F α) (Q : α → Asrt F) :
    iprop(hst c b X t.val ∗ (HA c b X t.val -∗ wpc c (K ⟨⟩) Q)) ⊢ wpc c (tripH b t >>= K) Q := by
  unfold tripH
  by_cases h : k0_cond2 t = 1#1
  · have h0 := (cond2_iff t).mp h
    obtain ⟨n, hn⟩ : ∃ n, t.val = n + 1 := ⟨t.val - 1, by omega⟩
    rw [dif_pos h, hn, show hpL t h = hpN n from Hp.ext' (by rw [hpL_col, hpN_col (by omega), hn]; rfl)]
    unfold hst
    iintro ⟨⟨H1, H2⟩, Hk⟩
    iapply (startH_wp (X := X) (t := n) (by omega))
    isplitl [H1]; · iexact H1
    isplitl [H2]; · iexact H2
    iexact Hk
  · have h0 : t.val = 0 := by have := mt (cond2_iff t).mpr h; omega
    rw [dif_neg h, h0, show ((Pure.pure ⟨⟩ : P F PUnit) >>= K) = K ⟨⟩ from rfl]
    unfold hst
    iintro ⟨H1, Hk⟩
    iapply Hk
    iexact H1

/-- While the last loop waits. -/
def drainI (c : Dev nD) (b : Bufs) (X : Data F) (j : ℕ) (_ : PUnit) : Asrt F :=
  if j < 32 then iprop(batchH c b X 32 (j * amtH b) ∗ ∃ W, owes (c : Thread nD τ) 0 W)
  else iprop(bigSep Finset.univ (delivH c b X) ∗ semVal ((c : Thread nD τ), SemLoc.dma b.hsem.sem) 0 ∗ ∃ W, owes (c : Thread nD τ) 0 W)

theorem ret_wp {α : Type} (a : α) (Q : α → Asrt F) : Q a ⊢ wpc c (Pure.pure a : P F α) Q := by
  exact fupd_intro (P := Q a)

theorem drain_step (t : Fin k0_t2_loop.trips) (x : PUnit) :
    drainI c b X t.val x ⊢ wpc c ((waitH b (hpD t) >>= fun _ => Pure.pure ⟨⟩) : P F PUnit) (drainI c b X (t.val + 1)) := by
  have ht : t.val < 32 := by have := t.isLt; have := trips2_eq; omega
  unfold waitH drainI
  rw [if_pos ht]
  by_cases h : t.val + 1 < 32
  · rw [if_pos h]
    iintro ⟨HB, HO⟩
    iapply (wait_gen (A := fun _ : Fin 32 => amtH b) (D := delivH c b X) (u := t.val * amtH b) (hSrc b (hpD t)) (hDst b (hpD t)) (b.hhs.wordExact_slice rfl _ (hpD t).wS) (b.hho.wordExact_slice rfl _ (hpD t).wD)
      (by rw [Transfers.sumTo_const _ le_rfl, amtH_eq, ← Nat.succ_mul]; exact Nat.mul_le_mul_right _ (by omega)))
    isplitl [HB]; · iexact HB
    isplitl [HO]; · iexact HO
    iintro HB HO
    iapply (ret_wp (c := c) _ _)
    isplitl [HB]
    · rw [amtH_eq, ← Nat.succ_mul]
      iexact HB
    iexact HO
  · rw [if_neg h]
    iintro ⟨HB, HO⟩
    iapply (wait_all (A := fun _ : Fin 32 => amtH b) (D := delivH c b X) (u := t.val * amtH b) (hSrc b (hpD t)) (hDst b (hpD t)) (b.hhs.wordExact_slice rfl _ (hpD t).wS) (b.hho.wordExact_slice rfl _ (hpD t).wD)
      (fun _ => View.dmaCredit_pos (hDst b (hpN 0)).view (by decide))
      (by rw [Transfers.sumTo_const _ le_rfl, amtH_eq, ← Nat.succ_mul, show t.val.succ = 32 by omega]))
    isplitl [HB]; · iexact HB
    isplitl [HO]; · iexact HO
    iintro HD Hv HO
    iapply (ret_wp (c := c) _ _)
    isplitl [HD]; · iexact HD
    isplitl [Hv]; · iexact Hv
    iexact HO

theorem bigSep_fin {n : ℕ} (Φ : ℕ → Asrt F) : bigSep (Finset.univ : Finset (Fin n)) (fun j => Φ j.val) = bigSep (Finset.range n) Φ := by
  rw [show Finset.range n = (Finset.univ : Finset (Fin n)).map Fin.valEmbedding from by
    ext i
    simp only [Finset.mem_range, Finset.mem_map, Finset.mem_univ, true_and, Fin.valEmbedding_apply]
    exact ⟨fun h => ⟨⟨i, h⟩, rfl⟩, fun ⟨j, hj⟩ => hj ▸ j.isLt⟩, bigSep_map]
  rfl

/-- After the last loop: the hidden layer is out. -/
theorem drain_wp (f : Buf (Elt F) (b.ho.view.loc (c : Thread nD τ))) (hf : b.ho.view.read (Elt F) f = resH X)
    {α : Type} (K : PUnit → P F α) (Q : α → Asrt F) :
    iprop(HA c b X 32 ∗ (∃ W, owes (c : Thread nD τ) 0 W)
        ∗ (iprop((b.ho.view.loc (c : Thread nD τ) ↦[b.ho.view.set]{fullShare} f) ∗ anyAt (b.hs.view.loc (c : Thread nD τ)) b.hs.view.set
            ∗ semVal ((c : Thread nD τ), SemLoc.dma b.hsem.sem) 0 ∗ ∃ W, owes (c : Thread nD τ) 0 W) -∗ wpc c (K ⟨⟩) Q))
      ⊢ wpc c (Scf.Loop.for k0_t2_loop k0_t2_ok ⟨⟩ (fun t _ => (waitH b (hpD t) >>= fun _ => Pure.pure ⟨⟩ : P F PUnit)) >>= K) Q := by
  unfold HA
  iintro ⟨⟨HB, HS⟩, HO, Hk⟩
  iapply (Scf.wp_for_bind _ _ _ _ _ _ _ _ _ (drainI c b X) (fun t x => drain_step (X := X) t x)) $$ [HB HO]
  · unfold drainI
    rw [if_pos (by decide), Nat.zero_mul]
    isplitl [HB]; · iexact HB
    iexact HO
  iintro %x HI
  obtain ⟨⟩ := x
  rw [show (Scf.trips k0_t2_loop.lb k0_t2_loop.ub k0_t2_loop.st) = 32 from trips2_eq]
  ihave HI := (show drainI c b X 32 PUnit.unit ⊢ iprop(bigSep Finset.univ (delivH c b X) ∗ semVal ((c : Thread nD τ), SemLoc.dma b.hsem.sem) 0
    ∗ ∃ W, owes (c : Thread nD τ) 0 W) from Entails.of_eq (if_neg (by decide))) $$ HI
  icases HI with ⟨HD, Hv, HO⟩
  iapply Hk
  ihave HS := (Entails.of_eq (bigSep_congr (s := Finset.range 32) (Φ := hset c b 32) (Ψ := low c b)
    (fun i hi => if_pos (Finset.mem_range.mp hi)))) $$ HS
  ihave HD := (show bigSep Finset.univ (delivH c b X)
    ⊢ iprop((bigSep (Finset.range 32) fun j => owns (c : Thread nD τ) (hDst b (hpN j)) fullShare (cutH X j))
      ∗ bigSep (Finset.range 32) fun j => owns (c : Thread nD τ) (hSrc b (hpN j)) fullShare (cutH X j)) from
    Entails.of_eq ((bigSep_fin (fun j => bring c (hDst b (hpN j)) (hSrc b (hpN j)) (cutH X j))).trans (bigSep_sep _ _ _))) $$ HD
  icases HD with ⟨H1, H2⟩
  isplitl [H1]
  · iapply (res_of_dsts c b X f hf)
    iexact H1
  isplitl [H2 HS]
  · iapply (show iprop((bigSep (Finset.range 32) fun j => owns (c : Thread nD τ) (hSrc b (hpN j)) fullShare (cutH X j)) ∗ bigSep (Finset.range 32) (low c b))
      ⊢ (anyAt (b.hs.view.loc (c : Thread nD τ)) b.hs.view.set : Asrt F) from (Entails.of_eq (bigSep_sep _ _ _).symm).trans (whole_of_src c b X))
    isplitl [H2]; · iexact H2
    iexact HS
  isplitl [Hv]; · iexact Hv
  iexact HO

end Cert.UpIdeal.Up

end
-- ==== Proof.UpLoop.lean ====
/-
  The body, from the copies of the first three pairs to the last copy of the hidden layer: at the start of trip `t` the
  slot of pair `t` is full, the next two pairs are in flight, the fourth slot is free, and the blocks of the pairs before
  `t` are written.
-/
module

public import proofs.«01_k».proof.Proof.UpHid

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## Pairs by number -/

theorem rt_N (X : Data F) (pr : Fin 2 → ℕ) (w p u : Fin 2) (k : ℕ) (sc) :
    rt (readsOf X pr) w p u k sc = rt (readsOf X fun _ => pr w) 0 p u k sc := rfl
theorem chain_N (X : Data F) (pr : Fin 2 → ℕ) (w p u : Fin 2) (sc) (n : ℕ) :
    chain (readsOf X pr) w p u sc n = chain (readsOf X fun _ => pr w) 0 p u sc n := by
  induction n with
  | zero => rfl
  | succ n ih => unfold chain; rw [ih]; rfl
theorem st_N (X : Data F) (pr : Fin 2 → ℕ) (w p : Fin 2) : (readsOf X pr).st w p = (readsOf X fun _ => pr w).st 0 p := rfl
theorem scOf_N (X : Data F) (pr : Fin 2 → ℕ) (w p : Fin 2) : scOf (readsOf X pr) w p = scOf (readsOf X fun _ => pr w) 0 p := rfl
theorem mid_N (X : Data F) (pr : Fin 2 → ℕ) (w : Fin 2) (sc out) : mid (readsOf X pr) w sc out = mid (readsOf X fun _ => pr w) 0 sc out := by
  unfold mid
  congr 1
theorem blockOf_N (X : Data F) (pr : Fin 2 → ℕ) (w : Fin 2) : blockOf (readsOf X pr) w = blockN X (pr w) := by
  funext p
  unfold blockN blockOf
  rw [chain_N X pr w p 0, chain_N X pr w p 1, st_N]

/-- Between pairs. -/
def midN (X : Data F) (i : ℕ) (s1 : Fin 2 → FVec F S1x48x256 .f32) (out : Fin 2 → FVec F S80x256 .bf16) : Tab F :=
  mid (readsOf X fun _ => i) 0 (scs (scOf (readsOf X fun _ => i) 0 0) s1) out

/-- Pairs `t` and `t + 1`. -/
def prs (t : ℕ) : Fin 2 → ℕ := fun w => t + w.val

/-- Two columns. -/
def two (x y : FVec F S80x256 .bf16) : Fin 2 → FVec F S80x256 .bf16
  | 0 => x
  | 1 => y

theorem envL_sl : ∀ (t : Fin k0_t1_loop.trips) (w : Fin 2), (envL t).sl w = (t.val + w.val) % 4 := by decide +kernel
theorem envL_col : ∀ (t : Fin k0_t1_loop.trips) (p : Fin 2), (envL t).col p = 512 * t.val + 256 * p.val := by decide +kernel

theorem trun_head' (X : Data F) (sc : Fin 2 → Fin 2 → FVec F S1x48x256 .f32) (out) :
    trun (readsOf X fun _ => 0) env0 headI (tab0 sc out) = some (midN X 0 (sc 1) out) := trun_head _ _ _ _

theorem trun_body' (X : Data F) (t : Fin k0_t1_loop.trips) (s1) (out) :
    trun (readsOf X (prs t.val)) (envL t) bodyI (midN X t.val s1 out)
      = some (midN X (t.val + 1) (scOf (readsOf X fun _ => t.val) 0 1) (blockN X t.val)) := by
  have h := trun_body (readsOf X (prs t.val)) (envL t) s1 out
  rw [mid_N, mid_N, scOf_N, scOf_N, scOf_N, blockOf_N] at h
  exact h

theorem trun_tail' (X : Data F) (s1) (out) :
    ∃ sc, trun (readsOf X fun _ => 31) envE tailI (midN X 31 s1 out) = some (tab0 sc (blockN X 31)) :=
  ⟨_, (trun_tail (readsOf X fun _ => 31) envE s1 out).trans (by rw [blockOf_N])⟩

/-! ## The ring -/

variable (c : Dev nD) (b : Bufs) (X : Data F)

/-- The columns of the pairs of a set, in the arrays. -/
def srcs (A : Finset ℕ) : Asrt F := bigSep A fun i => src c b X (cpN i)
/-- The pairs whose columns no copy reads at the start of trip `t`. -/
def St (t : ℕ) : Finset ℕ := (Finset.range 32).filter fun i => i ≠ t + 1 ∧ i ≠ t + 2
/-- A pair's copies in flight, or its slot free when there is no such pair. -/
def fly' (i : ℕ) : Asrt F := if i < 32 then fly c b X (cpN i) else free c b (cpN i)
def padN (i : ℕ) : Asrt F := pad c b (cpN i).hsl
def semN (i : ℕ) : Asrt F := semVal ((c : Thread nD τ), SemLoc.dma (cpSem b (cpN i))) 0

/-- At the start of trip `t`. -/
def ring (t : ℕ) : Asrt F :=
  iprop(slot c b X t ∗ semN c b t ∗ fly' c b X (t + 1) ∗ padN c b (t + 1) ∗ fly' c b X (t + 2) ∗ padN c b (t + 2)
    ∗ free c b (cpN (t + 3)) ∗ padN c b (t + 3) ∗ srcs c b X (St t) ∗ (∃ W, owes (c : Thread nD τ) 0 W))

/-- Beside the two slots that trip `t` reads. -/
def rest (t : ℕ) : Asrt F :=
  iprop(semN c b t ∗ semN c b (t + 1) ∗ fly' c b X (t + 2) ∗ padN c b (t + 2)
    ∗ fly' c b X (t + 3) ∗ padN c b (t + 3) ∗ srcs c b X (St (t + 1)) ∗ (∃ W, owes (c : Thread nD τ) 0 W))

variable {c b X}

theorem pad_congr {p q : Cp} (h : p.sl = q.sl) : (pad c b p.hsl : Asrt F) = pad c b q.hsl := by
  cases p; cases q; cases h; rfl
theorem padN_congr {i j : ℕ} (h : i % 4 = j % 4) : (padN c b i : Asrt F) = padN c b j := pad_congr (by rw [cpN_sl, cpN_sl, h])

theorem srcs_insert {A : Finset ℕ} {i : ℕ} (h : i ∉ A) : srcs c b X (insert i A) = iprop(src c b X (cpN i) ∗ srcs c b X A) :=
  bigSep_insert h

/-- Between the waits and the starts of trip `t`. -/
theorem St_wait {t : ℕ} (h : t < 31) : insert (t + 1) (St t) = (Finset.range 32).filter fun i => i ≠ t + 2 := by
  ext i; simp only [St, Finset.mem_insert, Finset.mem_filter, Finset.mem_range]; omega
theorem St_start {t : ℕ} (h : t < 29) : insert (t + 3) (St (t + 1)) = (Finset.range 32).filter fun i => i ≠ t + 2 := by
  ext i; simp only [St, Finset.mem_insert, Finset.mem_filter, Finset.mem_range]; omega
theorem St_keep {t : ℕ} (h : 29 ≤ t) : St (t + 1) = (Finset.range 32).filter fun i => i ≠ t + 2 := by
  ext i; simp only [St, Finset.mem_filter, Finset.mem_range]; omega

/-- The copies of a trip. -/
theorem copies_wp (t : Fin k0_t1_loop.trips) {α : Type} (K : PUnit → P F α) (Q : α → Asrt F) :
    iprop(ring c b X t.val ∗ hst c b X t.val ∗ (iprop(slot c b X t.val ∗ slot c b X (t.val + 1) ∗ rest c b X t.val ∗ HA c b X t.val) -∗ wpc c (K ⟨⟩) Q))
      ⊢ wpc c (tripCopies b t >>= K) Q := by
  have ht : t.val < 31 := by have := t.isLt; have := trips_eq; omega
  unfold tripCopies tripRing ring
  rw [cpL1_eq, bind_assoc, bind_assoc, show (fly' c b X (t.val + 1) : Asrt F) = fly c b X (cpN (t.val + 1)) from if_pos (by omega)]
  iintro ⟨⟨Hs, Hv, Hf1, Hp1, Hf2, Hp2, Hf3, Hp3, HS, HO⟩, HH, Hk⟩
  iapply (wait_wp (cpN (t.val + 1)))
  isplitl [Hf1]; · iexact Hf1
  isplitl [HO]; · iexact HO
  iintro Hfull Hsrc Hv1 HO
  ihave Hp1 := (show padN c b (t.val + 1) ⊢ (pad c b (cpN (t.val + 1)).hsl : Asrt F) from .rfl) $$ Hp1
  ihave Hv1 := (show semVal ((c : Thread nD τ), SemLoc.dma (cpSem b (cpN (t.val + 1)))) 0 ⊢ (semN c b (t.val + 1) : Asrt F) from .rfl) $$ Hv1
  ihave HS := (show iprop(src c b X (cpN (t.val + 1)) ∗ srcs c b X (St t.val)) ⊢ srcs c b X ((Finset.range 32).filter fun i => i ≠ t.val + 2) from
    by rw [← St_wait ht, srcs_insert (by simp [St])]) $$ [Hsrc HS]
  · isplitl [Hsrc]; · iexact Hsrc
    iexact HS
  by_cases h : k0_cond1 t = 1#1
  · have h9 := (cond_iff t).mp h
    rw [dif_pos h, cpL3_eq]
    ihave HS := (show srcs c b X ((Finset.range 32).filter fun i => i ≠ t.val + 2) ⊢ iprop(src c b X (cpN (t.val + 3)) ∗ srcs c b X (St (t.val + 1))) from
      by rw [← St_start h9, srcs_insert (by simp [St])]) $$ HS
    icases HS with ⟨Hsrc, HS⟩
    iapply (start_wp (X := X) (cpN (t.val + 3)))
    isplitl [Hsrc]; · iexact Hsrc
    isplitl [Hf3]; · iexact Hf3
    iintro Hf3
    iapply (tripH_wp (X := X) t ht)
    isplitl [HH]; · iexact HH
    iintro HH
    iapply Hk
    isplitl [Hs]; · iexact Hs
    isplitl [Hfull Hp1]
    · unfold slot
      isplitl [Hfull]; · iexact Hfull
      iexact Hp1
    isplitr [HH]; swap
    · iexact HH
    iapply (show _ ⊢ rest c b X t.val from by
      unfold rest
      rw [show (fly' c b X (t.val + 3) : Asrt F) = fly c b X (cpN (t.val + 3)) from if_pos (by omega)])
    isplitl [Hv]; · iexact Hv
    isplitl [Hv1]; · iexact Hv1
    isplitl [Hf2]; · iexact Hf2
    isplitl [Hp2]; · iexact Hp2
    isplitl [Hf3]; · iexact Hf3
    isplitl [Hp3]; · iexact Hp3
    isplitl [HS]; · iexact HS
    iexact HO
  · have h9 : 29 ≤ t.val := by have := mt (cond_iff t).mpr h; omega
    rw [dif_neg h]
    iapply (show wpc c (tripH b t >>= K) Q ⊢ wpc c ((Pure.pure ⟨⟩ : P F PUnit) >>= fun _ => tripH b t >>= K) Q from .rfl)
    iapply (tripH_wp (X := X) t ht)
    isplitl [HH]; · iexact HH
    iintro HH
    iapply Hk
    isplitl [Hs]; · iexact Hs
    isplitl [Hfull Hp1]
    · unfold slot
      isplitl [Hfull]; · iexact Hfull
      iexact Hp1
    isplitr [HH]; swap
    · iexact HH
    iapply (show _ ⊢ rest c b X t.val from by
      unfold rest
      rw [show (fly' c b X (t.val + 3) : Asrt F) = free c b (cpN (t.val + 3)) from if_neg (by omega), St_keep h9])
    isplitl [Hv]; · iexact Hv
    isplitl [Hv1]; · iexact Hv1
    isplitl [Hf2]; · iexact Hf2
    isplitl [Hp2]; · iexact Hp2
    isplitl [Hf3]; · iexact Hf3
    isplitl [Hp3]; · iexact Hp3
    isplitl [HS]; · iexact HS
    iexact HO

/-- A slot read for the last time. -/
theorem slot_done (t : ℕ) : iprop(slot c b X t ∗ semN c b t) ⊢ iprop(free c b (cpN t) ∗ padN c b t) := by
  unfold slot padN semN
  iintro ⟨⟨H, Hp⟩, Hv⟩
  isplitr [Hp]; swap
  · iexact Hp
  iapply (free_of_full (X := X) (cpN t))
  isplitl [H]; · iexact H
  iexact Hv

/-- To the next trip. -/
theorem ring_next (t : ℕ) : iprop(slot c b X t ∗ slot c b X (t + 1) ∗ rest c b X t) ⊢ ring c b X (t + 1) := by
  unfold rest ring
  rw [free_N (c := c) (b := b) (F := F) (show (t + 1 + 3) % 4 = t % 4 by omega), padN_congr (c := c) (b := b) (F := F) (show (t + 1 + 3) % 4 = t % 4 by omega)]
  iintro ⟨Hs, Hs1, Hv, Hv1, Hf2, Hp2, Hf3, Hp3, HS, HO⟩
  ihave HD := (slot_done (X := X) (c := c) (b := b) t) $$ [Hs Hv]
  · isplitl [Hs]; · iexact Hs
    iexact Hv
  icases HD with ⟨Hf, Hp⟩
  isplitl [Hs1]; · iexact Hs1
  isplitl [Hv1]; · iexact Hv1
  isplitl [Hf2]; · iexact Hf2
  isplitl [Hp2]; · iexact Hp2
  isplitl [Hf3]; · iexact Hf3
  isplitl [Hp3]; · iexact Hp3
  isplitl [Hf]; · iexact Hf
  isplitl [Hp]; · iexact Hp
  isplitl [HS]; · iexact HS
  iexact HO

/-- The end of a program. -/
theorem wpc_ret {α : Type} (a : α) (Q : α → Asrt F) : Q a ⊢ wpc c (Pure.pure a : P F α) Q := by
  exact fupd_intro (P := Q a)

/-- The exit of the drained matrix units. -/
theorem wpc_exit {u : Mxu F} (hd : u.Drained) {α : Type} (K : PUnit → P F α) (Q : α → Asrt F) : wpc c (K ⟨⟩) Q ⊢ wpc c (u.exit >>= K) Q :=
  Mxu.wp_exit (hd := hd)

/-! ## A trip -/

/-- The left-hand sides. -/
def lefts (c : Dev nD) (b : Bufs) (X : Data F) : Asrt F :=
  iprop(owns (c : Thread nD τ) b.xp fullShare (XP X) ∗ owns (c : Thread nD τ) b.md fullShare X.M)

/-- What a trip reads, from its two slots. -/
def R2 (c : Dev nD) (b : Bufs) (X : Data F) (t : ℕ) : Asrt F := iprop(slot c b X t ∗ slot c b X (t + 1) ∗ lefts c b X)
/-- What the first and the last run read, from one slot. -/
def R1 (c : Dev nD) (b : Bufs) (X : Data F) (t : ℕ) : Asrt F := iprop(slot c b X t ∗ lefts c b X)

theorem provides2 (t : Fin k0_t1_loop.trips) : Provides c b (envL t) (R2 c b X t.val) (readsOf X (prs t.val)) := by
  refine provides (envL_sl t) (fun w => ?_) ?_ ?_
  · match w with
    | 0 =>
      unfold R2
      iintro ⟨H1, H2, H3⟩
      isplitl [H1]; · iexact H1
      iintro H1
      isplitl [H1]; · iexact H1
      isplitl [H2]; · iexact H2
      iexact H3
    | 1 =>
      unfold R2
      iintro ⟨H1, H2, H3⟩
      isplitl [H2]; · iexact H2
      iintro H2
      isplitl [H1]; · iexact H1
      isplitl [H2]; · iexact H2
      iexact H3
  · unfold R2 lefts
    iintro ⟨H1, H2, H3, H4⟩
    isplitl [H3]; · iexact H3
    iintro H3
    isplitl [H1]; · iexact H1
    isplitl [H2]; · iexact H2
    isplitl [H3]; · iexact H3
    iexact H4
  · unfold R2 lefts
    iintro ⟨H1, H2, H3, H4⟩
    isplitl [H4]; · iexact H4
    iintro H4
    isplitl [H1]; · iexact H1
    isplitl [H2]; · iexact H2
    isplitl [H3]; · iexact H3
    iexact H4

theorem provides1 {e : Env} (i : ℕ) (h : ∀ w, e.sl w = i % 4) : Provides c b e (R1 c b X i) (readsOf X fun _ => i) := by
  refine provides h (fun w => ?_) ?_ ?_
  · unfold R1
    iintro ⟨H1, H3⟩
    isplitl [H1]; · iexact H1
    iintro H1
    isplitl [H1]; · iexact H1
    iexact H3
  · unfold R1 lefts
    iintro ⟨H1, H3, H4⟩
    isplitl [H3]; · iexact H3
    iintro H3
    isplitl [H1]; · iexact H1
    isplitl [H3]; · iexact H3
    iexact H4
  · unfold R1 lefts
    iintro ⟨H1, H3, H4⟩
    isplitl [H4]; · iexact H4
    iintro H4
    isplitl [H1]; · iexact H1
    isplitl [H3]; · iexact H3
    iexact H4

/-- The two scale buffers. -/
def bufs2 (c : Dev nD) (b : Bufs) (a : Tab F) : Asrt F :=
  iprop(owns (c : Thread nD τ) b.sa fullShare (joinSc (a.sc 0)) ∗ owns (c : Thread nD τ) b.sb fullShare (joinSc (a.sc 1)))

/-- A pair's columns at contents. -/
def at2 (c : Dev nD) (b : Bufs) (i : ℕ) (f : Fin 2 → FVec F S80x256 .bf16) : Asrt F :=
  iprop(owns (c : Thread nD τ) (hMN b i 0) fullShare (f 0) ∗ owns (c : Thread nD τ) (hMN b i 1) fullShare (f 1))

theorem res_eq {e : Env} {i : ℕ} (h : ∀ p, e.col p = 512 * i + 256 * p.val) (hi : i < 32) (R : Asrt F) (a : Tab F) :
    Res c b e R a ⊣⊢ iprop(R ∗ bufs2 c b a ∗ at2 c b i a.out) := by
  unfold Res bufs2 at2
  rw [hM_eq b h hi 0, hM_eq b h hi 1]
  constructor
  · iintro ⟨H1, H2, H3, H4⟩
    isplitl [H1]; · iexact H1
    isplitl [H2 H3]
    · isplitl [H2]; · iexact H2
      iexact H3
    iexact H4
  · iintro ⟨H1, ⟨H2, H3⟩, H4⟩
    isplitl [H1]; · iexact H1
    isplitl [H2]; · iexact H2
    isplitl [H3]; · iexact H3
    iexact H4

/-- A run of instructions over a pair's columns. -/
theorem run_at {e : Env} {i : ℕ} (h : ∀ p, e.col p = 512 * i + 256 * p.val) (hi : i < 32) {R : Asrt F} {D : Reads F} (hD : Provides c b e R D) (l : List Instr)
    {s : Mxu F} {a a' : Tab F} (hR : Rep s a) (ht : trun D e l a = some a') :
    ∃ s', Rep s' a' ∧ ∀ (α : Type) (K : Mxu F → P F α) (Q : α → Asrt F),
      iprop(R ∗ bufs2 c b a ∗ at2 c b i a.out ∗ (iprop(R ∗ bufs2 c b a' ∗ at2 c b i a'.out) -∗ wpc c (K s') Q)) ⊢ wpc c (run b e l s >>= K) Q := by
  obtain ⟨s', hs', hw⟩ := run_wp hD l hR ht
  refine ⟨s', hs', fun α K Q => ?_⟩
  iintro ⟨H1, H2, H3, Hk⟩
  iapply (hw _ _ _)
  isplitl [H1 H2 H3]
  · iapply (res_eq (c := c) (b := b) h hi R a).2
    isplitl [H1]; · iexact H1
    isplitl [H2]; · iexact H2
    iexact H3
  iintro H
  iapply Hk
  iapply (res_eq (c := c) (b := b) h hi R a').1
  iexact H

theorem cols_at (i : ℕ) : (cols c b i : Asrt F) ⊢ iprop(∃ f, at2 c b i f) := by
  unfold cols at2
  iintro ⟨⟨%x, H1⟩, ⟨%y, H2⟩⟩
  iexists (two x y)
  isplitl [H1]; · iexact H1
  iexact H2

theorem at_cols (i : ℕ) (f : Fin 2 → FVec F S80x256 .bf16) : at2 c b i f ⊢ cols c b i := by
  unfold cols at2
  iintro ⟨H1, H2⟩
  isplitl [H1]
  · iexists _; iexact H1
  · iexists _; iexact H2

/-- The columns do not matter to the matrix units. -/
theorem Rep.out {s : Mxu F} {i : ℕ} {s1} {out : Fin 2 → FVec F S80x256 .bf16} (h : Rep s (midN X i s1 out)) (out') : Rep s (midN X i s1 out') :=
  ⟨h.reg, h.none, h.some, h.dead⟩

/-- The loop's invariant. -/
def Inv (c : Dev nD) (b : Bufs) (X : Data F) (t : ℕ) (x : BitVec 32 × Mxu F) : Asrt F :=
  iprop(∃ s1 : Fin 2 → FVec F S1x48x256 .f32, ∃ out : Fin 2 → FVec F S80x256 .bf16, ⌜Rep x.2 (midN X t s1 out)⌝ ∗ ring c b X t ∗ hst c b X t ∗ lefts c b X ∗ bufs2 c b (midN X t s1 out))

theorem trip_wp (t : Fin k0_t1_loop.trips) (x : BitVec 32 × Mxu F) :
    Inv c b X t.val x ⊢ wpc c (trip b t x.2) (Inv c b X (t.val + 1)) := by
  have ht : t.val < 31 := by have := t.isLt; have := trips_eq; omega
  unfold trip
  unfold Inv
  iintro ⟨%s1, %out, %hR, Hr, HH, Hl, Hb⟩
  iapply (copies_wp (X := X) t)
  isplitl [Hr]; · iexact Hr
  isplitl [HH]; · iexact HH
  iintro ⟨Hs, Hs1, Hrest, HH⟩
  ihave HH := (HA_open (X := X) (show t.val < 32 by omega)) $$ HH
  icases HH with ⟨HH, Hc⟩
  ihave Hc := (cols_at (c := c) (b := b) (F := F) t.val) $$ Hc
  icases Hc with ⟨%f, Hc⟩
  obtain ⟨s', hs', hw⟩ := run_at (envL_col t) (by omega) (provides2 (c := c) (b := b) (X := X) t) bodyI (hR.out f) (trun_body' X t s1 f)
  iapply (hw _ _ _)
  unfold R2
  isplitl [Hs Hs1 Hl]
  · isplitl [Hs]; · iexact Hs
    isplitl [Hs1]; · iexact Hs1
    iexact Hl
  isplitl [Hb]; · iexact Hb
  isplitl [Hc]; · iexact Hc
  iintro ⟨⟨Hs, Hs1, Hl⟩, Hb, Hc⟩
  iapply (wpc_ret (c := c) _ _)
  iexists _
  iexists _
  isplitr; · ipureintro; exact hs'
  isplitl [Hs Hs1 Hrest]
  · iapply (ring_next (X := X) t.val)
    isplitl [Hs]; · iexact Hs
    isplitl [Hs1]; · iexact Hs1
    iexact Hrest
  isplitl [HH Hc]
  · unfold hst
    isplitl [HH]; · iexact HH
    iapply (show at2 c b t.val (blockN X t.val) ⊢ fin c b X t.val from .rfl)
    iexact Hc
  isplitl [Hl]; · iexact Hl
  iexact Hb

/-- Nothing has started. -/
theorem HA_zero : iprop(batchH c b X 0 0 ∗ bigSep (Finset.range 32) (cols c b) ∗ bigSep (Finset.range 32) (dsts c b)) ⊢ HA c b X 0 := by
  unfold HA
  refine BIClass.sep_mono .rfl ((Entails.of_eq (bigSep_sep (Finset.range 32) (cols c b) (dsts c b)).symm).trans (Entails.of_eq (bigSep_congr fun i _ => ?_)))
  exact (if_neg (Nat.not_lt_zero i)).symm

/-! ## The whole body -/

/-- What the body starts from, but for the hidden layer: free slots, the arrays, the left-hand sides, the scale buffers. -/
def Pre (c : Dev nD) (b : Bufs) (X : Data F) (H : Asrt F) : Asrt F :=
  iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl)
    ∗ srcs c b X (Finset.range 32)
    ∗ (semVal ((c : Thread nD τ), SemLoc.dma b.xsem.sem) 0 ∗ owns (c : Thread nD τ) b.x fullShare X.X ∗ anyAt (b.xp.view.loc (c : Thread nD τ)) b.xp.view.set
      ∗ owns (c : Thread nD τ) b.md fullShare X.M)
    ∗ ((∃ d, owns (c : Thread nD τ) b.sa fullShare d) ∗ (∃ d, owns (c : Thread nD τ) b.sb fullShare d))
    ∗ (H ∗ anyAt (b.hs.view.loc (c : Thread nD τ)) b.hs.view.set ∗ semVal ((c : Thread nD τ), SemLoc.dma b.hsem.sem) 0)
    ∗ (∃ W, owes (c : Thread nD τ) 0 W))

/-- Two units' halves of a scale buffer. -/
def partSc (d : FVec F S2x48x256 .f32) : Fin 2 → FVec F S1x48x256 .f32 := fun u y => d (ValueIdx.ix3 u (y 1) (y 2))
theorem joinSc_part (d : FVec F S2x48x256 .f32) : joinSc (partSc d) = d := by
  funext x
  unfold joinSc partSc
  refine congrArg d ?_
  funext a; apply Fin.ext
  match a with
  | ⟨0, _⟩ => rfl
  | ⟨1, _⟩ => rfl
  | ⟨2, _⟩ => rfl

theorem padAny_congr {p q : Cp} (h : p.sl = q.sl) : (padAny c b p.hsl : Asrt F) = padAny c b q.hsl := by
  cases p; cases q; cases h; rfl

theorem pad_any {sl : ℕ} (h : sl < 4) : (pad c b h : Asrt F) ⊢ padAny c b h := by
  unfold pad padAny
  iintro H
  iexists _
  iexact H

/-- After the copies of the first three pairs, the zero rows and the first pair's wait. -/
theorem start_ring {α : Type} (K : P F α) (Q : α → Asrt F) :
    iprop((free c b (cpN 0) ∗ free c b (cpN 1) ∗ free c b (cpN 2) ∗ free c b (cpN 3))
        ∗ (padAny c b (cpN 0).hsl ∗ padAny c b (cpN 1).hsl ∗ padAny c b (cpN 2).hsl ∗ padAny c b (cpN 3).hsl)
        ∗ srcs c b X (Finset.range 32) ∗ (∃ W, owes (c : Thread nD τ) 0 W)
        ∗ (semVal ((c : Thread nD τ), SemLoc.dma b.xsem.sem) 0 ∗ owns (c : Thread nD τ) b.x fullShare X.X ∗ anyAt (b.xp.view.loc (c : Thread nD τ)) b.xp.view.set)
        ∗ (ring c b X 0 -∗ owns (c : Thread nD τ) b.xp fullShare (XP X) -∗ owns (c : Thread nD τ) b.x fullShare X.X
          -∗ semVal ((c : Thread nD τ), SemLoc.dma b.xsem.sem) 0 -∗ wpc c K Q))
      ⊢ wpc c (startX b >>= fun _ => startC b cp0 >>= fun _ => startC b cp1 >>= fun _ => startC b cp2 >>= fun _ => padX b >>= fun _ => pads b >>= fun _ => waitX b >>= fun _ => waitC b cp0 >>= fun _ => K) Q := by
  have e : (srcs c b X (Finset.range 32) : Asrt F) ⊢ iprop(src c b X (cpN 0) ∗ src c b X (cpN 1) ∗ src c b X (cpN 2) ∗ srcs c b X ((Finset.range 32).filter fun i => i ≠ 0 ∧ i ≠ 1 ∧ i ≠ 2)) := by
    rw [← srcs_insert (by decide), ← srcs_insert (by decide), ← srcs_insert (by decide)]
    exact Entails.of_eq (congrArg _ (by decide))
  have e' : iprop(src c b X (cpN 0) ∗ srcs c b X ((Finset.range 32).filter fun i => i ≠ 0 ∧ i ≠ 1 ∧ i ≠ 2)) ⊢ (srcs c b X (St 0) : Asrt F) := by
    rw [← srcs_insert (by decide)]
    exact Entails.of_eq (congrArg _ (by decide))
  rw [cp0_eq, cp1_eq, cp2_eq]
  unfold pads ring
  simp only [bind_assoc]
  rw [show (fly' c b X (0 + 1) : Asrt F) = fly c b X (cpN 1) from if_pos (by omega), show (fly' c b X (0 + 2) : Asrt F) = fly c b X (cpN 2) from if_pos (by omega)]
  iintro ⟨⟨Hf0, Hf1, Hf2, Hf3⟩, ⟨Hp0, Hp1, Hp2, Hp3⟩, HS, HO, ⟨Hxs, Hx, Hxp⟩, Hk⟩
  ihave HS := e $$ HS
  icases HS with ⟨Hs0, Hs1, Hs2, HS⟩
  ihave Hxp := (xp_split c b) $$ Hxp
  icases Hxp with ⟨Hxd, Hxl⟩
  iapply (startX_wp (X := X))
  isplitl [Hxs]; · iexact Hxs
  isplitl [Hx]; · iexact Hx
  isplitl [Hxd]; · iexact Hxd
  iintro Hxf
  iapply (start_wp (X := X) (cpN 0))
  isplitl [Hs0]; · iexact Hs0
  isplitl [Hf0]; · iexact Hf0
  iintro Hf0
  iapply (start_wp (X := X) (cpN 1))
  isplitl [Hs1]; · iexact Hs1
  isplitl [Hf1]; · iexact Hf1
  iintro Hf1
  iapply (start_wp (X := X) (cpN 2))
  isplitl [Hs2]; · iexact Hs2
  isplitl [Hf2]; · iexact Hf2
  iintro Hf2
  iapply (padX_wp (c := c))
  isplitl [Hxl]; · iexact Hxl
  iintro Hxl
  iapply (padC_wp (0 : Fin 4))
  isplitl [Hp0]; · iexact Hp0
  iintro Hp0
  iapply (padC_wp (1 : Fin 4))
  isplitl [Hp1]; · iexact Hp1
  iintro Hp1
  iapply (padC_wp (2 : Fin 4))
  isplitl [Hp2]; · iexact Hp2
  iintro Hp2
  iapply (padC_wp (3 : Fin 4))
  isplitl [Hp3]; · iexact Hp3
  iintro Hp3
  iapply (waitX_wp (X := X))
  isplitl [Hxf]; · iexact Hxf
  isplitl [HO]; · iexact HO
  iintro Hxd Hx Hxs HO
  ihave Hxp := (xp_join c b X) $$ [Hxd Hxl]
  · isplitl [Hxd]; · iexact Hxd
    iexact Hxl
  iapply (wait_wp (cpN 0))
  isplitl [Hf0]; · iexact Hf0
  isplitl [HO]; · iexact HO
  iintro Hfull Hsrc Hv HO
  ihave HS := e' $$ [Hsrc HS]
  · isplitl [Hsrc]; · iexact Hsrc
    iexact HS
  ihave Hv := (show semVal ((c : Thread nD τ), SemLoc.dma (cpSem b (cpN 0))) 0 ⊢ (semN c b 0 : Asrt F) from .rfl) $$ Hv
  iapply Hk $$ [Hfull Hp0 Hv Hf1 Hp1 Hf2 Hp2 Hf3 Hp3 HS HO] [Hxp] [Hx] [Hxs]
  rotate_left
  · iexact Hxp
  · iexact Hx
  · iexact Hxs
  isplitl [Hfull Hp0]
  · unfold slot
    isplitl [Hfull]; · iexact Hfull
    iexact Hp0
  isplitl [Hv]; · iexact Hv
  isplitl [Hf1]; · iexact Hf1
  isplitl [Hp1]
  · unfold padN; iexact Hp1
  isplitl [Hf2]; · iexact Hf2
  isplitl [Hp2]
  · unfold padN; iexact Hp2
  isplitl [Hf3]; · iexact Hf3
  isplitl [Hp3]
  · unfold padN; iexact Hp3
  isplitl [HS]; · iexact HS
  iexact HO

/-- After the last pair. -/
theorem ring_end : (ring c b X 31 : Asrt F) ⊢ iprop(slot c b X 31 ∗ (slot c b X 31 -∗
    iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl)
    ∗ srcs c b X (Finset.range 32) ∗ (∃ W, owes (c : Thread nD τ) 0 W)))) := by
  unfold ring
  rw [show (fly' c b X (31 + 1) : Asrt F) = free c b (cpN 0) from (if_neg (by omega)).trans (free_N (by omega)),
    show (fly' c b X (31 + 2) : Asrt F) = free c b (cpN 1) from (if_neg (by omega)).trans (free_N (by omega)),
    show (free c b (cpN (31 + 3)) : Asrt F) = free c b (cpN 2) from free_N (by omega),
    show (padN c b (31 + 1) : Asrt F) = pad c b (cpN 0).hsl from padN_congr (i := 32) (j := 0) (by omega),
    show (padN c b (31 + 2) : Asrt F) = pad c b (cpN 1).hsl from padN_congr (i := 33) (j := 1) (by omega),
    show (padN c b (31 + 3) : Asrt F) = pad c b (cpN 2).hsl from padN_congr (i := 34) (j := 2) (by omega),
    show St 31 = Finset.range 32 by decide]
  have e : iprop(slot c b X 31 ∗ semN c b 31) ⊢ iprop(free c b (cpN 3) ∗ (pad c b (cpN 3).hsl : Asrt F)) :=
    (slot_done 31).trans (Entails.of_eq (by
      rw [free_N (i := 31) (j := 3) (by omega)]
      exact congrArg _ (padN_congr (i := 31) (j := 3) (by omega))))
  iintro ⟨Hs, Hv, Hf0, Hp0, Hf1, Hp1, Hf2, Hp2, HS, HO⟩
  isplitl [Hs]; · iexact Hs
  iintro Hs
  ihave HD := e $$ [Hs Hv]
  · isplitl [Hs]; · iexact Hs
    iexact Hv
  icases HD with ⟨Hf3, Hp3⟩
  ihave Hp0 := (pad_any (c := c) (b := b) (F := F) (cpN 0).hsl) $$ Hp0
  ihave Hp1 := (pad_any (c := c) (b := b) (F := F) (cpN 1).hsl) $$ Hp1
  ihave Hp2 := (pad_any (c := c) (b := b) (F := F) (cpN 2).hsl) $$ Hp2
  ihave Hp3 := (pad_any (c := c) (b := b) (F := F) (cpN 3).hsl) $$ Hp3
  isplitl [Hf0 Hf1 Hf2 Hf3]
  · isplitl [Hf0]; · iexact Hf0
    isplitl [Hf1]; · iexact Hf1
    isplitl [Hf2]; · iexact Hf2
    iexact Hf3
  isplitl [Hp0 Hp1 Hp2 Hp3]
  · isplitl [Hp0]; · iexact Hp0
    isplitl [Hp1]; · iexact Hp1
    isplitl [Hp2]; · iexact Hp2
    iexact Hp3
  isplitl [HS]; · iexact HS
  iexact HO

/-- From the free slots to the whole result. -/
theorem whole_wp (f : Buf (Elt F) (b.ho.view.loc (c : Thread nD τ))) (hf : b.ho.view.read (Elt F) f = resH X) (Q : PUnit → Asrt F) :
    iprop(Pre c b X (anyAt (b.ho.view.loc (c : Thread nD τ)) b.ho.view.set)
      ∗ (Pre c b X (b.ho.view.loc (c : Thread nD τ) ↦[b.ho.view.set]{fullShare} f) -∗ Q ⟨⟩)) ⊢ wpc c (whole b) Q := by
  unfold whole head
  simp only [bind_assoc]
  unfold Pre
  iintro ⟨⟨Hf, Hp, HS, ⟨Hxs, Hx, Hxp, Hm⟩, ⟨⟨%da, Hsa⟩, ⟨%db, Hsb⟩⟩, ⟨Ho, Hh, Hhs⟩, HO⟩, Hk⟩
  imod (Transfers.mixedBatch_alloc' (Lvl := ℕ) (countersEmb (U := Pipeline.UD sig nD τ)) (c : Thread nD τ) () (fun _ : Fin 32 => amtH b)
    (delivH c b X) (sm := SemLoc.dma b.hsem.sem) (E := Set.univ)) $$ Hhs with HB
  ihave Ho := (dsts_of_any c b) $$ Ho
  ihave Hh := (cols_of_whole c b) $$ Hh
  ihave HH := (HA_zero (c := c) (b := b) (X := X)) $$ [HB Ho Hh]
  · isplitl [HB]; · iexact HB
    isplitl [Hh]; · iexact Hh
    iexact Ho
  iapply (start_ring (X := X))
  isplitl [Hf]; · iexact Hf
  isplitl [Hp]; · iexact Hp
  isplitl [HS]; · iexact HS
  isplitl [HO]; · iexact HO
  isplitl [Hxs Hx Hxp]
  · isplitl [Hxs]; · iexact Hxs
    isplitl [Hx]; · iexact Hx
    iexact Hxp
  iintro Hr Hxp Hx Hxs
  ihave HH := (HA_take (X := X) (show 31 < 32 by decide)) $$ HH
  icases HH with ⟨Hc, HH⟩
  ihave Hc := (cols_at (c := c) (b := b) (F := F) 31) $$ Hc
  icases Hc with ⟨%fc, Hc⟩
  obtain ⟨s0, hs0, hw⟩ := run_at (c := c) (b := b) (e := env0) (i := 31) (fun p => rfl) (by decide) (provides1 (c := c) (b := b) (X := X) (e := env0) 0 (fun w => rfl)) headI
    (Rep.init (scs (partSc da) (partSc db)) fc) (trun_head' X (scs (partSc da) (partSc db)) fc)
  ihave Hr := (show ring c b X 0 ⊢ iprop(slot c b X 0 ∗ (slot c b X 0 -∗ (ring c b X 0 : Asrt F))) from by
    unfold ring
    iintro ⟨H1, H2⟩
    isplitl [H1]; · iexact H1
    iintro H1
    isplitl [H1]; · iexact H1
    iexact H2) $$ Hr
  icases Hr with ⟨Hs, Hr⟩
  iapply (hw _ _ _)
  unfold R1 lefts
  isplitl [Hs Hxp Hm]
  · isplitl [Hs]; · iexact Hs
    isplitl [Hxp]; · iexact Hxp
    iexact Hm
  isplitl [Hsa Hsb]
  · iapply (show iprop(owns (c : Thread nD τ) b.sa fullShare da ∗ owns (c : Thread nD τ) b.sb fullShare db) ⊢ bufs2 c b (tab0 (scs (partSc da) (partSc db)) fc) from by
      unfold bufs2
      exact Entails.of_eq (congrArg₂ (fun x y => iprop(owns (c : Thread nD τ) b.sa fullShare x ∗ owns (c : Thread nD τ) b.sb fullShare y)) (joinSc_part da).symm (joinSc_part db).symm))
    isplitl [Hsa]; · iexact Hsa
    iexact Hsb
  isplitl [Hc]; · iexact Hc
  iintro ⟨⟨Hs, Hl⟩, Hb, Hc⟩
  ispecialize Hr $$ Hs
  ihave Hc := (at_cols (c := c) (b := b) 31 _) $$ Hc
  ispecialize HH $$ Hc
  iapply (Scf.wp_for_bind _ _ _ _ _ _ _ _ _ (Inv c b X) (fun t x => trip_wp (X := X) t x)) $$ [Hr Hl Hb HH]
  · unfold Inv
    iexists _
    iexists _
    isplitr; · ipureintro; exact hs0
    isplitl [Hr]; · iexact Hr
    isplitl [HH]
    · iapply (show HA c b X 0 ⊢ hst c b X 0 from .rfl)
      iexact HH
    isplitl [Hl]
    · unfold lefts; iexact Hl
    iexact Hb
  iintro %x HI
  rw [show (Scf.trips k0_t1_loop.lb k0_t1_loop.ub k0_t1_loop.st) = 31 from trips_eq]
  unfold Inv tail
  rw [show hp30 = hpN 30 from Hp.ext' (hpN_col (i := 30) (by decide)).symm, show hp31 = hpN 31 from Hp.ext' (hpN_col (i := 31) (by decide)).symm]
  icases HI with ⟨%s1, %out, %hR, Hr, HH, Hl, Hb⟩
  ihave HH := (show hst c b X 31 ⊢ iprop(HB c b X 30 ∗ fin c b X 30) from .rfl) $$ HH
  icases HH with ⟨H1, H2⟩
  iapply (startH_wp (X := X) (t := 30) (by decide))
  isplitl [H1]; · iexact H1
  isplitl [H2]; · iexact H2
  iintro HH
  ihave HH := (HA_open (X := X) (t := 31) (by decide)) $$ HH
  icases HH with ⟨HH, Hc⟩
  ihave Hc := (cols_at (c := c) (b := b) (F := F) 31) $$ Hc
  icases Hc with ⟨%fe, Hc⟩
  obtain ⟨sc', ht⟩ := trun_tail' X s1 fe
  obtain ⟨s', hs', hw'⟩ := run_at (c := c) (b := b) (e := envE) (i := 31) (fun p => rfl) (by decide) (provides1 (c := c) (b := b) (X := X) (e := envE) 31 (fun w => rfl)) tailI (hR.out fe) ht
  ihave Hr := (ring_end (X := X)) $$ Hr
  icases Hr with ⟨Hs, Hr⟩
  iapply (hw' _ _ _)
  unfold R1
  isplitl [Hs Hl]
  · isplitl [Hs]; · iexact Hs
    iexact Hl
  isplitl [Hb]; · iexact Hb
  isplitl [Hc]; · iexact Hc
  iintro ⟨⟨Hs, Hl⟩, Hb, Hc⟩
  ispecialize Hr $$ Hs
  icases Hr with ⟨Hf, Hp, HS, HO⟩
  ihave Hc := (show at2 c b 31 (tab0 sc' (blockN X 31)).out ⊢ fin c b X 31 from .rfl) $$ Hc
  iapply (startH_wp (X := X) (t := 31) (by decide))
  isplitl [HH]; · iexact HH
  isplitl [Hc]; · iexact Hc
  iintro HH
  iapply (drain_wp (X := X) f hf)
  isplitl [HH]; · iexact HH
  isplitl [HO]; · iexact HO
  iintro ⟨Ho, Hh, Hhs, HO⟩
  unfold bufs2 lefts
  icases Hb with ⟨Hsa, Hsb⟩
  icases Hl with ⟨Hxp, Hm⟩
  iapply (wpc_exit (c := c) hs'.drained)
  iapply (wpc_ret (c := c) _ _)
  iapply Hk
  isplitl [Hf]; · iexact Hf
  isplitl [Hp]; · iexact Hp
  isplitl [HS]; · iexact HS
  isplitl [Hxs Hx Hxp Hm]
  · isplitl [Hxs]; · iexact Hxs
    isplitl [Hx]; · iexact Hx
    isplitl [Hxp]
    · iapply (any_owns c b.xp)
      iexists _
      iexact Hxp
    iexact Hm
  isplitl [Hsa Hsb]
  · isplitl [Hsa]
    · iexists _; iexact Hsa
    · iexists _; iexact Hsb
  isplitl [Ho Hh Hhs]
  · isplitl [Ho]; · iexact Ho
    isplitl [Hh]; · iexact Hh
    iexact Hhs
  iexact HO

end Cert.UpIdeal.Up

end
-- ==== Proof.UpSplit.lean ====
/-
  The rings and the arrays in parts: a slot of a ring holds both units' halves of a pair, an array the columns of all pairs.
-/
module

public import proofs.«01_k».proof.Proof.UpLoop

@[expose] public section

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

section
variable {ℓ : Loc nD τ sig} {S T : Finset (Idx ℓ)}

theorem any_split (h : Disjoint S T) : (anyAt ℓ (S ∪ T) : Asrt F) ⊢ iprop(anyAt ℓ S ∗ anyAt ℓ T) := by
  unfold anyAt
  iintro ⟨%g, H⟩
  ihave H := (pointsTo_union h).1 $$ H
  icases H with ⟨H1, H2⟩
  isplitl [H1]
  · iexists g; iexact H1
  · iexists g; iexact H2

theorem union_eq (h : Disjoint S T) (f : Buf (Elt F) ℓ) :
    ((ℓ ↦[S ∪ T]{fullShare} f) : Asrt F) = iprop((ℓ ↦[S]{fullShare} f) ∗ (ℓ ↦[T]{fullShare} f)) :=
  BI.equiv_iff.mp ⟨(pointsTo_union h).1, (pointsTo_union h).2⟩

theorem any_join (h : Disjoint S T) : iprop(anyAt ℓ S ∗ anyAt ℓ T) ⊢ (anyAt ℓ (S ∪ T) : Asrt F) := by
  unfold anyAt
  iintro ⟨⟨%g, H1⟩, ⟨%k, H2⟩⟩
  iexists _
  iapply (pointsTo_join h)
  isplitl [H1]; · iexact H1
  iexact H2

end

theorem pairs_eq (P1 P2 P3 Q1 Q2 Q3 : Asrt F) :
    (iprop((P1 ∗ P2 ∗ P3) ∗ (Q1 ∗ Q2 ∗ Q3)) : Asrt F) = iprop((P1 ∗ Q1) ∗ (P2 ∗ Q2) ∗ (P3 ∗ Q3)) := by
  have h1 : (iprop((P1 ∗ P2 ∗ P3) ∗ (Q1 ∗ Q2 ∗ Q3)) : Asrt F) ⊢ iprop((P1 ∗ Q1) ∗ (P2 ∗ Q2) ∗ (P3 ∗ Q3)) := by
    iintro ⟨⟨A1, A2, A3⟩, ⟨B1, B2, B3⟩⟩
    isplitl [A1 B1]
    · isplitl [A1]; · iexact A1
      iexact B1
    isplitl [A2 B2]
    · isplitl [A2]; · iexact A2
      iexact B2
    · isplitl [A3]; · iexact A3
      iexact B3
  have h2 : (iprop((P1 ∗ Q1) ∗ (P2 ∗ Q2) ∗ (P3 ∗ Q3)) : Asrt F) ⊢ iprop((P1 ∗ P2 ∗ P3) ∗ (Q1 ∗ Q2 ∗ Q3)) := by
    iintro ⟨⟨A1, B1⟩, ⟨A2, B2⟩, ⟨A3, B3⟩⟩
    isplitl [A1 A2 A3]
    · isplitl [A1]; · iexact A1
      isplitl [A2]; · iexact A2
      iexact A3
    · isplitl [B1]; · iexact B1
      isplitl [B2]; · iexact B2
      iexact B3
  exact BI.equiv_iff.mp ⟨h1, h2⟩

variable (c : Dev nD) (b : Bufs) (X : Data F)

/-! ## The rings -/

def halfW (j : ℕ) (u : Fin 2) : Finset (Idx (b.wg.view.loc (c : Thread nD τ))) := (wDst b (cpN j) u).view.set

theorem halfW_eq {j : ℕ} (hj : j < 4) (u : Fin 2) : halfW c b j u = pset b.wg c fun x => (x 0).val = j ∧ (x 1).val = u.val := by
  ext y
  refine (mem_set (wDst b (cpN j) u) y).trans (Iff.trans ?_ (mem_pset b.wg y).symm)
  constructor
  · rintro ⟨z, hz⟩
    have hz' : z = ValueIdx.ix2 (z 0) (z 1) := by funext a; match a with | ⟨0, _⟩ => rfl | ⟨1, _⟩ => rfl
    refine ⟨_, (emb_wDst (b := b) (cpN j) u (z 0) (z 1)).symm.trans ((congrArg _ hz'.symm).trans hz), ?_⟩
    exact ⟨(cpN_sl j).trans (Nat.mod_eq_of_lt hj), rfl⟩
  · rintro ⟨x, hx, hk⟩
    refine ⟨ValueIdx.ix2 (x 2) (x 3), (emb_wDst (b := b) (cpN j) u (x 2) (x 3)).trans ((congrArg _ ?_).trans hx)⟩
    funext a; apply Fin.ext
    match a with
    | ⟨0, _⟩ => exact (cpN_sl j).trans ((Nat.mod_eq_of_lt hj).trans hk.1.symm)
    | ⟨1, _⟩ => exact hk.2.symm
    | ⟨2, _⟩ => rfl
    | ⟨3, _⟩ => rfl

theorem disjW {j : ℕ} (hj : j < 4) : Disjoint (halfW c b j 0) (halfW c b j 1) := by
  rw [halfW_eq c b hj, halfW_eq c b hj]
  refine pset_disjoint b.wg ?_
  intro x h h'
  simp at h h'
  omega

def halfS (j : ℕ) (u : Fin 2) : Finset (Idx (b.sg.view.loc (c : Thread nD τ))) := (sDst b (cpN j) u).view.set

theorem halfS_eq {j : ℕ} (hj : j < 4) (u : Fin 2) : halfS c b j u = pset b.sg c fun x => (x 0).val = j ∧ (x 1).val = u.val := by
  ext y
  refine (mem_set (sDst b (cpN j) u) y).trans (Iff.trans ?_ (mem_pset b.sg y).symm)
  constructor
  · rintro ⟨z, hz⟩
    have hz' : z = ValueIdx.ix2 (z 0) (z 1) := by funext a; match a with | ⟨0, _⟩ => rfl | ⟨1, _⟩ => rfl
    refine ⟨_, (emb_sDst (b := b) (cpN j) u (z 0) (z 1)).symm.trans ((congrArg _ hz'.symm).trans hz), ?_⟩
    exact ⟨(cpN_sl j).trans (Nat.mod_eq_of_lt hj), rfl⟩
  · rintro ⟨x, hx, hk⟩
    refine ⟨ValueIdx.ix2 (x 2) (x 3), (emb_sDst (b := b) (cpN j) u (x 2) (x 3)).trans ((congrArg _ ?_).trans hx)⟩
    funext a; apply Fin.ext
    match a with
    | ⟨0, _⟩ => exact (cpN_sl j).trans ((Nat.mod_eq_of_lt hj).trans hk.1.symm)
    | ⟨1, _⟩ => exact hk.2.symm
    | ⟨2, _⟩ => rfl
    | ⟨3, _⟩ => rfl

theorem disjS {j : ℕ} (hj : j < 4) : Disjoint (halfS c b j 0) (halfS c b j 1) := by
  rw [halfS_eq c b hj, halfS_eq c b hj]
  refine pset_disjoint b.sg ?_
  intro x h h'
  simp at h h'
  omega

def halfB (j : ℕ) (u : Fin 2) : Finset (Idx (b.bg.view.loc (c : Thread nD τ))) := (bDst b (cpN j) u).view.set

theorem halfB_eq {j : ℕ} (hj : j < 4) (u : Fin 2) : halfB c b j u = pset b.bg c fun x => (x 0).val = j ∧ (x 1).val = u.val ∧ (x 2).val < 13 := by
  ext y
  refine (mem_set (bDst b (cpN j) u) y).trans (Iff.trans ?_ (mem_pset b.bg y).symm)
  constructor
  · rintro ⟨z, hz⟩
    have hz' : z = ValueIdx.ix3 (z 0) (z 1) (z 2) := by funext a; match a with | ⟨0, _⟩ => rfl | ⟨1, _⟩ => rfl | ⟨2, _⟩ => rfl
    refine ⟨_, (emb_bDst (b := b) (cpN j) u (z 0) (z 1) (z 2)).symm.trans ((congrArg _ hz'.symm).trans hz), ?_⟩
    exact ⟨(cpN_sl j).trans (Nat.mod_eq_of_lt hj), rfl, (z 0).isLt⟩
  · rintro ⟨x, hx, hk⟩
    refine ⟨ValueIdx.ix3 (⟨(x 2).val, hk.2.2⟩ : Fin 13) (x 3) (x 4), (emb_bDst (b := b) (cpN j) u ⟨(x 2).val, hk.2.2⟩ (x 3) (x 4)).trans ((congrArg _ ?_).trans hx)⟩
    funext a; apply Fin.ext
    match a with
    | ⟨0, _⟩ => exact (cpN_sl j).trans ((Nat.mod_eq_of_lt hj).trans hk.1.symm)
    | ⟨1, _⟩ => exact hk.2.1.symm
    | ⟨2, _⟩ => rfl
    | ⟨3, _⟩ => rfl
    | ⟨4, _⟩ => rfl

theorem disjB {j : ℕ} (hj : j < 4) : Disjoint (halfB c b j 0) (halfB c b j 1) := by
  rw [halfB_eq c b hj, halfB_eq c b hj]
  refine pset_disjoint b.bg ?_
  intro x h h'
  simp at h h'
  omega

def setP (j : ℕ) : Finset (Idx (b.bg.view.loc (c : Thread nD τ))) := (padM b (cpN j).hsl).view.set

theorem setP_eq {j : ℕ} (hj : j < 4) : setP c b j = pset b.bg c fun x => (x 0).val = j ∧ 13 ≤ (x 2).val := by
  ext y
  refine (mem_set (padM b (cpN j).hsl) y).trans (Iff.trans ?_ (mem_pset b.bg y).symm)
  constructor
  · rintro ⟨z, hz⟩
    refine ⟨_, (emb_padM (b := b) (cpN j).hsl z).symm.trans hz, ?_⟩
    exact ⟨(cpN_sl j).trans (Nat.mod_eq_of_lt hj), Nat.le_add_right 13 _⟩
  · rintro ⟨x, hx, hk⟩
    have hk2 := hk.2
    have hx2 : (x 2).val < 16 := (x 2).isLt
    refine ⟨ValueIdx.ix5 (⟨0, Nat.one_pos⟩ : Fin 1) (x 1) (⟨(x 2).val - 13, by omega⟩ : Fin 3) (x 3) (x 4),
      (emb_padM (b := b) (cpN j).hsl _).trans ((congrArg _ ?_).trans hx)⟩
    funext a; apply Fin.ext
    match a with
    | ⟨0, _⟩ => exact (cpN_sl j).trans ((Nat.mod_eq_of_lt hj).trans hk.1.symm)
    | ⟨1, _⟩ => rfl
    | ⟨2, _⟩ => show 13 + ((x 2).val - 13) = (x 2).val; omega
    | ⟨3, _⟩ => rfl
    | ⟨4, _⟩ => rfl

theorem disjP {j : ℕ} (hj : j < 4) : Disjoint (halfB c b j 0 ∪ halfB c b j 1) (setP c b j) := by
  rw [halfB_eq c b hj, halfB_eq c b hj, setP_eq c b hj, pset_union]
  refine pset_disjoint b.bg ?_
  intro x h h'
  omega

def setW (j : ℕ) : Finset (Idx (b.wg.view.loc (c : Thread nD τ))) := halfW c b j 0 ∪ halfW c b j 1

theorem famW : (∀ i ∈ Finset.range 4, ∀ j ∈ Finset.range 4, i ≠ j → Disjoint (setW c b i) (setW c b j))
    ∧ (b.wg.view.set : Finset (Idx (b.wg.view.loc (c : Thread nD τ)))) = (Finset.range 4).biUnion (setW c b) :=
  family (b.wg.view.emb) (fun x => (x 0).val) 4 (setW c b) b.wg.view.set (by
    intro j hj y
    have e : setW c b j = pset b.wg c fun x => (x 0).val = j := by
      unfold setW
      rw [halfW_eq c b hj, halfW_eq c b hj, pset_union]
      refine pset_congr b.wg fun x => ?_
      have h1 : (x 1).val < 2 := (x 1).isLt
      simp
      omega
    rw [e]
    exact mem_pset b.wg y) (fun y => mem_set b.wg y) (fun x => (x 0).isLt)

def setS (j : ℕ) : Finset (Idx (b.sg.view.loc (c : Thread nD τ))) := halfS c b j 0 ∪ halfS c b j 1

theorem famS : (∀ i ∈ Finset.range 4, ∀ j ∈ Finset.range 4, i ≠ j → Disjoint (setS c b i) (setS c b j))
    ∧ (b.sg.view.set : Finset (Idx (b.sg.view.loc (c : Thread nD τ)))) = (Finset.range 4).biUnion (setS c b) :=
  family (b.sg.view.emb) (fun x => (x 0).val) 4 (setS c b) b.sg.view.set (by
    intro j hj y
    have e : setS c b j = pset b.sg c fun x => (x 0).val = j := by
      unfold setS
      rw [halfS_eq c b hj, halfS_eq c b hj, pset_union]
      refine pset_congr b.sg fun x => ?_
      have h1 : (x 1).val < 2 := (x 1).isLt
      simp
      omega
    rw [e]
    exact mem_pset b.sg y) (fun y => mem_set b.sg y) (fun x => (x 0).isLt)

def setB (j : ℕ) : Finset (Idx (b.bg.view.loc (c : Thread nD τ))) := (halfB c b j 0 ∪ halfB c b j 1) ∪ setP c b j

theorem famB : (∀ i ∈ Finset.range 4, ∀ j ∈ Finset.range 4, i ≠ j → Disjoint (setB c b i) (setB c b j))
    ∧ (b.bg.view.set : Finset (Idx (b.bg.view.loc (c : Thread nD τ)))) = (Finset.range 4).biUnion (setB c b) :=
  family (b.bg.view.emb) (fun x => (x 0).val) 4 (setB c b) b.bg.view.set (by
    intro j hj y
    have e : setB c b j = pset b.bg c fun x => (x 0).val = j := by
      unfold setB
      rw [halfB_eq c b hj, halfB_eq c b hj, setP_eq c b hj, pset_union, pset_union]
      refine pset_congr b.bg fun x => ?_
      have h1 : (x 1).val < 2 := (x 1).isLt
      simp
      omega
    rw [e]
    exact mem_pset b.bg y) (fun y => mem_set b.bg y) (fun x => (x 0).isLt)

/-! ## The arrays -/

def srcHalfW (j : ℕ) (u : Fin 2) : Finset (Idx (b.wgu.view.loc (c : Thread nD τ))) := (wSrc b (cpN j) u).view.set

theorem srcHalfW_eq {j : ℕ} (hj : j < 32) (u : Fin 2) : srcHalfW c b j u = pset b.wgu c fun x => (x 1).val / 512 = 32 * u.val + j := by
  refine slice_set b.wgu (Rect.unit (s := S3072x32768) ![0, (cpN j).gcol u] S3072x512.size ((cpN j).hW' u)) (fun _ => rfl) fun x => ?_
  have hg : (cpN j).gcol u = 16384 * u.val + 512 * (j % 32) := cpN_gcol j u
  have h0 : (x 0).val < 3072 := (x 0).isLt
  rw [Rect.mem_set_unit]
  constructor
  · intro h
    have h1 : (cpN j).gcol u ≤ (x 1).val := (h 1).1
    have h2 : (x 1).val < (cpN j).gcol u + 512 := (h 1).2
    omega
  · intro h a
    match a with
    | ⟨0, _⟩ => exact ⟨Nat.zero_le _, show (x 0).val < 0 + 3072 by omega⟩
    | ⟨1, _⟩ => exact ⟨show (cpN j).gcol u ≤ (x 1).val by omega, show (x 1).val < (cpN j).gcol u + 512 by omega⟩

def srcHalfS (j : ℕ) (u : Fin 2) : Finset (Idx (b.sgu.view.loc (c : Thread nD τ))) := (sSrc b (cpN j) u).view.set

theorem srcHalfS_eq {j : ℕ} (hj : j < 32) (u : Fin 2) : srcHalfS c b j u = pset b.sgu c fun x => (x 1).val / 512 = 32 * u.val + j := by
  refine slice_set b.sgu (Rect.unit (s := S48x32768) ![0, (cpN j).gcol u] S48x512.size ((cpN j).hD' u)) (fun _ => rfl) fun x => ?_
  have hg : (cpN j).gcol u = 16384 * u.val + 512 * (j % 32) := cpN_gcol j u
  have h0 : (x 0).val < 48 := (x 0).isLt
  rw [Rect.mem_set_unit]
  constructor
  · intro h
    have h1 : (cpN j).gcol u ≤ (x 1).val := (h 1).1
    have h2 : (x 1).val < (cpN j).gcol u + 512 := (h 1).2
    omega
  · intro h a
    match a with
    | ⟨0, _⟩ => exact ⟨Nat.zero_le _, show (x 0).val < 0 + 48 by omega⟩
    | ⟨1, _⟩ => exact ⟨show (cpN j).gcol u ≤ (x 1).val by omega, show (x 1).val < (cpN j).gcol u + 512 by omega⟩

theorem emb_bSrc (j : ℕ) (u : Fin 2) (z : S13x32x512.Idx) :
    (bSrc b (cpN j) u).view.emb z = b.bgu.view.emb (ValueIdx.ix4 (z 0) u (z 1) (⟨512 * (j % 32) + (z 2).val, by have := lt2 (a := 2) (n := 512) rfl z; omega⟩ : Fin 16384)) := by
  show b.bgu.view.emb ((Rect.unit (s := S13x2x32x16384) ![0, u.val, 0, (cpN j).col] S13x1x32x512.size ((cpN j).hB' u)).emb (Shape.reshapeEquiv _ z)) = _
  rw [reshape_a1bc]
  congr 1
  funext a; apply Fin.ext
  match a with
  | ⟨0, _⟩ => show 0 + 1 * (z 0).val = (z 0).val; omega
  | ⟨1, _⟩ => show u.val + 1 * 0 = u.val; omega
  | ⟨2, _⟩ => show 0 + 1 * (z 1).val = (z 1).val; omega
  | ⟨3, _⟩ => show (cpN j).col + 1 * (z 2).val = 512 * (j % 32) + (z 2).val; rw [cpN_col]; omega

def srcHalfB (j : ℕ) (u : Fin 2) : Finset (Idx (b.bgu.view.loc (c : Thread nD τ))) := (bSrc b (cpN j) u).view.set

theorem srcHalfB_eq {j : ℕ} (hj : j < 32) (u : Fin 2) : srcHalfB c b j u = pset b.bgu c fun x => (x 1).val = u.val ∧ (x 3).val / 512 = j := by
  ext y
  refine (mem_set (bSrc b (cpN j) u) y).trans (Iff.trans ?_ (mem_pset b.bgu y).symm)
  constructor
  · rintro ⟨z, hz⟩
    refine ⟨_, (emb_bSrc b j u z).symm.trans hz, rfl, ?_⟩
    have := lt2 (a := 2) (n := 512) rfl z
    show (512 * (j % 32) + (z 2).val) / 512 = j
    omega
  · rintro ⟨x, hx, hk⟩
    have h1 : (x 3).val / 512 = j := hk.2
    refine ⟨ValueIdx.ix3 (x 0) (x 2) (⟨(x 3).val % 512, Nat.mod_lt _ (by decide)⟩ : Fin 512), (emb_bSrc b j u _).trans ((congrArg _ ?_).trans hx)⟩
    funext a; apply Fin.ext
    match a with
    | ⟨0, _⟩ => rfl
    | ⟨1, _⟩ => exact hk.1.symm
    | ⟨2, _⟩ => rfl
    | ⟨3, _⟩ => show 512 * (j % 32) + (x 3).val % 512 = (x 3).val; omega

theorem srcDisjW {j : ℕ} (hj : j < 32) : Disjoint (srcHalfW c b j 0) (srcHalfW c b j 1) := by
  rw [srcHalfW_eq c b hj, srcHalfW_eq c b hj]
  refine pset_disjoint b.wgu ?_
  intro x h h'
  simp at h h'
  omega

def srcW (j : ℕ) : Finset (Idx (b.wgu.view.loc (c : Thread nD τ))) := srcHalfW c b j 0 ∪ srcHalfW c b j 1

theorem famSrcW : (∀ i ∈ Finset.range 32, ∀ j ∈ Finset.range 32, i ≠ j → Disjoint (srcW c b i) (srcW c b j))
    ∧ (b.wgu.view.set : Finset (Idx (b.wgu.view.loc (c : Thread nD τ)))) = (Finset.range 32).biUnion (srcW c b) :=
  family (b.wgu.view.emb) (fun x => (x 1).val / 512 % 32) 32 (srcW c b) b.wgu.view.set (by
    intro j hj y
    have e : srcW c b j = pset b.wgu c fun x => (x 1).val / 512 % 32 = j := by
      unfold srcW
      rw [srcHalfW_eq c b hj, srcHalfW_eq c b hj, pset_union]
      refine pset_congr b.wgu fun x => ?_
      have h1 : (x 1).val < 32768 := (x 1).isLt
      simp
      omega
    rw [e]
    exact mem_pset b.wgu y) (fun y => mem_set b.wgu y) (by intro x; exact Nat.mod_lt _ (by decide))

theorem srcDisjS {j : ℕ} (hj : j < 32) : Disjoint (srcHalfS c b j 0) (srcHalfS c b j 1) := by
  rw [srcHalfS_eq c b hj, srcHalfS_eq c b hj]
  refine pset_disjoint b.sgu ?_
  intro x h h'
  simp at h h'
  omega

def srcS (j : ℕ) : Finset (Idx (b.sgu.view.loc (c : Thread nD τ))) := srcHalfS c b j 0 ∪ srcHalfS c b j 1

theorem famSrcS : (∀ i ∈ Finset.range 32, ∀ j ∈ Finset.range 32, i ≠ j → Disjoint (srcS c b i) (srcS c b j))
    ∧ (b.sgu.view.set : Finset (Idx (b.sgu.view.loc (c : Thread nD τ)))) = (Finset.range 32).biUnion (srcS c b) :=
  family (b.sgu.view.emb) (fun x => (x 1).val / 512 % 32) 32 (srcS c b) b.sgu.view.set (by
    intro j hj y
    have e : srcS c b j = pset b.sgu c fun x => (x 1).val / 512 % 32 = j := by
      unfold srcS
      rw [srcHalfS_eq c b hj, srcHalfS_eq c b hj, pset_union]
      refine pset_congr b.sgu fun x => ?_
      have h1 : (x 1).val < 32768 := (x 1).isLt
      simp
      omega
    rw [e]
    exact mem_pset b.sgu y) (fun y => mem_set b.sgu y) (by intro x; exact Nat.mod_lt _ (by decide))

theorem srcDisjB {j : ℕ} (hj : j < 32) : Disjoint (srcHalfB c b j 0) (srcHalfB c b j 1) := by
  rw [srcHalfB_eq c b hj, srcHalfB_eq c b hj]
  refine pset_disjoint b.bgu ?_
  intro x h h'
  simp at h h'
  omega

def srcB (j : ℕ) : Finset (Idx (b.bgu.view.loc (c : Thread nD τ))) := srcHalfB c b j 0 ∪ srcHalfB c b j 1

theorem famSrcB : (∀ i ∈ Finset.range 32, ∀ j ∈ Finset.range 32, i ≠ j → Disjoint (srcB c b i) (srcB c b j))
    ∧ (b.bgu.view.set : Finset (Idx (b.bgu.view.loc (c : Thread nD τ)))) = (Finset.range 32).biUnion (srcB c b) :=
  family (b.bgu.view.emb) (fun x => (x 3).val / 512) 32 (srcB c b) b.bgu.view.set (by
    intro j hj y
    have e : srcB c b j = pset b.bgu c fun x => (x 3).val / 512 = j := by
      unfold srcB
      rw [srcHalfB_eq c b hj, srcHalfB_eq c b hj, pset_union]
      refine pset_congr b.bgu fun x => ?_
      have h1 : (x 1).val < 2 := (x 1).isLt
      simp
      omega
    rw [e]
    exact mem_pset b.bgu y) (fun y => mem_set b.bgu y) (by intro x; have : (x 3).val < 16384 := (x 3).isLt; show (x 3).val / 512 < 32; omega)

/-- The arrays are their pairs' columns. -/
theorem srcs_eq (fW : Buf (Elt F) (b.wgu.view.loc (c : Thread nD τ))) (fS : Buf (Elt F) (b.sgu.view.loc (c : Thread nD τ)))
    (fB : Buf (Elt F) (b.bgu.view.loc (c : Thread nD τ))) (hW : b.wgu.view.read (Elt F) fW = X.W) (hS : b.sgu.view.read (Elt F) fS = X.Sd)
    (hB : b.bgu.view.read (Elt F) fB = X.Bd) :
    (srcs c b X (Finset.range 32) : Asrt F) = iprop((b.wgu.view.loc (c : Thread nD τ) ↦[b.wgu.view.set]{fullShare} fW)
      ∗ (b.sgu.view.loc (c : Thread nD τ) ↦[b.sgu.view.set]{fullShare} fS) ∗ (b.bgu.view.loc (c : Thread nD τ) ↦[b.bgu.view.set]{fullShare} fB)) := by
  have e : ∀ j ∈ Finset.range 32, (src c b X (cpN j) : Asrt F) = iprop((b.wgu.view.loc (c : Thread nD τ) ↦[srcW c b j]{fullShare} fW)
      ∗ (b.sgu.view.loc (c : Thread nD τ) ↦[srcS c b j]{fullShare} fS) ∗ (b.bgu.view.loc (c : Thread nD τ) ↦[srcB c b j]{fullShare} fB)) := by
    intro j hj'
    have hj := Finset.mem_range.mp hj'
    have eu : ∀ u, (srcU c b X (cpN j) u : Asrt F) = iprop((b.wgu.view.loc (c : Thread nD τ) ↦[srcHalfW c b j u]{fullShare} fW)
        ∗ (b.sgu.view.loc (c : Thread nD τ) ↦[srcHalfS c b j u]{fullShare} fS) ∗ (b.bgu.view.loc (c : Thread nD τ) ↦[srcHalfB c b j u]{fullShare} fB)) := by
      intro u
      unfold srcU
      rw [owns_eq c (wSrc b (cpN j) u) fullShare (cutW X (cpN j) u) fW (by funext x; exact congrFun hW _),
        owns_eq c (sSrc b (cpN j) u) fullShare (cutS X (cpN j) u) fS (by funext x; exact congrFun hS _),
        owns_eq c (bSrc b (cpN j) u) fullShare (cutB X (cpN j) u) fB (by
          funext x
          refine (congrFun hB _).trans ?_
          unfold cutB
          refine congrArg X.Bd (congrArg _ ?_)
          exact reshape_a1bc _ x)]
      rfl
    unfold src srcW srcS srcB
    rw [eu 0, eu 1, union_eq (srcDisjW c b hj), union_eq (srcDisjS c b hj), union_eq (srcDisjB c b hj)]
    exact pairs_eq _ _ _ _ _ _
  unfold srcs
  rw [bigSep_congr e, bigSep_sep', bigSep_sep', ← pointsTo_biUnion _ _ (famSrcW c b).1, ← pointsTo_biUnion _ _ (famSrcS c b).1,
    ← pointsTo_biUnion _ _ (famSrcB c b).1, ← (famSrcW c b).2, ← (famSrcS c b).2, ← (famSrcB c b).2]

/-- Four of a kind. -/
theorem four (Φ : ℕ → Asrt F) : bigSep (Finset.range 4) Φ = iprop(Φ 3 ∗ Φ 2 ∗ Φ 1 ∗ Φ 0) := by
  rw [bigSep_range_succ, bigSep_range_succ, bigSep_range_succ, show Finset.range 1 = {0} from rfl, bigSep_singleton]

/-- The rings, whole. -/
def rings : Asrt F := iprop(anyAt (b.wg.view.loc (c : Thread nD τ)) b.wg.view.set ∗ anyAt (b.sg.view.loc (c : Thread nD τ)) b.sg.view.set
  ∗ anyAt (b.bg.view.loc (c : Thread nD τ)) b.bg.view.set)
/-- The four counters, at zero. -/
def counters : Asrt F := iprop(semN c b 0 ∗ semN c b 1 ∗ semN c b 2 ∗ semN c b 3)
/-- The slots, free. -/
def slots : Asrt F := iprop((free c b (cpN 0) ∗ free c b (cpN 1) ∗ free c b (cpN 2) ∗ free c b (cpN 3))
    ∗ (padAny c b (cpN 0).hsl ∗ padAny c b (cpN 1).hsl ∗ padAny c b (cpN 2).hsl ∗ padAny c b (cpN 3).hsl))

/-- The slot's parts in the rings. -/
def part (j : ℕ) : Asrt F := iprop(anyAt (b.wg.view.loc (c : Thread nD τ)) (setW c b j) ∗ anyAt (b.sg.view.loc (c : Thread nD τ)) (setS c b j)
  ∗ anyAt (b.bg.view.loc (c : Thread nD τ)) (setB c b j))

theorem rings_parts : (rings c b : Asrt F) ⊢ bigSep (Finset.range 4) (part c b) := by
  unfold rings part
  rw [bigSep_sep', bigSep_sep', (famW c b).2, (famS c b).2, (famB c b).2]
  exact BIClass.sep_mono (split_any _ 4 (famW c b).1) (BIClass.sep_mono (split_any _ 4 (famS c b).1) (split_any _ 4 (famB c b).1))
theorem parts_rings : bigSep (Finset.range 4) (part c b) ⊢ (rings c b : Asrt F) := by
  unfold rings part
  rw [bigSep_sep', bigSep_sep', (famW c b).2, (famS c b).2, (famB c b).2]
  exact BIClass.sep_mono (join_any _ 3 (famW c b).1) (BIClass.sep_mono (join_any _ 3 (famS c b).1) (join_any _ 3 (famB c b).1))

theorem part_free {j : ℕ} (hj : j < 4) : iprop(part c b j ∗ semN c b j) ⊢ (iprop(free c b (cpN j) ∗ padAny c b (cpN j).hsl) : Asrt F) := by
  unfold part free freeU padAny semN setW setS setB
  iintro ⟨⟨HW, HS, HB⟩, Hv⟩
  ihave HW := (any_split (disjW c b hj)) $$ HW
  icases HW with ⟨W0, W1⟩
  ihave HS := (any_split (disjS c b hj)) $$ HS
  icases HS with ⟨S0, S1⟩
  ihave HB := (any_split (disjP c b hj)) $$ HB
  icases HB with ⟨HB, HP⟩
  ihave HB := (any_split (disjB c b hj)) $$ HB
  icases HB with ⟨B0, B1⟩
  ihave W0 := (show (anyAt (b.wg.view.loc (c : Thread nD τ)) (halfW c b j 0) : Asrt F) ⊢ _ from owns_any c (wDst b (cpN j) 0)) $$ W0
  ihave W1 := (show (anyAt (b.wg.view.loc (c : Thread nD τ)) (halfW c b j 1) : Asrt F) ⊢ _ from owns_any c (wDst b (cpN j) 1)) $$ W1
  ihave S0 := (show (anyAt (b.sg.view.loc (c : Thread nD τ)) (halfS c b j 0) : Asrt F) ⊢ _ from owns_any c (sDst b (cpN j) 0)) $$ S0
  ihave S1 := (show (anyAt (b.sg.view.loc (c : Thread nD τ)) (halfS c b j 1) : Asrt F) ⊢ _ from owns_any c (sDst b (cpN j) 1)) $$ S1
  ihave B0 := (show (anyAt (b.bg.view.loc (c : Thread nD τ)) (halfB c b j 0) : Asrt F) ⊢ _ from owns_any c (bDst b (cpN j) 0)) $$ B0
  ihave B1 := (show (anyAt (b.bg.view.loc (c : Thread nD τ)) (halfB c b j 1) : Asrt F) ⊢ _ from owns_any c (bDst b (cpN j) 1)) $$ B1
  ihave HP := (show (anyAt (b.bg.view.loc (c : Thread nD τ)) (setP c b j) : Asrt F) ⊢ _ from owns_any c (padM b (cpN j).hsl)) $$ HP
  isplitr [HP]; swap
  · iexact HP
  isplitl [Hv]; · iexact Hv
  isplitl [W0 S0 B0]
  · isplitl [W0]; · iexact W0
    isplitl [S0]; · iexact S0
    iexact B0
  · isplitl [W1]; · iexact W1
    isplitl [S1]; · iexact S1
    iexact B1

theorem free_part {j : ℕ} (hj : j < 4) : (iprop(free c b (cpN j) ∗ padAny c b (cpN j).hsl) : Asrt F) ⊢ iprop(part c b j ∗ semN c b j) := by
  unfold part free freeU padAny semN setW setS setB
  iintro ⟨⟨Hv, ⟨W0, S0, B0⟩, ⟨W1, S1, B1⟩⟩, HP⟩
  ihave W0 := (show _ ⊢ (anyAt (b.wg.view.loc (c : Thread nD τ)) (halfW c b j 0) : Asrt F) from any_owns c (wDst b (cpN j) 0)) $$ W0
  ihave W1 := (show _ ⊢ (anyAt (b.wg.view.loc (c : Thread nD τ)) (halfW c b j 1) : Asrt F) from any_owns c (wDst b (cpN j) 1)) $$ W1
  ihave S0 := (show _ ⊢ (anyAt (b.sg.view.loc (c : Thread nD τ)) (halfS c b j 0) : Asrt F) from any_owns c (sDst b (cpN j) 0)) $$ S0
  ihave S1 := (show _ ⊢ (anyAt (b.sg.view.loc (c : Thread nD τ)) (halfS c b j 1) : Asrt F) from any_owns c (sDst b (cpN j) 1)) $$ S1
  ihave B0 := (show _ ⊢ (anyAt (b.bg.view.loc (c : Thread nD τ)) (halfB c b j 0) : Asrt F) from any_owns c (bDst b (cpN j) 0)) $$ B0
  ihave B1 := (show _ ⊢ (anyAt (b.bg.view.loc (c : Thread nD τ)) (halfB c b j 1) : Asrt F) from any_owns c (bDst b (cpN j) 1)) $$ B1
  ihave HP := (show _ ⊢ (anyAt (b.bg.view.loc (c : Thread nD τ)) (setP c b j) : Asrt F) from any_owns c (padM b (cpN j).hsl)) $$ HP
  isplitr [Hv]; swap
  · iexact Hv
  isplitl [W0 W1]
  · iapply (any_join (disjW c b hj))
    isplitl [W0]; · iexact W0
    iexact W1
  isplitl [S0 S1]
  · iapply (any_join (disjS c b hj))
    isplitl [S0]; · iexact S0
    iexact S1
  iapply (any_join (disjP c b hj))
  isplitr [HP]; swap
  · iexact HP
  iapply (any_join (disjB c b hj))
  isplitl [B0]; · iexact B0
  iexact B1

theorem slots_of_rings : iprop(rings c b ∗ counters c b) ⊢ (slots c b : Asrt F) := by
  refine (show iprop(rings c b ∗ counters c b) ⊢ iprop(bigSep (Finset.range 4) (part c b) ∗ (counters c b : Asrt F)) from sep_mono_l (rings_parts c b)).trans ?_
  rw [four]
  unfold counters slots
  iintro ⟨⟨H3, H2, H1, H0⟩, ⟨V0, V1, V2, V3⟩⟩
  ihave H0 := (part_free (F := F) c b (j := 0) (by decide)) $$ [H0 V0]
  · isplitl [H0]; · iexact H0
    iexact V0
  ihave H1 := (part_free (F := F) c b (j := 1) (by decide)) $$ [H1 V1]
  · isplitl [H1]; · iexact H1
    iexact V1
  ihave H2 := (part_free (F := F) c b (j := 2) (by decide)) $$ [H2 V2]
  · isplitl [H2]; · iexact H2
    iexact V2
  ihave H3 := (part_free (F := F) c b (j := 3) (by decide)) $$ [H3 V3]
  · isplitl [H3]; · iexact H3
    iexact V3
  icases H0 with ⟨F0, P0⟩
  icases H1 with ⟨F1, P1⟩
  icases H2 with ⟨F2, P2⟩
  icases H3 with ⟨F3, P3⟩
  isplitl [F0 F1 F2 F3]
  · isplitl [F0]; · iexact F0
    isplitl [F1]; · iexact F1
    isplitl [F2]; · iexact F2
    iexact F3
  · isplitl [P0]; · iexact P0
    isplitl [P1]; · iexact P1
    isplitl [P2]; · iexact P2
    iexact P3

theorem rings_of_slots : (slots c b : Asrt F) ⊢ iprop(rings c b ∗ counters c b) := by
  refine (show (slots c b : Asrt F) ⊢ iprop(bigSep (Finset.range 4) (part c b) ∗ counters c b) from ?_).trans (sep_mono_l (parts_rings c b))
  rw [four]
  unfold counters slots
  iintro ⟨⟨F0, F1, F2, F3⟩, ⟨P0, P1, P2, P3⟩⟩
  ihave H0 := (free_part (F := F) c b (j := 0) (by decide)) $$ [F0 P0]
  · isplitl [F0]; · iexact F0
    iexact P0
  ihave H1 := (free_part (F := F) c b (j := 1) (by decide)) $$ [F1 P1]
  · isplitl [F1]; · iexact F1
    iexact P1
  ihave H2 := (free_part (F := F) c b (j := 2) (by decide)) $$ [F2 P2]
  · isplitl [F2]; · iexact F2
    iexact P2
  ihave H3 := (free_part (F := F) c b (j := 3) (by decide)) $$ [F3 P3]
  · isplitl [F3]; · iexact F3
    iexact P3
  icases H0 with ⟨H0, V0⟩
  icases H1 with ⟨H1, V1⟩
  icases H2 with ⟨H2, V2⟩
  icases H3 with ⟨H3, V3⟩
  isplitl [H0 H1 H2 H3]
  · isplitl [H3]; · iexact H3
    isplitl [H2]; · iexact H2
    isplitl [H1]; · iexact H1
    iexact H0
  · isplitl [V0]; · iexact V0
    isplitl [V1]; · iexact V1
    isplitl [V2]; · iexact V2
    iexact V3

end Cert.UpIdeal.Up

end
-- ==== Proof.UpLaunch.lean ====
/-
  The launch of the second call: the kernel's one call runs from any memory to one in which the result holds its blocks, every argument is as
  it was and every counter is at zero.
-/
module

public import proofs.«01_k».proof.Proof.UpSplit
public import proofs.«01_k».proof.Proof.Gen.UpIdeal.Launch
public import proofs.«01_k».proof.Proof.Gen.UpIdeal.Points
public import Idealize.ShloMosaic.Lib.Pipeline.FrameValue

@[expose] public section

noncomputable section

namespace Cert.UpIdeal.Up

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers at the call: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's operands -/

/-- What the body is called with. -/
def bufs (t : Fin cfg0.N) : Bufs where
  x := Memref.whole main_arg0
  hx := Memref.isWhole_whole _
  md := win0_0.stage (cfg0.slots t 0)
  hmd := hstage0_0 0
  wgu := Memref.whole main_arg2
  hwgu := Memref.isWhole_whole _
  sgu := Memref.whole main_arg3
  hsgu := Memref.isWhole_whole _
  bgu := Memref.whole main_arg4
  hbgu := Memref.isWhole_whole _
  ho := Memref.whole main_v0
  hho := Memref.isWhole_whole _
  xp := Memref.whole cc0_scratch0
  hxp := Memref.isWhole_whole _
  wg := Memref.whole cc0_scratch1
  hwg := Memref.isWhole_whole _
  sg := Memref.whole cc0_scratch2
  hsg := Memref.isWhole_whole _
  bg := Memref.whole cc0_scratch3
  hbg := Memref.isWhole_whole _
  sa := Memref.whole cc0_scratch4
  hsa := Memref.isWhole_whole _
  sb := Memref.whole cc0_scratch5
  hsb := Memref.isWhole_whole _
  hs := Memref.whole cc0_scratch6
  hhs := Memref.isWhole_whole _
  xsem := cc0_scratch7
  sem := cc0_scratch8
  hsem := cc0_scratch9

theorem body_eq (t : Fin cfg0.N) : (bodyAt0 t : P F PUnit) = whole (bufs t) := cc0_eq (bufs t)

/-- The six cells the body's copies complete on. -/
abbrev osem0 : Fin 6 → SemLoc sig := fun j => (![SemLoc.dma 1, SemLoc.dma 2, SemLoc.dma 3, SemLoc.dma 4, SemLoc.dma 5, SemLoc.dma 6] : Fin 6 → SemLoc sig) j
theorem ownSemFacts0 : Pipeline.OwnSemFacts spec0 osem0 := by decide
theorem cells_eq (c : Dev nD) (t : Fin cfg0.N) : (Pipeline.ownSems0 (Ix := Unit) (Name := ℕ) (U := Pipeline.UD sig nD τ) (Lvl := ℕ) (Val := Elt F) (τ := τ) osem0 c : Asrt F)
    = iprop(semVal ((c : Thread nD τ), SemLoc.dma (bufs t).xsem.sem) 0 ∗ semN c (bufs t) 0 ∗ semN c (bufs t) 1 ∗ semN c (bufs t) 2 ∗ semN c (bufs t) 3
      ∗ semVal ((c : Thread nD τ), SemLoc.dma (bufs t).hsem.sem) 0) := by
  rw [Pipeline.ownSems0_eq_of_list c osem0 [0, 1, 2, 3, 4, 5] (by decide) (by decide)]; rfl

/-- The arrays the copies read. -/
def H0 : Finset (Ref sig .tc) := {main_arg0, main_arg2, main_arg3, main_arg4}
theorem H0_sub : H0 ⊆ Pipeline.restRefs sig spec0 := by decide

/-- The array the copies write. -/
def R0 : Finset (Ref sig .tc) := {main_v0}
theorem R0_sub : R0 ⊆ Pipeline.restRefs sig spec0 \ H0 := by decide

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The contents of what the body reads. -/
def data (c : Dev nD) (t : Fin cfg0.N) : Data F where
  X := V m c main_arg0
  M := iblk m c 0 t
  W := V m c main_arg2
  Sd := V m c main_arg3
  Bd := V m c main_arg4

/-- The buffers after the call: the hidden layer is written. -/
def G (c : Dev nD) : (b : Ref sig .tc) → Buf (Elt F) ((c : Thread nD τ).loc b) :=
  Function.update (V m c) main_v0 (resH (data m c t0_0))

theorem G_v0 (c : Dev nD) : G m c main_v0 = resH (data m c t0_0) := Function.update_self _ _ _

theorem routed_eq (c : Dev nD) (Y : (b : Ref sig .tc) → Buf (Elt F) ((c : Thread nD τ).loc b)) :
    (Pipeline.routed R0 c Y : Asrt F)
      = iprop(((c : Thread nD τ).loc main_v0) ↦{fullShare} Y main_v0) := by
  unfold Pipeline.routed
  rw [BI.bigSep_eq_bigSepL_of_eq [main_v0] (by decide) (by decide)]
  rfl

theorem ho_eq (c : Dev nD) (t : Fin cfg0.N) (f : Buf (Elt F) ((c : Thread nD τ).loc main_v0)) :
    ((((c : Thread nD τ).loc main_v0) ↦{fullShare} f) : Asrt F) = iprop((bufs t).ho.view.loc (c : Thread nD τ) ↦[(bufs t).ho.view.set]{fullShare} f) := by
  unfold bufs
  simp only [Memref.whole, View.set_whole]

theorem arrays_eq (c : Dev nD) (t : Fin cfg0.N) : (bigSep H0 (fun b => ((c : Thread nD τ).loc b) ↦{fullShare} V m c b) : Asrt F)
    = iprop(owns (c : Thread nD τ) (bufs t).x fullShare (data m c t).X ∗ srcs c (bufs t) (data m c t) (Finset.range 32)) := by
  rw [BI.bigSep_eq_bigSepL_of_eq [main_arg0, main_arg2, main_arg3, main_arg4] (by decide) (by decide),
    srcs_eq c (bufs t) (data m c t) (V m c main_arg2) (V m c main_arg3) (V m c main_arg4) rfl rfl rfl]
  unfold bufs data
  simp only [owns_whole]
  simp only [Memref.whole, View.set_whole]
  rfl

theorem scoped_eq (c : Dev nD) (t : Fin cfg0.N) : (Pipeline.scopedRest (Ix := Unit) (Name := ℕ) (U := Pipeline.UD sig nD τ) (Lvl := ℕ) (Val := Elt F) spec0 c : Asrt F)
    = iprop(anyAt ((bufs t).xp.view.loc (c : Thread nD τ)) (bufs t).xp.view.set
      ∗ (∃ f, ((c : Thread nD τ).loc cc0_scratch1) ↦{fullShare} f) ∗ (∃ f, ((c : Thread nD τ).loc cc0_scratch2) ↦{fullShare} f)
      ∗ (∃ f, ((c : Thread nD τ).loc cc0_scratch3) ↦{fullShare} f)
      ∗ (∃ d, owns (c : Thread nD τ) (bufs t).sa fullShare d) ∗ (∃ d, owns (c : Thread nD τ) (bufs t).sb fullShare d)
      ∗ anyAt ((bufs t).hs.view.loc (c : Thread nD τ)) (bufs t).hs.view.set) := by
  rw [scopedRest0_eq]
  unfold bufs anyAt
  simp only [owns_whole]
  simp only [Memref.whole, View.set_whole]
  rfl

theorem rings_eq' (c : Dev nD) (t : Fin cfg0.N) : (rings c (bufs t) : Asrt F)
    = iprop((∃ f, ((c : Thread nD τ).loc cc0_scratch1) ↦{fullShare} f) ∗ (∃ f, ((c : Thread nD τ).loc cc0_scratch2) ↦{fullShare} f)
      ∗ (∃ f, ((c : Thread nD τ).loc cc0_scratch3) ↦{fullShare} f)) := by
  unfold rings anyAt bufs
  simp only [Memref.whole, View.set_whole]

/-! ## The proof data -/

/-- The one pipeline: the input stays. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ k := if k.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d

theorem start_eq (c : Dev nD) : (dats m 0 c).Φ (t0_0 : Fin cfg0.N).castSucc = Pipeline.ΦDRG osem0 spec0 H0 R0 (V m) (V m) c := by
  dsimp only [dats]; exact if_pos rfl
theorem end_eq (c : Dev nD) : (dats m 0 c).Φ (t0_0 : Fin cfg0.N).succ = Pipeline.ΦDRG osem0 spec0 H0 R0 (V m) (G m) c := by
  dsimp only [dats]; exact if_neg (by decide)

def bodyPre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : Asrt F :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [body_eq, after0_0, start_eq, end_eq, Pipeline.ΦDRG_eq, Pipeline.ΦDRG_eq, scoped_eq c t0_0, cells_eq c t0_0, arrays_eq m c t0_0,
    routed_eq, routed_eq, ho_eq c t0_0, ho_eq c t0_0, G_v0]
  simp only [before0_0]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨Hx, HW, HS, HB, Ha, Hb, Hh⟩, Hg, ⟨Cx, C0, C1, C2, C3, Ch⟩, ⟨HX, HA⟩, Ho⟩, ⟨%W, -, HO⟩, ⟨%d0, H0⟩⟩
  ihave HR := (Entails.of_eq (rings_eq' (F := F) c t0_0).symm) $$ [HW HS HB]
  · isplitl [HW]; · iexact HW
    isplitl [HS]; · iexact HS
    iexact HB
  ihave HF := (slots_of_rings (F := F) c (bufs t0_0)) $$ [HR C0 C1 C2 C3]
  · isplitl [HR]; · iexact HR
    unfold counters
    isplitl [C0]; · iexact C0
    isplitl [C1]; · iexact C1
    isplitl [C2]; · iexact C2
    iexact C3
  unfold slots
  icases HF with ⟨HF, HP⟩
  iapply (whole_wp (c := c) (b := bufs t0_0) (X := data m c t0_0) (resH (data m c t0_0)) rfl (fun _ => _))
  isplitl [Hx HF HP Ha Hb Hh Cx Ch HX HA Ho HO H0]
  · unfold Pre
    isplitl [HF]; · iexact HF
    isplitl [HP]; · iexact HP
    isplitl [HA]; · iexact HA
    isplitl [Cx HX Hx H0]
    · isplitl [Cx]; · iexact Cx
      isplitl [HX]; · iexact HX
      isplitl [Hx]; · iexact Hx
      iexact H0
    isplitl [Ha Hb]
    · isplitl [Ha]; · iexact Ha
      iexact Hb
    isplitl [Ho Hh Ch]
    · isplitl [Ho]
      · unfold anyAt; iexists _; iexact Ho
      isplitl [Hh]; · iexact Hh
      iexact Ch
    iexists W
    iexact HO
  unfold Pre
  iintro ⟨HF, HP, HA, ⟨Cx, HX, Hx, H0⟩, ⟨Ha, Hb⟩, ⟨Ho, Hh, Ch⟩, ⟨%W', HO⟩⟩
  ihave HR := (rings_of_slots (F := F) c (bufs t0_0)) $$ [HF HP]
  · unfold slots
    isplitl [HF]; · iexact HF
    iexact HP
  icases HR with ⟨HR, HC⟩
  ihave HR := (Entails.of_eq (rings_eq' (F := F) c t0_0)) $$ HR
  unfold counters
  icases HR with ⟨HW, HS, HB⟩
  icases HC with ⟨C0, C1, C2, C3⟩
  isplitr [HO H0]; swap
  · isplitl [HO]
    · iexists W'; isplitr; · ipureintro; exact fun _ _ => Or.inl trivial
      iexact HO
    iexact H0
  isplitl [Hx HW HS HB Ha Hb Hh]
  · isplitl [Hx]; · iexact Hx
    isplitl [HW]; · iexact HW
    isplitl [HS]; · iexact HS
    isplitl [HB]; · iexact HB
    isplitl [Ha]; · iexact Ha
    isplitl [Hb]; · iexact Hb
    iexact Hh
  isplitl [Hg]; · iexact Hg
  isplitl [Cx C0 C1 C2 C3 Ch]
  · isplitl [Cx]; · iexact Cx
    isplitl [C0]; · iexact C0
    isplitl [C1]; · iexact C1
    isplitl [C2]; · iexact C2
    isplitl [C3]; · iexact C3
    iexact Ch
  isplitl [HX HA]
  · isplitl [HX]; · iexact HX
    iexact HA
  iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => Entails.of_eq (start_eq m c).symm) (hout := fun c => Entails.of_eq (end_eq m c))

/-- The arguments end as they were, the result as the body leaves it and every counter at zero. -/
theorem full_run : θ_run defs (onTc (τ := τ) (main (F := F))) ⟨m, fun _ => 0, ρ⟩ (fun r => (∀ c : Dev nD,
      r.2.mem ((c.tc : Thread nD τ).loc main_v0) = resH (data m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.2 c main_v0 (by decide)).trans (G_v0 m c),
      (h.1.1 c).2 main_arg0 (by decide),
      ((h.1.1 c).1 0).trans (((dats m 0 c).arrAt_in 0 rfl _).trans (A_eq m c 0)),
      (h.1.1 c).2 main_arg2 (by decide),
      (h.1.1 c).2 main_arg3 (by decide),
      (h.1.1 c).2 main_arg4 (by decide)⟩, h.2⟩) (run_main m ρ)

/-- The arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (full_run m ρ)

end Cert.UpIdeal.Up

end
-- ==== Proof.UpFrames.lean ====
/-
  The frames of the second call: the idealized kernel's and the kernel's, one program under two names.
-/
module

public import proofs.«01_k».proof.Proof.UpLaunch
public import proofs.«01_k».proof.Proof.Gen.Up.Frame

@[expose] public section

noncomputable section

namespace Cert.UpIdeal.Up

open Idealize.ShloMosaic Idealize.ShloMosaic.TcCoe Idealize.ShloMosaic.Tactic
open Idealize.SL.Sem

/-- The frame of the idealized kernel, at any floats. -/
def FrameIdeal : Prop := ∀ (F : FTy → Type) [FloatOps F] (m : (ℓ : Loc Cert.UpIdeal.nD Cert.UpIdeal.τ Cert.UpIdeal.sig) → Buf (Elt F) ℓ) (g : Dev Cert.UpIdeal.nD → PrngReg),
    θ_run (Cert.UpIdeal.defs (F := F)) (onTc (τ := Cert.UpIdeal.τ) (Cert.UpIdeal.main (F := F))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

/-- The frame of the kernel, at any floats. -/
def FrameKernel : Prop := ∀ (F : FTy → Type) [FloatOps F] (m : (ℓ : Loc Cert.Up.nD Cert.Up.τ Cert.Up.sig) → Buf (Elt F) ℓ) (g : Dev Cert.Up.nD → PrngReg),
    θ_run (Cert.Up.defs (F := F)) (onTc (τ := Cert.Up.τ) (Cert.Up.main (F := F))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

theorem frameIdeal : FrameIdeal := fun _ _ m g => frame_run m g

/-- The kernel and its idealization are one program. -/
theorem same : FrameIdeal = FrameKernel := by chain_rfl

theorem frameKernel : FrameKernel := same ▸ frameIdeal

end Cert.UpIdeal.Up

end
-- ==== Proof.UpFinal.lean ====
/-
  The hidden layer after the run, as a function of the argument arrays.
-/
module

public import proofs.«01_k».proof.Proof.UpLaunch

@[expose] public section

noncomputable section

namespace Cert.UpIdeal.Up

open Idealize.ShloMosaic Idealize.ShloMosaic.TcCoe
open Idealize.SL Idealize.SL.Sem
open Cert.UpIdeal.Gen

variable {F : FTy → Type} [FloatOps F] (m : (ℓ : Loc nD τ sig) → Buf (Elt F) ℓ) (ρ : Dev nD → PrngReg)

/-- The argument arrays of a device. -/
def args (c : Dev nD) : Data F where
  X := m ((c : Thread nD τ).loc main_arg0)
  M := m ((c : Thread nD τ).loc main_arg1)
  W := m ((c : Thread nD τ).loc main_arg2)
  Sd := m ((c : Thread nD τ).loc main_arg3)
  Bd := m ((c : Thread nD τ).loc main_arg4)

theorem data_eq (c : Dev nD) : data m c t0_0 = args m c := by
  have hz0 : (fun a => (win0_0.index t0_0) a * main_arg1.ty.shape.size a) = fun _ => 0 := funext fun a => by fin_cases a <;> decide
  have hr0 := fun f => Memref.read_access_unit_zero (Elt F) main_arg1 hz0 (fun a => by fin_cases a <;> decide) f
  unfold data args
  congr 1
  unfold iblk; exact hr0 _

/-- The kernel's run: the result is the hidden layer of the arguments, the arguments end as they were. -/
theorem value_run : θ_run defs (onTc (τ := τ) (main (F := F))) ⟨m, fun _ => 0, ρ⟩ (fun r => ∀ c : Dev nD,
      r.2.mem ((c.tc : Thread nD τ).loc main_v0) = resH (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.trans (congrArg resH (data_eq m c)), (h.1 c).2⟩) (full_run m ρ)

end Cert.UpIdeal.Up

end
-- ==== Proof.UpNibble.lean ====
/-
  The four-bit codes in the first call. A byte holds two signed codes: the kernel keeps a field in the high half of a byte, which is
  sixteen times the code; the reference sign-extends the field. Here the two are compared on all bytes.
-/
module

public import proofs.«01_k».proof.Proof.UpStruct
public import Idealize.ShloMosaic.Lib.BitcastFour
public import Idealize.ShloMosaic.PureOps.Ideal

@[expose] public section

noncomputable section

namespace Cert.UpIdeal.Up

open Idealize.ShloMosaic Idealize.ShloMosaic.TcCoe
open Facts₀ Facts

/-- The signed code in field `u` of a byte, as a number. -/
def code (u : Fin 2) (b : BitVec 8) : ℤ :=
  let v : ℕ := match u with
    | 0 => b.toNat % 16
    | 1 => b.toNat / 16
  if 8 ≤ v then v - 16 else v

/-- Field `u` moved to the high half of its byte. -/
def high (u : Fin 2) (b : BitVec 8) : BitVec 8 :=
  match u with
  | 0 => (b <<< 4) &&& 240#8
  | 1 => b &&& 240#8

/-- The field in the high half is sixteen times the code. -/
theorem high_toInt (u : Fin 2) (b : BitVec 8) : (high u b).toInt = 16 * code u b := by
  revert b; fin_cases u <;> decide

theorem mask_bit (p : ℕ) (hp : p < 32) : (4042322160#32 : BitVec 32).getLsbD p = decide (4 ≤ p % 8) := by
  interval_cases p <;> rfl

theorem mask8_bit (p : ℕ) (hp : p < 8) : (240#8 : BitVec 8).getLsbD p = decide (4 ≤ p) := by
  interval_cases p <;> rfl

/-- A word array read as bytes: bit `q` of byte `x` of a column is bit `(8x + q) % 32` of word `(8x + q) / 32`. -/
theorem byte_bit (w : IVec S64x256 32) (x y : Fin 256) (q : ℕ) (hq : q < 8) :
    (bitcast S256x256 8 w bitcasts_S64x256_w32_S256x256_w8 (ValueIdx.ix2 x y)).getLsbD q
      = (w (ValueIdx.ix2 (⟨(8 * x.val + q) / 32, by omega⟩ : Fin 64) y)).getLsbD ((8 * x.val + q) % 32) := by
  rw [bitcast_getLsbD w bitcasts_S64x256_w32_S256x256_w8 _ q hq (by decide)]
  have hrow : S256x256.row (ValueIdx.ix2 x y) = x.val := rfl
  congr 2
  · funext c
    match c with
    | ⟨0, _⟩ => exact Fin.ext ((bitcasts_S64x256_w32_S256x256_w8.srcIdx_row _ _ _ ⟨0, Nat.zero_lt_two⟩ rfl).trans (by rw [hrow, Nat.mul_comm]))
    | ⟨1, _⟩ => exact Fin.ext (bitcasts_S64x256_w32_S256x256_w8.srcIdx_other _ _ _ ⟨1, Nat.one_lt_two⟩ (by show ¬ 1 + 2 = 2; omega))
  · rw [hrow, Nat.mul_comm]

/-- Bytes read as words: bit `p` of word `a` of a column is bit `p % 8` of byte `4a + p / 8`. -/
theorem word_bit (blk : IVec S256x256 8) (a : Fin 64) (x y : Fin 256) (p : ℕ) (hp : p < 32) (hx : x.val = 4 * a.val + p / 8) :
    (bitcast S64x256 32 blk bitcasts_S256x256_w8_S64x256_w32 (ValueIdx.ix2 a y)).getLsbD p = (blk (ValueIdx.ix2 x y)).getLsbD (p % 8) :=
  bitcast_8_32_getLsbD_ix2 blk _ a y p hp x hx

/-- The kernel's masked words of field 1, read as bytes again. -/
theorem words_high1 (blk : IVec S256x256 8) (x y : Fin 256) :
    bitcast S256x256 8 (andi (bitcast S64x256 32 blk bitcasts_S256x256_w8_S64x256_w32)
        (broadcast S64x256 4042322160#32)) bitcasts_S64x256_w32_S256x256_w8 (ValueIdx.ix2 x y)
      = high 1 (blk (ValueIdx.ix2 x y)) := by
  apply BitVec.eq_of_getLsbD_eq
  intro q hq
  rw [byte_bit _ x y q hq]
  show ((bitcast S64x256 32 blk bitcasts_S256x256_w8_S64x256_w32 _) &&& (4042322160#32)).getLsbD _ = (_ &&& 240#8).getLsbD q
  rw [BitVec.getLsbD_and, BitVec.getLsbD_and, mask_bit _ (by omega), mask8_bit _ hq,
    word_bit blk _ x y _ (by omega) (by simp only []; omega)]
  have e1 : (8 * x.val + q) % 32 % 8 = q := by omega
  rw [e1]

/-- The kernel's shifted and masked words of field 0, read as bytes again. -/
theorem words_high0 (blk : IVec S256x256 8) (x y : Fin 256) :
    bitcast S256x256 8 (andi (shli (bitcast S64x256 32 blk bitcasts_S256x256_w8_S64x256_w32)
        (broadcast S64x256 4#32)) (broadcast S64x256 4042322160#32)) bitcasts_S64x256_w32_S256x256_w8 (ValueIdx.ix2 x y)
      = high 0 (blk (ValueIdx.ix2 x y)) := by
  apply BitVec.eq_of_getLsbD_eq
  intro q hq
  rw [byte_bit _ x y q hq]
  show ((bitcast S64x256 32 blk bitcasts_S256x256_w8_S64x256_w32 _ <<< (4 : ℕ)) &&& (4042322160#32)).getLsbD _ = ((blk (ValueIdx.ix2 x y) <<< (4 : ℕ)) &&& 240#8).getLsbD q
  rw [BitVec.getLsbD_and, BitVec.getLsbD_and, mask_bit _ (by omega), mask8_bit _ hq, BitVec.getLsbD_shiftLeft, BitVec.getLsbD_shiftLeft]
  have e1 : (8 * x.val + q) % 32 % 8 = q := by omega
  by_cases h4 : 4 ≤ q
  · rw [word_bit blk _ x y _ (by omega) (by simp only []; omega)]
    have e2 : ((8 * x.val + q) % 32 - 4) % 8 = q - 4 := by omega
    have e3 : ¬ (8 * x.val + q) % 32 < 4 := by omega
    have e4 : (8 * x.val + q) % 32 < 32 := by omega
    rw [e1, e2]; simp [h4, hq, e3, e4, show ¬ q < 4 by omega]
  · simp [e1, h4]

/-- A tile of codes as numbers: sixteen times the code. -/
theorem field_apply (u : Fin 2) (blk : IVec S256x256 8) (x y : Fin 256) :
    field (F := Ideal) u blk (ValueIdx.ix2 x y) = (((16 * code u (blk (ValueIdx.ix2 x y)) : ℤ) : ℝ) : EReal) := by
  rw [← high_toInt]
  fin_cases u
  · exact congrArg (fun b : BitVec 8 => ((b.toInt : ℝ) : EReal)) (words_high0 blk x y)
  · exact congrArg (fun b : BitVec 8 => ((b.toInt : ℝ) : EReal)) (words_high1 blk x y)

end Cert.UpIdeal.Up

end
-- ==== Proof.UpTiles.lean ====
/-
  The tiles and the tiles' products over the extended reals, entry by entry.
-/
module

public import proofs.«01_k».proof.Proof.UpMachine
public import proofs.«01_k».proof.Proof.UpNibble
public import Idealize.ShloMosaic.Lib.MatmulPlain
public import Idealize.ShloMosaic.Lib.Pointwise

@[expose] public section

noncomputable section

namespace Cert.UpIdeal.Up

open Idealize.ShloMosaic Idealize.ShloMosaic.TcCoe
open Facts₀ Facts
open scoped BigOperators

/-- A product of two tiles at an entry. -/
theorem pass_apply (x : FVec Ideal S80x256 .bf16) (y : FVec Ideal S256x256 .bf16) (r : Fin 80) (j : Fin 256) :
    pass x y (ValueIdx.ix2 r j) = ∑ k : Fin 256, (x (ValueIdx.ix2 r k) * y (ValueIdx.ix2 k j) : EReal) := by
  have h := Ideal.matmul_plain_apply (M := 80) (K := 256) (N := 256) none x y (fun _ => (0 : EReal)) r j
  rw [zero_add] at h
  rw [← h]
  show Ideal.mxuPass _ _ _ _ = _
  rw [Ideal.matmul_apply, zero_add]
  rfl

theorem scaleRow_apply (r : FVec Ideal S1x256 .f32) (x : Fin 128) (y : Fin 256) :
    scaleRow r (ix2 x y) = r (ix2 0 y) := by
  pointwise [scaleRow]

/-- A tile of the weights at an entry. -/
theorem wval_apply (u : Fin 2) (blk : IVec S256x256 8) (r0 r1 : FVec Ideal S1x256 .f32) (x y : Fin 256) :
    wval u blk r0 r1 (ix2 x y) = (field (F := Ideal) u blk (ix2 x y) * (if x.val < 128 then r0 (ix2 0 y) else r1 (ix2 0 y)) : EReal) := by
  unfold wval
  pointwise
  split <;> simp only [scaleRow_apply]

/-- A tile of the adapters' second factors at an entry. -/
theorem bval_apply (v : FVec Ideal S1x1x8x32x256 .bf16) (x y : Fin 256) :
    bval v (ix2 x y) = v (ix5 0 0 ⟨x.val / 32, by omega⟩ ⟨x.val % 32, by omega⟩ y) := by
  pointwise [bval]

/-- A tile of the adapters' first products at an entry. -/
theorem mval_apply (v : FVec Ideal S1x80x256 .bf16) (x : Fin 80) (y : Fin 256) : mval v (ix2 x y) = v (ix3 0 x y) := by
  pointwise [mval]

/-- The constant that the scales are multiplied by. -/
theorem sixteenth : Ideal.ofBits .f32 0x3D800000#32 = ((1 / 16 : ℝ) : EReal) := by
  simp [Ideal.ofBits, Ideal.ieee, -EReal.coe_mul]; norm_num

/-- The widened scales at an entry. -/
theorem scval_apply (v : FVec Ideal S1x1x48x256 .bf16) (x : Fin 48) (y : Fin 256) :
    scval v (ix3 0 x y) = (v (ix4 0 0 x y) * ((1 / 16 : ℝ) : EReal) : EReal) := by
  pointwise [scval]
  rw [sixteenth]

/-- A block of the hidden layer at an entry. -/
theorem hval_apply (y0 y1 : FVec Ideal S80x256 .f32) (x : Fin 80) (y : Fin 256) :
    hval y0 y1 (ix2 x y) = ((y0 (ix2 x y) * Ideal.logistic (y0 (ix2 x y))) * y1 (ix2 x y) : EReal) := by
  pointwise [hval]

end Cert.UpIdeal.Up

end
-- ==== Proof.UpFormula.lean ====
/-
  The hidden layer as one formula over the extended reals: for the gate and for the up projection two sums of weighted
  codes, one for each field of the packed bytes, and the adapters' sum.
-/
module

public import proofs.«01_k».proof.Proof.UpNibble
public import Idealize.ShloMosaic.Lib.Pointwise

@[expose] public section

noncomputable section

namespace Cert.UpIdeal.Up

open Idealize.ShloMosaic Idealize.ShloMosaic.TcCoe
open scoped BigOperators

/-- The column of the gate's (`t = 0`) or the up projection's (`t = 1`) weights. -/
def colT (t : Fin 2) (d : Fin 16384) : Fin 32768 := ⟨16384 * t.val + d.val, by omega⟩

/-- The product at position `n` of field `f`'s half of a row of `x` with a column of the weights. -/
def wterm (X : FVec Ideal S72x6144 .bf16) (W : IVec S3072x32768 8) (S : FVec Ideal S48x32768 .bf16) (f : Fin 2) (r : Fin 72) (d : Fin 32768)
    (n : ℕ) : EReal :=
  X (ix2 r ⟨(3072 * f.val + n) % 6144, Nat.mod_lt _ (by decide)⟩)
    * ((((code f (W (ix2 ⟨n % 3072, Nat.mod_lt _ (by decide)⟩ d)) : ℤ) : ℝ) : EReal) * S (ix2 ⟨(24 * f.val + n / 128) % 48, Nat.mod_lt _ (by decide)⟩ d))

/-- The product at position `n` of a row of the adapters' first products with a column of their second factors: position
    `32 a + j` is rank `j` of adapter `a`, of thirteen adapters. -/
def mterm (M : FVec Ideal S2x80x512 .bf16) (B : FVec Ideal S13x2x32x16384 .bf16) (t : Fin 2) (r : Fin 72) (d : Fin 16384) (n : ℕ) : EReal :=
  if h : n < 416 then M (ix3 t ⟨r.val, by omega⟩ ⟨n, by omega⟩) * B (ix4 ⟨n / 32, by omega⟩ t ⟨n % 32, by omega⟩ d) else 0

/-- An entry of the gate or of the up projection. -/
def proj (X : FVec Ideal S72x6144 .bf16) (M : FVec Ideal S2x80x512 .bf16) (W : IVec S3072x32768 8) (S : FVec Ideal S48x32768 .bf16)
    (B : FVec Ideal S13x2x32x16384 .bf16) (t : Fin 2) (r : Fin 72) (d : Fin 16384) : EReal :=
  (∑ n ∈ Finset.range 3072, wterm X W S 0 r (colT t d) n + ∑ n ∈ Finset.range 3072, wterm X W S 1 r (colT t d) n)
    + ∑ n ∈ Finset.range 416, mterm M B t r d n

/-- An entry of the hidden layer. -/
def entry (X : FVec Ideal S72x6144 .bf16) (M : FVec Ideal S2x80x512 .bf16) (W : IVec S3072x32768 8) (S : FVec Ideal S48x32768 .bf16)
    (B : FVec Ideal S13x2x32x16384 .bf16) (r : Fin 72) (d : Fin 16384) : EReal :=
  (proj X M W S B 0 r d * Ideal.logistic (proj X M W S B 0 r d)) * proj X M W S B 1 r d

/-- A sum over `a * m` positions, by blocks of `a`. -/
theorem sum_blocks {α : Type} [AddCommMonoid α] (f : ℕ → α) (a m : ℕ) :
    ∑ n ∈ Finset.range (a * m), f n = ∑ t ∈ Finset.range m, ∑ k ∈ Finset.range a, f (a * t + k) := by
  induction m with
  | zero => simp
  | succ m ih => rw [Nat.mul_succ, Finset.sum_range_add, ih, Finset.sum_range_succ]

end Cert.UpIdeal.Up

end
-- ==== Proof.UpSums.lean ====
/-
  The kernel's hidden layer is the formula: a chunk's chain of products on a unit is the two fields' sums and the adapters'.
-/
module

public import proofs.«01_k».proof.Proof.UpParts
public import proofs.«01_k».proof.Proof.UpTiles
public import proofs.«01_k».proof.Proof.UpFormula

@[expose] public section

noncomputable section

namespace Cert.UpIdeal.Up

open Idealize.ShloMosaic Idealize.ShloMosaic.TcCoe
open Facts₀ Facts
open scoped BigOperators

/-- The chain is a sum. -/
theorem chain_apply (D : Reads Ideal) (w p u : Fin 2) (sc : FVec Ideal S1x48x256 .f32) (n : ℕ) (x : S80x256.Idx) :
    chain D w p u sc n x = ∑ t ∈ Finset.range (n + 1), (pass (lt D u t) (rt D w p u t sc) x : EReal) := by
  induction n with
  | zero => rw [Finset.sum_range_one]; rfl
  | succ n ih => rw [Finset.sum_range_succ, ← ih]; rfl

/-- Sixteen times a code, times a sixteenth of a scale. -/
theorem code_mul (z : ℤ) (s : EReal) : (((16 * z : ℤ) : ℝ) : EReal) * (s * ((1 / 16 : ℝ) : EReal)) = ((z : ℝ) : EReal) * s := by
  rw [mul_comm s, ← mul_assoc, ← EReal.coe_mul]
  congr 2
  push_cast; ring

variable (X : Data Ideal) (i : ℕ) (p u : Fin 2) (r : Fin 72) (y : Fin 256)

/-- The scales of a chunk's slot. -/
abbrev scl : FVec Ideal S1x48x256 .f32 := scval ((readsOf X fun _ => i).st 0 p u)

/-- The column of the hidden layer. -/
abbrev colOf (hi : i < 32) : Fin 16384 := ⟨512 * i + 256 * p.val + y.val, by omega⟩

/-- The row among those of the padded activations. -/
abbrev wide : Fin 80 := ⟨r.val, by omega⟩

theorem row_apply (hi : i < 32) (k : ℕ) :
    rowOf (scl X i p u) k (ix2 0 y) = (X.Sd (ix2 ⟨k % 48, Nat.mod_lt _ (by decide)⟩ (colT u (colOf i p y hi))) * ((1 / 16 : ℝ) : EReal) : EReal) := by
  refine (scval_apply _ _ _).trans (congrArg (· * ((1 / 16 : ℝ) : EReal)) (congrArg X.Sd ?_))
  show ValueIdx.ix2 _ _ = ValueIdx.ix2 _ _
  congr 1
  apply Fin.ext
  show 16384 * u.val + (512 * (i % 32) + (256 * p.val + y.val)) = 16384 * u.val + (512 * i + 256 * p.val + y.val)
  omega

theorem fld_val {k : ℕ} (hk : k < 24) : (fld k).val = k / 12 := by
  unfold fld
  split
  · show 0 = k / 12; omega
  · show 1 = k / 12; omega

/-- A step of the weights. -/
theorem step_apply (hi : i < 32) (k : ℕ) (hk : k < 24) :
    pass (lt (readsOf X fun _ => i) u k) (rt (readsOf X fun _ => i) 0 p u k (scl X i p u)) (ValueIdx.ix2 (wide r) y)
      = ∑ j ∈ Finset.range 256, wterm X.X X.W X.Sd (fld k) r (colT u (colOf i p y hi)) (256 * (k % 12) + j) := by
  have hf := fld_val hk
  rw [pass_apply, Finset.sum_range]
  refine Finset.sum_congr rfl fun j _ => ?_
  unfold lt rt wterm
  rw [if_pos hk, if_pos hk]
  refine congrArg₂ (· * ·) ?_ ?_
  · refine (dif_pos r.isLt).trans (congrArg X.X ?_)
    show ValueIdx.ix2 _ _ = ValueIdx.ix2 _ _
    congr 1
    apply Fin.ext
    show 256 * (k % 24) + j.val = (3072 * (fld k).val + (256 * (k % 12) + j.val)) % 6144
    omega
  · refine (wval_apply _ _ _ _ _ _).trans ?_
    rw [row_apply X i p u y hi, row_apply X i p u y hi]
    have e : (if j.val < 128 then (X.Sd (ix2 ⟨2 * k % 48, Nat.mod_lt _ (by decide)⟩ (colT u (colOf i p y hi))) * ((1 / 16 : ℝ) : EReal) : EReal)
        else X.Sd (ix2 ⟨(2 * k + 1) % 48, Nat.mod_lt _ (by decide)⟩ (colT u (colOf i p y hi))) * ((1 / 16 : ℝ) : EReal))
        = X.Sd (ix2 ⟨(24 * (fld k).val + (256 * (k % 12) + j.val) / 128) % 48, Nat.mod_lt _ (by decide)⟩ (colT u (colOf i p y hi))) * ((1 / 16 : ℝ) : EReal) := by
      split
      · congr 3; apply Fin.ext; show 2 * k % 48 = (24 * (fld k).val + (256 * (k % 12) + j.val) / 128) % 48; omega
      · congr 3; apply Fin.ext; show (2 * k + 1) % 48 = (24 * (fld k).val + (256 * (k % 12) + j.val) / 128) % 48; omega
    rw [e]
    refine (congrArg (· * _) (field_apply (fld k) _ j y)).trans ?_
    rw [code_mul]
    congr 4
    refine congrArg X.W ?_
    show ValueIdx.ix2 _ _ = ValueIdx.ix2 _ _
    congr 1
    · apply Fin.ext
      show 256 * (k % 12) + j.val = (256 * (k % 12) + j.val) % 3072
      omega
    · apply Fin.ext
      show 16384 * u.val + (512 * (i % 32) + (256 * p.val + y.val)) = 16384 * u.val + (512 * i + 256 * p.val + y.val)
      omega

theorem zb_ideal : zb (F := Ideal) = (0 : EReal) := Ideal.ofBits_zero_bf16

/-- A step of the adapters. -/
theorem last_apply (hi : i < 32) (q : Fin 2) :
    pass (lt (readsOf X fun _ => i) u (24 + q.val)) (rt (readsOf X fun _ => i) 0 p u (24 + q.val) (scl X i p u)) (ValueIdx.ix2 (wide r) y)
      = ∑ k ∈ Finset.range 256, mterm X.M X.Bd u r (colOf i p y hi) (256 * q.val + k) := by
  rw [pass_apply, Finset.sum_range]
  refine Finset.sum_congr rfl fun k _ => ?_
  have hn : ¬ 24 + q.val < 24 := by omega
  have hq : (24 + q.val - 24) % 2 = q.val := by omega
  unfold lt rt mterm
  rw [if_neg hn, if_neg hn, hq]
  have hb := bval_apply ((readsOf X fun _ => i).bt 0 p u q.val) k y
  have hm := mval_apply ((readsOf X fun _ => i).md u q.val) (wide r) k
  refine (congrArg₂ (· * ·) hm hb).trans ?_
  by_cases h : 256 * q.val + k.val < 416
  · have h' : 8 * q.val + k.val / 32 < 13 := by omega
    rw [dif_pos h]
    refine congrArg₂ (· * ·) (congrArg X.M ?_) ((dif_pos h').trans (congrArg X.Bd ?_))
    · show ValueIdx.ix3 _ _ _ = ValueIdx.ix3 _ _ _
      congr 1
      apply Fin.ext; show 256 * (q.val % 2) + k.val = 256 * q.val + k.val; omega
    · show ValueIdx.ix4 _ _ _ _ = ValueIdx.ix4 _ _ _ _
      congr 1
      · apply Fin.ext; show 8 * q.val + k.val / 32 = (256 * q.val + k.val) / 32; omega
      · apply Fin.ext; show k.val % 32 = (256 * q.val + k.val) % 32; omega
      · apply Fin.ext
        show 512 * (i % 32) + (256 * p.val + y.val) = 512 * i + 256 * p.val + y.val
        omega
  · have h' : ¬ 8 * q.val + k.val / 32 < 13 := by omega
    rw [dif_neg h]
    refine (congrArg (_ * ·) ((dif_neg h').trans zb_ideal)).trans (mul_zero _)

/-- The adapters' positions past the thirteenth adapter add nothing. -/
theorem adapters (M : FVec Ideal S2x80x512 .bf16) (B : FVec Ideal S13x2x32x16384 .bf16) (d : Fin 16384) :
    ∑ k ∈ Finset.range 256, mterm M B u r d (256 * (0 : Fin 2).val + k) + ∑ k ∈ Finset.range 256, mterm M B u r d (256 * (1 : Fin 2).val + k)
      = ∑ n ∈ Finset.range 416, mterm M B u r d n := by
  have h := (sum_blocks (mterm M B u r d) 256 2).symm.trans (Finset.sum_range_add (mterm M B u r d) 416 96)
  rw [Finset.sum_range_succ, Finset.sum_range_one] at h
  refine h.trans ?_
  rw [Finset.sum_eq_zero (f := fun x => mterm M B u r d (416 + x)) fun k _ => dif_neg (by omega), add_zero]

/-- The twelve steps of a field. -/
theorem field_sum (hi : i < 32) (f : Fin 2) :
    ∑ t ∈ Finset.range 12, pass (lt (readsOf X fun _ => i) u (12 * f.val + t)) (rt (readsOf X fun _ => i) 0 p u (12 * f.val + t) (scl X i p u)) (ValueIdx.ix2 (wide r) y)
      = (∑ n ∈ Finset.range 3072, wterm X.X X.W X.Sd f r (colT u (colOf i p y hi)) n : EReal) := by
  rw [show (3072 : ℕ) = 256 * 12 from rfl, sum_blocks]
  refine Finset.sum_congr rfl fun t ht => ?_
  have ht' := Finset.mem_range.mp ht
  have hk : 12 * f.val + t < 24 := by omega
  have e1 : fld (12 * f.val + t) = f := Fin.ext (by rw [fld_val hk]; omega)
  have e2 : (12 * f.val + t) % 12 = t := by omega
  refine (step_apply X i p u r y hi (12 * f.val + t) hk).trans ?_
  rw [e1, e2]

/-- A unit's sum of a chunk. -/
theorem unit_apply (hi : i < 32) :
    chain (readsOf X fun _ => i) 0 p u (scl X i p u) 25 (ValueIdx.ix2 (wide r) y) = proj X.X X.M X.W X.Sd X.Bd u r (colOf i p y hi) := by
  have h0 := field_sum X i p u r y hi 0
  have h1 := field_sum X i p u r y hi 1
  have l0 := last_apply X i p u r y hi 0
  have l1 := last_apply X i p u r y hi 1
  rw [chain_apply, Finset.sum_range_succ, Finset.sum_range_succ, show (24 : ℕ) = 12 + 12 from rfl, Finset.sum_range_add, add_assoc]
  unfold proj
  refine congrArg₂ (· + ·) (congrArg₂ (· + ·) ?_ h1) ((congrArg₂ (· + ·) l0 l1).trans (adapters u r _ _ _))
  refine Eq.trans (Finset.sum_congr rfl fun t _ => ?_) h0
  rw [show 12 * (0 : Fin 2).val + t = t from by show 12 * 0 + t = t; omega]

/-- The kernel's hidden layer at an entry. -/
theorem resH_apply (x : Fin 72) (d : Fin 16384) :
    resH X (ix2 x d) = entry X.X X.M X.W X.Sd X.Bd x d := by
  have hi : d.val / 512 < 32 := by omega
  unfold resH resH80 blockN blockOf
  refine (hval_apply _ _ _ _).trans ?_
  have hd : colOf (d.val / 512) ⟨d.val / 256 % 2, Nat.mod_lt _ (by decide)⟩ ⟨d.val % 256, Nat.mod_lt _ (by decide)⟩ hi = d := by
    apply Fin.ext
    show 512 * (d.val / 512) + 256 * (d.val / 256 % 2) + d.val % 256 = d.val
    omega
  have h0 := unit_apply X (d.val / 512) ⟨d.val / 256 % 2, Nat.mod_lt _ (by decide)⟩ 0 x ⟨d.val % 256, Nat.mod_lt _ (by decide)⟩ hi
  have h1 := unit_apply X (d.val / 512) ⟨d.val / 256 % 2, Nat.mod_lt _ (by decide)⟩ 1 x ⟨d.val % 256, Nat.mod_lt _ (by decide)⟩ hi
  rw [hd] at h0 h1
  exact congrArg₂ (· * ·) (congrArg₂ (· * ·) h0 (congrArg Ideal.logistic h0)) h1

end Cert.UpIdeal.Up

end
-- ==== Proof.UpRefValue.lean ====
/-
  The reference's hidden layer over the extended reals, entry by entry.
-/
module

public import proofs.«01_k».proof.Proof.Gen.UpReferenceIdeal.Run
public import proofs.«01_k».proof.Proof.UpFormula

@[expose] public section

noncomputable section

namespace Cert.UpReferenceIdeal.Val

open Idealize.ShloMosaic Idealize.ShloMosaic.TcCoe
open Cert.UpReferenceIdeal Facts₀ Facts
open scoped BigOperators

/-- The reference's gate and up projection as a term of its arguments. -/
def preRef (X : FVec Ideal S72x6144 .bf16) (M : FVec Ideal S2x80x512 .bf16) (W : IVec S3072x32768 8) (S : FVec Ideal S48x32768 .bf16)
    (B : FVec Ideal S13x2x32x16384 .bf16) : FVec Ideal S72x2x16384 .f32 :=
  addf (shapeCast _ (addf (Host.dotGeneral dot_S72x3072_S3072x32768_S72x32768_1_0_0_1_n_n none (extractStridedSlice S72x3072 ![0, 0] X slices_S72x6144_S72x3072_0_0) (shapeCast _ (mulf (shapeCast _ (sitofp .bf16 (select (cmpi .sge (andi (extui 32 W natLt_8_32) (broadcastInDim S3072x32768 ![] bcast_S_S3072x32768 (constantI S_ 32 15#32))) (broadcastInDim S3072x32768 ![] bcast_S_S3072x32768 (constantI S_ 32 8#32))) (subi (andi (extui 32 W natLt_8_32) (broadcastInDim S3072x32768 ![] bcast_S_S3072x32768 (constantI S_ 32 15#32))) (broadcastInDim S3072x32768 ![] bcast_S_S3072x32768 (constantI S_ 32 16#32))) (andi (extui 32 W natLt_8_32) (broadcastInDim S3072x32768 ![] bcast_S_S3072x32768 (constantI S_ 32 15#32))))) shapeCasts_S3072x32768_S24x128x32768) (broadcastInDim S24x128x32768 ![0, 1, 2] bcast_S24x1x32768_S24x128x32768_0_1_2 (broadcastInDim S24x1x32768 ![0, 2] bcast_S24x32768_S24x1x32768_0_2 (extractStridedSlice S24x32768 ![0, 0] S slices_S48x32768_S24x32768_0_0)))) shapeCasts_S24x128x32768_S3072x32768)) (Host.dotGeneral dot_S72x3072_S3072x32768_S72x32768_1_0_0_1_n_n none (extractStridedSlice S72x3072 ![0, 3072] X slices_S72x6144_S72x3072_0_3072) (shapeCast _ (mulf (shapeCast _ (sitofp .bf16 (select (cmpi .sge (Host.shrsi (extui 32 W natLt_8_32) (broadcastInDim S3072x32768 ![] bcast_S_S3072x32768 (constantI S_ 32 4#32))) (broadcastInDim S3072x32768 ![] bcast_S_S3072x32768 (constantI S_ 32 8#32))) (subi (Host.shrsi (extui 32 W natLt_8_32) (broadcastInDim S3072x32768 ![] bcast_S_S3072x32768 (constantI S_ 32 4#32))) (broadcastInDim S3072x32768 ![] bcast_S_S3072x32768 (constantI S_ 32 16#32))) (Host.shrsi (extui 32 W natLt_8_32) (broadcastInDim S3072x32768 ![] bcast_S_S3072x32768 (constantI S_ 32 4#32))))) shapeCasts_S3072x32768_S24x128x32768) (broadcastInDim S24x128x32768 ![0, 1, 2] bcast_S24x1x32768_S24x128x32768_0_1_2 (broadcastInDim S24x1x32768 ![0, 2] bcast_S24x32768_S24x1x32768_0_2 (extractStridedSlice S24x32768 ![24, 0] S slices_S48x32768_S24x32768_24_0)))) shapeCasts_S24x128x32768_S3072x32768))) shapeCasts_S72x32768_S72x2x16384) (transpose S72x2x16384 [2, 0, 1] (Host.dotGeneral dot_S13x2x32x16384_S2x72x13x32_S2x16384x72_02_23_3_1_1_0 none B (shapeCast _ (extractStridedSlice S2x72x416 ![0, 0, 0] M slices_S2x80x512_S2x72x416_0_0_0) shapeCasts_S2x72x416_S2x72x13x32)) transposes_S2x16384x72_S72x2x16384_2_0_1)

/-- The reference's result as a term of its arguments. -/
def ref (X : FVec Ideal S72x6144 .bf16) (M : FVec Ideal S2x80x512 .bf16) (W : IVec S3072x32768 8) (S : FVec Ideal S48x32768 .bf16)
    (B : FVec Ideal S13x2x32x16384 .bf16) : FVec Ideal S72x16384 .bf16 :=
  truncf .bf16 (mulf (mulf (shapeCast _ (extractStridedSlice S72x1x16384 ![0, 0, 0] (preRef X M W S B) slices_S72x2x16384_S72x1x16384_0_0_0) shapeCasts_S72x1x16384_S72x16384) (Host.divf (broadcastInDim S72x16384 ![] bcast_S_S72x16384 (constant S_ .f32 0x3F800000#32)) (addf (broadcastInDim S72x16384 ![] bcast_S_S72x16384 (constant S_ .f32 0x3F800000#32)) (Host.exp (Host.negf (shapeCast _ (extractStridedSlice S72x1x16384 ![0, 0, 0] (preRef X M W S B) slices_S72x2x16384_S72x1x16384_0_0_0) shapeCasts_S72x1x16384_S72x16384)))))) (shapeCast _ (extractStridedSlice S72x1x16384 ![0, 1, 0] (preRef X M W S B) slices_S72x2x16384_S72x1x16384_0_1_0) shapeCasts_S72x1x16384_S72x16384)) bitsLt_bf16_f32

/-- The reference's low field as a number. -/
theorem lo_toInt (b : BitVec 8) :
    (Scalar.select (IntOp.cmpi .sge (IntOp.andi (BitVec.setWidth 32 b) 15#32) 8#32) (IntOp.subi (IntOp.andi (BitVec.setWidth 32 b) 15#32) 16#32)
      (IntOp.andi (BitVec.setWidth 32 b) 15#32)).toInt = Cert.UpIdeal.Up.code 0 b := by
  revert b; decide

/-- The reference's high field as a number. -/
theorem hi_toInt (b : BitVec 8) :
    (Scalar.select (IntOp.cmpi .sge (IntOp.shrsi .host (BitVec.setWidth 32 b) 4#32) 8#32) (IntOp.subi (IntOp.shrsi .host (BitVec.setWidth 32 b) 4#32) 16#32)
      (IntOp.shrsi .host (BitVec.setWidth 32 b) 4#32)).toInt = Cert.UpIdeal.Up.code 1 b := by
  revert b; decide

set_option maxRecDepth 16384 in
/-- The reference's gate or up projection at an entry. -/
theorem preRef_apply (X : FVec Ideal S72x6144 .bf16) (M : FVec Ideal S2x80x512 .bf16) (W : IVec S3072x32768 8) (S : FVec Ideal S48x32768 .bf16)
    (B : FVec Ideal S13x2x32x16384 .bf16) (r : Fin 72) (t : Fin 2) (d : Fin 16384) :
    preRef X M W S B (ix3 r t d) = Cert.UpIdeal.Up.proj X M W S B t r d := by
  pointwise [preRef]
  have hc : (⟨t.val * 16384 + d.val, by omega⟩ : Fin 32768) = Cert.UpIdeal.Up.colT t d := Fin.ext (by show t.val * 16384 + d.val = 16384 * t.val + d.val; omega)
  unfold Cert.UpIdeal.Up.proj
  refine congrArg₂ (· + ·) (congrArg₂ (· + ·) ?_ ?_) ?_
  · rw [Finset.sum_range]
    refine Finset.sum_congr rfl fun n _ => ?_
    unfold Cert.UpIdeal.Up.wterm
    refine congrArg₂ (· * ·) (congrArg (fun k => X (ix2 _ k)) (Fin.ext ?_)) (congrArg₂ (· * ·) ?_ (congrArg₂ (fun k e => S (ix2 k e)) (Fin.ext ?_) hc))
    · show n.val = (3072 * 0 + n.val) % 6144; omega
    · have hn : (⟨n.val % 3072, Nat.mod_lt _ (by decide)⟩ : Fin 3072) = n := Fin.ext (Nat.mod_eq_of_lt n.isLt)
      rw [hn, ← lo_toInt, ← hc]; rfl
    · show n.val / 128 = (24 * 0 + n.val / 128) % 48; omega
  · rw [Finset.sum_range]
    refine Finset.sum_congr rfl fun n _ => ?_
    unfold Cert.UpIdeal.Up.wterm
    refine congrArg₂ (· * ·) (congrArg (fun k => X (ix2 _ k)) (Fin.ext ?_)) (congrArg₂ (· * ·) ?_ (congrArg₂ (fun k e => S (ix2 k e)) (Fin.ext ?_) hc))
    · show 3072 + n.val = (3072 * 1 + n.val) % 6144; omega
    · have hn : (⟨n.val % 3072, Nat.mod_lt _ (by decide)⟩ : Fin 3072) = n := Fin.ext (Nat.mod_eq_of_lt n.isLt)
      rw [hn, ← hi_toInt, ← hc]; rfl
    · show 24 + n.val / 128 = (24 * 1 + n.val / 128) % 48; omega
  · refine Eq.trans ?_ (Cert.UpIdeal.Up.sum_blocks (Cert.UpIdeal.Up.mterm M B t r d) 32 13).symm
    rw [Finset.sum_range]
    refine Finset.sum_congr rfl fun a _ => ?_
    rw [Finset.sum_range]
    refine Finset.sum_congr rfl fun j _ => ?_
    unfold Cert.UpIdeal.Up.mterm
    rw [dif_pos (by omega)]
    refine (mul_comm _ _).trans ?_
    refine congrArg₂ (· * ·) (congrArg (fun k => M (ix3 t _ k)) (Fin.ext ?_)) (congrArg₂ (fun a j => B (ix4 a t j d)) (Fin.ext ?_) (Fin.ext ?_))
    · show a.val * 32 + j.val = 32 * a.val + j.val; omega
    · show a.val = (32 * a.val + j.val) / 32; omega
    · show j.val = (32 * a.val + j.val) % 32; omega

set_option maxRecDepth 16384 in
/-- The reference's result at an entry. -/
theorem ref_apply (X : FVec Ideal S72x6144 .bf16) (M : FVec Ideal S2x80x512 .bf16) (W : IVec S3072x32768 8) (S : FVec Ideal S48x32768 .bf16)
    (B : FVec Ideal S13x2x32x16384 .bf16) (r : Fin 72) (d : Fin 16384) :
    ref X M W S B (ix2 r d) = Cert.UpIdeal.Up.entry X M W S B r d := by
  pointwise [ref]
  rw [preRef_apply, preRef_apply]
  rfl

end Cert.UpReferenceIdeal.Val

end
-- ==== Proof.lean ====
/-
  The certificate, for each of the two calls (the down projection and the hidden layer): the kernel's frame, the idealized
  kernel's and the reference's, and that the kernel's result is the reference's over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Gen.UpReferenceIdeal.Run
public import proofs.«01_k».proof.Proof.Frames
public import proofs.«01_k».proof.Proof.Final
public import proofs.«01_k».proof.Proof.Sums
public import proofs.«01_k».proof.Proof.RefValue
public import proofs.«01_k».proof.Proof.UpFrames
public import proofs.«01_k».proof.Proof.UpFinal
public import proofs.«01_k».proof.Proof.UpSums
public import proofs.«01_k».proof.Proof.UpRefValue
public import Idealize.ShloMosaic.Adequacy
public import Idealize.ShloMosaic.Init

@[expose] public section

noncomputable section

namespace Cert.Proof

open Idealize.ShloMosaic Idealize.ShloMosaic.TcCoe
open Idealize.SL.Sem

/-- The reference's arguments end as they were; it has no semaphore. -/
theorem frameReference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's result is the reference's, on the same arguments. -/
theorem result_eq (X : Cert.KernelIdeal.Down.Data Ideal) :
    Cert.KernelIdeal.Down.result X = Cert.ReferenceIdeal.Val.ref X.H X.M X.W X.Sd X.Bd := by
  funext x
  have hx : x = ix2 (n0 := 72) (n1 := 6144) (x 0) (x 1) := eq_ix2 x
  rw [hx]
  exact (Cert.KernelIdeal.Down.result_apply X _ _).trans (Cert.ReferenceIdeal.Val.ref_apply _ _ _ _ _ _ _).symm

theorem algebraic : Cert.algebraic_KernelIdeal_ReferenceIdeal := fun m g m' g' _ hagree =>
  ⟨fun c => Cert.KernelIdeal.Down.result (Cert.KernelIdeal.Down.args m c), Cert.KernelIdeal.Down.value_run m g,
    (θ_run Cert.ReferenceIdeal.defs _ _).mono (fun r h c => ⟨(h c).1.trans (by
        obtain ⟨h0, h1, h2, h3, h4⟩ := hagree c
        rw [h0, h1, h2, h3, h4]
        exact (result_eq (Cert.KernelIdeal.Down.args m c)).symm), (h c).2⟩)
      (Cert.ReferenceIdeal.Value.run m' g')⟩

/-! ## The hidden layer -/

/-- The reference's arguments end as they were; it has no semaphore. -/
theorem frameUpReference : Cert.quiescent_UpReferenceIdeal := fun m g _ =>
  (θ_run Cert.UpReferenceIdeal.defs _ _).mono (fun r h => ⟨fun c => (h c).2, sem_eq_zero_of_no_sems (by decide) r.2⟩)
    (Cert.UpReferenceIdeal.Value.run m g)

/-- The kernel's hidden layer is the reference's, on the same arguments. -/
theorem hidden_eq (X : Cert.UpIdeal.Up.Data Ideal) :
    Cert.UpIdeal.Up.resH X = Cert.UpReferenceIdeal.Val.ref X.X X.M X.W X.Sd X.Bd := by
  funext x
  have hx : x = ix2 (n0 := 72) (n1 := 16384) (x 0) (x 1) := eq_ix2 x
  rw [hx]
  exact (Cert.UpIdeal.Up.resH_apply X _ _).trans (Cert.UpReferenceIdeal.Val.ref_apply _ _ _ _ _ _ _).symm

theorem algebraicUp : Cert.algebraic_UpIdeal_UpReferenceIdeal := fun m g m' g' _ hagree =>
  ⟨fun c => Cert.UpIdeal.Up.resH (Cert.UpIdeal.Up.args m c), Cert.UpIdeal.Up.value_run m g,
    (θ_run Cert.UpReferenceIdeal.defs _ _).mono (fun r h c => ⟨(h c).1.trans (by
        obtain ⟨h0, h1, h2, h3, h4⟩ := hagree c
        refine Eq.trans ?_ (hidden_eq (Cert.UpIdeal.Up.args m c)).symm
        show Cert.UpReferenceIdeal.Val.ref _ _ _ _ _ = _
        rw [h0, h1, h2, h3, h4]
        rfl), (h c).2⟩)
      (Cert.UpReferenceIdeal.Value.run m' g')⟩

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  fun m g _ => Cert.KernelIdeal.Down.frameKernel Bits m g, fun m g _ => Cert.KernelIdeal.Down.frameIdeal Ideal m g,
  frameReference,
  fun m g _ => Cert.UpIdeal.Up.frameKernel Bits m g, fun m g _ => Cert.UpIdeal.Up.frameIdeal Ideal m g,
  frameUpReference,
  trivial, algebraic, trivial, algebraicUp⟩

end Cert.Proof

end
